-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_v36) = v1 c
          ∧ r.2.mem ((c.tc : Thread Cert.Reference8Ideal.nD Cert.Reference8Ideal.τ).loc Cert.Reference8Ideal.main_v37) = v2 c
          ∧ r.2.mem ((c.tc : Thread Cert.Reference8Ideal.nD Cert.Reference8Ideal.τ).loc Cert.Reference8Ideal.main_v38) = v3 c
          ∧ r.2.mem ((c.tc : Thread Cert.Reference8Ideal.nD Cert.Reference8Ideal.τ).loc Cert.Reference8Ideal.main_v39) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v38) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v28) = v0 c
          ∧ r.2.mem ((c.tc : Thread Cert.Reference10Ideal.nD Cert.Reference10Ideal.τ).loc Cert.Reference10Ideal.main_v30) = v1 c
          ∧ r.2.mem ((c.tc : Thread Cert.Reference10Ideal.nD Cert.Reference10Ideal.τ).loc Cert.Reference10Ideal.main_v32) = v2 c
          ∧ r.2.mem ((c.tc : Thread Cert.Reference10Ideal.nD Cert.Reference10Ideal.τ).loc Cert.Reference10Ideal.main_v34) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_v30) = v1 c
          ∧ r.2.mem ((c.tc : Thread Cert.Reference11Ideal.nD Cert.Reference11Ideal.τ).loc Cert.Reference11Ideal.main_v32) = v2 c
          ∧ r.2.mem ((c.tc : Thread Cert.Reference11Ideal.nD Cert.Reference11Ideal.τ).loc Cert.Reference11Ideal.main_v34) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v28) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_v32) = v2 c
          ∧ r.2.mem ((c.tc : Thread Cert.Reference12Ideal.nD Cert.Reference12Ideal.τ).loc Cert.Reference12Ideal.main_v34) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v28) = v0 c
          ∧ r.2.mem ((c.tc : Thread Cert.Reference13Ideal.nD Cert.Reference13Ideal.τ).loc Cert.Reference13Ideal.main_v30) = v1 c
          ∧ r.2.mem ((c.tc : Thread Cert.Reference13Ideal.nD Cert.Reference13Ideal.τ).loc Cert.Reference13Ideal.main_v32) = v2 c
          ∧ r.2.mem ((c.tc : Thread Cert.Reference13Ideal.nD Cert.Reference13Ideal.τ).loc Cert.Reference13Ideal.main_v34) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_v14) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v59) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel7 : Cert.Kernel7.Facts) (hKernel7Ideal : Cert.Kernel7Ideal.Facts) (hReference7Ideal : Cert.Reference7Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel7_Kernel7Ideal
    ∧ algebraic_Kernel7Ideal_Reference7Ideal (hKernel7Ideal := hKernel7Ideal) (hReference7Ideal := hReference7Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S4096x14848 : Shape := ⟨2, ![4096, 14848]⟩
abbrev S4096x1024 : Shape := ⟨2, ![4096, 1024]⟩
abbrev S4x256x256 : Shape := ⟨3, ![4, 256, 256]⟩
abbrev S1024 : Shape := ⟨1, ![1024]⟩
abbrev S4x1x256 : Shape := ⟨3, ![4, 1, 256]⟩
abbrev S4096x256 : Shape := ⟨2, ![4096, 256]⟩
abbrev S1x256x256 : Shape := ⟨3, ![1, 256, 256]⟩
abbrev S1x1x256 : Shape := ⟨3, ![1, 1, 256]⟩
abbrev S256x256 : Shape := ⟨2, ![256, 256]⟩
abbrev S2 : Shape := ⟨1, ![2]⟩
abbrev S1x256 : Shape := ⟨2, ![1, 256]⟩
abbrev S1 : Shape := ⟨1, ![1]⟩
abbrev S_ : Shape := ⟨0, ![]⟩
abbrev S512x768 : Shape := ⟨2, ![512, 768]⟩
abbrev S512x1 : Shape := ⟨2, ![512, 1]⟩
abbrev S768x256 : Shape := ⟨2, ![768, 256]⟩
abbrev S512x256 : Shape := ⟨2, ![512, 256]⟩
abbrev S256 : Shape := ⟨1, ![256]⟩

abbrev nBuf : Space → Nat
  | .hbm => 9
  | .vmem => 19
  | .smem => 0
  | _ => 0

abbrev bufTy : (tb : Table) → Fin (tcTables nBuf tb) → BufTy
  | .hbm, ⟨0, _⟩ => ⟨S4096x14848, .bf16⟩
  | .hbm, ⟨1, _⟩ => ⟨S4096x14848, .bf16⟩
  | .hbm, ⟨2, _⟩ => ⟨S4096x1024, .bf16⟩
  | .hbm, ⟨3, _⟩ => ⟨S4x256x256, .bf16⟩
  | .hbm, ⟨4, _⟩ => ⟨S1024, .f32⟩
  | .hbm, ⟨5, _⟩ => ⟨S4x1x256, .f32⟩
  | .hbm, ⟨6, _⟩ => ⟨S4x256x256, .bf16⟩
  | .hbm, ⟨7, _⟩ => ⟨S4x1x256, .f32⟩
  | .hbm, ⟨8, _⟩ => ⟨S4096x14848, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x1x256, .f32⟩
  | .local _ .vmem, ⟨9, _⟩ => ⟨S1x1x256, .f32⟩
  | .local _ .vmem, ⟨10, _⟩ => ⟨S1x256x256, .bf16⟩
  | .local _ .vmem, ⟨11, _⟩ => ⟨S1x256x256, .bf16⟩
  | .local _ .vmem, ⟨12, _⟩ => ⟨S1x1x256, .f32⟩
  | .local _ .vmem, ⟨13, _⟩ => ⟨S1x1x256, .f32⟩
  | .local _ .vmem, ⟨14, _⟩ => ⟨S4096x256, .f32⟩
  | .local _ .vmem, ⟨15, _⟩ => ⟨S4096x256, .bf16⟩
  | .local _ .vmem, ⟨16, _⟩ => ⟨S256x256, .f32⟩
  | .local _ .vmem, ⟨17, _⟩ => ⟨S4096x256, .bf16⟩
  | .local _ .vmem, ⟨18, _⟩ => ⟨S4096x256, .bf16⟩
  | _, _ => ⟨S4096x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v13 : BitVec 1 := Scalar.cmpi .sgt arg0 c0_i32
  let v14 : BitVec 32 := Scalar.extui v13
  let c0_i32_11 : BitVec 32 := 0#32
  let v15 : BitVec 1 := Scalar.cmpi .ne v14 c0_i32_11
  v15

def k0_mult1 (i : grid0.Coords) : BitVec 32 :=
  let c4096_i32_32 : BitVec 32 := 4096#32
  let arg0 : BitVec 32 := BitVec.ofNat 32 (i 0).val
  let c1_i32_30 : BitVec 32 := 1#32
  let v38 : BitVec 32 := Scalar.subi arg0 c1_i32_30
  let c256_i32_31 : BitVec 32 := 256#32
  let v39 : BitVec 32 := Scalar.muli v38 c256_i32_31
  let v40 : BitVec 32 := Scalar.addi c4096_i32_32 v39
  v40
def k0_mult2 (i : grid0.Coords) : BitVec 32 :=
  let c5120_i32_34 : BitVec 32 := 5120#32
  let arg0 : BitVec 32 := BitVec.ofNat 32 (i 0).val
  let c1_i32_30 : BitVec 32 := 1#32
  let v38 : BitVec 32 := Scalar.subi arg0 c1_i32_30
  let c256_i32_33 : BitVec 32 := 256#32
  let v42 : BitVec 32 := Scalar.muli v38 c256_i32_33
  let v43 : BitVec 32 := Scalar.addi c5120_i32_34 v42
  v43
def k0_off1 (i : grid0.Coords) (c4096_i32_32 : BitVec 32) : Fin 2 → Nat :=
  let c0_i32_36 : BitVec 32 := 0#32
  let arg0 : BitVec 32 := BitVec.ofNat 32 (i 0).val
  let c1_i32_30 : BitVec 32 := 1#32
  let v38 : BitVec 32 := Scalar.subi arg0 c1_i32_30
  let c256_i32_31 : BitVec 32 := 256#32
  let v39 : BitVec 32 := Scalar.muli v38 c256_i32_31
  let v40 : BitVec 32 := Scalar.addi c4096_i32_32 v39
  let v41 : BitVec 32 := v40
  ![0, v41.toNat]
@[reducible] def k0_t1_loop : Scf.Loop 32 :=
  let c0_i32_12 : BitVec 32 := 0#32
  let c4_i32 : BitVec 32 := 4#32
  let v16 : BitVec 32 := Scalar.addi c0_i32_12 c4_i32
  let c1_i32_13 : BitVec 32 := 1#32
  ⟨c0_i32_12, v16, c1_i32_13⟩
def k0_mult3 (k0_t1 : Fin k0_t1_loop.trips) : BitVec 32 :=
  let c0_i32_12 : BitVec 32 := 0#32
  let c1_i32_13 : BitVec 32 := 1#32
  let arg16 : BitVec 32 := Scf.iv c0_i32_12 c1_i32_13 k0_t1
  let c2_i32 : BitVec 32 := 2#32
  let v38 : BitVec 32 := Scalar.muli arg16 c2_i32
  let c0_i32_30 : BitVec 32 := 0#32
  let v39 : BitVec 32 := Scalar.addi v38 c0_i32_30
  let c512_i32 : BitVec 32 := 512#32
  let v40 : BitVec 32 := Scalar.muli v39 c512_i32
  v40
def k0_mult4 (k0_t1 : Fin k0_t1_loop.trips) : BitVec 32 :=
  let c3328_i32 : BitVec 32 := 3328#32
  let c0_i32_32 : BitVec 32 := 0#32
  let c0_i32_12 : BitVec 32 := 0#32
  let c1_i32_13 : BitVec 32 := 1#32
  let arg16 : BitVec 32 := Scf.iv c0_i32_12 c1_i32_13 k0_t1
  let c2_i32 : BitVec 32 := 2#32
  let v38 : BitVec 32 := Scalar.muli arg16 c2_i32
  let c0_i32_30 : BitVec 32 := 0#32
  let v39 : BitVec 32 := Scalar.addi v38 c0_i32_30
  let c512_i32_31 : BitVec 32 := 512#32
  let v42 : BitVec 32 := Scalar.muli v39 c512_i32_31
  let c128_i32 : BitVec 32 := 128#32
  let v43 : BitVec 32 := Scalar.subi v42 c128_i32
  let v44 : BitVec 32 := Scalar.maxsi c0_i32_32 v43
  let v45 : BitVec 32 := Scalar.minsi c3328_i32 v44
  v45
def k0_off2 (k0_t1 : Fin k0_t1_loop.trips) (c0_i32_30 : BitVec 32) : Fin 2 → Nat :=
  let c3328_i32 : BitVec 32 := 3328#32
  let c0_i32_32 : BitVec 32 := 0#32
  let c0_i32_12 : BitVec 32 := 0#32
  let c1_i32_13 : BitVec 32 := 1#32
  let arg16 : BitVec 32 := Scf.iv c0_i32_12 c1_i32_13 k0_t1
  let c2_i32 : BitVec 32 := 2#32
  let v38 : BitVec 32 := Scalar.muli arg16 c2_i32
  let v39 : BitVec 32 := Scalar.addi v38 c0_i32_30
  let c512_i32_31 : BitVec 32 := 512#32
  let v42 : BitVec 32 := Scalar.muli v39 c512_i32_31
  let c128_i32 : BitVec 32 := 128#32
  let v43 : BitVec 32 := Scalar.subi v42 c128_i32
  let v44 : BitVec 32 := Scalar.maxsi c0_i32_32 v43
  let v45 : BitVec 32 := Scalar.minsi c3328_i32 v44
  let v46 : BitVec 32 := v45
  let v84 : Index := Scalar.indexCast v46
  let c0_42 : Index := 0#32
  ![v84.toNat, 0]
def k0_off3 (k0_t1 : Fin k0_t1_loop.trips) (c0_i32_30 : BitVec 32) : Fin 2 → Nat :=
  let c0_i32_12 : BitVec 32 := 0#32
  let c1_i32_13 : BitVec 32 := 1#32
  let arg16 : BitVec 32 := Scf.iv c0_i32_12 c1_i32_13 k0_t1
  let c2_i32 : BitVec 32 := 2#32
  let v38 : BitVec 32 := Scalar.muli arg16 c2_i32
  let v39 : BitVec 32 := Scalar.addi v38 c0_i32_30
  let c512_i32 : BitVec 32 := 512#32
  let v40 : BitVec 32 := Scalar.muli v39 c512_i32
  let v41 : BitVec 32 := v40
  let v89 : Index := Scalar.indexCast v41
  let c0_44 : Index := 0#32
  ![v89.toNat, 0]
def k0_mult5 (k0_t1 : Fin k0_t1_loop.trips) : BitVec 32 :=
  let c0_i32_12 : BitVec 32 := 0#32
  let c1_i32_13 : BitVec 32 := 1#32
  let arg16 : BitVec 32 := Scf.iv c0_i32_12 c1_i32_13 k0_t1
  let c2_i32_72 : BitVec 32 := 2#32
  let v162 : BitVec 32 := Scalar.muli arg16 c2_i32_72
  let c1_i32_73 : BitVec 32 := 1#32
  let v163 : BitVec 32 := Scalar.addi v162 c1_i32_73
  let c512_i32_74 : BitVec 32 := 512#32
  let v164 : BitVec 32 := Scalar.muli v163 c512_i32_74
  v164
def k0_mult6 (k0_t1 : Fin k0_t1_loop.trips) : BitVec 32 :=
  let c3328_i32_78 : BitVec 32 := 3328#32
  let c0_i32_77 : BitVec 32 := 0#32
  let c0_i32_12 : BitVec 32 := 0#32
  let c1_i32_13 : BitVec 32 := 1#32
  let arg16 : BitVec 32 := Scf.iv c0_i32_12 c1_i32_13 k0_t1
  let c2_i32_72 : BitVec 32 := 2#32
  let v162 : BitVec 32 := Scalar.muli arg16 c2_i32_72
  let c1_i32_73 : BitVec 32 := 1#32
  let v163 : BitVec 32 := Scalar.addi v162 c1_i32_73
  let c512_i32_75 : BitVec 32 := 512#32
  let v166 : BitVec 32 := Scalar.muli v163 c512_i32_75
  let c128_i32_76 : BitVec 32 := 128#32
  let v167 : BitVec 32 := Scalar.subi v166 c128_i32_76
  let v168 : BitVec 32 := Scalar.maxsi c0_i32_77 v167
  let v169 : BitVec 32 := Scalar.minsi c3328_i32_78 v168
  v169
@[reducible] def k0_t2_loop : Scf.Loop 32 :=
  let c0_i32_20 : BitVec 32 := 0#32
  let c4_i32_21 : BitVec 32 := 4#32
  let v22 : BitVec 32 := Scalar.addi c0_i32_20 c4_i32_21
  let c1_i32_22 : BitVec 32 := 1#32
  ⟨c0_i32_20, v22, c1_i32_22⟩
def k0_mult7 (k0_t2 : Fin k0_t2_loop.trips) : BitVec 32 :=
  let c0_i32_20 : BitVec 32 := 0#32
  let c1_i32_22 : BitVec 32 := 1#32
  let arg16 : BitVec 32 := Scf.iv c0_i32_20 c1_i32_22 k0_t2
  let c2_i32 : BitVec 32 := 2#32
  let v38 : BitVec 32 := Scalar.muli arg16 c2_i32
  let c0_i32_30 : BitVec 32 := 0#32
  let v39 : BitVec 32 := Scalar.addi v38 c0_i32_30
  let c512_i32 : BitVec 32 := 512#32
  let v40 : BitVec 32 := Scalar.muli v39 c512_i32
  v40
def k0_mult8 (k0_t2 : Fin k0_t2_loop.trips) : BitVec 32 :=
  let c3328_i32 : BitVec 32 := 3328#32
  let c0_i32_32 : BitVec 32 := 0#32
  let c0_i32_20 : BitVec 32 := 0#32
  let c1_i32_22 : BitVec 32 := 1#32
  let arg16 : BitVec 32 := Scf.iv c0_i32_20 c1_i32_22 k0_t2
  let c2_i32 : BitVec 32 := 2#32
  let v38 : BitVec 32 := Scalar.muli arg16 c2_i32
  let c0_i32_30 : BitVec 32 := 0#32
  let v39 : BitVec 32 := Scalar.addi v38 c0_i32_30
  let c512_i32_31 : BitVec 32 := 512#32
  let v42 : BitVec 32 := Scalar.muli v39 c512_i32_31
  let c128_i32 : BitVec 32 := 128#32
  let v43 : BitVec 32 := Scalar.subi v42 c128_i32
  let v44 : BitVec 32 := Scalar.maxsi c0_i32_32 v43
  let v45 : BitVec 32 := Scalar.minsi c3328_i32 v44
  v45
def k0_off4 (k0_t2 : Fin k0_t2_loop.trips) (c0_i32_30 : BitVec 32) : Fin 2 → Nat :=
  let c3328_i32 : BitVec 32 := 3328#32
  let c0_i32_32 : BitVec 32 := 0#32
  let c0_i32_20 : BitVec 32 := 0#32
  let c1_i32_22 : BitVec 32 := 1#32
  let arg16 : BitVec 32 := Scf.iv c0_i32_20 c1_i32_22 k0_t2
  let c2_i32 : BitVec 32 := 2#32
  let v38 : BitVec 32 := Scalar.muli arg16 c2_i32
  let v39 : BitVec 32 := Scalar.addi v38 c0_i32_30
  let c512_i32_31 : BitVec 32 := 512#32
  let v42 : BitVec 32 := Scalar.muli v39 c512_i32_31
  let c128_i32 : BitVec 32 := 128#32
  let v43 : BitVec 32 := Scalar.subi v42 c128_i32
  let v44 : BitVec 32 := Scalar.maxsi c0_i32_32 v43
  let v45 : BitVec 32 := Scalar.minsi c3328_i32 v44
  let v46 : BitVec 32 := v45
  let v65 : Index := Scalar.indexCast v46
  let c0_37 : Index := 0#32
  ![v65.toNat, 0]
def k0_off5 (k0_t2 : Fin k0_t2_loop.trips) (c0_i32_30 : BitVec 32) : Fin 2 → Nat :=
  let c0_i32_20 : BitVec 32 := 0#32
  let c1_i32_22 : BitVec 32 := 1#32
  let arg16 : BitVec 32 := Scf.iv c0_i32_20 c1_i32_22 k0_t2
  let c2_i32 : BitVec 32 := 2#32
  let v38 : BitVec 32 := Scalar.muli arg16 c2_i32
  let v39 : BitVec 32 := Scalar.addi v38 c0_i32_30
  let c512_i32 : BitVec 32 := 512#32
  let v40 : BitVec 32 := Scalar.muli v39 c512_i32
  let v41 : BitVec 32 := v40
  let v68 : Index := Scalar.indexCast v41
  let c0_39 : Index := 0#32
  ![v68.toNat, 0]
def k0_mult9 (k0_t2 : Fin k0_t2_loop.trips) : BitVec 32 :=
  let c0_i32_20 : BitVec 32 := 0#32
  let c1_i32_22 : BitVec 32 := 1#32
  let arg16 : BitVec 32 := Scf.iv c0_i32_20 c1_i32_22 k0_t2
  let c2_i32_41 : BitVec 32 := 2#32
  let v76 : BitVec 32 := Scalar.muli arg16 c2_i32_41
  let c1_i32_42 : BitVec 32 := 1#32
  let v77 : BitVec 32 := Scalar.addi v76 c1_i32_42
  let c512_i32_43 : BitVec 32 := 512#32
  let v78 : BitVec 32 := Scalar.muli v77 c512_i32_43
  v78
def k0_mult10 (k0_t2 : Fin k0_t2_loop.trips) : BitVec 32 :=
  let c3328_i32_47 : BitVec 32 := 3328#32
  let c0_i32_46 : BitVec 32 := 0#32
  let c0_i32_20 : BitVec 32 := 0#32
  let c1_i32_22 : BitVec 32 := 1#32
  let arg16 : BitVec 32 := Scf.iv c0_i32_20 c1_i32_22 k0_t2
  let c2_i32_41 : BitVec 32 := 2#32
  let v76 : BitVec 32 := Scalar.muli arg16 c2_i32_41
  let c1_i32_42 : BitVec 32 := 1#32
  let v77 : BitVec 32 := Scalar.addi v76 c1_i32_42
  let c512_i32_44 : BitVec 32 := 512#32
  let v80 : BitVec 32 := Scalar.muli v77 c512_i32_44
  let c128_i32_45 : BitVec 32 := 128#32
  let v81 : BitVec 32 := Scalar.subi v80 c128_i32_45
  let v82 : BitVec 32 := Scalar.maxsi c0_i32_46 v81
  let v83 : BitVec 32 := Scalar.minsi c3328_i32_47 v82
  v83
def k0_mult11 (i : grid0.Coords) : BitVec 32 :=
  let c4096_i32 : BitVec 32 := 4096#32
  let arg0 : BitVec 32 := BitVec.ofNat 32 (i 0).val
  let c256_i32 : BitVec 32 := 256#32
  let v23 : BitVec 32 := Scalar.muli arg0 c256_i32
  let v24 : BitVec 32 := Scalar.addi c4096_i32 v23
  v24
def k0_mult12 (i : grid0.Coords) : BitVec 32 :=
  let c5120_i32 : BitVec 32 := 5120#32
  let arg0 : BitVec 32 := BitVec.ofNat 32 (i 0).val
  let c256_i32_24 : BitVec 32 := 256#32
  let v26 : BitVec 32 := Scalar.muli arg0 c256_i32_24
  let v27 : BitVec 32 := Scalar.addi c5120_i32 v26
  v27
def k0_off6 (i : grid0.Coords) (c4096_i32 : BitVec 32) : Fin 2 → Nat :=
  let c0_i32_26 : BitVec 32 := 0#32
  let arg0 : BitVec 32 := BitVec.ofNat 32 (i 0).val
  let c256_i32 : BitVec 32 := 256#32
  let v23 : BitVec 32 := Scalar.muli arg0 c256_i32
  let v24 : BitVec 32 := Scalar.addi c4096_i32 v23
  let v25 : BitVec 32 := v24
  ![0, v25.toNat]
def k0_cond2 (i : grid0.Coords) : BitVec 1 :=
  let arg0 : BitVec 32 := BitVec.ofNat 32 (i 0).val
  let c3_i32 : BitVec 32 := 3#32
  let v35 : BitVec 1 := Scalar.cmpi .eq arg0 c3_i32
  let v36 : BitVec 32 := Scalar.extui v35
  let c0_i32_29 : BitVec 32 := 0#32
  let v37 : BitVec 1 := Scalar.cmpi .ne v36 c0_i32_29
  v37

def k0_mult13 (i : grid0.Coords) : BitVec 32 :=
  let c4096_i32_31 : BitVec 32 := 4096#32
  let arg0 : BitVec 32 := BitVec.ofNat 32 (i 0).val
  let c256_i32_30 : BitVec 32 := 256#32
  let v38 : BitVec 32 := Scalar.muli arg0 c256_i32_30
  let v39 : BitVec 32 := Scalar.addi c4096_i32_31 v38
  v39
def k0_mult14 (i : grid0.Coords) : BitVec 32 :=
  let c5120_i32_33 : BitVec 32 := 5120#32
  let arg0 : BitVec 32 := BitVec.ofNat 32 (i 0).val
  let c256_i32_32 : BitVec 32 := 256#32
  let v41 : BitVec 32 := Scalar.muli arg0 c256_i32_32
  let v42 : BitVec 32 := Scalar.addi c5120_i32_33 v41
  v42
def k0_off7 (i : grid0.Coords) (c4096_i32_31 : BitVec 32) : Fin 2 → Nat :=
  let c0_i32_35 : BitVec 32 := 0#32
  let arg0 : BitVec 32 := BitVec.ofNat 32 (i 0).val
  let c256_i32_30 : BitVec 32 := 256#32
  let v38 : BitVec 32 := Scalar.muli arg0 c256_i32_30
  let v39 : BitVec 32 := Scalar.addi c4096_i32_31 v38
  let v40 : BitVec 32 := v39
  ![0, v40.toNat]
def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x14848 : Shape := ⟨2, ![4096, 14848]⟩
abbrev S4096x1024 : Shape := ⟨2, ![4096, 1024]⟩
abbrev S4x256x256 : Shape := ⟨3, ![4, 256, 256]⟩
abbrev S1024 : Shape := ⟨1, ![1024]⟩
abbrev S4 : Shape := ⟨1, ![4]⟩
abbrev S4096x4x256 : Shape := ⟨3, ![4096, 4, 256]⟩
abbrev S4x4096x256 : Shape := ⟨3, ![4, 4096, 256]⟩
abbrev S4x1 : Shape := ⟨2, ![4, 1]⟩
abbrev S4096 : Shape := ⟨1, ![4096]⟩
abbrev S1x4096 : Shape := ⟨2, ![1, 4096]⟩
abbrev S4x4096 : Shape := ⟨2, ![4, 4096]⟩
abbrev S_ : Shape := ⟨0, ![]⟩
abbrev S4x4096x1 : Shape := ⟨3, ![4, 4096, 1]⟩
abbrev S1x1x4096 : Shape := ⟨3, ![1, 1, 4096]⟩
abbrev S4x4096x4096 : Shape := ⟨3, ![4, 4096, 4096]⟩
abbrev S4x1x4096x256 : Shape := ⟨4, ![4, 1, 4096, 256]⟩
abbrev S4x4096x4096x256 : Shape := ⟨4, ![4, 4096, 4096, 256]⟩
abbrev S4x4096x4096x1 : Shape := ⟨4, ![4, 4096, 4096, 1]⟩
abbrev S4x256x4096 : Shape := ⟨3, ![4, 256, 4096]⟩
abbrev S1x1024 : Shape := ⟨2, ![1, 1024]⟩
abbrev S4x1x256 : Shape := ⟨3, ![4, 1, 256]⟩
abbrev S4096x4096 : Shape := ⟨2, ![4096, 4096]⟩
abbrev S4096x8704 : Shape := ⟨2, ![4096, 8704]⟩

abbrev nBuf : Space → Nat
  | .hbm => 138
  | .vmem => 0
  | .smem => 0
  | _ => 0

abbrev hbmTy0_0 (i : Nat) : BufTy := match i % 128 with
  | 0 => ⟨S4096x14848, .bf16⟩
  | 1 => ⟨S4096x14848, .bf16⟩
  | 2 => ⟨S4096x1024, .bf16⟩
  | 3 => ⟨S4x256x256, .bf16⟩
  | 4 => ⟨S1024, .f32⟩
  | 5 => ⟨S4, .i32⟩
  | 6 => ⟨S4096x1024, .bf16⟩
  | 7 => ⟨S4096x1024, .f32⟩
  | 8 => ⟨S4096x4x256, .f32⟩
  | 9 => ⟨S4x4096x256, .f32⟩
  | 10 => ⟨S4096x1024, .bf16⟩
  | 11 => ⟨S4096x1024, .f32⟩
  | 12 => ⟨S4x1, .i32⟩
  | 13 => ⟨S4096, .i32⟩
  | 14 => ⟨S1x4096, .i32⟩
  | 15 => ⟨S4x4096, .i32⟩
  | 16 => ⟨S4x4096, .i32⟩
  | 17 => ⟨S4x4096, .i32⟩
  | 18 => ⟨S_, .i32⟩
  | 19 => ⟨S4x4096, .i32⟩
  | 20 => ⟨S4x4096, .i32⟩
  | 21 => ⟨S_, .i32⟩
  | 22 => ⟨S4x4096, .i32⟩
  | 23 => ⟨S4x4096, .i32⟩
  | 24 => ⟨S1x4096, .i32⟩
  | 25 => ⟨S4x4096, .i32⟩
  | 26 => ⟨S4x4096, .i32⟩
  | 27 => ⟨S4x4096, .i32⟩
  | 28 => ⟨S_, .i32⟩
  | 29 => ⟨S4x4096, .i32⟩
  | 30 => ⟨S4x4096, .i32⟩
  | 31 => ⟨S_, .i32⟩
  | 32 => ⟨S4x4096, .i32⟩
  | 33 => ⟨S4x4096, .i32⟩
  | 34 => ⟨S4x4096x1, .i32⟩
  | 35 => ⟨S1x1x4096, .i32⟩
  | 36 => ⟨S4x4096x4096, .i32⟩
  | 37 => ⟨S4x4096x4096, .i32⟩
  | 38 => ⟨S4x4096x4096, .i1⟩
  | 39 => ⟨S4x4096x1, .i32⟩
  | 40 => ⟨S1x1x4096, .i32⟩
  | 41 => ⟨S4x4096x4096, .i32⟩
  | 42 => ⟨S4x4096x4096, .i32⟩
  | 43 => ⟨S4x4096x4096, .i1⟩
  | 44 => ⟨S4x4096x4096, .i1⟩
  | 45 => ⟨S4x1x4096x256, .f32⟩
  | 46 => ⟨S4x4096x4096x256, .f32⟩
  | 47 => ⟨S4x4096x4096x1, .i1⟩
  | 48 => ⟨S4x4096x4096x256, .i1⟩
  | 49 => ⟨S_, .f32⟩
  | 50 => ⟨S4x4096x4096x256, .f32⟩
  | 51 => ⟨S4x4096x4096x256, .f32⟩
  | 52 => ⟨S_, .f32⟩
  | 53 => ⟨S4x4096x4096x256, .f32⟩
  | 54 => ⟨S_, .f32⟩
  | 55 => ⟨S4x4096x256, .f32⟩
  | 56 => ⟨S4x4096, .i32⟩
  | 57 => ⟨S4x4096, .f32⟩
  | 58 => ⟨S4x4096x1, .f32⟩
  | 59 => ⟨S4x4096x256, .f32⟩
  | 60 => ⟨S4x4096x256, .f32⟩
  | 61 => ⟨S4x4096x256, .f32⟩
  | 62 => ⟨S4x4096x256, .bf16⟩
  | 63 => ⟨S4x4096x256, .f32⟩
  | 64 => ⟨S4x256x256, .f32⟩
  | 65 => ⟨S4x256x4096, .f32⟩
  | 66 => ⟨S4096x4x256, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S_, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S4096x1024, .f32⟩
  | 95 => ⟨S4096x1024, .f32⟩
  | 96 => ⟨S_, .f32⟩
  | 97 => ⟨S1024, .f32⟩
  | 98 => ⟨S4096x4x256, .f32⟩
  | 99 => ⟨S4x256x4096, .f32⟩
  | 100 => ⟨S4x4096x256, .f32⟩
  | 101 => ⟨S4x256x256, .f32⟩
  | 102 => ⟨S4x256x256, .f32⟩
  | 103 => ⟨S4x256x256, .bf16⟩
  | 104 => ⟨S4x4096x256, .bf16⟩
  | 105 => ⟨S4x4096x256, .f32⟩
  | 106 => ⟨S4x4096x256, .f32⟩
  | 107 => ⟨S4x4096x256, .f32⟩
  | 108 => ⟨S4x4096x256, .f32⟩
  | 109 => ⟨S4x4096x4096x256, .f32⟩
  | 110 => ⟨S_, .f32⟩
  | 111 => ⟨S4x4096x4096x256, .f32⟩
  | 112 => ⟨S4x4096x4096x256, .f32⟩
  | 113 => ⟨S_, .f32⟩
  | 114 => ⟨S4x4096x256, .f32⟩
  | 115 => ⟨S4x1x4096x256, .f32⟩
  | 116 => ⟨S_, .f32⟩
  | 117 => ⟨S4x4096x256, .f32⟩
  | 118 => ⟨S4x4096x256, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S4096x14848, .bf16⟩

abbrev hbmTy0_1 (i : Nat) : BufTy := match i % 128 with
  | 0 => ⟨S4096x1024, .f32⟩
  | 1 => ⟨S4096x1024, .f32⟩
  | 2 => ⟨S4096x4x256, .f32⟩
  | 3 => ⟨S4096x1024, .f32⟩
  | 4 => ⟨S4x1x256, .f32⟩
  | 5 => ⟨S4096x4096, .bf16⟩
  | 6 => ⟨S4096x1024, .bf16⟩
  | 7 => ⟨S4096x1024, .bf16⟩
  | 8 => ⟨S4096x8704, .bf16⟩
  | 9 => ⟨S4096x14848, .bf16⟩
  | _ => ⟨S4096x14848, .bf16⟩

abbrev hbmTy (i : Nat) : BufTy := match i / 128 with
  | 0 => hbmTy0_0 i
  | 1 => hbmTy0_1 i
  | _ => ⟨S4096x14848, .bf16⟩

abbrev bufTy : (tb : Table) → Fin (tcTables nBuf tb) → BufTy
  | .hbm, ⟨i, _⟩ => hbmTy i
  | _, _ => ⟨S4096x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_8 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_9 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_10 : Ref sig .tc := ⟨.hbm, 110, rfl⟩
abbrev main_v85 : Ref sig .tc := ⟨.hbm, 111, rfl⟩
abbrev main_v86 : Ref sig .tc := ⟨.hbm, 112, rfl⟩
abbrev main_cst_11 : Ref sig .tc := ⟨.hbm, 113, rfl⟩
abbrev main_v87 : Ref sig .tc := ⟨.hbm, 114, rfl⟩
abbrev main_v88 : Ref sig .tc := ⟨.hbm, 115, rfl⟩
abbrev main_cst_12 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_13 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_14 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩

abbrev nD : Nat := 1
abbrev τ : Topo := Topo.v7x

variable {F : FTy → Type} [FloatOps F]
-- ==== Kernel2.lean ====
abbrev S4096x14848 : Shape := ⟨2, ![4096, 14848]⟩
abbrev S1x2048x14848 : Shape := ⟨3, ![1, 2048, 14848]⟩
abbrev S4096x2048 : Shape := ⟨2, ![4096, 2048]⟩
abbrev S512x3712 : Shape := ⟨2, ![512, 3712]⟩
abbrev S1x2048x3712 : Shape := ⟨3, ![1, 2048, 3712]⟩
abbrev S512x2048 : Shape := ⟨2, ![512, 2048]⟩
abbrev S2048x3712 : Shape := ⟨2, ![2048, 3712]⟩

abbrev nBuf : Space → Nat
  | .hbm => 3
  | .vmem => 6
  | .smem => 0
  | _ => 0

abbrev bufTy : (tb : Table) → Fin (tcTables nBuf tb) → BufTy
  | .hbm, ⟨0, _⟩ => ⟨S4096x14848, .bf16⟩
  | .hbm, ⟨1, _⟩ => ⟨S1x2048x14848, .bf16⟩
  | .hbm, ⟨2, _⟩ => ⟨S4096x2048, .f32⟩
  | .local _ .vmem, ⟨0, _⟩ => ⟨S512x3712, .bf16⟩
  | .local _ .vmem, ⟨1, _⟩ => ⟨S512x3712, .bf16⟩
  | .local _ .vmem, ⟨2, _⟩ => ⟨S1x2048x3712, .bf16⟩
  | .local _ .vmem, ⟨3, _⟩ => ⟨S1x2048x3712, .bf16⟩
  | .local _ .vmem, ⟨4, _⟩ => ⟨S512x2048, .f32⟩
  | .local _ .vmem, ⟨5, _⟩ => ⟨S512x2048, .f32⟩
  | _, _ => ⟨S4096x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .ne arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x14848 : Shape := ⟨2, ![4096, 14848]⟩
abbrev S1x2048x14848 : Shape := ⟨3, ![1, 2048, 14848]⟩
abbrev S2048x14848 : Shape := ⟨2, ![2048, 14848]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x14848, .bf16⟩
  | .hbm, ⟨1, _⟩ => ⟨S1x2048x14848, .bf16⟩
  | .hbm, ⟨2, _⟩ => ⟨S1x2048x14848, .f32⟩
  | .hbm, ⟨3, _⟩ => ⟨S2048x14848, .f32⟩
  | .hbm, ⟨4, _⟩ => ⟨S_, .f32⟩
  | .hbm, ⟨5, _⟩ => ⟨S4096x2048, .f32⟩
  | .hbm, ⟨6, _⟩ => ⟨S4096x14848, .f32⟩
  | .hbm, ⟨7, _⟩ => ⟨S4096x14848, .f32⟩
  | .hbm, ⟨8, _⟩ => ⟨S4096x2048, .f32⟩
  | _, _ => ⟨S4096x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x2048 : Shape := ⟨2, ![4096, 2048]⟩
abbrev S4096x14848 : Shape := ⟨2, ![4096, 14848]⟩
abbrev S1x2048x14848 : Shape := ⟨3, ![1, 2048, 14848]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x14848, .bf16⟩
  | .hbm, ⟨2, _⟩ => ⟨S1x2048x14848, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 29], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x2048 : Shape := ⟨2, ![4096, 2048]⟩
abbrev S4096x14848 : Shape := ⟨2, ![4096, 14848]⟩
abbrev S_ : Shape := ⟨0, ![]⟩
abbrev S2048x14848 : Shape := ⟨2, ![2048, 14848]⟩
abbrev S14848x2048 : Shape := ⟨2, ![14848, 2048]⟩
abbrev S1x2048x14848 : Shape := ⟨3, ![1, 2048, 14848]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x14848, .bf16⟩
  | .hbm, ⟨2, _⟩ => ⟨S_, .f32⟩
  | .hbm, ⟨3, _⟩ => ⟨S2048x14848, .f32⟩
  | .hbm, ⟨4, _⟩ => ⟨S4096x2048, .f32⟩
  | .hbm, ⟨5, _⟩ => ⟨S4096x14848, .f32⟩
  | .hbm, ⟨6, _⟩ => ⟨S4096x14848, .f32⟩
  | .hbm, ⟨7, _⟩ => ⟨S14848x2048, .f32⟩
  | .hbm, ⟨8, _⟩ => ⟨S2048x14848, .f32⟩
  | .hbm, ⟨9, _⟩ => ⟨S2048x14848, .bf16⟩
  | .hbm, ⟨10, _⟩ => ⟨S1x2048x14848, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x2048 : Shape := ⟨2, ![4096, 2048]⟩
abbrev S1x1024x2048 : Shape := ⟨3, ![1, 1024, 2048]⟩
abbrev S4096x1024 : Shape := ⟨2, ![4096, 1024]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 9
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S1x1024x2048, .bf16⟩
  | .hbm, ⟨4, _⟩ => ⟨S1x1024x2048, .bf16⟩
  | .hbm, ⟨5, _⟩ => ⟨S1x1024x2048, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4096x2048 : Shape := ⟨2, ![4096, 2048]⟩
abbrev S1x1024x2048 : Shape := ⟨3, ![1, 1024, 2048]⟩
abbrev S_ : Shape := ⟨0, ![]⟩
abbrev S4096x1024 : Shape := ⟨2, ![4096, 1024]⟩
abbrev S1024x2048 : Shape := ⟨2, ![1024, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S1x1024x2048, .bf16⟩
  | .hbm, ⟨4, _⟩ => ⟨S1x1024x2048, .bf16⟩
  | .hbm, ⟨5, _⟩ => ⟨S1x1024x2048, .bf16⟩
  | .hbm, ⟨6, _⟩ => ⟨S_, .f32⟩
  | .hbm, ⟨7, _⟩ => ⟨S4096x1024, .f32⟩
  | .hbm, ⟨8, _⟩ => ⟨S1x1024x2048, .f32⟩
  | .hbm, ⟨9, _⟩ => ⟨S1024x2048, .f32⟩
  | .hbm, ⟨10, _⟩ => ⟨S4096x2048, .f32⟩
  | .hbm, ⟨11, _⟩ => ⟨S4096x2048, .f32⟩
  | .hbm, ⟨12, _⟩ => ⟨S4096x1024, .f32⟩
  | .hbm, ⟨13, _⟩ => ⟨S4096x1024, .bf16⟩
  | .hbm, ⟨14, _⟩ => ⟨S_, .f32⟩
  | .hbm, ⟨15, _⟩ => ⟨S4096x1024, .f32⟩
  | .hbm, ⟨16, _⟩ => ⟨S1x1024x2048, .f32⟩
  | .hbm, ⟨17, _⟩ => ⟨S1024x2048, .f32⟩
  | .hbm, ⟨18, _⟩ => ⟨S4096x2048, .f32⟩
  | .hbm, ⟨19, _⟩ => ⟨S4096x2048, .f32⟩
  | .hbm, ⟨20, _⟩ => ⟨S4096x1024, .f32⟩
  | .hbm, ⟨21, _⟩ => ⟨S4096x1024, .bf16⟩
  | .hbm, ⟨22, _⟩ => ⟨S_, .f32⟩
  | .hbm, ⟨23, _⟩ => ⟨S4096x1024, .f32⟩
  | .hbm, ⟨24, _⟩ => ⟨S1x1024x2048, .f32⟩
  | .hbm, ⟨25, _⟩ => ⟨S1024x2048, .f32⟩
  | .hbm, ⟨26, _⟩ => ⟨S4096x2048, .f32⟩
  | .hbm, ⟨27, _⟩ => ⟨S4096x2048, .f32⟩
  | .hbm, ⟨28, _⟩ => ⟨S4096x1024, .f32⟩
  | .hbm, ⟨29, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S4096x2048 : Shape := ⟨2, ![4096, 2048]⟩
abbrev S1x2048x2048 : Shape := ⟨3, ![1, 2048, 2048]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x1024 : Shape := ⟨2, ![4096, 1024]⟩
abbrev S4096x2048 : Shape := ⟨2, ![4096, 2048]⟩
abbrev S1x1024x2048 : Shape := ⟨3, ![1, 1024, 2048]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1x1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1x1024x2048 : Shape := ⟨3, ![1, 1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1x1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x2048 : Shape := ⟨2, ![4096, 2048]⟩
abbrev S4096x14848 : Shape := ⟨2, ![4096, 14848]⟩
abbrev S4096x1024 : Shape := ⟨2, ![4096, 1024]⟩
abbrev S1x1024x2048 : Shape := ⟨3, ![1, 1024, 2048]⟩
abbrev S1x2048x2048 : Shape := ⟨3, ![1, 2048, 2048]⟩
abbrev S256x2048 : Shape := ⟨2, ![256, 2048]⟩
abbrev S256x6144 : Shape := ⟨2, ![256, 6144]⟩
abbrev S256x1024 : Shape := ⟨2, ![256, 1024]⟩
abbrev S1024x2048 : Shape := ⟨2, ![1024, 2048]⟩
abbrev S2048x2048 : Shape := ⟨2, ![2048, 2048]⟩

abbrev nBuf : Space → Nat
  | .hbm => 14
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S4096x14848, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1x1024x2048, .bf16⟩
  | .hbm, ⟨6, _⟩ => ⟨S1x1024x2048, .bf16⟩
  | .hbm, ⟨7, _⟩ => ⟨S1x1024x2048, .bf16⟩
  | .hbm, ⟨8, _⟩ => ⟨S1x2048x2048, .bf16⟩
  | .hbm, ⟨9, _⟩ => ⟨S4096x2048, .f32⟩
  | .hbm, ⟨10, _⟩ => ⟨S4096x2048, .bf16⟩
  | .hbm, ⟨11, _⟩ => ⟨S4096x2048, .bf16⟩
  | .hbm, ⟨12, _⟩ => ⟨S4096x2048, .bf16⟩
  | .hbm, ⟨13, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x6144, .bf16⟩
  | .local _ .vmem, ⟨3, _⟩ => ⟨S256x6144, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x1024x2048, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S1x2048x2048, .bf16⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c256_i32 : BitVec 32 := 256#32
  let v0 : BitVec 32 := Scalar.muli arg0 c256_i32
  let c8704_i32 : BitVec 32 := 8704#32
  let c0_i32 : BitVec 32 := 0#32
  ![v0.toNat, c8704_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference8Ideal.lean ====
abbrev S4096x2048 : Shape := ⟨2, ![4096, 2048]⟩
abbrev S4096x14848 : Shape := ⟨2, ![4096, 14848]⟩
abbrev S4096x1024 : Shape := ⟨2, ![4096, 1024]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S4096x6144 : Shape := ⟨2, ![4096, 6144]⟩
abbrev S_ : Shape := ⟨0, ![]⟩
abbrev S4096x3x2048 : Shape := ⟨3, ![4096, 3, 2048]⟩
abbrev S4096x1x2048 : Shape := ⟨3, ![4096, 1, 2048]⟩
abbrev S2048x2048 : Shape := ⟨2, ![2048, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x14848, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1x1024x2048, .bf16⟩
  | .hbm, ⟨6, _⟩ => ⟨S1x1024x2048, .bf16⟩
  | .hbm, ⟨7, _⟩ => ⟨S1x1024x2048, .bf16⟩
  | .hbm, ⟨8, _⟩ => ⟨S1x2048x2048, .bf16⟩
  | .hbm, ⟨9, _⟩ => ⟨S4096x1024, .f32⟩
  | .hbm, ⟨10, _⟩ => ⟨S1x1024x2048, .f32⟩
  | .hbm, ⟨11, _⟩ => ⟨S1024x2048, .f32⟩
  | .hbm, ⟨12, _⟩ => ⟨S4096x2048, .f32⟩
  | .hbm, ⟨13, _⟩ => ⟨S4096x1024, .f32⟩
  | .hbm, ⟨14, _⟩ => ⟨S1x1024x2048, .f32⟩
  | .hbm, ⟨15, _⟩ => ⟨S1024x2048, .f32⟩
  | .hbm, ⟨16, _⟩ => ⟨S4096x2048, .f32⟩
  | .hbm, ⟨17, _⟩ => ⟨S4096x1024, .f32⟩
  | .hbm, ⟨18, _⟩ => ⟨S1x1024x2048, .f32⟩
  | .hbm, ⟨19, _⟩ => ⟨S1024x2048, .f32⟩
  | .hbm, ⟨20, _⟩ => ⟨S4096x2048, .f32⟩
  | .hbm, ⟨21, _⟩ => ⟨S4096x6144, .bf16⟩
  | .hbm, ⟨22, _⟩ => ⟨S4096x6144, .f32⟩
  | .hbm, ⟨23, _⟩ => ⟨S4096x6144, .f32⟩
  | .hbm, ⟨24, _⟩ => ⟨S4096x6144, .f32⟩
  | .hbm, ⟨25, _⟩ => ⟨S_, .f32⟩
  | .hbm, ⟨26, _⟩ => ⟨S4096x6144, .f32⟩
  | .hbm, ⟨27, _⟩ => ⟨S4096x6144, .f32⟩
  | .hbm, ⟨28, _⟩ => ⟨S_, .f32⟩
  | .hbm, ⟨29, _⟩ => ⟨S4096x6144, .f32⟩
  | .hbm, ⟨30, _⟩ => ⟨S4096x6144, .f32⟩
  | .hbm, ⟨31, _⟩ => ⟨S4096x3x2048, .f32⟩
  | .hbm, ⟨32, _⟩ => ⟨S4096x1x2048, .f32⟩
  | .hbm, ⟨33, _⟩ => ⟨S4096x2048, .f32⟩
  | .hbm, ⟨34, _⟩ => ⟨S4096x2048, .f32⟩
  | .hbm, ⟨35, _⟩ => ⟨S4096x1x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S1x2048x2048, .f32⟩
  | .hbm, ⟨44, _⟩ => ⟨S2048x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | .hbm, ⟨48, _⟩ => ⟨S4096x2048, .bf16⟩
  | .hbm, ⟨49, _⟩ => ⟨S4096x2048, .bf16⟩
  | .hbm, ⟨50, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel9.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel10.lean ====
abbrev S4x2048x3712 : Shape := ⟨3, ![4, 2048, 3712]⟩
abbrev S1x2048x3712 : Shape := ⟨3, ![1, 2048, 3712]⟩
abbrev S1x32x3712 : Shape := ⟨3, ![1, 32, 3712]⟩
abbrev S32x3712 : Shape := ⟨2, ![32, 3712]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x3712, .f32⟩
  | .hbm, ⟨1, _⟩ => ⟨S1x2048x3712, .f32⟩
  | .hbm, ⟨2, _⟩ => ⟨S4x2048x3712, .f32⟩
  | .hbm, ⟨3, _⟩ => ⟨S4x2048x3712, .f32⟩
  | .hbm, ⟨4, _⟩ => ⟨S4x2048x3712, .f32⟩
  | .hbm, ⟨5, _⟩ => ⟨S4x2048x3712, .f32⟩
  | .hbm, ⟨6, _⟩ => ⟨S4x2048x3712, .f32⟩
  | .hbm, ⟨7, _⟩ => ⟨S4x2048x3712, .f32⟩
  | .hbm, ⟨8, _⟩ => ⟨S4x2048x3712, .f32⟩
  | .hbm, ⟨9, _⟩ => ⟨S4x2048x3712, .f32⟩
  | .hbm, ⟨10, _⟩ => ⟨S4x2048x3712, .f32⟩
  | .hbm, ⟨11, _⟩ => ⟨S4x2048x3712, .f32⟩
  | .local _ .vmem, ⟨0, _⟩ => ⟨S1x32x3712, .f32⟩
  | .local _ .vmem, ⟨1, _⟩ => ⟨S1x32x3712, .f32⟩
  | .local _ .vmem, ⟨2, _⟩ => ⟨S1x32x3712, .f32⟩
  | .local _ .vmem, ⟨3, _⟩ => ⟨S1x32x3712, .f32⟩
  | .local _ .vmem, ⟨4, _⟩ => ⟨S1x32x3712, .f32⟩
  | .local _ .vmem, ⟨5, _⟩ => ⟨S1x32x3712, .f32⟩
  | .local _ .vmem, ⟨6, _⟩ => ⟨S1x32x3712, .f32⟩
  | .local _ .vmem, ⟨7, _⟩ => ⟨S1x32x3712, .f32⟩
  | .local _ .vmem, ⟨8, _⟩ => ⟨S1x32x3712, .f32⟩
  | .local _ .vmem, ⟨9, _⟩ => ⟨S1x32x3712, .f32⟩
  | .local _ .vmem, ⟨10, _⟩ => ⟨S1x32x3712, .f32⟩
  | .local _ .vmem, ⟨11, _⟩ => ⟨S1x32x3712, .f32⟩
  | .local _ .vmem, ⟨12, _⟩ => ⟨S1x32x3712, .f32⟩
  | .local _ .vmem, ⟨13, _⟩ => ⟨S1x32x3712, .f32⟩
  | .local _ .vmem, ⟨14, _⟩ => ⟨S1x32x3712, .f32⟩
  | .local _ .vmem, ⟨15, _⟩ => ⟨S1x32x3712, .f32⟩
  | _, _ => ⟨S4x2048x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x32x3712 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x3712 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x3712 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x3712 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x3712 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x3712 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x3712 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference10Ideal.lean ====
abbrev S4x2048x3712 : Shape := ⟨3, ![4, 2048, 3712]⟩
abbrev S1x2048x3712 : Shape := ⟨3, ![1, 2048, 3712]⟩
abbrev S_ : Shape := ⟨0, ![]⟩
abbrev S3x2048x3712 : Shape := ⟨3, ![3, 2048, 3712]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x3712, .f32⟩
  | .hbm, ⟨1, _⟩ => ⟨S1x2048x3712, .f32⟩
  | .hbm, ⟨2, _⟩ => ⟨S4x2048x3712, .f32⟩
  | .hbm, ⟨3, _⟩ => ⟨S4x2048x3712, .f32⟩
  | .hbm, ⟨4, _⟩ => ⟨S4x2048x3712, .f32⟩
  | .hbm, ⟨5, _⟩ => ⟨S4x2048x3712, .f32⟩
  | .hbm, ⟨6, _⟩ => ⟨S4x2048x3712, .f32⟩
  | .hbm, ⟨7, _⟩ => ⟨S4x2048x3712, .f32⟩
  | .hbm, ⟨8, _⟩ => ⟨S1x2048x3712, .f32⟩
  | .hbm, ⟨9, _⟩ => ⟨S1x2048x3712, .f32⟩
  | .hbm, ⟨10, _⟩ => ⟨S1x2048x3712, .f32⟩
  | .hbm, ⟨11, _⟩ => ⟨S_, .f32⟩
  | .hbm, ⟨12, _⟩ => ⟨S1x2048x3712, .f32⟩
  | .hbm, ⟨13, _⟩ => ⟨S1x2048x3712, .f32⟩
  | .hbm, ⟨14, _⟩ => ⟨S_, .f32⟩
  | .hbm, ⟨15, _⟩ => ⟨S1x2048x3712, .f32⟩
  | .hbm, ⟨16, _⟩ => ⟨S1x2048x3712, .f32⟩
  | .hbm, ⟨17, _⟩ => ⟨S1x2048x3712, .f32⟩
  | .hbm, ⟨18, _⟩ => ⟨S_, .f32⟩
  | .hbm, ⟨19, _⟩ => ⟨S1x2048x3712, .f32⟩
  | .hbm, ⟨20, _⟩ => ⟨S1x2048x3712, .f32⟩
  | .hbm, ⟨21, _⟩ => ⟨S1x2048x3712, .f32⟩
  | .hbm, ⟨22, _⟩ => ⟨S_, .f32⟩
  | .hbm, ⟨23, _⟩ => ⟨S1x2048x3712, .f32⟩
  | .hbm, ⟨24, _⟩ => ⟨S1x2048x3712, .f32⟩
  | .hbm, ⟨25, _⟩ => ⟨S1x2048x3712, .f32⟩
  | .hbm, ⟨26, _⟩ => ⟨S_, .f32⟩
  | .hbm, ⟨27, _⟩ => ⟨S1x2048x3712, .f32⟩
  | .hbm, ⟨28, _⟩ => ⟨S1x2048x3712, .f32⟩
  | .hbm, ⟨29, _⟩ => ⟨S_, .f32⟩
  | .hbm, ⟨30, _⟩ => ⟨S1x2048x3712, .f32⟩
  | .hbm, ⟨31, _⟩ => ⟨S1x2048x3712, .f32⟩
  | .hbm, ⟨32, _⟩ => ⟨S1x2048x3712, .f32⟩
  | .hbm, ⟨33, _⟩ => ⟨S_, .f32⟩
  | .hbm, ⟨34, _⟩ => ⟨S1x2048x3712, .f32⟩
  | .hbm, ⟨35, _⟩ => ⟨S1x2048x3712, .f32⟩
  | .hbm, ⟨36, _⟩ => ⟨S1x2048x3712, .f32⟩
  | .hbm, ⟨37, _⟩ => ⟨S_, .f32⟩
  | .hbm, ⟨38, _⟩ => ⟨S1x2048x3712, .f32⟩
  | .hbm, ⟨39, _⟩ => ⟨S1x2048x3712, .f32⟩
  | .hbm, ⟨40, _⟩ => ⟨S1x2048x3712, .f32⟩
  | .hbm, ⟨41, _⟩ => ⟨S_, .f32⟩
  | .hbm, ⟨42, _⟩ => ⟨S1x2048x3712, .f32⟩
  | .hbm, ⟨43, _⟩ => ⟨S1x2048x3712, .f32⟩
  | .hbm, ⟨44, _⟩ => ⟨S3x2048x3712, .f32⟩
  | .hbm, ⟨45, _⟩ => ⟨S4x2048x3712, .f32⟩
  | .hbm, ⟨46, _⟩ => ⟨S3x2048x3712, .f32⟩
  | .hbm, ⟨47, _⟩ => ⟨S4x2048x3712, .f32⟩
  | .hbm, ⟨48, _⟩ => ⟨S3x2048x3712, .f32⟩
  | .hbm, ⟨49, _⟩ => ⟨S4x2048x3712, .f32⟩
  | .hbm, ⟨50, _⟩ => ⟨S3x2048x3712, .f32⟩
  | .hbm, ⟨51, _⟩ => ⟨S4x2048x3712, .f32⟩
  | _, _ => ⟨S4x2048x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel11.lean ====
abbrev S4x1024x512 : Shape := ⟨3, ![4, 1024, 512]⟩
abbrev S1x1024x512 : Shape := ⟨3, ![1, 1024, 512]⟩
abbrev S1x256x512 : Shape := ⟨3, ![1, 256, 512]⟩
abbrev S256x512 : Shape := ⟨2, ![256, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .f32⟩
  | .hbm, ⟨1, _⟩ => ⟨S1x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S4x1024x512 : Shape := ⟨3, ![4, 1024, 512]⟩
abbrev S1x1024x512 : Shape := ⟨3, ![1, 1024, 512]⟩
abbrev S_ : Shape := ⟨0, ![]⟩
abbrev S3x1024x512 : Shape := ⟨3, ![3, 1024, 512]⟩

abbrev nBuf : Space → Nat
  | .hbm => 52
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S1x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S_, .f32⟩
  | .hbm, ⟨15, _⟩ => ⟨S1x1024x512, .f32⟩
  | .hbm, ⟨16, _⟩ => ⟨S1x1024x512, .f32⟩
  | .hbm, ⟨17, _⟩ => ⟨S1x1024x512, .f32⟩
  | .hbm, ⟨18, _⟩ => ⟨S_, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S_, .f32⟩
  | .hbm, ⟨30, _⟩ => ⟨S1x1024x512, .f32⟩
  | .hbm, ⟨31, _⟩ => ⟨S1x1024x512, .f32⟩
  | .hbm, ⟨32, _⟩ => ⟨S1x1024x512, .f32⟩
  | .hbm, ⟨33, _⟩ => ⟨S_, .f32⟩
  | .hbm, ⟨34, _⟩ => ⟨S1x1024x512, .f32⟩
  | .hbm, ⟨35, _⟩ => ⟨S1x1024x512, .f32⟩
  | .hbm, ⟨36, _⟩ => ⟨S1x1024x512, .f32⟩
  | .hbm, ⟨37, _⟩ => ⟨S_, .f32⟩
  | .hbm, ⟨38, _⟩ => ⟨S1x1024x512, .f32⟩
  | .hbm, ⟨39, _⟩ => ⟨S1x1024x512, .f32⟩
  | .hbm, ⟨40, _⟩ => ⟨S1x1024x512, .f32⟩
  | .hbm, ⟨41, _⟩ => ⟨S_, .f32⟩
  | .hbm, ⟨42, _⟩ => ⟨S1x1024x512, .f32⟩
  | .hbm, ⟨43, _⟩ => ⟨S1x1024x512, .f32⟩
  | .hbm, ⟨44, _⟩ => ⟨S3x1024x512, .f32⟩
  | .hbm, ⟨45, _⟩ => ⟨S4x1024x512, .f32⟩
  | .hbm, ⟨46, _⟩ => ⟨S3x1024x512, .f32⟩
  | .hbm, ⟨47, _⟩ => ⟨S4x1024x512, .f32⟩
  | .hbm, ⟨48, _⟩ => ⟨S3x1024x512, .f32⟩
  | .hbm, ⟨49, _⟩ => ⟨S4x1024x512, .f32⟩
  | .hbm, ⟨50, _⟩ => ⟨S3x1024x512, .f32⟩
  | .hbm, ⟨51, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel12.lean ====
abbrev S4x512x2048 : Shape := ⟨3, ![4, 512, 2048]⟩
abbrev S1x512x2048 : Shape := ⟨3, ![1, 512, 2048]⟩
abbrev S1x64x2048 : Shape := ⟨3, ![1, 64, 2048]⟩
abbrev S64x2048 : Shape := ⟨2, ![64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x512x2048, .f32⟩
  | .hbm, ⟨1, _⟩ => ⟨S1x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S4x512x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference12Ideal.lean ====
abbrev S4x512x2048 : Shape := ⟨3, ![4, 512, 2048]⟩
abbrev S1x512x2048 : Shape := ⟨3, ![1, 512, 2048]⟩
abbrev S_ : Shape := ⟨0, ![]⟩
abbrev S3x512x2048 : Shape := ⟨3, ![3, 512, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S1x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S_, .f32⟩
  | .hbm, ⟨15, _⟩ => ⟨S1x512x2048, .f32⟩
  | .hbm, ⟨16, _⟩ => ⟨S1x512x2048, .f32⟩
  | .hbm, ⟨17, _⟩ => ⟨S1x512x2048, .f32⟩
  | .hbm, ⟨18, _⟩ => ⟨S_, .f32⟩
  | .hbm, ⟨19, _⟩ => ⟨S1x512x2048, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S_, .f32⟩
  | .hbm, ⟨30, _⟩ => ⟨S1x512x2048, .f32⟩
  | .hbm, ⟨31, _⟩ => ⟨S1x512x2048, .f32⟩
  | .hbm, ⟨32, _⟩ => ⟨S1x512x2048, .f32⟩
  | .hbm, ⟨33, _⟩ => ⟨S_, .f32⟩
  | .hbm, ⟨34, _⟩ => ⟨S1x512x2048, .f32⟩
  | .hbm, ⟨35, _⟩ => ⟨S1x512x2048, .f32⟩
  | .hbm, ⟨36, _⟩ => ⟨S1x512x2048, .f32⟩
  | .hbm, ⟨37, _⟩ => ⟨S_, .f32⟩
  | .hbm, ⟨38, _⟩ => ⟨S1x512x2048, .f32⟩
  | .hbm, ⟨39, _⟩ => ⟨S1x512x2048, .f32⟩
  | .hbm, ⟨40, _⟩ => ⟨S1x512x2048, .f32⟩
  | .hbm, ⟨41, _⟩ => ⟨S_, .f32⟩
  | .hbm, ⟨42, _⟩ => ⟨S1x512x2048, .f32⟩
  | .hbm, ⟨43, _⟩ => ⟨S1x512x2048, .f32⟩
  | .hbm, ⟨44, _⟩ => ⟨S3x512x2048, .f32⟩
  | .hbm, ⟨45, _⟩ => ⟨S4x512x2048, .f32⟩
  | .hbm, ⟨46, _⟩ => ⟨S3x512x2048, .f32⟩
  | .hbm, ⟨47, _⟩ => ⟨S4x512x2048, .f32⟩
  | .hbm, ⟨48, _⟩ => ⟨S3x512x2048, .f32⟩
  | .hbm, ⟨49, _⟩ => ⟨S4x512x2048, .f32⟩
  | .hbm, ⟨50, _⟩ => ⟨S3x512x2048, .f32⟩
  | .hbm, ⟨51, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel13.lean ====
abbrev S16x64x256 : Shape := ⟨3, ![16, 64, 256]⟩
abbrev S4x64x256 : Shape := ⟨3, ![4, 64, 256]⟩
abbrev S1x64x256 : Shape := ⟨3, ![1, 64, 256]⟩
abbrev S64x256 : Shape := ⟨2, ![64, 256]⟩

abbrev nBuf : Space → Nat
  | .hbm => 12
  | .vmem => 16
  | .smem => 0
  | _ => 0

abbrev bufTy : (tb : Table) → Fin (tcTables nBuf tb) → BufTy
  | .hbm, ⟨0, _⟩ => ⟨S16x64x256, .f32⟩
  | .hbm, ⟨1, _⟩ => ⟨S4x64x256, .f32⟩
  | .hbm, ⟨2, _⟩ => ⟨S16x64x256, .f32⟩
  | .hbm, ⟨3, _⟩ => ⟨S16x64x256, .f32⟩
  | .hbm, ⟨4, _⟩ => ⟨S16x64x256, .f32⟩
  | .hbm, ⟨5, _⟩ => ⟨S16x64x256, .f32⟩
  | .hbm, ⟨6, _⟩ => ⟨S16x64x256, .f32⟩
  | .hbm, ⟨7, _⟩ => ⟨S16x64x256, .f32⟩
  | .hbm, ⟨8, _⟩ => ⟨S16x64x256, .f32⟩
  | .hbm, ⟨9, _⟩ => ⟨S16x64x256, .f32⟩
  | .hbm, ⟨10, _⟩ => ⟨S16x64x256, .f32⟩
  | .hbm, ⟨11, _⟩ => ⟨S16x64x256, .f32⟩
  | .local _ .vmem, ⟨0, _⟩ => ⟨S1x64x256, .f32⟩
  | .local _ .vmem, ⟨1, _⟩ => ⟨S1x64x256, .f32⟩
  | .local _ .vmem, ⟨2, _⟩ => ⟨S1x64x256, .f32⟩
  | .local _ .vmem, ⟨3, _⟩ => ⟨S1x64x256, .f32⟩
  | .local _ .vmem, ⟨4, _⟩ => ⟨S1x64x256, .f32⟩
  | .local _ .vmem, ⟨5, _⟩ => ⟨S1x64x256, .f32⟩
  | .local _ .vmem, ⟨6, _⟩ => ⟨S1x64x256, .f32⟩
  | .local _ .vmem, ⟨7, _⟩ => ⟨S1x64x256, .f32⟩
  | .local _ .vmem, ⟨8, _⟩ => ⟨S1x64x256, .f32⟩
  | .local _ .vmem, ⟨9, _⟩ => ⟨S1x64x256, .f32⟩
  | .local _ .vmem, ⟨10, _⟩ => ⟨S1x64x256, .f32⟩
  | .local _ .vmem, ⟨11, _⟩ => ⟨S1x64x256, .f32⟩
  | .local _ .vmem, ⟨12, _⟩ => ⟨S1x64x256, .f32⟩
  | .local _ .vmem, ⟨13, _⟩ => ⟨S1x64x256, .f32⟩
  | .local _ .vmem, ⟨14, _⟩ => ⟨S1x64x256, .f32⟩
  | .local _ .vmem, ⟨15, _⟩ => ⟨S1x64x256, .f32⟩
  | _, _ => ⟨S16x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S16x64x256 : Shape := ⟨3, ![16, 64, 256]⟩
abbrev S4x64x256 : Shape := ⟨3, ![4, 64, 256]⟩
abbrev S_ : Shape := ⟨0, ![]⟩
abbrev S12x64x256 : Shape := ⟨3, ![12, 64, 256]⟩

abbrev nBuf : Space → Nat
  | .hbm => 52
  | .vmem => 0
  | .smem => 0
  | _ => 0

abbrev bufTy : (tb : Table) → Fin (tcTables nBuf tb) → BufTy
  | .hbm, ⟨0, _⟩ => ⟨S16x64x256, .f32⟩
  | .hbm, ⟨1, _⟩ => ⟨S4x64x256, .f32⟩
  | .hbm, ⟨2, _⟩ => ⟨S16x64x256, .f32⟩
  | .hbm, ⟨3, _⟩ => ⟨S16x64x256, .f32⟩
  | .hbm, ⟨4, _⟩ => ⟨S16x64x256, .f32⟩
  | .hbm, ⟨5, _⟩ => ⟨S16x64x256, .f32⟩
  | .hbm, ⟨6, _⟩ => ⟨S16x64x256, .f32⟩
  | .hbm, ⟨7, _⟩ => ⟨S16x64x256, .f32⟩
  | .hbm, ⟨8, _⟩ => ⟨S4x64x256, .f32⟩
  | .hbm, ⟨9, _⟩ => ⟨S4x64x256, .f32⟩
  | .hbm, ⟨10, _⟩ => ⟨S4x64x256, .f32⟩
  | .hbm, ⟨11, _⟩ => ⟨S_, .f32⟩
  | .hbm, ⟨12, _⟩ => ⟨S4x64x256, .f32⟩
  | .hbm, ⟨13, _⟩ => ⟨S4x64x256, .f32⟩
  | .hbm, ⟨14, _⟩ => ⟨S_, .f32⟩
  | .hbm, ⟨15, _⟩ => ⟨S4x64x256, .f32⟩
  | .hbm, ⟨16, _⟩ => ⟨S4x64x256, .f32⟩
  | .hbm, ⟨17, _⟩ => ⟨S4x64x256, .f32⟩
  | .hbm, ⟨18, _⟩ => ⟨S_, .f32⟩
  | .hbm, ⟨19, _⟩ => ⟨S4x64x256, .f32⟩
  | .hbm, ⟨20, _⟩ => ⟨S4x64x256, .f32⟩
  | .hbm, ⟨21, _⟩ => ⟨S4x64x256, .f32⟩
  | .hbm, ⟨22, _⟩ => ⟨S_, .f32⟩
  | .hbm, ⟨23, _⟩ => ⟨S4x64x256, .f32⟩
  | .hbm, ⟨24, _⟩ => ⟨S4x64x256, .f32⟩
  | .hbm, ⟨25, _⟩ => ⟨S4x64x256, .f32⟩
  | .hbm, ⟨26, _⟩ => ⟨S_, .f32⟩
  | .hbm, ⟨27, _⟩ => ⟨S4x64x256, .f32⟩
  | .hbm, ⟨28, _⟩ => ⟨S4x64x256, .f32⟩
  | .hbm, ⟨29, _⟩ => ⟨S_, .f32⟩
  | .hbm, ⟨30, _⟩ => ⟨S4x64x256, .f32⟩
  | .hbm, ⟨31, _⟩ => ⟨S4x64x256, .f32⟩
  | .hbm, ⟨32, _⟩ => ⟨S4x64x256, .f32⟩
  | .hbm, ⟨33, _⟩ => ⟨S_, .f32⟩
  | .hbm, ⟨34, _⟩ => ⟨S4x64x256, .f32⟩
  | .hbm, ⟨35, _⟩ => ⟨S4x64x256, .f32⟩
  | .hbm, ⟨36, _⟩ => ⟨S4x64x256, .f32⟩
  | .hbm, ⟨37, _⟩ => ⟨S_, .f32⟩
  | .hbm, ⟨38, _⟩ => ⟨S4x64x256, .f32⟩
  | .hbm, ⟨39, _⟩ => ⟨S4x64x256, .f32⟩
  | .hbm, ⟨40, _⟩ => ⟨S4x64x256, .f32⟩
  | .hbm, ⟨41, _⟩ => ⟨S_, .f32⟩
  | .hbm, ⟨42, _⟩ => ⟨S4x64x256, .f32⟩
  | .hbm, ⟨43, _⟩ => ⟨S4x64x256, .f32⟩
  | .hbm, ⟨44, _⟩ => ⟨S12x64x256, .f32⟩
  | .hbm, ⟨45, _⟩ => ⟨S16x64x256, .f32⟩
  | .hbm, ⟨46, _⟩ => ⟨S12x64x256, .f32⟩
  | .hbm, ⟨47, _⟩ => ⟨S16x64x256, .f32⟩
  | .hbm, ⟨48, _⟩ => ⟨S12x64x256, .f32⟩
  | .hbm, ⟨49, _⟩ => ⟨S16x64x256, .f32⟩
  | .hbm, ⟨50, _⟩ => ⟨S12x64x256, .f32⟩
  | .hbm, ⟨51, _⟩ => ⟨S16x64x256, .f32⟩
  | _, _ => ⟨S16x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel7.lean ====
abbrev S4096x2048 : Shape := ⟨2, ![4096, 2048]⟩
abbrev S1x2048 : Shape := ⟨2, ![1, 2048]⟩
abbrev S1x2048x14848 : Shape := ⟨3, ![1, 2048, 14848]⟩
abbrev S4096x14848 : Shape := ⟨2, ![4096, 14848]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048x14848, .bf16⟩
  | .hbm, ⟨3, _⟩ => ⟨S4096x14848, .bf16⟩
  | .hbm, ⟨4, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | .local _ .vmem, ⟨8, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 29], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S4096x2048 : Shape := ⟨2, ![4096, 2048]⟩
abbrev S1x2048 : Shape := ⟨2, ![1, 2048]⟩
abbrev S1x2048x14848 : Shape := ⟨3, ![1, 2048, 14848]⟩
abbrev S2048 : Shape := ⟨1, ![2048]⟩
abbrev S_ : Shape := ⟨0, ![]⟩
abbrev S4096 : Shape := ⟨1, ![4096]⟩
abbrev S4096x1 : Shape := ⟨2, ![4096, 1]⟩
abbrev S2048x14848 : Shape := ⟨2, ![2048, 14848]⟩
abbrev S4096x14848 : Shape := ⟨2, ![4096, 14848]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048x14848, .bf16⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S1x2048x14848, .f32⟩
  | .hbm, ⟨21, _⟩ => ⟨S2048x14848, .f32⟩
  | .hbm, ⟨22, _⟩ => ⟨S4096x14848, .f32⟩
  | .hbm, ⟨23, _⟩ => ⟨S4096x14848, .bf16⟩
  | .hbm, ⟨24, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel14.lean ====
abbrev S4096x2048 : Shape := ⟨2, ![4096, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x128, .f32⟩
  | .hbm, ⟨3, _⟩ => ⟨S4096x2048, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x128, .f32⟩
  | .local _ .vmem, ⟨5, _⟩ => ⟨S512x2048, .f32⟩
  | .local _ .vmem, ⟨6, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S4096x2048 : Shape := ⟨2, ![4096, 2048]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel15.lean ====
abbrev S4096x14848 : Shape := ⟨2, ![4096, 14848]⟩
abbrev S4x256x256 : Shape := ⟨3, ![4, 256, 256]⟩
abbrev S1024 : Shape := ⟨1, ![1024]⟩
abbrev S4x1x256 : Shape := ⟨3, ![4, 1, 256]⟩
abbrev S4096x1024 : Shape := ⟨2, ![4096, 1024]⟩
abbrev S4096x256 : Shape := ⟨2, ![4096, 256]⟩
abbrev S1x256x256 : Shape := ⟨3, ![1, 256, 256]⟩
abbrev S1x1x256 : Shape := ⟨3, ![1, 1, 256]⟩
abbrev S256x256 : Shape := ⟨2, ![256, 256]⟩
abbrev S1x256 : Shape := ⟨2, ![1, 256]⟩
abbrev S512x768 : Shape := ⟨2, ![512, 768]⟩
abbrev S768x256 : Shape := ⟨2, ![768, 256]⟩
abbrev S512x256 : Shape := ⟨2, ![512, 256]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x14848, .bf16⟩
  | .hbm, ⟨1, _⟩ => ⟨S4x256x256, .bf16⟩
  | .hbm, ⟨2, _⟩ => ⟨S1024, .f32⟩
  | .hbm, ⟨3, _⟩ => ⟨S4x1x256, .f32⟩
  | .hbm, ⟨4, _⟩ => ⟨S4096x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x1x256, .f32⟩
  | .local _ .vmem, ⟨7, _⟩ => ⟨S1x1x256, .f32⟩
  | .local _ .vmem, ⟨8, _⟩ => ⟨S4096x256, .bf16⟩
  | .local _ .vmem, ⟨9, _⟩ => ⟨S4096x256, .bf16⟩
  | _, _ => ⟨S4096x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v5 : BitVec 32 := Scalar.addi c0_i32 c4_i32
  let c1_i32_5 : BitVec 32 := 1#32
  ⟨c0_i32, v5, c1_i32_5⟩
def k0_mult1 (k0_t1 : Fin k0_t1_loop.trips) : BitVec 32 :=
  let c0_i32 : BitVec 32 := 0#32
  let c1_i32_5 : BitVec 32 := 1#32
  let arg6 : BitVec 32 := Scf.iv c0_i32 c1_i32_5 k0_t1
  let c2_i32 : BitVec 32 := 2#32
  let v6 : BitVec 32 := Scalar.muli arg6 c2_i32
  let c0_i32_7 : BitVec 32 := 0#32
  let v7 : BitVec 32 := Scalar.addi v6 c0_i32_7
  let c512_i32 : BitVec 32 := 512#32
  let v8 : BitVec 32 := Scalar.muli v7 c512_i32
  v8
def k0_mult2 (k0_t1 : Fin k0_t1_loop.trips) : BitVec 32 :=
  let c3328_i32 : BitVec 32 := 3328#32
  let c0_i32_9 : BitVec 32 := 0#32
  let c0_i32 : BitVec 32 := 0#32
  let c1_i32_5 : BitVec 32 := 1#32
  let arg6 : BitVec 32 := Scf.iv c0_i32 c1_i32_5 k0_t1
  let c2_i32 : BitVec 32 := 2#32
  let v6 : BitVec 32 := Scalar.muli arg6 c2_i32
  let c0_i32_7 : BitVec 32 := 0#32
  let v7 : BitVec 32 := Scalar.addi v6 c0_i32_7
  let c512_i32_8 : BitVec 32 := 512#32
  let v10 : BitVec 32 := Scalar.muli v7 c512_i32_8
  let c128_i32 : BitVec 32 := 128#32
  let v11 : BitVec 32 := Scalar.subi v10 c128_i32
  let v12 : BitVec 32 := Scalar.maxsi c0_i32_9 v11
  let v13 : BitVec 32 := Scalar.minsi c3328_i32 v12
  v13
def k0_off1 (k0_t1 : Fin k0_t1_loop.trips) (c0_i32_7 : BitVec 32) : Fin 2 → Nat :=
  let c3328_i32 : BitVec 32 := 3328#32
  let c0_i32_9 : BitVec 32 := 0#32
  let c0_i32 : BitVec 32 := 0#32
  let c1_i32_5 : BitVec 32 := 1#32
  let arg6 : BitVec 32 := Scf.iv c0_i32 c1_i32_5 k0_t1
  let c2_i32 : BitVec 32 := 2#32
  let v6 : BitVec 32 := Scalar.muli arg6 c2_i32
  let v7 : BitVec 32 := Scalar.addi v6 c0_i32_7
  let c512_i32_8 : BitVec 32 := 512#32
  let v10 : BitVec 32 := Scalar.muli v7 c512_i32_8
  let c128_i32 : BitVec 32 := 128#32
  let v11 : BitVec 32 := Scalar.subi v10 c128_i32
  let v12 : BitVec 32 := Scalar.maxsi c0_i32_9 v11
  let v13 : BitVec 32 := Scalar.minsi c3328_i32 v12
  let v14 : BitVec 32 := v13
  let v33 : Index := Scalar.indexCast v14
  let c0_13 : Index := 0#32
  ![v33.toNat, 0]
def k0_off2 (k0_t1 : Fin k0_t1_loop.trips) (c0_i32_7 : BitVec 32) : Fin 2 → Nat :=
  let c0_i32 : BitVec 32 := 0#32
  let c1_i32_5 : BitVec 32 := 1#32
  let arg6 : BitVec 32 := Scf.iv c0_i32 c1_i32_5 k0_t1
  let c2_i32 : BitVec 32 := 2#32
  let v6 : BitVec 32 := Scalar.muli arg6 c2_i32
  let v7 : BitVec 32 := Scalar.addi v6 c0_i32_7
  let c512_i32 : BitVec 32 := 512#32
  let v8 : BitVec 32 := Scalar.muli v7 c512_i32
  let v9 : BitVec 32 := v8
  let v57 : Index := Scalar.indexCast v9
  let c0_19 : Index := 0#32
  ![v57.toNat, 0]
def k0_mult3 (k0_t1 : Fin k0_t1_loop.trips) : BitVec 32 :=
  let c0_i32 : BitVec 32 := 0#32
  let c1_i32_5 : BitVec 32 := 1#32
  let arg6 : BitVec 32 := Scf.iv c0_i32 c1_i32_5 k0_t1
  let c2_i32_26 : BitVec 32 := 2#32
  let v80 : BitVec 32 := Scalar.muli arg6 c2_i32_26
  let c1_i32_27 : BitVec 32 := 1#32
  let v81 : BitVec 32 := Scalar.addi v80 c1_i32_27
  let c512_i32_28 : BitVec 32 := 512#32
  let v82 : BitVec 32 := Scalar.muli v81 c512_i32_28
  v82
def k0_mult4 (k0_t1 : Fin k0_t1_loop.trips) : BitVec 32 :=
  let c3328_i32_32 : BitVec 32 := 3328#32
  let c0_i32_31 : BitVec 32 := 0#32
  let c0_i32 : BitVec 32 := 0#32
  let c1_i32_5 : BitVec 32 := 1#32
  let arg6 : BitVec 32 := Scf.iv c0_i32 c1_i32_5 k0_t1
  let c2_i32_26 : BitVec 32 := 2#32
  let v80 : BitVec 32 := Scalar.muli arg6 c2_i32_26
  let c1_i32_27 : BitVec 32 := 1#32
  let v81 : BitVec 32 := Scalar.addi v80 c1_i32_27
  let c512_i32_29 : BitVec 32 := 512#32
  let v84 : BitVec 32 := Scalar.muli v81 c512_i32_29
  let c128_i32_30 : BitVec 32 := 128#32
  let v85 : BitVec 32 := Scalar.subi v84 c128_i32_30
  let v86 : BitVec 32 := Scalar.maxsi c0_i32_31 v85
  let v87 : BitVec 32 := Scalar.minsi c3328_i32_32 v86
  v87
def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S4096x14848 : Shape := ⟨2, ![4096, 14848]⟩
abbrev S4x256x256 : Shape := ⟨3, ![4, 256, 256]⟩
abbrev S1024 : Shape := ⟨1, ![1024]⟩
abbrev S4 : Shape := ⟨1, ![4]⟩
abbrev S4096x1024 : Shape := ⟨2, ![4096, 1024]⟩
abbrev S4096x4x256 : Shape := ⟨3, ![4096, 4, 256]⟩
abbrev S4x4096x256 : Shape := ⟨3, ![4, 4096, 256]⟩
abbrev S4x1 : Shape := ⟨2, ![4, 1]⟩
abbrev S4096 : Shape := ⟨1, ![4096]⟩
abbrev S1x4096 : Shape := ⟨2, ![1, 4096]⟩
abbrev S4x4096 : Shape := ⟨2, ![4, 4096]⟩
abbrev S_ : Shape := ⟨0, ![]⟩
abbrev S4x4096x1 : Shape := ⟨3, ![4, 4096, 1]⟩
abbrev S1x1x4096 : Shape := ⟨3, ![1, 1, 4096]⟩
abbrev S4x4096x4096 : Shape := ⟨3, ![4, 4096, 4096]⟩
abbrev S4x1x4096x256 : Shape := ⟨4, ![4, 1, 4096, 256]⟩
abbrev S4x4096x4096x256 : Shape := ⟨4, ![4, 4096, 4096, 256]⟩
abbrev S4x4096x4096x1 : Shape := ⟨4, ![4, 4096, 4096, 1]⟩
abbrev S4x256x4096 : Shape := ⟨3, ![4, 256, 4096]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x14848, .bf16⟩
  | .hbm, ⟨1, _⟩ => ⟨S4x256x256, .bf16⟩
  | .hbm, ⟨2, _⟩ => ⟨S1024, .f32⟩
  | .hbm, ⟨3, _⟩ => ⟨S4, .i32⟩
  | .hbm, ⟨4, _⟩ => ⟨S4096x1024, .bf16⟩
  | .hbm, ⟨5, _⟩ => ⟨S4096x1024, .f32⟩
  | .hbm, ⟨6, _⟩ => ⟨S4096x4x256, .f32⟩
  | .hbm, ⟨7, _⟩ => ⟨S4x4096x256, .f32⟩
  | .hbm, ⟨8, _⟩ => ⟨S4096x1024, .bf16⟩
  | .hbm, ⟨9, _⟩ => ⟨S4096x1024, .f32⟩
  | .hbm, ⟨10, _⟩ => ⟨S4x1, .i32⟩
  | .hbm, ⟨11, _⟩ => ⟨S4096, .i32⟩
  | .hbm, ⟨12, _⟩ => ⟨S1x4096, .i32⟩
  | .hbm, ⟨13, _⟩ => ⟨S4x4096, .i32⟩
  | .hbm, ⟨14, _⟩ => ⟨S4x4096, .i32⟩
  | .hbm, ⟨15, _⟩ => ⟨S4x4096, .i32⟩
  | .hbm, ⟨16, _⟩ => ⟨S_, .i32⟩
  | .hbm, ⟨17, _⟩ => ⟨S4x4096, .i32⟩
  | .hbm, ⟨18, _⟩ => ⟨S4x4096, .i32⟩
  | .hbm, ⟨19, _⟩ => ⟨S_, .i32⟩
  | .hbm, ⟨20, _⟩ => ⟨S4x4096, .i32⟩
  | .hbm, ⟨21, _⟩ => ⟨S4x4096, .i32⟩
  | .hbm, ⟨22, _⟩ => ⟨S1x4096, .i32⟩
  | .hbm, ⟨23, _⟩ => ⟨S4x4096, .i32⟩
  | .hbm, ⟨24, _⟩ => ⟨S4x4096, .i32⟩
  | .hbm, ⟨25, _⟩ => ⟨S4x4096, .i32⟩
  | .hbm, ⟨26, _⟩ => ⟨S_, .i32⟩
  | .hbm, ⟨27, _⟩ => ⟨S4x4096, .i32⟩
  | .hbm, ⟨28, _⟩ => ⟨S4x4096, .i32⟩
  | .hbm, ⟨29, _⟩ => ⟨S_, .i32⟩
  | .hbm, ⟨30, _⟩ => ⟨S4x4096, .i32⟩
  | .hbm, ⟨31, _⟩ => ⟨S4x4096, .i32⟩
  | .hbm, ⟨32, _⟩ => ⟨S4x4096x1, .i32⟩
  | .hbm, ⟨33, _⟩ => ⟨S1x1x4096, .i32⟩
  | .hbm, ⟨34, _⟩ => ⟨S4x4096x4096, .i32⟩
  | .hbm, ⟨35, _⟩ => ⟨S4x4096x4096, .i32⟩
  | .hbm, ⟨36, _⟩ => ⟨S4x4096x4096, .i1⟩
  | .hbm, ⟨37, _⟩ => ⟨S4x4096x1, .i32⟩
  | .hbm, ⟨38, _⟩ => ⟨S1x1x4096, .i32⟩
  | .hbm, ⟨39, _⟩ => ⟨S4x4096x4096, .i32⟩
  | .hbm, ⟨40, _⟩ => ⟨S4x4096x4096, .i32⟩
  | .hbm, ⟨41, _⟩ => ⟨S4x4096x4096, .i1⟩
  | .hbm, ⟨42, _⟩ => ⟨S4x4096x4096, .i1⟩
  | .hbm, ⟨43, _⟩ => ⟨S4x1x4096x256, .f32⟩
  | .hbm, ⟨44, _⟩ => ⟨S4x4096x4096x256, .f32⟩
  | .hbm, ⟨45, _⟩ => ⟨S4x4096x4096x1, .i1⟩
  | .hbm, ⟨46, _⟩ => ⟨S4x4096x4096x256, .i1⟩
  | .hbm, ⟨47, _⟩ => ⟨S_, .f32⟩
  | .hbm, ⟨48, _⟩ => ⟨S4x4096x4096x256, .f32⟩
  | .hbm, ⟨49, _⟩ => ⟨S4x4096x4096x256, .f32⟩
  | .hbm, ⟨50, _⟩ => ⟨S_, .f32⟩
  | .hbm, ⟨51, _⟩ => ⟨S4x4096x256, .f32⟩
  | .hbm, ⟨52, _⟩ => ⟨S4x4096, .i32⟩
  | .hbm, ⟨53, _⟩ => ⟨S4x4096, .f32⟩
  | .hbm, ⟨54, _⟩ => ⟨S4x4096x1, .f32⟩
  | .hbm, ⟨55, _⟩ => ⟨S4x4096x256, .f32⟩
  | .hbm, ⟨56, _⟩ => ⟨S4x4096x256, .f32⟩
  | .hbm, ⟨57, _⟩ => ⟨S4x4096x256, .f32⟩
  | .hbm, ⟨58, _⟩ => ⟨S4x4096x256, .bf16⟩
  | .hbm, ⟨59, _⟩ => ⟨S4x4096x256, .f32⟩
  | .hbm, ⟨60, _⟩ => ⟨S4x256x256, .f32⟩
  | .hbm, ⟨61, _⟩ => ⟨S4x256x4096, .f32⟩
  | .hbm, ⟨62, _⟩ => ⟨S4096x4x256, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .bf16⟩
  | _, _ => ⟨S4096x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Proof.Inproj.Body.lean ====
/-
  One point of the first projection's grid: where the point is the first of its run it stores the normalised rows and
  then their product with the point's columns of the weight; elsewhere the normalised rows are read as the point before
  left them.
-/
module

public import proofs.«01_k».proof.Proof.Gen.Kernel7Ideal.Frame
public import Idealize.ShloMosaic.Lib.Exec
public import Idealize.ShloMosaic.Lib.Pipeline.TableIdle
public import Idealize.ShloMosaic.Lib.Pipeline.ValueKit.Acc
public import Idealize.ShloMosaic.Lib.WritesUnit

@[expose] public section

set_option maxRecDepth 16384

noncomputable section

namespace Cert.Kernel7Ideal.Inproj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The normalised rows, each scaled by the gain. -/
def normRows (x : Vec F S1024x2048 .f32) (g : Vec F S1x2048 .f32) : Vec F S1024x2048 .bf16 :=
  truncf .bf16 (mulf (mulf x (broadcastTo S1024x2048 (rsqrt (addf (divf (shapeCast S1024x1
    (multiReduction .add [1] S1024 (mulf x x) 0x00000000#32 reduces_S1024x2048_S1024 (.inl rfl) rfl) shapeCasts_S1024_S1024x1)
    (broadcast S1024x1 (Scalar.ofBits .f32 0x45000000#32))) (broadcast S1024x1 (Scalar.ofBits .f32 0x358637BD#32))))
    broadcasts_S1024x1_S1024x2048)) (broadcastTo S1024x2048 g broadcasts_S1x2048_S1024x2048)) bitsLt_bf16_f32

/-- Their product with a block of the weight's columns. -/
def columns (h : Vec F S1024x2048 .bf16) (w : Vec F S1x2048x512 .bf16) : Vec F S1024x512 .bf16 :=
  truncf .bf16 (matmul dot_S1024x2048_S2048x512_S1024x512_1_0_0_1_n_n none (shapeCast S1024x2048 h shapeCasts_S1024x2048_S1024x2048)
    (shapeCast S2048x512 w shapeCasts_S1x2048x512_S2048x512) (constant S1024x512 .f32 0x00000000#32)) bitsLt_bf16_f32

/-- The kernel function with what it stores named. -/
def named (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1024x512 .bf16) (harg5 : arg5.IsWhole) (arg6 : Memref sig .tc .vmem S1024x2048 .bf16) (harg6 : arg6.IsWhole) :
    Prog (TpuEff nD τ sig (Elt F) Λ₀ .tc) PUnit := do
  if k0_h1 : k0_cond1 i = 1#1 then do
    let v10 : Vec F S1024x2048 .f32 ← Prog.lift (.load arg2 (Rect.unit (s := S1024x2048) ![0, 0] S1024x2048.size inb_S1024x2048_S1024x2048_0_0).toLoadRect (View.loadsAt_vmem h_S1024x2048))
    let v21 : Vec F S1x2048 .f32 ← Prog.lift (.load arg3 (Rect.unit (s := S1x2048) ![0, 0] S1x2048.size inb_S1x2048_S1x2048_0_0).toLoadRect (View.loadsAt_vmem h_S1x2048))
    let v25 : Vec F S1024x2048 .bf16 ← Prog.lift (.load arg6 (Rect.unit (s := S1024x2048) ![0, 0] S1024x2048.size inb_S1024x2048_S1024x2048_0_0).toLoadRect (View.loadsAt_vmem h_S1024x2048))
    Prog.lift (.store arg6 (Rect.unit (s := S1024x2048) ![0, 0] S1024x2048.size inb_S1024x2048_S1024x2048_0_0) (normRows v10 v21) Finset.univ (View.stores_vmem h_S1024x2048 (harg6.storeExact_slice rfl _ packedbf16_S1024x2048_S1024x2048_0_0) (fun _ => rfl)) (.inl rfl))
    pure ⟨⟩
  else do
    pure ⟨⟩
  let v3 : Vec F S1024x2048 .bf16 ← Prog.lift (.load arg6 (Rect.unit (s := S1024x2048) ![0, 0] S1024x2048.size inb_S1024x2048_S1024x2048_0_0).toLoadRect (View.loadsAt_vmem h_S1024x2048))
  let v5 : Vec F S1x2048x512 .bf16 ← Prog.lift (.load arg4 (Rect.unit (s := S1x2048x512) ![0, 0, 0] S1x2048x512.size inb_S1x2048x512_S1x2048x512_0_0_0).toLoadRect (View.loadsAt_vmem h_S1x2048x512))
  let v9 : Vec F S1024x512 .bf16 ← Prog.lift (.load arg5 (Rect.unit (s := S1024x512) ![0, 0] S1024x512.size inb_S1024x512_S1024x512_0_0).toLoadRect (View.loadsAt_vmem h_S1024x512))
  Prog.lift (.store arg5 (Rect.unit (s := S1024x512) ![0, 0] S1024x512.size inb_S1024x512_S1024x512_0_0) (columns v3 v5) Finset.univ (View.stores_vmem h_S1024x512 (harg5.storeExact_slice rfl _ packedbf16_S1024x512_S1024x512_0_0) (fun _ => rfl)) (.inl rfl))
  pure ⟨⟩

theorem named_eq : cc0_inproj (F := F) = named (F := F) := rfl

/-- A store of the whole block leaves the block stored. -/
theorem read_stored {sp : Space} {n k : ℕ} {e : EltTy} (v : View sig .tc sp ⟨2, ![n, k]⟩ e) (f : v.ty.Contents (Elt F))
    (inb : ∀ a, ![0, 0] a + (⟨2, ![n, k]⟩ : Shape).size a ≤ (⟨2, ![n, k]⟩ : Shape).size a) (w : (⟨2, ![n, k]⟩ : Shape).Idx → Elt F e)
    (L : List (View.Piece (Elt F) ⟨2, ![n, k]⟩ e)) :
    v.read (Elt F) (v.writes (Elt F) f (⟨Rect.unit ![0, 0] (⟨2, ![n, k]⟩ : Shape).size inb, w⟩ :: L)) = w :=
  funext fun y => View.read_writes_cons_unit_of_mem v f inb w L y y rfl fun a => by
    match a with
    | 0 => exact (Nat.zero_add _).symm
    | 1 => exact (Nat.zero_add _).symm

set_option maxHeartbeats 1000000 in
/-- A point that stores the rows. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1024x512 .bf16) (harg5 : arg5.IsWhole) (arg6 : Memref sig .tc .vmem S1024x2048 .bf16) (harg6 : arg6.IsWhole) (hc : k0_cond1 i = 1#1)
    (x : Vec F S1024x2048 .f32) (g : Vec F S1x2048 .f32) (w : Vec F S1x2048x512 .bf16) (E : Set ℕ) (K : PUnit → sProp 𝕄) :
    iprop(owns (c : Thread nD τ) arg2 fullShare x ∗ owns (c : Thread nD τ) arg3 fullShare g ∗ owns (c : Thread nD τ) arg4 fullShare w ∗ (∃ d, owns (c : Thread nD τ) arg5 fullShare d) ∗ (∃ d, owns (c : Thread nD τ) arg6 fullShare d)
        ∗ (iprop(owns (c : Thread nD τ) arg2 fullShare x ∗ owns (c : Thread nD τ) arg3 fullShare g ∗ owns (c : Thread nD τ) arg4 fullShare w ∗ owns (c : Thread nD τ) arg5 fullShare (columns (normRows x g) w) ∗ owns (c : Thread nD τ) arg6 fullShare (normRows x g)) -∗ K ⟨⟩))
      ⊢ wp frame (wpE (defs₀ (F := F)) Variants.none c none) E (cc0_inproj i arg2 harg2 arg3 harg3 arg4 harg4 arg5 harg5 arg6 harg6) K := by
  simp only [named_eq]; unfold named
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_stored _ _ _ _ _).trans ?_
    frame_out
  iexists _; isplitr
  swap; · iexact H4
  ipureintro
  refine (read_stored _ _ _ _ _).trans ?_
  frame_out

set_option maxHeartbeats 1000000 in
/-- A point that finds the rows. -/
theorem run_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1024x512 .bf16) (harg5 : arg5.IsWhole) (arg6 : Memref sig .tc .vmem S1024x2048 .bf16) (harg6 : arg6.IsWhole) (hc : ¬k0_cond1 i = 1#1)
    (x : Vec F S1024x2048 .f32) (g : Vec F S1x2048 .f32) (h : Vec F S1024x2048 .bf16) (w : Vec F S1x2048x512 .bf16) (E : Set ℕ) (K : PUnit → sProp 𝕄) :
    iprop(owns (c : Thread nD τ) arg2 fullShare x ∗ owns (c : Thread nD τ) arg3 fullShare g ∗ owns (c : Thread nD τ) arg4 fullShare w ∗ (∃ d, owns (c : Thread nD τ) arg5 fullShare d) ∗ owns (c : Thread nD τ) arg6 fullShare h
        ∗ (iprop(owns (c : Thread nD τ) arg2 fullShare x ∗ owns (c : Thread nD τ) arg3 fullShare g ∗ owns (c : Thread nD τ) arg4 fullShare w ∗ owns (c : Thread nD τ) arg5 fullShare (columns h w) ∗ owns (c : Thread nD τ) arg6 fullShare h) -∗ K ⟨⟩))
      ⊢ wp frame (wpE (defs₀ (F := F)) Variants.none c none) E (cc0_inproj i arg2 harg2 arg3 harg3 arg4 harg4 arg5 harg5 arg6 harg6) K := by
  simp only [named_eq]; unfold named
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_stored _ _ _ _ _).trans ?_
    frame_out
  iexists _; isplitr; · ipureintro; exact harg6.read_unread _
  iexact H4

end Cert.Kernel7Ideal.Inproj

end
-- ==== Proof.Inproj.Run.lean ====
/-
  The first projection's run: the points of a run of 29 hold one block of normalised rows, stored at the first and found
  at the others, and each point writes its own block of the product.
-/
module

public import proofs.«01_k».proof.Proof.Inproj.Body
public import Idealize.ShloMosaic.Lib.Claim

@[expose] public section

set_option maxRecDepth 16384

noncomputable section

namespace Cert.Kernel7Ideal.Inproj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's condition holds where the point is the first of a run of 29. -/
theorem cond_iff : ∀ t : Fin cfg0.N, k0_cond1 (grid0.coords t) = 1#1 ↔ t.val % 29 = 0 :=
  (by decide +kernel : ∀ t : Fin grid0.N, k0_cond1 (grid0.coords t) = 1#1 ↔ t.val % 29 = 0)

/-- The first point of a point's run. -/
def start (t : Fin cfg0.N) : Fin cfg0.N := ⟨t.val - t.val % 29, Nat.lt_of_le_of_lt (Nat.sub_le _ _) t.isLt⟩

theorem start_of (t : Fin cfg0.N) (h : t.val % 29 = 0) : start t = t := Fin.ext (by simp only [start]; omega)

theorem start_pred (t : Fin cfg0.N) (h : ¬t.val % 29 = 0) :
    start t = start ⟨t.val - 1, Nat.lt_of_le_of_lt (Nat.sub_le _ _) t.isLt⟩ := Fin.ext (by simp only [start]; omega)

/-- The normalised rows of a point's run. -/
def rows (c : Dev nD) (t : Fin cfg0.N) : Vec F S1024x2048 .bf16 := normRows (iblk m c 0 (start t)) (iblk m c 1 (start t))

/-- The proof data: the inputs' buffers at their blocks, the rows' at the run's rows, the product's at the point's
    block of the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => columns (rows m c t) (iblk m c 2 t)
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = columns (rows m c t) (iblk m c 2 t) := by dsimp only [dats]
theorem after4 (c : Dev nD) (t : Fin cfg0.N) : (dats m 0 c).after 4 t = rows m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem idle_false (t : Fin cfg0.N) (h : t.val % 29 = 0) : cfg0.idle 4 (cfg0.grid.coords t) = false := by
  show (!(k0_cond1 (grid0.coords t) == 1#1)) = false
  rw [(cond_iff t).mpr h]; rfl

theorem idle_true (t : Fin cfg0.N) (h : ¬t.val % 29 = 0) : cfg0.idle 4 (cfg0.grid.coords t) = true := by
  show (!(k0_cond1 (grid0.coords t) == 1#1)) = true
  rw [beq_eq_false_iff_ne.mpr fun e => h ((cond_iff t).mp e)]; rfl

theorem rows_pred (c : Dev nD) (t : Fin cfg0.N) (h : ¬t.val % 29 = 0) :
    rows m c t = rows m c ⟨t.val - 1, Nat.lt_of_le_of_lt (Nat.sub_le _ _) t.isLt⟩ := by
  unfold rows; rw [start_pred t h]

/-- A point after the first of its run finds the run's rows. -/
theorem before4 (c : Dev nD) (t : Fin cfg0.N) (h : ¬t.val % 29 = 0) (d) : (dats m 0 c).before 4 t d = rows m c t := by
  have hN : t.val < 116 := lt_of_lt_of_eq t.isLt (show cfg0.N = 116 from N_0)
  have hf : cfg0.fresh 4 t.val = decide (t.val % 29 = 0) := by
    refine Pipeline.Cfg.fresh_tab (cfg := cfg0) 4 (fun n => decide (n % 29 = 0)) rfl (fun s => ?_) t.val t.isLt.le
    by_cases hs : s.val % 29 = 28
    · rw [(flush0_4 s).mpr hs, Bool.true_or]; exact decide_eq_true (by omega)
    · rw [Bool.eq_false_iff.mpr fun h => hs ((flush0_4 s).mp h), Bool.false_or]
      by_cases h0 : s.val % 29 = 0
      · rw [idle_false s h0, Bool.false_and]; exact decide_eq_false (by omega)
      · rw [decide_eq_false h0, Bool.and_false]; exact decide_eq_false (by omega)
  rw [(dats m 0 c).before_out_traj 4 rfl (fun _ _ => rfl) (fun s _ hi _ => by
    by_cases hs : s.val % 29 = 0
    · rw [idle_false s hs] at hi; exact absurd hi (by decide)
    · rw [after4, after4, rows_pred m c s hs]) t.val t rfl d, hf, if_neg (by simpa using h), after4, ← rows_pred m c t h]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare (rows m c t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl, after0, after1, after2, after3]
  by_cases h : t.val % 29 = 0
  · rw [show rows m c t = normRows (iblk m c 0 t) (iblk m c 1 t) from by unfold rows; rw [start_of t h]]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((cond_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before4 m c t h]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun e => h ((cond_iff t).mp e)) (iblk m c 0 t) (iblk m c 1 t) (rows m c t) (iblk m c 2 t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

/-- What the rows' buffer is handed back at, whether the point stored it or not. -/
theorem left4 (c : Dev nD) (t : Fin cfg0.N) :
    (owns (c : Thread nD τ) (st0_4 t) fullShare (rows m c t) : sProp 𝕄)
      ⊢ (match cfg0.idle 4 (cfg0.grid.coords t) with
        | true =>
          match (cfg0.win 4).flush t with
          | false => iprop(∃ d, owns (c : Thread nD τ) ((cfg0.win 4).stage (cfg0.slots t 4)) fullShare ((dats m 0 c).before 4 t d))
          | true => owns (c : Thread nD τ) ((cfg0.win 4).stage (cfg0.slots t 4)) fullShare ((dats m 0 c).after 4 t)
        | false => owns (c : Thread nD τ) ((cfg0.win 4).stage (cfg0.slots t 4)) fullShare ((dats m 0 c).after 4 t) : sProp 𝕄) := by
  by_cases h : t.val % 29 = 0
  · rw [idle_false t h, after4]
  · rw [idle_true t h]
    cases hf : (cfg0.win 4).flush t
    · simp only [before4 m c t h]
      iintro H
      iexists (rows m c t); iexact H
    · simp only [after4]; exact .rfl

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (left4 m c t); iexact H4

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The frame at any float values: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.Kernel7Ideal.Inproj

end
-- ==== Proof.Inproj.SameText.lean ====
/-
  The first projection's program and its idealization are printed from one module and no rewrite was made between them,
  so the two texts are one.
-/
module

public import proofs.«01_k».proof.Defs
public import proofs.«01_k».proof.Proof.Gen.Kernel7
public import proofs.«01_k».proof.Proof.Inproj.Run

@[expose] public section

set_option maxRecDepth 100000

noncomputable section

namespace Cert.Kernel7Ideal.Inproj

open Idealize.ShloMosaic Idealize.SL.Sem

variable {F : FTy → Type} [FloatOps F]

theorem dot_same : Cert.Kernel7.dot_S1024x2048_S2048x512_S1024x512_1_0_0_1_n_n = Cert.Kernel7Ideal.dot_S1024x2048_S2048x512_S1024x512_1_0_0_1_n_n := rfl
theorem body_same : @Cert.Kernel7.cc0_inproj F _ _ = @Cert.Kernel7Ideal.cc0_inproj F _ _ := rfl
/-- The kernels' body tables are one. -/
theorem defs₀_same : Cert.Kernel7.defs₀ (F := F) = Cert.Kernel7Ideal.defs₀ (F := F) := by
  unfold Cert.Kernel7.defs₀ Cert.Kernel7Ideal.defs₀
  rw [body_same]
  congr 1
  funext ℓ x
  match ℓ, x with
  | 0, (t, s) => rfl
theorem defs_same : Cert.Kernel7.defs (F := F) = Cert.Kernel7Ideal.defs (F := F) := by
  unfold Cert.Kernel7.defs Cert.Kernel7Ideal.defs
  rw [defs₀_same]; rfl

/-- The frame of the program before idealization: the run of its idealization at bit patterns. -/
theorem frame_bits : Cert.quiescent_Kernel7 := fun m ρ _ =>
  Eq.mpr (congrArg (fun d : Defs Cert.Kernel7.nD Cert.Kernel7.τ Cert.Kernel7.sig (Elt Bits) _ =>
    θ_run d (onTc (τ := Cert.Kernel7.τ) (Cert.Kernel7.main (F := Bits))) ⟨m, fun _ => 0, ρ⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)) (defs_same (F := Bits))) (frame (F := Bits) m ρ)

end Cert.Kernel7Ideal.Inproj

end
-- ==== Proof.Inproj.Values.lean ====
/-
  The values of the first projection: the normalised rows and their product with the weight, as the kernel's blocks and
  as the reference's terms.
-/
module

public import proofs.«01_k».proof.Proof.Inproj.Run
public import proofs.«01_k».proof.Proof.Gen.Reference7Ideal.Run
public import proofs.«01_k».proof.Defs
public import Idealize.ShloMosaic.Lib.Pipeline.ValueKit.Geometry
public import Idealize.ShloMosaic.Lib.Pointwise

@[expose] public section

set_option maxRecDepth 16384

noncomputable section

namespace Cert.Proof.Inproj

open Cert.Kernel7Ideal Cert.Kernel7Ideal.Gen Cert.Kernel7Ideal.Inproj Idealize.ShloMosaic Idealize.ShloMosaic.TcCoe
open Idealize.SL.Sem

/-- The reciprocal root of a row's mean square. -/
def rr (x : Fin 2048 → EReal) : EReal :=
  Ideal.rsqrt (Ideal.div (∑ k : Fin 2048, x k * x k) (Ideal.ofBits .f32 0x45000000#32) + Ideal.ofBits .f32 0x358637BD#32)

/-- The normalised rows. -/
def H (x : S4096x2048.Idx → EReal) (g : S1x2048.Idx → EReal) : S4096x2048.Idx → EReal :=
  fun i => x (ix2 (i 0) (i 1)) * rr (fun k => x (ix2 (i 0) k)) * g (ix2 0 (i 1))

/-- Their product with the weight. -/
def Z (x : S4096x2048.Idx → EReal) (g : S1x2048.Idx → EReal) (w : S1x2048x14848.Idx → EReal) : S4096x14848.Idx → EReal :=
  fun i => ∑ k : Fin 2048, x (ix2 (i 0) k) * rr (fun k => x (ix2 (i 0) k)) * g (ix2 0 k) * w (ix3 0 k (i 1))

/-! ## The kernel -/

theorem normRows_apply (x : Vec Ideal S1024x2048 .f32) (g : Vec Ideal S1x2048 .f32) (y : S1024x2048.Idx) :
    normRows x g y = x y * rr (fun k => x (ix2 (y 0) k)) * g (ix2 0 (y 1)) := by
  unfold rr
  pointwise [normRows]

theorem columns_apply (h : Vec Ideal S1024x2048 .bf16) (w : Vec Ideal S1x2048x512 .bf16) (y : S1024x512.Idx) :
    columns h w y = ∑ k : Fin 2048, h (ix2 (y 0) k) * w (ix3 0 k (y 1)) := by
  pointwise [columns]

variable (m : (ℓ : Loc nD τ sig) → Buf (Elt Ideal) ℓ)

theorem idx0 : ∀ t : Fin cfg0.N, win0_0.index (start t) = ![t.val / 29, 0] := (by decide +kernel : ∀ t : Fin grid0.N, _)
theorem idx1 : ∀ t : Fin cfg0.N, win0_1.index (start t) = ![0, 0] := (by decide +kernel : ∀ t : Fin grid0.N, _)
theorem idx2 : ∀ t : Fin cfg0.N, win0_2.index t = ![0, 0, t.val % 29] := (by decide +kernel : ∀ t : Fin grid0.N, _)
theorem idx3 : ∀ t : Fin cfg0.N, win0_3.index t = ![t.val / 29, t.val % 29] := (by decide +kernel : ∀ t : Fin grid0.N, _)
theorem idx4 : ∀ t : Fin cfg0.N, win0_4.index t = ![t.val / 29, 0] := (by decide +kernel : ∀ t : Fin grid0.N, _)

theorem final4 (c : Dev nD) : (dats m 0 c).arrAt 4 cfg0.N
    = H (m ((c : Thread nD τ).loc main_arg0)) (m ((c : Thread nD τ).loc main_arg1)) := by
  refine (dats m 0 c).arrAt_eq_of_covers 4 _ (by decide +kernel) fun t hf y => ?_
  blk_simp
  rw [after4]; unfold rows; rw [normRows_apply]
  unfold H
  rw [← V_main_arg0 m c, ← V_main_arg1 m c]
  refine congrArg₂ (· * ·) (congrArg₂ (· * ·) ?_ (congrArg rr (funext fun k => ?_))) ?_ <;> blk_simp [iblk]
  · exact congrArg _ (by blk_ext [idx0 t, idx4 t])
  · exact congrArg _ (by blk_ext [idx0 t, idx4 t])
  · exact congrArg _ (by blk_ext [idx1 t, idx4 t])

theorem final3 (c : Dev nD) : (dats m 0 c).arrAt 3 cfg0.N
    = Z (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after3, columns_apply]; unfold rows
  unfold Z
  rw [← V_main_arg0 m c, ← V_main_arg1 m c, ← V_main_arg2 m c]
  refine Finset.sum_congr (M := EReal) rfl fun k _ => ?_
  rw [normRows_apply]
  refine congrArg₂ (· * ·) (congrArg₂ (· * ·) (congrArg₂ (· * ·) ?_ (congrArg rr (funext fun k => ?_))) ?_) ?_ <;> blk_simp [iblk]
  · exact congrArg _ (by blk_ext [idx0 t, idx3 t])
  · exact congrArg _ (by blk_ext [idx0 t, idx3 t])
  · exact congrArg _ (by blk_ext [idx1 t, idx3 t])
  · exact congrArg _ (by blk_ext [idx2 t, idx3 t])

/-! ## The reference -/

theorem ref_h (x : FVec Ideal S4096x2048 .f32) (g : FVec Ideal S1x2048 .f32) :
    truncf .bf16 (mulf (mulf x (broadcastInDim Cert.Reference7Ideal.S4096x2048 ![0, 1] Cert.Reference7Ideal.Facts₀.bcast_S4096x1_S4096x2048_0_1 (Host.rsqrt (addf (Host.divf (broadcastInDim Cert.Reference7Ideal.S4096x1 ![0] Cert.Reference7Ideal.Facts₀.bcast_S4096_S4096x1_0 (Host.reduceAdd (mulf x x) (constant (F := Ideal) Cert.Reference7Ideal.S_ .f32 0x00000000#32) Cert.Reference7Ideal.Facts₀.reducesTo_S4096x2048_S4096_d1 Cert.Reference7Ideal.Gen.h_S_)) (broadcastInDim Cert.Reference7Ideal.S4096x1 ![] Cert.Reference7Ideal.Facts₀.bcast_S_S4096x1 (constant (F := Ideal) Cert.Reference7Ideal.S_ .f32 0x45000000#32))) (broadcastInDim Cert.Reference7Ideal.S4096x1 ![] Cert.Reference7Ideal.Facts₀.bcast_S_S4096x1 (constant (F := Ideal) Cert.Reference7Ideal.S_ .f32 0x358637BD#32)))))) (broadcastInDim Cert.Reference7Ideal.S4096x2048 ![0, 1] Cert.Reference7Ideal.Facts₀.bcast_S1x2048_S4096x2048_0_1 (broadcastInDim Cert.Reference7Ideal.S1x2048 ![1] Cert.Reference7Ideal.Facts₀.bcast_S2048_S1x2048_1 (shapeCast _ g Cert.Reference7Ideal.Facts₀.shapeCasts_S1x2048_S2048)))) Cert.Reference7Ideal.Facts₀.bitsLt_bf16_f32 = H x g := by
  funext i
  unfold H rr
  pointwise

theorem ref_z (x : FVec Ideal S4096x2048 .f32) (g : FVec Ideal S1x2048 .f32) (w : FVec Ideal S1x2048x14848 .bf16) :
    truncf .bf16 (Host.dotGeneral Cert.Reference7Ideal.dot_S4096x2048_S2048x14848_S4096x14848_1_0_0_1_n_n none (mulf (mulf x (broadcastInDim Cert.Reference7Ideal.S4096x2048 ![0, 1] Cert.Reference7Ideal.Facts₀.bcast_S4096x1_S4096x2048_0_1 (Host.rsqrt (addf (Host.divf (broadcastInDim Cert.Reference7Ideal.S4096x1 ![0] Cert.Reference7Ideal.Facts₀.bcast_S4096_S4096x1_0 (Host.reduceAdd (mulf x x) (constant (F := Ideal) Cert.Reference7Ideal.S_ .f32 0x00000000#32) Cert.Reference7Ideal.Facts₀.reducesTo_S4096x2048_S4096_d1 Cert.Reference7Ideal.Gen.h_S_)) (broadcastInDim Cert.Reference7Ideal.S4096x1 ![] Cert.Reference7Ideal.Facts₀.bcast_S_S4096x1 (constant (F := Ideal) Cert.Reference7Ideal.S_ .f32 0x45000000#32))) (broadcastInDim Cert.Reference7Ideal.S4096x1 ![] Cert.Reference7Ideal.Facts₀.bcast_S_S4096x1 (constant (F := Ideal) Cert.Reference7Ideal.S_ .f32 0x358637BD#32)))))) (broadcastInDim Cert.Reference7Ideal.S4096x2048 ![0, 1] Cert.Reference7Ideal.Facts₀.bcast_S1x2048_S4096x2048_0_1 (broadcastInDim Cert.Reference7Ideal.S1x2048 ![1] Cert.Reference7Ideal.Facts₀.bcast_S2048_S1x2048_1 (shapeCast _ g Cert.Reference7Ideal.Facts₀.shapeCasts_S1x2048_S2048)))) (shapeCast _ (extf .f32 w Cert.Reference7Ideal.Facts₀.bitsLt_bf16_f32) Cert.Reference7Ideal.Facts₀.shapeCasts_S1x2048x14848_S2048x14848)) Cert.Reference7Ideal.Facts₀.bitsLt_bf16_f32 = Z x g w := by
  funext i
  unfold Z rr
  pointwise [Cert.Reference7Ideal.dot_S4096x2048_S2048x14848_S4096x14848_1_0_0_1_n_n]

/-- The two programs end with equal results. -/
theorem algebraic : Cert.algebraic_Kernel7Ideal_Reference7Ideal := by
  intro m g m' g' _ hargs
  refine ⟨fun c => Z (m ((c : Thread nD τ).loc main_arg0)) (m ((c : Thread nD τ).loc main_arg1)) (m ((c : Thread nD τ).loc main_arg2)),
    fun c => H (m ((c : Thread nD τ).loc main_arg0)) (m ((c : Thread nD τ).loc main_arg1)), ?_, ?_⟩
  · exact (θ_run defs _ _).mono (fun r h c => ⟨((h.1 c).1 3).trans (final3 m c), ((h.1 c).1 4).trans (final4 m c), h.2.1 c⟩)
      (θ_run_and (Cert.Kernel7Ideal.Inproj.run m g) (Cert.Kernel7Ideal.Inproj.frame m g))
  · refine (θ_run Cert.Reference7Ideal.defs _ _).mono (fun r h c => ⟨(h c).1.trans ?_, (h c).2.1.trans ?_, (h c).2.2⟩)
      (Cert.Reference7Ideal.Value.run m' g')
    all_goals obtain ⟨e0, e1, e2⟩ := hargs c
    · rw [e0, e1, e2]
      exact ref_z _ _ _
    · rw [e0, e1]
      exact ref_h _ _

end Cert.Proof.Inproj

end
-- ==== Proof.Products.LossHead.lean ====
/-
  The loss head: the squared errors added up over the blocks of rows, the step's factor after the call, and the
  gradient, against the loss as a mean of squares and its derivative. The factors are positive reals, so they move
  through the sums of squares.
-/
module

public import proofs.«01_k».proof.Defs
public import proofs.«01_k».proof.Proof.Gen.Kernel14Ideal.Frame
public import proofs.«01_k».proof.Proof.Gen.Reference14Ideal.Run
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.Proof.LossHead

open Cert.Kernel14Ideal Cert.Kernel14Ideal.Gen Idealize.ShloMosaic Idealize.ShloMosaic.TcCoe
open Idealize.SL.Sem

/-! ## The constants -/

theorem c2048 : Ideal.ofBits .f32 0x45000000#32 = ((2048 : ℝ) : EReal) := by
  simp [Ideal.ofBits, Ideal.ieee, -EReal.coe_mul]; norm_num
theorem chalf : Ideal.ofBits .f32 0x3F000000#32 = ((1 / 2 : ℝ) : EReal) := by
  simp [Ideal.ofBits, Ideal.ieee, -EReal.coe_mul]; norm_num
theorem cone : Ideal.ofBits .f32 0x3F800000#32 = ((1 : ℝ) : EReal) := by
  simp [Ideal.ofBits, Ideal.ieee, -EReal.coe_mul]; norm_num
theorem ctwo : Ideal.ofBits .f32 0x40000000#32 = ((2 : ℝ) : EReal) := by
  simp [Ideal.ofBits, Ideal.ieee, -EReal.coe_mul]; norm_num
theorem cmean : Ideal.ofBits .f32 0x3A000000#32 = ((1 / 2048 : ℝ) : EReal) := by
  simp [Ideal.ofBits, Ideal.ieee, -EReal.coe_mul]; norm_num
theorem cscale : Ideal.ofBits .f32 0x39800000#32 = ((1 / 4096 : ℝ) : EReal) := by
  simp [Ideal.ofBits, Ideal.ieee, -EReal.coe_mul]; norm_num

/-- A positive real factor leaves a sum. -/
theorem sum_mul_real {n : ℕ} (f : Fin n → EReal) (r : ℝ) (hr : 0 < r) :
    ∑ k : Fin n, f k * (r : EReal) = (∑ k : Fin n, f k) * (r : EReal) := by
  induction (Finset.univ : Finset (Fin n)) using Finset.induction_on with
  | empty => simp
  | insert a s h ih =>
    rw [Finset.sum_insert h, Finset.sum_insert h,
      EReal.right_distrib_of_nonneg_of_ne_top (by exact_mod_cast hr.le) (EReal.coe_ne_top r), ih]

/-! ## The values -/

/-- The sum of the squared errors. -/
def sq (y t : S4096x2048.Idx → EReal) : EReal :=
  ∑ r : Fin 4096, ∑ k : Fin 2048, (y (ix2 r k) - t (ix2 r k)) * (y (ix2 r k) - t (ix2 r k))

/-- The loss. -/
def loss (y t : S4096x2048.Idx → EReal) : S_.Idx → EReal := fun _ => sq y t * Ideal.ofBits .f32 0x39800000#32

/-- Its gradient. -/
def D (y t : S4096x2048.Idx → EReal) : S4096x2048.Idx → EReal :=
  fun i => (y (ix2 (i 0) (i 1)) - t (ix2 (i 0) (i 1))) * Ideal.ofBits .f32 0x3A000000#32

/-- The squared errors of one point's blocks. -/
def part (x t : Vec Ideal S512x2048 .f32) : EReal :=
  ∑ r : Fin 512, ∑ k : Fin 2048, (x (ix2 r k) - t (ix2 r k)) * (x (ix2 r k) - t (ix2 r k))

theorem pay1_apply (y : S1x128.Idx) : k0_pay1 (F := Ideal) y = 0 := by
  pointwise [k0_pay1]

theorem pay3_apply (x t : Vec Ideal S512x2048 .f32) (y : S512x2048.Idx) :
    k0_pay3 x t y = (x y - t y) * Ideal.ofBits .f32 0x3A000000#32 := by
  pointwise [k0_pay3, k0_pay2]

theorem pay4_apply (x t : Vec Ideal S512x2048 .f32) (a : Vec Ideal S1x128 .f32) (y : S1x128.Idx) :
    k0_pay4 x t a y = a y + part x t := by
  unfold part
  pointwise [k0_pay4, k0_pay2]

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- What the last point leaves in the sums' block. -/
theorem outs_eq (c : Dev nD) (t : Fin cfg0.N) (hf : (cfg0.win 2).flush t = true) (y : S1x128.Idx) :
    (outsAt0 m c t.val t.isLt).1 y = 0 + ∑ s : Fin 8, part
      (iblk m c 0 ⟨8 * (t.val / 8) + s.val, Pipeline.run_point_lt_of_flush t ((flush0_2 t).mp hf) s⟩)
      (iblk m c 1 ⟨8 * (t.val / 8) + s.val, Pipeline.run_point_lt_of_flush t ((flush0_2 t).mp hf) s⟩) :=
  Pipeline.eq_sum_fin_of_reset_step_apply_of_flush (M := EReal) (fun n h => (outsAt0 m c n h).1) 8 (fun _ => 0)
    (fun t _ => part (iblk m c 0 t) (iblk m c 1 t))
    (fun t h y => by
      show (outsAt0 m c t.val t.isLt).1 y = _
      rw [outsAt0_A m c t h]; frame_out; rw [pay4_apply, pay1_apply])
    (fun t h y => by
      show (outsAt0 m c t.val t.isLt).1 y = (outsAt0 m c (t.val - 1) _).1 y + _
      rw [outsAt0_B m c t h]; frame_out; rw [pay4_apply])
    t ((flush0_2 t).mp hf) y

theorem grad_eq (c : Dev nD) (t : Fin cfg0.N) : (outsAt0 m c t.val t.isLt).2 = k0_pay3 (iblk m c 0 t) (iblk m c 1 t) := by
  by_cases h : t.val % 8 = 0
  · rw [outsAt0_A m c t h]; frame_out
  · rw [outsAt0_B m c t h]; frame_out

theorem final2 (c : Dev nD) : (dats m 0 c).arrAt 2 cfg0.N
    = fun _ => sq (m ((c : Thread nD τ).loc main_arg0)) (m ((c : Thread nD τ).loc main_arg1)) := by
  refine (dats m 0 c).arrAt_eq_of_covers 2 _ (by decide +kernel) fun t hf y => ?_
  blk_simp
  rw [after0_2]
  refine (outs_eq m c t hf y).trans ?_
  unfold sq part
  rw [zero_add, ← V_main_arg0 m c, ← V_main_arg1 m c]
  have h8 := (flush0_2 t).mp hf
  have hN : t.val < 8 := t.isLt
  refine Fin.sum_mul_add_congr fun s k hl => Finset.sum_congr rfl fun j _ => ?_
  refine congrArg₂ (· * ·) (congrArg₂ (· - ·) ?_ ?_) (congrArg₂ (· - ·) ?_ ?_) <;> blk_simp [iblk]
  · exact congrArg _ (by blk_ext [idx0])
  · exact congrArg _ (by blk_ext [idx1])
  · exact congrArg _ (by blk_ext [idx0])
  · exact congrArg _ (by blk_ext [idx1])

theorem final3 (c : Dev nD) : (dats m 0 c).arrAt 3 cfg0.N
    = D (m ((c : Thread nD τ).loc main_arg0)) (m ((c : Thread nD τ).loc main_arg1)) := by
  refine (dats m 0 c).arrAt_eq_of_covers 3 _ (by decide +kernel) fun t hf y => ?_
  blk_simp
  rw [after0_3, grad_eq, pay3_apply]
  unfold D
  rw [← V_main_arg0 m c, ← V_main_arg1 m c]
  refine congrArg₂ (· * ·) (congrArg₂ (· - ·) ?_ ?_) rfl <;> blk_simp [iblk]
  · exact congrArg _ (by blk_ext [idx0 t, idx3 t])
  · exact congrArg _ (by blk_ext [idx1 t, idx3 t])

/-- The line after the call: the first of the sums times the step's factor. -/
theorem tail_eq (c : Dev nD) : Pipeline.afterTail₀ cfgs (dats m) 0 (V0 m) [hostOps1] c main_v3
    = loss (m ((c : Thread nD τ).loc main_arg0)) (m ((c : Thread nD τ).loc main_arg1)) := by
  have hA : Pipeline.withArrays (cfgs 0).spec c (V0 m c) (fun w => (dats m 0 c).arrAt w (cfgs 0).N) (Proc.devRef .tc main_v0_0)
      = fun _ => sq (m ((c : Thread nD τ).loc main_arg0)) (m ((c : Thread nD τ).loc main_arg1)) :=
    (Pipeline.withArrays_arr spec0 launch0.win.arr_inj c (V0 m c) (fun w => (dats m 0 c).arrAt w (cfgs 0).N) 2).trans (final2 m c)
  unfold Pipeline.afterTail₀
  generalize Pipeline.withArrays (cfgs 0).spec c (V0 m c) (fun w => (dats m 0 c).arrAt w (cfgs 0).N) = W at hA ⊢
  show StableHlo.after hostOps1 W (Proc.devRef .tc main_v3) = _
  after_results
  rw [hA]
  funext i
  unfold loss
  pointwise

/-! ## The reference -/

theorem ref_loss (y t : FVec Ideal S4096x2048 .f32) :
    mulf (constant (F := Ideal) Cert.Reference14Ideal.S_ .f32 0x3F000000#32) (Host.reduceAdd (Host.divf (Host.reduceAdd (mulf (subf y t) (subf y t)) (constant Cert.Reference14Ideal.S_ .f32 0x00000000#32) Cert.Reference14Ideal.Facts₀.reducesTo_S4096x2048_S4096_d1 Cert.Reference14Ideal.Gen.h_S_) (broadcastInDim Cert.Reference14Ideal.S4096 ![] Cert.Reference14Ideal.Facts₀.bcast_S_S4096 (constant Cert.Reference14Ideal.S_ .f32 0x45000000#32))) (constant Cert.Reference14Ideal.S_ .f32 0x00000000#32) Cert.Reference14Ideal.Facts₀.reducesTo_S4096_S_d0 Cert.Reference14Ideal.Gen.h_S_)
      = loss y t := by
  funext i
  have h : ∀ f : Fin 4096 → EReal, Ideal.ofBits .f32 0x3F000000#32 * ∑ r : Fin 4096, Ideal.div (f r) (Ideal.ofBits .f32 0x45000000#32)
      = (∑ r : Fin 4096, f r) * Ideal.ofBits .f32 0x39800000#32 := fun f => by
    rw [chalf, c2048, cscale]
    simp only [Ideal.div_coe (show (2048 : ℝ) ≠ 0 by norm_num)]
    rw [sum_mul_real _ _ (by norm_num), mul_comm, mul_assoc, ← EReal.coe_mul]
    congr 2; norm_num
  unfold loss sq
  refine Eq.trans ?_ (h _)
  pointwise

theorem ref_grad (y t : FVec Ideal S4096x2048 .f32) :
    mulf (broadcastInDim Cert.Reference14Ideal.S4096x2048 ![0] Cert.Reference14Ideal.Facts₀.bcast_S4096_S4096x2048_0 (Host.divf (broadcastInDim Cert.Reference14Ideal.S4096 ![] Cert.Reference14Ideal.Facts₀.bcast_S_S4096 (mulf (constant (F := Ideal) Cert.Reference14Ideal.S_ .f32 0x3F000000#32) (constant Cert.Reference14Ideal.S_ .f32 0x3F800000#32))) (broadcastInDim Cert.Reference14Ideal.S4096 ![] Cert.Reference14Ideal.Facts₀.bcast_S_S4096 (constant Cert.Reference14Ideal.S_ .f32 0x45000000#32)))) (mulf (broadcastInDim Cert.Reference14Ideal.S4096x2048 ![] Cert.Reference14Ideal.Facts₀.bcast_S_S4096x2048 (constant Cert.Reference14Ideal.S_ .f32 0x40000000#32)) (subf y t))
      = D y t := by
  funext i
  have h : ∀ a : EReal, Ideal.div (Ideal.ofBits .f32 0x3F000000#32 * Ideal.ofBits .f32 0x3F800000#32) (Ideal.ofBits .f32 0x45000000#32)
      * (Ideal.ofBits .f32 0x40000000#32 * a) = a * Ideal.ofBits .f32 0x3A000000#32 := fun a => by
    rw [chalf, cone, c2048, ctwo, cmean, Ideal.div_coe (show (2048 : ℝ) ≠ 0 by norm_num), ← mul_assoc, ← EReal.coe_mul,
      ← EReal.coe_mul, ← EReal.coe_mul, mul_comm]
    congr 2; norm_num
  unfold D
  refine Eq.trans ?_ (h _)
  pointwise

/-- The two programs end with equal results. -/
theorem algebraic : Cert.algebraic_Kernel14Ideal_Reference14Ideal := by
  intro m g m' g' _ hargs
  refine ⟨fun c => loss (m ((c : Thread nD τ).loc main_arg0)) (m ((c : Thread nD τ).loc main_arg1)),
    fun c => D (m ((c : Thread nD τ).loc main_arg0)) (m ((c : Thread nD τ).loc main_arg1)), ?_, ?_⟩
  · exact (θ_run defs _ _).mono (fun r h c => ⟨((h.1 c).2 main_v3 (by decide)).trans (tail_eq m c),
        ((h.1 c).1 3).trans (final3 m c), h.2.1 c⟩)
      (θ_run_and (run_main m g) (frame m g))
  · refine (θ_run Cert.Reference14Ideal.defs _ _).mono (fun r h c => ⟨(h c).1.trans ?_, (h c).2.1.trans ?_, (h c).2.2⟩)
      (Cert.Reference14Ideal.Value.run m' g')
    all_goals rw [(hargs c).1, (hargs c).2]
    · exact ref_loss _ _
    · exact ref_grad _ _

end Cert.Proof.LossHead

end
-- ==== Proof.PoolFwd.Words.lean ====
/-
  The pooling branch's windows: the sum over the rows of a window, the words that say which rows those are and how many
  there are, and the same sum over a stretch of rows that holds the window.
-/
module

public import Idealize.ShloMosaic.Lib.Tactic.WordOmega
public import Idealize.ShloMosaic.Lib.Pointwise
public import Idealize.ShloMosaic.Lib.ValueIdx

@[expose] public section

noncomputable section

namespace Cert.Proof.PoolFwd

open Idealize.ShloMosaic

/-- The sum over the rows from `h` before row `s` to `h - 1` after it, of those that there are. -/
def win (h : ℕ) (f : Fin 4096 → EReal) (s : Fin 4096) : EReal :=
  ∑ c : Fin 4096, if s.val ≤ c.val + h ∧ c.val < s.val + h then f c else 0

/-- The first row of a window, as a word. -/
def lo (h s : ℕ) : BitVec 32 := IntOp.minsi 4096#32 (IntOp.maxsi 0#32 (IntOp.subi (BitVec.ofNat 32 s) (BitVec.ofNat 32 h)))

/-- The row after the last one of a window, as a word. -/
def hi (h s : ℕ) : BitVec 32 := IntOp.minsi 4096#32 (IntOp.maxsi 0#32 (IntOp.addi (BitVec.ofNat 32 s) (BitVec.ofNat 32 h)))

/-- How many rows a window has. -/
def ct (h s : ℕ) : EReal := FloatOps.sitofp (F := Ideal) FTy.f32 (IntOp.subi (hi h s) (lo h s))

theorem toInt_sub {a b : BitVec 32} {x y : ℤ} (ha : a.toInt = x) (hb : b.toInt = y) (h1 : -2147483648 ≤ x - y)
    (h2 : x - y < 2147483648) : (IntOp.subi a b).toInt = x - y := by
  change (a - b).toInt = x - y
  rw [BitVec.toInt_sub, ha, hb]
  exact Int.bmod_eq_of_le (by omega) (by omega)

theorem toInt_add {a b : BitVec 32} {x y : ℤ} (ha : a.toInt = x) (hb : b.toInt = y) (h1 : -2147483648 ≤ x + y)
    (h2 : x + y < 2147483648) : (IntOp.addi a b).toInt = x + y := by
  change (a + b).toInt = x + y
  rw [BitVec.toInt_add, ha, hb]
  exact Int.bmod_eq_of_le (by omega) (by omega)

theorem toInt_nat (n : ℕ) (h : n < 2147483648) : (BitVec.ofNat 32 n).toInt = (n : ℤ) :=
  WordCmp.toInt_ofNat_of_lt (w := 32) (by omega)

theorem toInt_clip {a : BitVec 32} {x : ℤ} (ha : a.toInt = x) :
    (IntOp.minsi 4096#32 (IntOp.maxsi 0#32 a)).toInt = min 4096 (max 0 x) := by
  have h0 : (0#32 : BitVec 32).toInt = 0 := by decide
  have h4 : (4096#32 : BitVec 32).toInt = 4096 := by decide
  unfold IntOp.minsi IntOp.maxsi
  simp only [BitVec.slt, ha, h0]
  split <;> simp only [ha, h0, h4] <;> split <;> simp_all <;> omega

theorem toInt_lo (h s : ℕ) (hh : h ≤ 8) (hs : s < 4096) : (lo h s).toInt = max 0 ((s : ℤ) - h) := by
  unfold lo
  rw [toInt_clip (toInt_sub (toInt_nat s (by omega)) (toInt_nat h (by omega)) (by omega) (by omega))]
  omega

theorem toInt_hi (h s : ℕ) (hh : h ≤ 8) (hs : s < 4096) : (hi h s).toInt = min 4096 ((s : ℤ) + h) := by
  unfold hi
  rw [toInt_clip (toInt_add (toInt_nat s (by omega)) (toInt_nat h (by omega)) (by omega) (by omega))]
  omega

theorem ct_eq (h s : ℕ) (hh : h ≤ 8) (hs : s < 4096) :
    ct h s = (((min 4096 ((s : ℤ) + h) - max 0 ((s : ℤ) - h) : ℤ) : ℝ) : EReal) := by
  unfold ct
  have e : (IntOp.subi (hi h s) (lo h s)).toInt = min 4096 ((s : ℤ) + h) - max 0 ((s : ℤ) - h) :=
    toInt_sub (toInt_hi h s hh hs) (toInt_lo h s hh hs) (by omega) (by omega)
  rw [← e]
  rfl

/-- Dividing by the number of rows is multiplying by its reciprocal. -/
theorem div_ct (h s : ℕ) (h1 : 1 ≤ h) (hh : h ≤ 8) (hs : s < 4096) (x : EReal) :
    x * Ideal.div 1 (ct h s) = Ideal.div x (ct h s) := by
  have hne : ct h s ≠ 0 := by
    rw [ct_eq h s hh hs]
    have : (min 4096 ((s : ℤ) + h) - max 0 ((s : ℤ) - h) : ℤ) ≠ 0 := by omega
    exact_mod_cast this
  unfold Ideal.div
  rw [if_neg hne, if_neg hne, one_mul]

theorem sel {α : Type} (p : Prop) [Decidable p] (a b : α) : Scalar.select (BitVec.ofBool (decide p)) a b = if p then a else b := by
  by_cases h : p
  · simp only [h, decide_true, if_true]; rfl
  · simp only [h, decide_false, if_false]; rfl

theorem and_bool (p q : Prop) [Decidable p] [Decidable q] :
    IntOp.andi (BitVec.ofBool (decide p)) (BitVec.ofBool (decide q)) = BitVec.ofBool (decide (p ∧ q)) := by
  by_cases h : p <;> by_cases h' : q <;> simp only [h, h', decide_true, decide_false, and_true, and_false] <;> rfl

/-- The rows that the kernel's band keeps. -/
theorem band {α : Type} (h c r st row : ℕ) (hh : h ≤ 8) (hc : c < 768) (hr : r < 512) (hst : st ≤ 4096) (hrow : row ≤ 4096)
    (v : BitVec 32) (hv : v = BitVec.ofNat 32 h) (S R : BitVec 32) (hS : S = BitVec.ofNat 32 st) (hR : R = BitVec.ofNat 32 row) (a b : α) :
    Scalar.select (IntOp.andi
        (IntOp.cmpi .sge (IntOp.subi (IntOp.addi (BitVec.ofNat 32 c) S) (IntOp.addi (BitVec.ofNat 32 r) R)) (Scalar.subi 0#32 v))
        (IntOp.cmpi .sle (IntOp.subi (IntOp.addi (BitVec.ofNat 32 c) S) (IntOp.addi (BitVec.ofNat 32 r) R)) (Scalar.subi v 1#32))) a b
      = if row + r ≤ c + st + h ∧ c + st < row + r + h then a else b := by
  subst hv hS hR
  have e : (IntOp.subi (IntOp.addi (BitVec.ofNat 32 c) (BitVec.ofNat 32 st)) (IntOp.addi (BitVec.ofNat 32 r) (BitVec.ofNat 32 row))).toInt
      = ((c : ℤ) + st) - (r + row) :=
    toInt_sub (toInt_add (toInt_nat c (by omega)) (toInt_nat st (by omega)) (by omega) (by omega))
      (toInt_add (toInt_nat r (by omega)) (toInt_nat row (by omega)) (by omega) (by omega)) (by omega) (by omega)
  have e1 : (Scalar.subi 0#32 (BitVec.ofNat 32 h)).toInt = 0 - (h : ℤ) :=
    toInt_sub (a := 0#32) (x := 0) (by decide) (toInt_nat h (by omega)) (by omega) (by omega)
  have e2 : (Scalar.subi (BitVec.ofNat 32 h) 1#32).toInt = (h : ℤ) - 1 :=
    toInt_sub (b := 1#32) (y := 1) (toInt_nat h (by omega)) (by decide) (by omega) (by omega)
  show Scalar.select (IntOp.andi (BitVec.ofBool (decide (_ ≤ _))) (BitVec.ofBool (decide (_ ≤ _)))) a b = _
  rw [and_bool, sel, e, e1, e2]
  refine if_congr ?_ rfl rfl
  omega

/-- The rows that the reference's two comparisons keep. -/
theorem inside {α : Type} (h c s : ℕ) (hh : h ≤ 8) (hc : c < 4096) (hs : s < 4096) (a b : α) :
    Scalar.select (IntOp.andi (IntOp.cmpi .sle (lo h s) (BitVec.ofNat 32 c)) (IntOp.cmpi .slt (BitVec.ofNat 32 c) (hi h s))) a b
      = if s ≤ c + h ∧ c < s + h then a else b := by
  show Scalar.select (IntOp.andi (BitVec.ofBool (decide (_ ≤ _))) (BitVec.ofBool (decide (_ < _)))) a b = _
  rw [and_bool, sel, toInt_lo h s hh hs, toInt_hi h s hh hs, toInt_nat c (by omega)]
  refine if_congr ?_ rfl rfl
  omega

/-- A stretch of 768 rows that holds a window has its sum. -/
theorem stretch (h st : ℕ) (hst : st + 768 ≤ 4096) (f : Fin 4096 → EReal) (s : Fin 4096) (h1 : st = 0 ∨ st + h ≤ s.val)
    (h2 : st + 768 = 4096 ∨ s.val + h ≤ st + 768) :
    (∑ x : Fin 768, if s.val ≤ x.val + st + h ∧ x.val + st < s.val + h then f ⟨st + x.val, by omega⟩ else 0) = win h f s := by
  unfold win
  refine Finset.sum_of_injOn (fun x : Fin 768 => (⟨st + x.val, by omega⟩ : Fin 4096)) ?_ (fun x _ => Finset.mem_coe.mpr (Finset.mem_univ _)) ?_ ?_
  · intro x _ y _ e
    have := congrArg Fin.val e
    exact Fin.ext (by simp only at this; omega)
  · intro c _ hc
    refine if_neg fun hw => hc ⟨⟨c.val - st, by omega⟩, Finset.mem_coe.mpr (Finset.mem_univ _), Fin.ext (by simp only; omega)⟩
  · intro x _
    refine if_congr ?_ rfl rfl
    simp only
    omega

end Cert.Proof.PoolFwd

end
-- ==== Proof.PoolFwd.Ref.lean ====
/-
  The pooling branch of the reference: a window's sum as the rows that two comparisons keep, the count as the difference
  of its ends, the product with the pooling weights, the scale and the gate.
-/
module

public import proofs.«01_k».proof.Defs
public import proofs.«01_k».proof.Proof.Gen.Reference15Ideal.Run
public import proofs.«01_k».proof.Proof.PoolFwd.Words
public import Idealize.ShloMosaic.Lib.Pointwise

@[expose] public section

set_option maxRecDepth 16384

noncomputable section

namespace Cert.Proof.PoolFwd

open Cert.Reference15Ideal Cert.Reference15Ideal.Gen Cert.Reference15Ideal.Value Idealize.ShloMosaic Idealize.ShloMosaic.TcCoe

/-! ## The values -/

/-- Half the width of a group's window. -/
def half (g : ℕ) : ℕ := 2 ^ g

theorem half_pos (g : ℕ) : 1 ≤ half g := Nat.one_le_two_pow
theorem half_le (g : ℕ) (h : g < 4) : half g ≤ 8 := by
  unfold half
  exact (Nat.pow_le_pow_right (by decide) (show g ≤ 3 by omega)).trans (by decide)

/-- A group's centred mean less the row itself. -/
def centred (z : S4096x14848.Idx → EReal) (g : Fin 4) (s : Fin 4096) (d : Fin 256) : EReal :=
  Ideal.div (win (half g.val) (fun c => z (ix2 c ⟨4096 + (256 * g.val + d.val), by omega⟩)) s) (ct (half g.val) s.val)
    - z (ix2 s ⟨4096 + (256 * g.val + d.val), by omega⟩)

/-- The gate of the branch. -/
def gate (x : EReal) : EReal := x * Ideal.div 1 (1 + Ideal.exp (0 - x))

/-- A group's rows by its weights, scaled and gated. -/
def out (z : S4096x14848.Idx → EReal) (w : S4x256x256.Idx → EReal) (ps : S1024.Idx → EReal) (g : Fin 4) (s : Fin 4096)
    (e : Fin 256) : EReal :=
  (∑ d : Fin 256, centred z g s d * w (ix3 g d e)) * ps (ix1 ⟨256 * g.val + e.val, by omega⟩)
    * gate (z (ix2 s ⟨5120 + (256 * g.val + e.val), by omega⟩))

/-- The group of a column. -/
def grp (e : Fin 1024) : Fin 4 := ⟨e.val / 256, by omega⟩
/-- Its place in the group. -/
def col (e : Fin 1024) : Fin 256 := ⟨e.val % 256, by omega⟩

/-- The branch's result. -/
def res (z : S4096x14848.Idx → EReal) (w : S4x256x256.Idx → EReal) (ps : S1024.Idx → EReal) : S4096x1024.Idx → EReal :=
  fun i => out z w ps (grp (i 1)) (i 0) (col (i 1))

/-! ## The reference -/

/-- Where the windows begin. -/
def refLo : IVec S4x4096 32 :=
  (minsi (broadcastInDim S4x4096 ![] Facts₀.bcast_S_S4x4096 (constantI S_ 32 4096#32)) (maxsi (broadcastInDim S4x4096 ![] Facts₀.bcast_S_S4x4096 (constantI S_ 32 0#32)) (subi (broadcastInDim S4x4096 ![0, 1] Facts₀.bcast_S1x4096_S4x4096_0_1 (broadcastInDim S1x4096 ![1] Facts₀.bcast_S4096_S1x4096_1 (iotaInDim S4096 32 0))) (broadcastInDim S4x4096 ![0, 1] Facts₀.bcast_S4x1_S4x4096_0_1 (broadcastInDim S4x1 ![0] Facts₀.bcast_S4_S4x1_0 ((fun i => lit0 (S4.rowMajor i))))))))

/-- Where they end. -/
def refHi : IVec S4x4096 32 :=
  (minsi (broadcastInDim S4x4096 ![] Facts₀.bcast_S_S4x4096 (constantI S_ 32 4096#32)) (maxsi (broadcastInDim S4x4096 ![] Facts₀.bcast_S_S4x4096 (constantI S_ 32 0#32)) (addi (broadcastInDim S4x4096 ![0, 1] Facts₀.bcast_S1x4096_S4x4096_0_1 (broadcastInDim S1x4096 ![1] Facts₀.bcast_S4096_S1x4096_1 (iotaInDim S4096 32 0))) (broadcastInDim S4x4096 ![0, 1] Facts₀.bcast_S4x1_S4x4096_0_1 (broadcastInDim S4x1 ![0] Facts₀.bcast_S4_S4x1_0 ((fun i => lit0 (S4.rowMajor i))))))))

/-- The groups. -/
def refU (z : FVec Ideal S4096x14848 .bf16) : FVec Ideal S4x4096x256 .f32 :=
  (transpose S4x4096x256 [1, 0, 2] (shapeCast S4096x4x256 (extf .f32 (extractStridedSlice S4096x1024 ![0, 4096] z Facts₀.slices_S4096x14848_S4096x1024_0_4096) Facts₀.bitsLt_bf16_f32) Facts₀.shapeCasts_S4096x1024_S4096x4x256) Facts₀.transposes_S4096x4x256_S4x4096x256_1_0_2)

/-- The centred means less the rows. -/
def refP (l h : IVec S4x4096 32) (u : FVec Ideal S4x4096x256 .f32) : FVec Ideal S4x4096x256 .f32 :=
  (subf (Host.divf (Host.reduceAdd (select (broadcastInDim S4x4096x4096x256 ![0, 1, 2, 3] Facts₀.bcast_S4x4096x4096x1_S4x4096x4096x256_0_1_2_3 (broadcastInDim S4x4096x4096x1 ![0, 1, 2] Facts₀.bcast_S4x4096x4096_S4x4096x4096x1_0_1_2 (andi (cmpi .sle (broadcastInDim S4x4096x4096 ![0, 1, 2] Facts₀.bcast_S4x4096x1_S4x4096x4096_0_1_2 (broadcastInDim S4x4096x1 ![0, 1] Facts₀.bcast_S4x4096_S4x4096x1_0_1 l)) (broadcastInDim S4x4096x4096 ![0, 1, 2] Facts₀.bcast_S1x1x4096_S4x4096x4096_0_1_2 (broadcastInDim S1x1x4096 ![2] Facts₀.bcast_S4096_S1x1x4096_2 (iotaInDim S4096 32 0)))) (cmpi .slt (broadcastInDim S4x4096x4096 ![0, 1, 2] Facts₀.bcast_S1x1x4096_S4x4096x4096_0_1_2 (broadcastInDim S1x1x4096 ![2] Facts₀.bcast_S4096_S1x1x4096_2 (iotaInDim S4096 32 0))) (broadcastInDim S4x4096x4096 ![0, 1, 2] Facts₀.bcast_S4x4096x1_S4x4096x4096_0_1_2 (broadcastInDim S4x4096x1 ![0, 1] Facts₀.bcast_S4x4096_S4x4096x1_0_1 h)))))) (broadcastInDim S4x4096x4096x256 ![0, 1, 2, 3] Facts₀.bcast_S4x1x4096x256_S4x4096x4096x256_0_1_2_3 (broadcastInDim S4x1x4096x256 ![0, 2, 3] Facts₀.bcast_S4x4096x256_S4x1x4096x256_0_2_3 u)) (broadcastInDim S4x4096x4096x256 ![] Facts₀.bcast_S_S4x4096x4096x256 (constant (F := Ideal) S_ .f32 0x00000000#32))) (constant (F := Ideal) S_ .f32 0x00000000#32) Facts₀.reducesTo_S4x4096x4096x256_S4x4096x256_d2 h_S_) (broadcastInDim S4x4096x256 ![0, 1, 2] Facts₀.bcast_S4x4096x1_S4x4096x256_0_1_2 (broadcastInDim S4x4096x1 ![0, 1] Facts₀.bcast_S4x4096_S4x4096x1_0_1 (sitofp .f32 (subi h l))))) u)

/-- The gate's columns. -/
def refG (z : FVec Ideal S4096x14848 .bf16) : FVec Ideal S4096x1024 .f32 :=
  (extf .f32 (extractStridedSlice S4096x1024 ![0, 5120] z Facts₀.slices_S4096x14848_S4096x1024_0_5120) Facts₀.bitsLt_bf16_f32)

/-- The product, the scale and the gate. -/
def refT (P : FVec Ideal S4x4096x256 .f32) (G : FVec Ideal S4096x1024 .f32) (w : FVec Ideal S4x256x256 .bf16) (ps : FVec Ideal S1024 .f32) :
    FVec Ideal S4096x1024 .bf16 :=
  truncf .bf16 (mulf (mulf (shapeCast S4096x1024 (transpose S4096x4x256 [2, 0, 1] (Host.dotGeneral dot_S4x256x256_S4x4096x256_S4x256x4096_1_2_2_1_0_0 none (extf .f32 w Facts₀.bitsLt_bf16_f32) (extf .f32 (truncf .bf16 P Facts₀.bitsLt_bf16_f32) Facts₀.bitsLt_bf16_f32)) Facts₀.transposes_S4x256x4096_S4096x4x256_2_0_1) Facts₀.shapeCasts_S4096x4x256_S4096x1024) (broadcastInDim S4096x1024 ![0, 1] Facts₀.bcast_S1x1024_S4096x1024_0_1 (broadcastInDim S1x1024 ![1] Facts₀.bcast_S1024_S1x1024_1 ps))) (mulf G (Host.divf (broadcastInDim S4096x1024 ![] Facts₀.bcast_S_S4096x1024 (constant (F := Ideal) S_ .f32 0x3F800000#32)) (addf (broadcastInDim S4096x1024 ![] Facts₀.bcast_S_S4096x1024 (constant (F := Ideal) S_ .f32 0x3F800000#32)) (Host.exp (Host.negf G)))))) Facts₀.bitsLt_bf16_f32

theorem lit_half (g : Fin 4) : lit0 (S4.rowMajor (ix1 g)) = BitVec.ofNat 32 (half g.val) := by
  revert g
  decide

theorem refLo_apply (g : Fin 4) (s : Fin 4096) : refLo (ix2 g s) = lo (half g.val) s.val := by
  pointwise [refLo]
  rw [lit_half]
  rfl

theorem refHi_apply (g : Fin 4) (s : Fin 4096) : refHi (ix2 g s) = hi (half g.val) s.val := by
  pointwise [refHi]
  rw [lit_half]
  rfl

theorem refU_apply (z : FVec Ideal S4096x14848 .bf16) (g : Fin 4) (s : Fin 4096) (d : Fin 256) :
    refU z (ix3 g s d) = z (ix2 s ⟨4096 + (256 * g.val + d.val), by omega⟩) := by
  pointwise [refU]
  exact congrArg _ (congrArg _ (Fin.ext (by simp only; omega)))

theorem refG_apply (z : FVec Ideal S4096x14848 .bf16) (i : S4096x1024.Idx) (h : 5120 + (i 1).val < 14848) :
    refG z i = z (ix2 (i 0) ⟨5120 + (i 1).val, h⟩) := by
  pointwise [refG]

theorem refP_apply (l h : IVec S4x4096 32) (u : FVec Ideal S4x4096x256 .f32) (g : Fin 4) (s : Fin 4096) (d : Fin 256) (n : ℕ) (hn : n ≤ 8)
    (hl : l (ix2 g s) = lo n s.val) (hh : h (ix2 g s) = hi n s.val) :
    refP l h u (ix3 g s d) = Ideal.div (win n (fun c => u (ix3 g c d)) s) (ct n s.val) - u (ix3 g s d) := by
  have e : win n (fun c => u (ix3 g c d)) s = ∑ c : Fin 4096, Scalar.select (IntOp.andi (IntOp.cmpi .sle (lo n s.val) (BitVec.ofNat 32 c.val))
      (IntOp.cmpi .slt (BitVec.ofNat 32 c.val) (hi n s.val))) (u (ix3 g c d)) 0 :=
    Finset.sum_congr rfl fun c _ => (inside n c.val s.val hn c.isLt s.isLt _ _).symm
  rw [e]
  unfold ct
  rw [← hl, ← hh]
  pointwise [refP]

theorem refP_eq (z : FVec Ideal S4096x14848 .bf16) (g : Fin 4) (s : Fin 4096) (d : Fin 256) :
    refP refLo refHi (refU z) (ix3 g s d) = centred z g s d := by
  rw [refP_apply _ _ _ g s d _ (half_le _ g.isLt) (refLo_apply g s) (refHi_apply g s)]
  unfold centred
  simp only [refU_apply]

theorem refT_apply (P : FVec Ideal S4x4096x256 .f32) (G : FVec Ideal S4096x1024 .f32) (w : FVec Ideal S4x256x256 .bf16)
    (ps : FVec Ideal S1024 .f32) (i : S4096x1024.Idx) :
    refT P G w ps i = (∑ d : Fin 256, P (ix3 (grp (i 1)) (i 0) d) * w (ix3 (grp (i 1)) d (col (i 1)))) * ps (ix1 (i 1)) * gate (G i) := by
  unfold gate grp col
  pointwise [refT]
  refine congrArg₂ (· * ·) (congrArg (· * _) (Finset.sum_congr (M := EReal) rfl fun d _ => mul_comm _ _)) ?_
  rw [sub_eq_add_neg, zero_add]

theorem ref_term (m : (ℓ : Loc nD τ sig) → Buf (Elt Ideal) ℓ) (c : Dev nD) : res_main_v59 m c
    = refT (refP refLo refHi (refU (m ((c.tc : Thread nD τ).loc main_arg0)))) (refG (m ((c.tc : Thread nD τ).loc main_arg0)))
        (m ((c.tc : Thread nD τ).loc main_arg1)) (m ((c.tc : Thread nD τ).loc main_arg2)) := rfl

theorem ref_eq (m : (ℓ : Loc nD τ sig) → Buf (Elt Ideal) ℓ) (c : Dev nD) : res_main_v59 m c
    = res (m ((c.tc : Thread nD τ).loc main_arg0)) (m ((c.tc : Thread nD τ).loc main_arg1)) (m ((c.tc : Thread nD τ).loc main_arg2)) := by
  rw [ref_term]
  funext i
  have hi := (i 1).isLt
  change (i 1).val < 1024 at hi
  have hd : 256 * ((i 1).val / 256) + (i 1).val % 256 = (i 1).val := by omega
  refine (refT_apply _ _ _ _ i).trans ?_
  unfold res out
  refine congrArg₂ (· * ·) (congrArg₂ (· * ·) (Finset.sum_congr (M := EReal) rfl fun d _ => congrArg (· * _) ?_) ?_) (congrArg gate ?_)
  · exact refP_eq _ _ _ _
  · exact congrArg _ (congrArg _ (Fin.ext hd.symm))
  · rw [refG_apply _ _ (by omega)]
    exact congrArg _ (congrArg _ (Fin.ext (by simp only [grp, col]; omega)))

end Cert.Proof.PoolFwd

end
-- ==== Proof.PoolFwd.Body.lean ====
/-
  One group of the pooling call: the eight stretches of 512 rows, each with its windows summed over 768 rows, make up the
  group's columns.
-/
module

public import proofs.«01_k».proof.Proof.Gen.Kernel15Ideal.Frame
public import proofs.«01_k».proof.Proof.PoolFwd.Ref
public import Idealize.ShloMosaic.Lib.Pipeline.ValueKit.Geometry
public import Idealize.ShloMosaic.Lib.Pipeline.ValueKit.Tiles
public import Idealize.ShloMosaic.Lib.Pointwise

@[expose] public section

set_option maxRecDepth 16384

noncomputable section

namespace Cert.Proof.PoolFwd

open Cert.Kernel15Ideal Cert.Kernel15Ideal.Gen Idealize.ShloMosaic Idealize.ShloMosaic.TcCoe

/-- One entry of a group's columns. -/
def cell (h : ℕ) (X G : S4096x256.Idx → EReal) (W : S1x256x256.Idx → EReal) (S : S1x1x256.Idx → EReal) (s : Fin 4096) (e : Fin 256) :
    EReal :=
  (∑ d : Fin 256, (Ideal.div (win h (fun c => X (ix2 c d)) s) (ct h s.val) - X (ix2 s d)) * W (ix3 0 d e)) * S (ix3 0 0 e)
    * gate (G (ix2 s e))

/-- A stretch of 512 rows from row `R`, with its windows summed over the 768 rows from row `st`. -/
theorem core (h : ℕ) (h1 : 1 ≤ h) (hh : h ≤ 8) (R st : ℕ) (hR : R + 512 ≤ 4096) (hst : st + 768 ≤ 4096) (c1 : st = 0 ∨ st + 8 ≤ R)
    (c2 : st + 768 = 4096 ∨ R + 520 ≤ st + 768) (v rw' sw : BitVec 32) (hv : v = BitVec.ofNat 32 h) (hrw : rw' = BitVec.ofNat 32 R)
    (hsw : sw = BitVec.ofNat 32 st) (X G : S4096x256.Idx → EReal) (W : S1x256x256.Idx → EReal) (S : S1x1x256.Idx → EReal)
    (w : S768x256.Idx → EReal) (u g : S512x256.Idx → EReal) (r : Fin 512) (e : Fin 256)
    (hw : ∀ (x : Fin 768) (d : Fin 256), w (ix2 x d) = X (ix2 ⟨st + x.val, by omega⟩ d))
    (hu : ∀ d : Fin 256, u (ix2 r d) = X (ix2 ⟨R + r.val, by omega⟩ d))
    (hg : g (ix2 r e) = G (ix2 ⟨R + r.val, by omega⟩ e)) :
    (∑ x : Fin 256, ((∑ k : Fin 768, Scalar.select (IntOp.andi
        (IntOp.cmpi .sge (IntOp.subi (IntOp.addi (BitVec.ofNat 32 k.val) sw) (IntOp.addi (BitVec.ofNat 32 r.val) rw')) (Scalar.subi 0#32 v))
        (IntOp.cmpi .sle (IntOp.subi (IntOp.addi (BitVec.ofNat 32 k.val) sw) (IntOp.addi (BitVec.ofNat 32 r.val) rw')) (Scalar.subi v 1#32)))
          (w (ix2 k x)) 0)
        * Ideal.div 1 (FloatOps.sitofp (F := Ideal) FTy.f32 (IntOp.subi
            (IntOp.minsi 4096#32 (IntOp.maxsi 0#32 (IntOp.addi (IntOp.addi (BitVec.ofNat 32 r.val) rw') v)))
            (IntOp.minsi 4096#32 (IntOp.maxsi 0#32 (IntOp.subi (IntOp.addi (BitVec.ofNat 32 r.val) rw') v)))))
        - u (ix2 r x)) * W (ix3 0 x e)) * S (ix3 0 0 e) * (g (ix2 r e) * Ideal.div 1 (1 + Ideal.exp (0 - g (ix2 r e))))
      = cell h X G W S ⟨R + r.val, by omega⟩ e := by
  have ew : ∀ x : Fin 256, (∑ k : Fin 768, Scalar.select (IntOp.andi
        (IntOp.cmpi .sge (IntOp.subi (IntOp.addi (BitVec.ofNat 32 k.val) sw) (IntOp.addi (BitVec.ofNat 32 r.val) rw')) (Scalar.subi 0#32 v))
        (IntOp.cmpi .sle (IntOp.subi (IntOp.addi (BitVec.ofNat 32 k.val) sw) (IntOp.addi (BitVec.ofNat 32 r.val) rw')) (Scalar.subi v 1#32)))
          (w (ix2 k x)) 0) = win h (fun c => X (ix2 c x)) ⟨R + r.val, by omega⟩ := fun x => by
    refine Eq.trans (Finset.sum_congr rfl fun k _ => ?_)
      (stretch h st hst (fun c => X (ix2 c x)) ⟨R + r.val, by omega⟩ (c1.imp_right fun _ => by simp only; omega)
        (c2.imp_right fun _ => by simp only; omega))
    rw [band h k.val r.val st R hh k.isLt r.isLt (by omega) (by omega) v hv sw rw' hsw hrw, hw]
  have ea : IntOp.addi (BitVec.ofNat 32 r.val) rw' = BitVec.ofNat 32 (R + r.val) := by
    subst hrw
    show BitVec.ofNat 32 r.val + BitVec.ofNat 32 R = _
    rw [← BitVec.ofNat_add, Nat.add_comm]
  unfold cell gate
  simp only [ew, hu, hg]
  rw [ea, hv]
  refine congrArg (· * _) (congrArg (· * _) (Finset.sum_congr rfl fun x _ => congrArg (· * _) (congrArg (· - _) ?_)))
  exact div_ct h (R + r.val) h1 hh (by omega) _

theorem even_apply (h : ℕ) (h1 : 1 ≤ h) (hh : h ≤ 8) (k : Fin k0_t1_loop.trips) (R st : ℕ) (hR : R + 512 ≤ 4096) (hst : st + 768 ≤ 4096)
    (c1 : st = 0 ∨ st + 8 ≤ R) (c2 : st + 768 = 4096 ∨ R + 520 ≤ st + 768) (v : BitVec 32) (hv : v = BitVec.ofNat 32 h)
    (hrw : Scalar.muli (Scalar.addi (Scalar.muli (Scf.iv 0#32 1#32 k.val) 2#32) 0#32) 512#32 = BitVec.ofNat 32 R)
    (hsw : Scalar.minsi 3328#32 (Scalar.maxsi 0#32 (Scalar.subi (Scalar.muli (Scalar.addi (Scalar.muli (Scf.iv 0#32 1#32 k.val) 2#32) 0#32) 512#32) 128#32))
      = BitVec.ofNat 32 st)
    (X G : S4096x256.Idx → EReal) (W : Vec Ideal S1x256x256 .bf16) (S : Vec Ideal S1x1x256 .f32)
    (w : Vec Ideal S768x256 .bf16) (u g : Vec Ideal S512x256 .bf16) (r : Fin 512) (e : Fin 256)
    (hw : ∀ (x : Fin 768) (d : Fin 256), w (ix2 x d) = X (ix2 ⟨st + x.val, by omega⟩ d))
    (hu : ∀ d : Fin 256, u (ix2 r d) = X (ix2 ⟨R + r.val, by omega⟩ d))
    (hg : g (ix2 r e) = G (ix2 ⟨R + r.val, by omega⟩ e)) :
    k0_pay9 (k0_pay1 W) (k0_pay2 S) (k0_pay4 v 0#32 1#32 k w) (k0_pay6 v 0#32 1#32 k) (k0_pay7 v 0#32 1#32 k) 4096#32 k0_pay8 u g (ix2 r e)
      = cell h X G W S ⟨R + r.val, by omega⟩ e := by
  refine Eq.trans ?_ (core h h1 hh R st hR hst c1 c2 v _ _ hv hrw hsw X G W S w u g r e hw hu hg)
  pointwise [k0_pay9, k0_pay8, k0_pay1, k0_pay2, k0_pay4, k0_pay5, k0_pay6, k0_pay7]

theorem odd_apply (h : ℕ) (h1 : 1 ≤ h) (hh : h ≤ 8) (R st : ℕ) (hR : R + 512 ≤ 4096) (hst : st + 768 ≤ 4096)
    (c1 : st = 0 ∨ st + 8 ≤ R) (c2 : st + 768 = 4096 ∨ R + 520 ≤ st + 768) (v rw' sw : BitVec 32) (hv : v = BitVec.ofNat 32 h)
    (hrw : rw' = BitVec.ofNat 32 R) (hsw : sw = BitVec.ofNat 32 st)
    (X G : S4096x256.Idx → EReal) (W : Vec Ideal S1x256x256 .bf16) (S : Vec Ideal S1x1x256 .f32)
    (w : Vec Ideal S768x256 .bf16) (u g : Vec Ideal S512x256 .bf16) (r : Fin 512) (e : Fin 256)
    (hw : ∀ (x : Fin 768) (d : Fin 256), w (ix2 x d) = X (ix2 ⟨st + x.val, by omega⟩ d))
    (hu : ∀ d : Fin 256, u (ix2 r d) = X (ix2 ⟨R + r.val, by omega⟩ d))
    (hg : g (ix2 r e) = G (ix2 ⟨R + r.val, by omega⟩ e)) :
    k0_pay3 (k0_pay10 v (k0_pay1 W) (k0_pay2 S) rw' sw (Scalar.subi 0#32 v) 1#32 w u) g (ix2 r e)
      = cell h X G W S ⟨R + r.val, by omega⟩ e := by
  refine Eq.trans ?_ (core h h1 hh R st hR hst c1 c2 v rw' sw hv hrw hsw X G W S w u g r e hw hu hg)
  pointwise [k0_pay3, k0_pay10, k0_pay1, k0_pay2]

theorem offs2 : ∀ k : Fin k0_t1_loop.trips, k.val < 4 ∧ k0_off2 k 0#32 = ![1024 * k.val, 0] ∧ k0_off2 k 1#32 = ![1024 * k.val + 512, 0] := by
  decide +kernel

theorem offs1 : ∀ k : Fin k0_t1_loop.trips, k0_off1 k 0#32 = ![1024 * k.val - 128, 0]
    ∧ k0_off1 k 1#32 = ![min 3328 (1024 * k.val + 384), 0] := by
  decide +kernel

theorem half_word (t : Fin cfg0.N) : kernelRun0_A.sl.v0 (grid0.coords t) = BitVec.ofNat 32 (half t.val) := by
  revert t
  decide +kernel

theorem words : ∀ k : Fin k0_t1_loop.trips,
    Scalar.muli (Scalar.addi (Scalar.muli (Scf.iv 0#32 1#32 k.val) 2#32) 0#32) 512#32 = BitVec.ofNat 32 (1024 * k.val)
    ∧ Scalar.minsi 3328#32 (Scalar.maxsi 0#32 (Scalar.subi (Scalar.muli (Scalar.addi (Scalar.muli (Scf.iv 0#32 1#32 k.val) 2#32) 0#32) 512#32) 128#32))
      = BitVec.ofNat 32 (1024 * k.val - 128)
    ∧ trip_k0_t1.sl.v82 k = BitVec.ofNat 32 (1024 * k.val + 512)
    ∧ trip_k0_t1.sl.v87 k = BitVec.ofNat 32 (min 3328 (1024 * k.val + 384)) := by
  decide +kernel

/-- A load of whole rows. -/
theorem ld_rows {a : ℕ} (X : Vec Ideal S4096x256 .bf16) (off : Fin 2 → ℕ) (inb) (n : ℕ) (ho : off = ![n, 0]) (r : Fin a) (d : Fin 256)
    (h : n + r.val < 4096) :
    View.ld (S := S4096x256) X (Rect.unit off ![a, 256] inb) (ix2 r d) = X (ix2 ⟨n + r.val, h⟩ d) := by
  subst ho
  exact View.ld_unit_apply_of _ _ _ _ _ _ fun a => by fin_cases a; exacts [rfl, (Nat.zero_add _).symm]

theorem trip (𝒱 : Variants) (c : Dev nD) (bd : Option 𝒱.V) (i : grid0.Coords) (arg1 : Memref sig .tc .vmem S4096x256 .bf16) (harg1 : arg1.IsWhole) (arg2 : Memref sig .tc .vmem S4096x256 .bf16) (harg2 : arg2.IsWhole) (arg3 : Memref sig .tc .vmem S1x256x256 .bf16) (harg3 : arg3.IsWhole) (arg4 : Memref sig .tc .vmem S1x1x256 .f32) (harg4 : arg4.IsWhole) (arg5 : Memref sig .tc .vmem S4096x256 .bf16) (harg5 : arg5.IsWhole)
    (v : BitVec 32) (W : Vec Ideal S1x256x256 .bf16) (S : Vec Ideal S1x1x256 .f32) (X G : Vec Ideal S4096x256 .bf16) (k : Fin k0_t1_loop.trips)
    (h : ℕ) (h1 : 1 ≤ h) (hh : h ≤ 8) (hv : v = BitVec.ofNat 32 h) (y : S4096x256.Idx) :
    View.AllAt (tripL_k0_t1 (F := Ideal) 𝒱 c bd i arg1 harg1 arg2 harg2 arg3 harg3 arg4 harg4 arg5 harg5 v W S (harg1.unread X) (harg2.unread G) k) y
      (cell h X G W S (y 0) (y 1)) := by
  unfold tripL_k0_t1 trip_k0_t1
  dsimp only
  unfold trip_k0_t1.sl.r_3 trip_k0_t1.sl.r trip_k0_t1.sl.r_1 trip_k0_t1.sl.r_2
  simp only [View.readAt_eq_ld, Memref.IsWhole.read_unread]
  obtain ⟨hk, o0, o1⟩ := offs2 k
  obtain ⟨p0, p1⟩ := offs1 k
  obtain ⟨w1, w2, w3, w4⟩ := words k
  refine View.allAt_cons_unit _ _ _ _ _ (fun x hx => ?_) (View.allAt_cons_unit _ _ _ _ _ (fun x hx => ?_) (View.allAt_nil _ _))
  · obtain ⟨r, e, rfl⟩ : ∃ (r : Fin 512) (e : Fin 256), x = ix2 r e := ⟨x 0, x 1, eq_ix2 x⟩
    have x0 : (y 0).val = 1024 * k.val + 512 + r.val := (hx 0).trans (by rw [o1]; rfl)
    have x1 : (y 1).val = e.val := (hx 1).trans (by rw [o1]; exact Nat.zero_add _)
    have hy0 : y 0 = (⟨1024 * k.val + 512 + r.val, by omega⟩ : Fin 4096) := Fin.ext x0
    have hy1 : y 1 = e := Fin.ext x1
    refine Eq.trans ?_ (congrArg₂ (cell h X G W S) hy0.symm hy1.symm)
    refine odd_apply h h1 hh (1024 * k.val + 512) (min 3328 (1024 * k.val + 384)) (by omega) (by omega) (by omega) (by omega) v _ _ hv w3 w4
      X G W S _ _ _ r e (fun x' d => ?_) (fun d => ?_) ?_
    · exact ld_rows _ _ _ _ p1 _ _ _
    · exact ld_rows _ _ _ _ o1 _ _ _
    · exact ld_rows _ _ _ _ o1 _ _ _
  · obtain ⟨r, e, rfl⟩ : ∃ (r : Fin 512) (e : Fin 256), x = ix2 r e := ⟨x 0, x 1, eq_ix2 x⟩
    have x0 : (y 0).val = 1024 * k.val + r.val := (hx 0).trans (by rw [o0]; rfl)
    have x1 : (y 1).val = e.val := (hx 1).trans (by rw [o0]; exact Nat.zero_add _)
    have hy0 : y 0 = (⟨1024 * k.val + r.val, by omega⟩ : Fin 4096) := Fin.ext x0
    have hy1 : y 1 = e := Fin.ext x1
    refine Eq.trans ?_ (congrArg₂ (cell h X G W S) hy0.symm hy1.symm)
    refine even_apply h h1 hh k (1024 * k.val) (1024 * k.val - 128) (by omega) (by omega) (by omega) (by omega) v hv w1 w2
      X G W S _ _ _ r e (fun x' d => ?_) (fun d => ?_) ?_
    · exact ld_rows _ _ _ _ p0 _ _ _
    · exact ld_rows _ _ _ _ o0 _ _ _
    · exact ld_rows _ _ _ _ o0 _ _ _

/-- What the call leaves of one group. -/
theorem out_eq (c : Dev nD) (t : Fin cfg0.N) (arg1 : Memref sig .tc .vmem S4096x256 .bf16) (harg1 : arg1.IsWhole) (arg2 : Memref sig .tc .vmem S4096x256 .bf16) (harg2 : arg2.IsWhole) (arg3 : Memref sig .tc .vmem S1x256x256 .bf16) (harg3 : arg3.IsWhole) (arg4 : Memref sig .tc .vmem S1x1x256 .f32) (harg4 : arg4.IsWhole) (arg5 : Memref sig .tc .vmem S4096x256 .bf16) (harg5 : arg5.IsWhole)
    (X G : Vec Ideal S4096x256 .bf16) (W : Vec Ideal S1x256x256 .bf16) (S : Vec Ideal S1x1x256 .f32) (y : S4096x256.Idx) :
    out0_A_4 c (grid0.coords t) arg1 harg1 arg2 harg2 arg3 harg3 arg4 harg4 arg5 harg5 X G W S y = cell (half t.val) X G W S (y 0) (y 1) := by
  have hd : View.AllAt (kernelRun0_A c (grid0.coords t) arg1 harg1 arg2 harg2 arg3 harg3 arg4 harg4 arg5 harg5 X G W S).1 y
      (cell (half t.val) X G W S (y 0) (y 1)) := by
    have ht : t.val < 4 := t.isLt
    have hs := trip Variants.none c none (grid0.coords t) arg1 harg1 arg2 harg2 arg3 harg3 arg4 harg4 arg5 harg5
      (kernelRun0_A.sl.v0 (grid0.coords t)) W S X G (h := half t.val) (h1 := half_pos _) (hh := half_le _ ht) (hv := half_word t) (y := y)
    have hall : ∀ n : ℕ, n ≤ k0_t1_loop.trips → View.AllAt (pb_k0_t1 (F := Ideal) Variants.none c none (grid0.coords t) arg1 harg1 arg2 harg2 arg3 harg3 arg4 harg4 arg5 harg5
        (kernelRun0_A.sl.v0 (grid0.coords t)) W S (harg1.unread X) (harg2.unread G) n) y (cell (half t.val) X G W S (y 0) (y 1)) := by
      intro n
      induction n with
      | zero => exact fun _ => View.allAt_nil _ _
      | succ n ih =>
        intro hn
        rw [pb_k0_t1_succ Variants.none c none (grid0.coords t) arg1 harg1 arg2 harg2 arg3 harg3 arg4 harg4 arg5 harg5 _ _ _ _ _ ⟨n, hn⟩]
        intro p hp
        rcases List.mem_append.mp hp with hp | hp
        · exact hs ⟨n, hn⟩ p hp
        · exact ih (Nat.le_of_succ_le hn) p hp
    have e3 : arg3.view.readAt (Elt Ideal) (Rect.unit (s := S1x256x256) ![0, 0, 0] ![1, 256, 256] inb_S1x256x256_S1x256x256_0_0_0).toLoadRect (harg3.unread W) = W := by
      rw [View.readAt_eq_ld, Memref.IsWhole.read_unread]
      exact View.ld_unit_lit _ _ (by decide)
    have e4 : arg4.view.readAt (Elt Ideal) (Rect.unit (s := S1x1x256) ![0, 0, 0] ![1, 1, 256] inb_S1x1x256_S1x1x256_0_0_0).toLoadRect (harg4.unread S) = S := by
      rw [View.readAt_eq_ld, Memref.IsWhole.read_unread]
      exact View.ld_unit_lit _ _ (by decide)
    unfold kernelRun0_A
    dsimp only
    rw [e3, e4]
    exact hall _ le_rfl
  unfold out0_A_4
  rw [View.read_writes_eq_canon _ _ _ (cover0_A_4 c (grid0.coords t) arg1 harg1 arg2 harg2 arg3 harg3 arg4 harg4 arg5 harg5 X G W S)]
  exact View.canon_eq_of_allAt _ y _ (cover0_A_4 c (grid0.coords t) arg1 harg1 arg2 harg2 arg3 harg3 arg4 harg4 arg5 harg5 X G W S y) hd

end Cert.Proof.PoolFwd

end
-- ==== Proof.Products.PoolFwd.lean ====
/-
  The pooling branch of the forward pass: for each of the four groups of columns the mean over the rows of a window less the
  row itself, the product with the group's weights, the scale and the gate, against the means written row by row.
-/
module

public import proofs.«01_k».proof.Defs
public import proofs.«01_k».proof.Proof.PoolFwd.Body
public import Idealize.ShloMosaic.Lib.Pipeline.ValueKit.Acc

@[expose] public section

set_option maxRecDepth 16384

noncomputable section

namespace Cert.Proof.PoolFwd

open Cert.Kernel15Ideal Cert.Kernel15Ideal.Gen Idealize.ShloMosaic Idealize.ShloMosaic.TcCoe
open Idealize.SL.Sem

variable (m : (ℓ : Loc nD τ sig) → Buf (Elt Ideal) ℓ)

theorem idx0 : ∀ t : Fin cfg0.N, win0_0.index t = ![0, 16 + t.val] := (by decide +kernel : ∀ t : Fin grid0.N, _)
theorem idx1 : ∀ t : Fin cfg0.N, win0_1.index t = ![0, 20 + t.val] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![0, t.val] := (by decide +kernel : ∀ t : Fin grid0.N, _)

/-- The scale as the call sees it. -/
theorem scale_eq (c : Dev nD) (g : Fin 4) (e : Fin 256) :
    (V m c main_v0 : S4x1x256.Idx → EReal) (ix3 g 0 e) = (m ((c : Thread nD τ).loc main_arg2) : S1024.Idx → EReal) (ix1 ⟨256 * g.val + e.val, by omega⟩) := by
  have h : V m c main_v0 = shapeCast S4x1x256 (m ((c : Thread nD τ).loc main_arg2) : FVec Ideal S1024 .f32) shapeCasts_S1024_S4x1x256 := by
    unfold V
    after_results
    rfl
  rw [h]
  pointwise
  exact congrArg _ (congrArg _ (Fin.ext (by simp only; omega)))

theorem blk0 (c : Dev nD) (t : Fin cfg0.N) (s : Fin 4096) (d : Fin 256) (h : 4096 + (256 * t.val + d.val) < 14848) :
    (iblk m c 0 t : S4096x256.Idx → EReal) (ix2 s d) = (m ((c : Thread nD τ).loc main_arg0) : S4096x14848.Idx → EReal) (ix2 s ⟨4096 + (256 * t.val + d.val), h⟩) := by
  rw [← V_main_arg0 m c]
  blk_simp [iblk]
  exact congrArg _ (by blk_ext [idx0 t])

theorem blk1 (c : Dev nD) (t : Fin cfg0.N) (s : Fin 4096) (d : Fin 256) (h : 5120 + (256 * t.val + d.val) < 14848) :
    (iblk m c 1 t : S4096x256.Idx → EReal) (ix2 s d) = (m ((c : Thread nD τ).loc main_arg0) : S4096x14848.Idx → EReal) (ix2 s ⟨5120 + (256 * t.val + d.val), h⟩) := by
  rw [← V_main_arg0 m c]
  blk_simp [iblk]
  exact congrArg _ (by blk_ext [idx1 t])

theorem blk2 (c : Dev nD) (t : Fin cfg0.N) (d e : Fin 256) (h : t.val < 4) :
    (iblk m c 2 t : S1x256x256.Idx → EReal) (ix3 0 d e) = (m ((c : Thread nD τ).loc main_arg1) : S4x256x256.Idx → EReal) (ix3 ⟨t.val, h⟩ d e) := by
  rw [← V_main_arg1 m c]
  blk_simp [iblk]
  exact congrArg _ (by blk_ext [idx2 t])

theorem blk3 (c : Dev nD) (t : Fin cfg0.N) (e : Fin 256) (h : t.val < 4) :
    (iblk m c 3 t : S1x1x256.Idx → EReal) (ix3 0 0 e) = (m ((c : Thread nD τ).loc main_arg2) : S1024.Idx → EReal) (ix1 ⟨256 * t.val + e.val, by omega⟩) := by
  rw [← scale_eq m c ⟨t.val, h⟩ e]
  blk_simp [iblk]
  exact congrArg _ (by blk_ext [idx3 t])

/-- One group of the call against the value stated. -/
theorem cell_eq (c : Dev nD) (t : Fin cfg0.N) (h : t.val < 4) (s : Fin 4096) (e : Fin 256) :
    cell (half t.val) (iblk m c 0 t) (iblk m c 1 t) (iblk m c 2 t) (iblk m c 3 t) s e
      = out (m ((c : Thread nD τ).loc main_arg0)) (m ((c : Thread nD τ).loc main_arg1)) (m ((c : Thread nD τ).loc main_arg2)) ⟨t.val, h⟩ s e := by
  unfold cell out centred
  have e0 := fun (s : Fin 4096) (d : Fin 256) => blk0 m c t s d (by omega)
  refine congrArg₂ (· * ·) (congrArg₂ (· * ·) (Finset.sum_congr (M := EReal) rfl fun d _ => congrArg₂ (· * ·) ?_ (blk2 m c t d e h)) (blk3 m c t e h))
    (congrArg gate (blk1 m c t s e (by omega)))
  exact congrArg₂ (fun f x => Ideal.div (win (half t.val) f s) (ct (half t.val) s.val) - x) (funext fun k => e0 k d) (e0 s d)

theorem final4 (c : Dev nD) : (dats m 0 c).arrAt 4 cfg0.N
    = res (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  refine (out_eq c t _ _ _ _ _ _ _ _ _ _ _ _ _ _ y).trans ?_
  have h : t.val < 4 := t.isLt
  refine (cell_eq m c t h (y 0) (y 1)).trans ?_
  have h1 : (y 1).val < 256 := (y 1).isLt
  have E : (win0_4.blk t).view.emb y = ix2 (y 0) ⟨256 * t.val + (y 1).val, by omega⟩ := by blk_ext [idx4 t]
  unfold res
  rw [E]
  have eg : grp ⟨256 * t.val + (y 1).val, by omega⟩ = ⟨t.val, h⟩ := Fin.ext (by simp only [grp]; omega)
  have ec : col ⟨256 * t.val + (y 1).val, by omega⟩ = ⟨(y 1).val, h1⟩ := Fin.ext (by simp only [col]; omega)
  exact congrArg₂ (fun g e => out (m ((c : Thread nD τ).loc main_arg0)) (m ((c : Thread nD τ).loc main_arg1)) (m ((c : Thread nD τ).loc main_arg2)) g (y 0) e)
    eg.symm ec.symm

/-- The two programs end with equal results. -/
theorem algebraic : Cert.algebraic_Kernel15Ideal_Reference15Ideal := by
  intro m g m' g' _ hargs
  refine ⟨fun c => res (m ((c : Thread nD τ).loc main_arg0)) (m ((c : Thread nD τ).loc main_arg1)) (m ((c : Thread nD τ).loc main_arg2)), ?_, ?_⟩
  · exact (θ_run defs _ _).mono (fun r h c => ⟨((h.1 c).1 4).trans (final4 m c), h.2.1 c⟩)
      (θ_run_and (run_main m g) (frame m g))
  · refine (θ_run Cert.Reference15Ideal.defs _ _).mono (fun r h c => ⟨(h c).1.trans ?_, (h c).2⟩)
      (Cert.Reference15Ideal.Value.run m' g')
    rw [ref_eq, (hargs c).1, (hargs c).2.1, (hargs c).2.2]

end Cert.Proof.PoolFwd

end
-- ==== Proof.Products.InprojBwd.lean ====
/-
  The gradient of the input of the projection in, `dz · wᵀ`, added up over four blocks of the columns of `dz`: what the
  run of four points leaves, the array the grid fills, and the reference's term, all as one sum over the columns.
-/
module

public import proofs.«01_k».proof.Defs
public import proofs.«01_k».proof.Proof.Gen.Kernel2Ideal.Value
public import proofs.«01_k».proof.Proof.Gen.Reference2Ideal.Run
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.Proof.InprojBwd

open Cert.Kernel2Ideal Cert.Kernel2Ideal.Gen Cert.Kernel2Ideal.Value Idealize.ShloMosaic Idealize.ShloMosaic.TcCoe
open Idealize.SL.Sem

/-- The product of `dz` with the transposed weight, entry by entry. -/
def G (dz : S4096x14848.Idx → EReal) (w : S1x2048x14848.Idx → EReal) : S4096x2048.Idx → EReal :=
  fun i => ∑ k : Fin 14848, dz (ix2 (i 0) k) * w (ix3 0 (i 1) k)

/-- The product of one point's blocks. -/
def part (x : Vec Ideal S512x3712 .bf16) (w : Vec Ideal S1x2048x3712 .bf16) : S512x2048.Idx → EReal :=
  fun y => ∑ k : Fin 3712, x (ix2 (y 0) k) * w (ix3 0 (y 1) k)

/-- What the first point of a run stores. -/
theorem pay1_apply (x : Vec Ideal S512x3712 .bf16) (w : Vec Ideal S1x2048x3712 .bf16) (y : S512x2048.Idx) :
    k0_pay1 x w y = part x w y := by
  unfold part
  pointwise [k0_pay1]

/-- What a later point of a run stores over what it found. -/
theorem pay2_apply (x : Vec Ideal S512x3712 .bf16) (w : Vec Ideal S1x2048x3712 .bf16) (a : Vec Ideal S512x2048 .f32)
    (y : S512x2048.Idx) : k0_pay2 x w a y = a y + part x w y := by
  unfold part
  pointwise [k0_pay2, k0_pay1]

variable (m : (ℓ : Loc nD τ sig) → Buf (Elt Ideal) ℓ)

theorem idx0 : ∀ t : Fin cfg0.N, win0_0.index t = ![t.val / 4, t.val % 4] := (by decide +kernel : ∀ t : Fin grid0.N, _)
theorem idx1 : ∀ t : Fin cfg0.N, win0_1.index t = ![0, 0, t.val % 4] := (by decide +kernel : ∀ t : Fin grid0.N, _)
theorem idx2 : ∀ t : Fin cfg0.N, win0_2.index t = ![t.val / 4, 0] := (by decide +kernel : ∀ t : Fin grid0.N, _)

/-- What the last point of a run leaves: the sum of the run's four block products. -/
theorem outs_eq (c : Dev nD) (t : Fin cfg0.N) (hf : (cfg0.win 2).flush t = true) (y : S512x2048.Idx) :
    outsAt0 m c t.val t.isLt y = 0 + ∑ s : Fin 4, part
      (iblk m c 0 ⟨4 * (t.val / 4) + s.val, Pipeline.run_point_lt_of_flush t ((flush0_2 t).mp hf) s⟩)
      (iblk m c 1 ⟨4 * (t.val / 4) + s.val, Pipeline.run_point_lt_of_flush t ((flush0_2 t).mp hf) s⟩) y :=
  Pipeline.eq_sum_fin_of_reset_step_apply_of_flush (M := EReal) (fun n h => outsAt0 m c n h) 4 (fun _ => 0)
    (fun t y => part (iblk m c 0 t) (iblk m c 1 t) y)
    (fun t h y => by
      show outsAt0 m c t.val t.isLt y = _
      rw [outsAt0_A m c t h (by omega)]; frame_out; rw [pay1_apply, zero_add])
    (fun t h y => by
      show outsAt0 m c t.val t.isLt y = outsAt0 m c (t.val - 1) _ y + _
      rw [outsAt0_B m c t h (by omega)]; frame_out; rw [pay2_apply])
    t ((flush0_2 t).mp hf) y

/-- The array the grid fills. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  refine (outs_eq m c t hf y).trans ?_
  unfold G part
  rw [zero_add, ← V_main_arg0 m c, ← V_main_arg1 m c]
  have h4 := (flush0_2 t).mp hf
  refine Fin.sum_mul_add_congr fun s k hl => ?_
  refine congrArg₂ (· * ·) ?_ ?_ <;> blk_simp [iblk]
  · exact congrArg _ (by blk_ext [idx0, idx2 t])
  · exact congrArg _ (by blk_ext [idx1, idx2 t])

/-- The reference's term is the same sums. -/
theorem reference (dz : Vec Ideal S4096x14848 .bf16) (w : Vec Ideal S1x2048x14848 .bf16) :
    Host.dotGeneral (F := Ideal) Cert.Reference2Ideal.dot_S4096x14848_S2048x14848_S4096x2048_1_1_0_0_n_n none (extf .f32 dz Cert.Reference2Ideal.Facts₀.bitsLt_bf16_f32) (shapeCast _ (extf .f32 w Cert.Reference2Ideal.Facts₀.bitsLt_bf16_f32) Cert.Reference2Ideal.Facts₀.shapeCasts_S1x2048x14848_S2048x14848)
      = G dz w := by
  funext i
  unfold G
  pointwise [Cert.Reference2Ideal.dot_S4096x14848_S2048x14848_S4096x2048_1_1_0_0_n_n]

/-- The two programs end with equal results. -/
theorem algebraic : Cert.algebraic_Kernel2Ideal_Reference2Ideal := by
  intro m g m' g' _ hargs
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference2Ideal.defs _ _).mono (fun r h c => ⟨(h c).1.trans ?_, (h c).2⟩)
      (Cert.Reference2Ideal.Value.run m' g')
    rw [(hargs c).1, (hargs c).2]
    exact reference _ _

end Cert.Proof.InprojBwd

end
-- ==== Proof.Products.GradWIn.lean ====
/-
  The gradient of the weight of the projection in, `hᵀ · dz`: what each grid point writes, the array the grid fills, and
  the reference's term, all three as one sum over the tokens.
-/
module

public import proofs.«01_k».proof.Proof.Gen.Kernel3Ideal.Value
public import proofs.«01_k».proof.Proof.Gen.Reference3Ideal.Run
public import proofs.«01_k».proof.Defs
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.Proof.GradWIn

open Cert.Kernel3Ideal Cert.Kernel3Ideal.Gen Cert.Kernel3Ideal.Value Idealize.ShloMosaic Idealize.ShloMosaic.TcCoe
open Idealize.SL.Sem

/-- The product of the transposed `h` with `dz`, entry by entry. -/
def G (h : S4096x2048.Idx → EReal) (dz : S4096x14848.Idx → EReal) : S1x2048x14848.Idx → EReal :=
  fun i => ∑ s : Fin 4096, h (ix2 s (i 1)) * dz (ix2 s (i 2))

/-- What one grid point stores: the block product of its two panels. -/
theorem pay_apply (x : Vec Ideal S4096x1024 .bf16) (d : Vec Ideal S4096x512 .bf16) (y : S1x1024x512.Idx) :
    k0_pay1 x d y = ∑ s : Fin 4096, x (ix2 s (y 1)) * d (ix2 s (y 2)) := by
  pointwise [k0_pay1]

variable (m : (ℓ : Loc nD τ sig) → Buf (Elt Ideal) ℓ)

theorem idx0 : ∀ t : Fin cfg0.N, win0_0.index t = ![0, win0_2.index t 1] := (by decide +kernel : ∀ t : Fin grid0.N, _)
theorem idx1 : ∀ t : Fin cfg0.N, win0_1.index t = ![0, win0_2.index t 2] := (by decide +kernel : ∀ t : Fin grid0.N, _)

/-- The array the grid fills. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply]
  unfold G
  refine Fin.sum_fin_congr fun s => ?_
  rw [← V_main_arg0 m c, ← V_main_arg1 m c]
  refine congrArg₂ (· * ·) ?_ ?_ <;> blk_simp [iblk]
  · exact congrArg _ (by blk_ext [idx0 t])
  · exact congrArg _ (by blk_ext [idx1 t])

/-- The reference's term is the same sums, the factors in the other order. -/
theorem reference (h : Vec Ideal S4096x2048 .bf16) (d : Vec Ideal S4096x14848 .bf16) :
    (shapeCast S1x2048x14848 (truncf (F := Ideal) .bf16 (transpose Cert.Reference3Ideal.S2048x14848 [1, 0] (Host.dotGeneral Cert.Reference3Ideal.dot_S4096x14848_S4096x2048_S14848x2048_0_0_1_1_n_n none (extf .f32 d Cert.Reference3Ideal.Facts₀.bitsLt_bf16_f32) (extf .f32 h Cert.Reference3Ideal.Facts₀.bitsLt_bf16_f32)) Cert.Reference3Ideal.Facts₀.transposes_S14848x2048_S2048x14848_1_0) Cert.Reference3Ideal.Facts₀.bitsLt_bf16_f32) Cert.Reference3Ideal.Facts₀.shapeCasts_S2048x14848_S1x2048x14848) = G h d := by
  funext i
  unfold G
  pointwise [Cert.Reference3Ideal.dot_S4096x14848_S4096x2048_S14848x2048_0_0_1_1_n_n]
  exact Finset.sum_congr rfl fun s _ => mul_comm _ _

/-- The two programs end with equal results. -/
theorem algebraic : Cert.algebraic_Kernel3Ideal_Reference3Ideal := by
  intro m g m' g' _ hargs
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference3Ideal.defs _ _).mono (fun r h c => ⟨(h c).1.trans ?_, (h c).2⟩)
      (Cert.Reference3Ideal.Value.run m' g')
    rw [(hargs c).1, (hargs c).2]
    exact reference _ _

end Cert.Proof.GradWIn

end
-- ==== Proof.Products.MergeProj.lean ====
/-
  The gradients of the three branches' outputs, `dy · wᵀ` for each branch: what each grid point writes, the arrays the grid
  fills, and the reference's terms, all as one sum over the model width.
-/
module

public import proofs.«01_k».proof.Defs
public import proofs.«01_k».proof.Proof.Gen.Kernel4Ideal.Value
public import proofs.«01_k».proof.Proof.Gen.Reference4Ideal.Run
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.Proof.MergeProj

open Cert.Kernel4Ideal Cert.Kernel4Ideal.Gen Cert.Kernel4Ideal.Value Idealize.ShloMosaic Idealize.ShloMosaic.TcCoe
open Idealize.SL.Sem

/-- The product of `dy` with the transposed weight of its branch, entry by entry. -/
def G (dy : S4096x2048.Idx → EReal) (w : S1x1024x2048.Idx → EReal) : S4096x1024.Idx → EReal :=
  fun i => ∑ d : Fin 2048, dy (ix2 (i 0) d) * w (ix3 0 (i 1) d)

theorem pay1_apply (x : Vec Ideal S512x2048 .bf16) (w : Vec Ideal S1x1024x2048 .bf16) (y : S512x1024.Idx) :
    k0_pay1 x w y = ∑ d : Fin 2048, x (ix2 (y 0) d) * w (ix3 0 (y 1) d) := by
  pointwise [k0_pay1]

theorem pay2_apply (x : Vec Ideal S512x2048 .bf16) (w : Vec Ideal S1x1024x2048 .bf16) (y : S512x1024.Idx) :
    k0_pay2 x w y = ∑ d : Fin 2048, x (ix2 (y 0) d) * w (ix3 0 (y 1) d) := by
  pointwise [k0_pay2]

theorem pay3_apply (x : Vec Ideal S512x2048 .bf16) (w : Vec Ideal S1x1024x2048 .bf16) (y : S512x1024.Idx) :
    k0_pay3 x w y = ∑ d : Fin 2048, x (ix2 (y 0) d) * w (ix3 0 (y 1) d) := by
  pointwise [k0_pay3]

variable (m : (ℓ : Loc nD τ sig) → Buf (Elt Ideal) ℓ)

theorem idx0 : ∀ t : Fin cfg0.N, win0_0.index t = ![win0_6.index t 0, 0] := (by decide +kernel : ∀ t : Fin grid0.N, _)
theorem idx3 : ∀ t : Fin cfg0.N, win0_3.index t = ![0, 0, 0] := (by decide +kernel : ∀ t : Fin grid0.N, _)
theorem out0 : ∀ t : Fin cfg0.N, win0_6.index t 1 = 0 := (by decide +kernel : ∀ t : Fin grid0.N, _)

theorem idx1 : ∀ t : Fin cfg0.N, win0_1.index t = ![win0_7.index t 0, 0] := (by decide +kernel : ∀ t : Fin grid0.N, _)
theorem idx4 : ∀ t : Fin cfg0.N, win0_4.index t = ![0, 0, 0] := (by decide +kernel : ∀ t : Fin grid0.N, _)
theorem out1 : ∀ t : Fin cfg0.N, win0_7.index t 1 = 0 := (by decide +kernel : ∀ t : Fin grid0.N, _)

theorem idx2 : ∀ t : Fin cfg0.N, win0_2.index t = ![win0_8.index t 0, 0] := (by decide +kernel : ∀ t : Fin grid0.N, _)
theorem idx5 : ∀ t : Fin cfg0.N, win0_5.index t = ![0, 0, 0] := (by decide +kernel : ∀ t : Fin grid0.N, _)
theorem out2 : ∀ t : Fin cfg0.N, win0_8.index t 1 = 0 := (by decide +kernel : ∀ t : Fin grid0.N, _)

/-- The array of branch 0 the grid fills. -/
theorem final0 (c : Dev nD) : (dats m 0 c).arrAt 6 cfg0.N
    = G (m ((c : Thread nD τ).loc main_arg0)) (m ((c : Thread nD τ).loc main_arg3)) := by
  refine (dats m 0 c).arrAt_eq_of_covers 6 _ (by decide +kernel) fun t hf y => ?_
  blk_simp
  rw [after0_6]
  frame_out
  rw [pay1_apply]
  unfold G
  refine Fin.sum_fin_congr fun s => ?_
  rw [← V_main_arg0 m c, ← V_main_arg3 m c]
  refine congrArg₂ (· * ·) ?_ ?_ <;> blk_simp [iblk]
  · exact congrArg _ (by blk_ext [idx0 t])
  · exact congrArg _ (by blk_ext [idx3 t, out0 t])

/-- The array of branch 1 the grid fills. -/
theorem final1 (c : Dev nD) : (dats m 0 c).arrAt 7 cfg0.N
    = G (m ((c : Thread nD τ).loc main_arg1)) (m ((c : Thread nD τ).loc main_arg4)) := by
  refine (dats m 0 c).arrAt_eq_of_covers 7 _ (by decide +kernel) fun t hf y => ?_
  blk_simp
  rw [after0_7]
  frame_out
  rw [pay2_apply]
  unfold G
  refine Fin.sum_fin_congr fun s => ?_
  rw [← V_main_arg1 m c, ← V_main_arg4 m c]
  refine congrArg₂ (· * ·) ?_ ?_ <;> blk_simp [iblk]
  · exact congrArg _ (by blk_ext [idx1 t])
  · exact congrArg _ (by blk_ext [idx4 t, out1 t])

/-- The array of branch 2 the grid fills. -/
theorem final2 (c : Dev nD) : (dats m 0 c).arrAt 8 cfg0.N
    = G (m ((c : Thread nD τ).loc main_arg2)) (m ((c : Thread nD τ).loc main_arg5)) := by
  refine (dats m 0 c).arrAt_eq_of_covers 8 _ (by decide +kernel) fun t hf y => ?_
  blk_simp
  rw [after0_8]
  frame_out
  rw [pay3_apply]
  unfold G
  refine Fin.sum_fin_congr fun s => ?_
  rw [← V_main_arg2 m c, ← V_main_arg5 m c]
  refine congrArg₂ (· * ·) ?_ ?_ <;> blk_simp [iblk]
  · exact congrArg _ (by blk_ext [idx2 t])
  · exact congrArg _ (by blk_ext [idx5 t, out2 t])

/-- The reference's term is the same sums. -/
theorem reference (dy : Vec Ideal S4096x2048 .bf16) (w : Vec Ideal S1x1024x2048 .bf16) :
    truncf (F := Ideal) .bf16 (Host.dotGeneral Cert.Reference4Ideal.dot_S4096x2048_S1024x2048_S4096x1024_1_1_0_0_n_n none (extf .f32 dy Cert.Reference4Ideal.Facts₀.bitsLt_bf16_f32) (shapeCast _ (extf .f32 w Cert.Reference4Ideal.Facts₀.bitsLt_bf16_f32) Cert.Reference4Ideal.Facts₀.shapeCasts_S1x1024x2048_S1024x2048)) Cert.Reference4Ideal.Facts₀.bitsLt_bf16_f32
      = G dy w := by
  funext i
  unfold G
  pointwise [Cert.Reference4Ideal.dot_S4096x2048_S1024x2048_S4096x1024_1_1_0_0_n_n]

/-- The two programs end with equal results. -/
theorem algebraic : Cert.algebraic_Kernel4Ideal_Reference4Ideal := by
  intro m g m' g' _ hargs
  refine ⟨fun c => G (m ((c : Thread nD τ).loc main_arg0)) (m ((c : Thread nD τ).loc main_arg3)),
    fun c => G (m ((c : Thread nD τ).loc main_arg1)) (m ((c : Thread nD τ).loc main_arg4)),
    fun c => G (m ((c : Thread nD τ).loc main_arg2)) (m ((c : Thread nD τ).loc main_arg5)), ?_, ?_⟩
  · exact (θ_run defs _ _).mono (fun r h c => ⟨(h c).1.trans (final0 m c), (h c).2.1.trans (final1 m c),
      (h c).2.2.1.trans (final2 m c), (h c).2.2.2⟩) (run_blocks m g)
  · refine (θ_run Cert.Reference4Ideal.defs _ _).mono (fun r h c => ⟨(h c).1.trans ?_, (h c).2.1.trans ?_,
      (h c).2.2.1.trans ?_, (h c).2.2.2⟩) (Cert.Reference4Ideal.Value.run m' g')
    all_goals obtain ⟨e0, e1, e2, e3, e4, e5⟩ := hargs c
    · rw [e0, e3]; exact reference _ _
    · rw [e1, e4]; exact reference _ _
    · rw [e2, e5]; exact reference _ _

end Cert.Proof.MergeProj

end
-- ==== Proof.Products.GradWOut.lean ====
/-
  The gradient of the weight of the projection out, `mergedᵀ · dy`: what each grid point writes, the array the grid fills, and
  the reference's term, all three as one sum over the tokens.
-/
module

public import proofs.«01_k».proof.Proof.Gen.Kernel5Ideal.Value
public import proofs.«01_k».proof.Proof.Gen.Reference5Ideal.Run
public import proofs.«01_k».proof.Defs
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.Proof.GradWOut

open Cert.Kernel5Ideal Cert.Kernel5Ideal.Gen Cert.Kernel5Ideal.Value Idealize.ShloMosaic Idealize.ShloMosaic.TcCoe
open Idealize.SL.Sem

/-- The product of the transposed `merged` with `dy`, entry by entry. -/
def G (h : S4096x2048.Idx → EReal) (dz : S4096x2048.Idx → EReal) : S1x2048x2048.Idx → EReal :=
  fun i => ∑ s : Fin 4096, h (ix2 s (i 1)) * dz (ix2 s (i 2))

/-- What one grid point stores: the block product of its two panels. -/
theorem pay_apply (x : Vec Ideal S4096x1024 .bf16) (d : Vec Ideal S4096x512 .bf16) (y : S1x1024x512.Idx) :
    k0_pay1 x d y = ∑ s : Fin 4096, x (ix2 s (y 1)) * d (ix2 s (y 2)) := by
  pointwise [k0_pay1]

variable (m : (ℓ : Loc nD τ sig) → Buf (Elt Ideal) ℓ)

theorem idx0 : ∀ t : Fin cfg0.N, win0_0.index t = ![0, win0_2.index t 1] := (by decide +kernel : ∀ t : Fin grid0.N, _)
theorem idx1 : ∀ t : Fin cfg0.N, win0_1.index t = ![0, win0_2.index t 2] := (by decide +kernel : ∀ t : Fin grid0.N, _)

/-- The array the grid fills. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply]
  unfold G
  refine Fin.sum_fin_congr fun s => ?_
  rw [← V_main_arg0 m c, ← V_main_arg1 m c]
  refine congrArg₂ (· * ·) ?_ ?_ <;> blk_simp [iblk]
  · exact congrArg _ (by blk_ext [idx0 t])
  · exact congrArg _ (by blk_ext [idx1 t])

/-- The reference's term is the same sums, the factors in the other order. -/
theorem reference (h : Vec Ideal S4096x2048 .bf16) (d : Vec Ideal S4096x2048 .bf16) :
    (shapeCast S1x2048x2048 (truncf (F := Ideal) .bf16 (transpose Cert.Reference5Ideal.S2048x2048 [1, 0] (Host.dotGeneral Cert.Reference5Ideal.dot_S4096x2048_S4096x2048_S2048x2048_0_0_1_1_n_n none (extf .f32 d Cert.Reference5Ideal.Facts₀.bitsLt_bf16_f32) (extf .f32 h Cert.Reference5Ideal.Facts₀.bitsLt_bf16_f32)) Cert.Reference5Ideal.Facts₀.transposes_S2048x2048_S2048x2048_1_0) Cert.Reference5Ideal.Facts₀.bitsLt_bf16_f32) Cert.Reference5Ideal.Facts₀.shapeCasts_S2048x2048_S1x2048x2048) = G h d := by
  funext i
  unfold G
  pointwise [Cert.Reference5Ideal.dot_S4096x2048_S4096x2048_S2048x2048_0_0_1_1_n_n]
  exact Finset.sum_congr rfl fun s _ => mul_comm _ _

/-- The two programs end with equal results. -/
theorem algebraic : Cert.algebraic_Kernel5Ideal_Reference5Ideal := by
  intro m g m' g' _ hargs
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference5Ideal.defs _ _).mono (fun r h c => ⟨(h c).1.trans ?_, (h c).2⟩)
      (Cert.Reference5Ideal.Value.run m' g')
    rw [(hargs c).1, (hargs c).2]
    exact reference _ _

end Cert.Proof.GradWOut

end
-- ==== Proof.Products.GradWBranch.lean ====
/-
  The gradient of the weight of a branch's projection, `aᵀ · dy`: what each grid point writes, the array the grid fills, and
  the reference's term, all three as one sum over the tokens.
-/
module

public import proofs.«01_k».proof.Proof.Gen.Kernel6Ideal.Value
public import proofs.«01_k».proof.Proof.Gen.Reference6Ideal.Run
public import proofs.«01_k».proof.Defs
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.Proof.GradWBranch

open Cert.Kernel6Ideal Cert.Kernel6Ideal.Gen Cert.Kernel6Ideal.Value Idealize.ShloMosaic Idealize.ShloMosaic.TcCoe
open Idealize.SL.Sem

/-- The product of the transposed branch output with `dy`, entry by entry. -/
def G (h : S4096x1024.Idx → EReal) (dz : S4096x2048.Idx → EReal) : S1x1024x2048.Idx → EReal :=
  fun i => ∑ s : Fin 4096, h (ix2 s (i 1)) * dz (ix2 s (i 2))

/-- What one grid point stores: the block product of its two panels. -/
theorem pay_apply (x : Vec Ideal S4096x1024 .bf16) (d : Vec Ideal S4096x512 .bf16) (y : S1x1024x512.Idx) :
    k0_pay1 x d y = ∑ s : Fin 4096, x (ix2 s (y 1)) * d (ix2 s (y 2)) := by
  pointwise [k0_pay1]

variable (m : (ℓ : Loc nD τ sig) → Buf (Elt Ideal) ℓ)

theorem idx0 : ∀ t : Fin cfg0.N, win0_0.index t = ![0, win0_2.index t 1] := (by decide +kernel : ∀ t : Fin grid0.N, _)
theorem idx1 : ∀ t : Fin cfg0.N, win0_1.index t = ![0, win0_2.index t 2] := (by decide +kernel : ∀ t : Fin grid0.N, _)

/-- The array the grid fills. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply]
  unfold G
  refine Fin.sum_fin_congr fun s => ?_
  rw [← V_main_arg0 m c, ← V_main_arg1 m c]
  refine congrArg₂ (· * ·) ?_ ?_ <;> blk_simp [iblk]
  · exact congrArg _ (by blk_ext [idx0 t])
  · exact congrArg _ (by blk_ext [idx1 t])

/-- The reference's term is the same sums, the factors in the other order. -/
theorem reference (h : Vec Ideal S4096x1024 .bf16) (d : Vec Ideal S4096x2048 .bf16) :
    (shapeCast S1x1024x2048 (truncf (F := Ideal) .bf16 (transpose Cert.Reference6Ideal.S1024x2048 [1, 0] (Host.dotGeneral Cert.Reference6Ideal.dot_S4096x2048_S4096x1024_S2048x1024_0_0_1_1_n_n none (extf .f32 d Cert.Reference6Ideal.Facts₀.bitsLt_bf16_f32) (extf .f32 h Cert.Reference6Ideal.Facts₀.bitsLt_bf16_f32)) Cert.Reference6Ideal.Facts₀.transposes_S2048x1024_S1024x2048_1_0) Cert.Reference6Ideal.Facts₀.bitsLt_bf16_f32) Cert.Reference6Ideal.Facts₀.shapeCasts_S1024x2048_S1x1024x2048) = G h d := by
  funext i
  unfold G
  pointwise [Cert.Reference6Ideal.dot_S4096x2048_S4096x1024_S2048x1024_0_0_1_1_n_n]
  exact Finset.sum_congr rfl fun s _ => mul_comm _ _

/-- The two programs end with equal results. -/
theorem algebraic : Cert.algebraic_Kernel6Ideal_Reference6Ideal := by
  intro m g m' g' _ hargs
  refine ⟨fun c => G (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference6Ideal.defs _ _).mono (fun r h c => ⟨(h c).1.trans ?_, (h c).2⟩)
      (Cert.Reference6Ideal.Value.run m' g')
    rw [(hargs c).1, (hargs c).2]
    exact reference _ _

end Cert.Proof.GradWBranch

end
-- ==== Proof.Products.MergeOut.lean ====
/-
  The branch projections, the gated merge and the last projection, forward: what each grid point writes, the five arrays
  the grid fills, and the reference's terms, all as the same sums.
-/
module

public import proofs.«01_k».proof.Proof.Gen.Kernel8Ideal.Value
public import proofs.«01_k».proof.Proof.Gen.Reference8Ideal.Run
public import proofs.«01_k».proof.Defs
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.Pointwise

@[expose] public section

set_option maxRecDepth 16384

noncomputable section

namespace Cert.Proof.MergeOut

open Cert.Kernel8Ideal Cert.Kernel8Ideal.Gen Cert.Kernel8Ideal.Value Idealize.ShloMosaic Idealize.ShloMosaic.TcCoe
open Idealize.SL.Sem

/-- The gate's function. -/
def sg (x : EReal) : EReal := Ideal.div 1 (1 + Ideal.exp (-x))

/-- One of the three gates of the merge, read from the columns of `z` that hold it. -/
def gate (k : Fin 3) (z : S4096x14848.Idx → EReal) (s : Fin 4096) (d : Fin 2048) : EReal :=
  sg (z (ix2 s ⟨8704 + (2048 * k.val + d.val), by omega⟩))

/-- A branch's projection, entry by entry. -/
def Pr (a : S4096x1024.Idx → EReal) (w : S1x1024x2048.Idx → EReal) : S4096x2048.Idx → EReal :=
  fun i => ∑ e : Fin 1024, a (ix2 (i 0) e) * w (ix3 0 e (i 1))

/-- The gated merge. -/
def Mg (z : S4096x14848.Idx → EReal) (p q r : S4096x2048.Idx → EReal) : S4096x2048.Idx → EReal :=
  fun i => gate 0 z (i 0) (i 1) * p i + gate 1 z (i 0) (i 1) * q i + gate 2 z (i 0) (i 1) * r i

/-- The layer's output. -/
def Y (x g : S4096x2048.Idx → EReal) (w : S1x2048x2048.Idx → EReal) : S4096x2048.Idx → EReal :=
  fun i => x i + ∑ e : Fin 2048, g (ix2 (i 0) e) * w (ix3 0 e (i 1))

theorem pay6_apply (a : Vec Ideal S256x1024 .bf16) (w : Vec Ideal S1x1024x2048 .bf16) (y : S256x2048.Idx) :
    k0_pay6 a w y = ∑ e : Fin 1024, a (ix2 (y 0) e) * w (ix3 0 e (y 1)) := by
  pointwise [k0_pay6, k0_pay3]

theorem pay3_apply (a : Vec Ideal S256x1024 .bf16) (w : Vec Ideal S1x1024x2048 .bf16) (y : S256x2048.Idx) :
    k0_pay3 a w y = ∑ e : Fin 1024, a (ix2 (y 0) e) * w (ix3 0 e (y 1)) := by
  pointwise [k0_pay3]

theorem pay7_apply (a : Vec Ideal S256x1024 .bf16) (w : Vec Ideal S1x1024x2048 .bf16) (y : S256x2048.Idx) :
    k0_pay7 a w y = ∑ e : Fin 1024, a (ix2 (y 0) e) * w (ix3 0 e (y 1)) := by
  pointwise [k0_pay7, k0_pay4]

theorem pay4_apply (a : Vec Ideal S256x1024 .bf16) (w : Vec Ideal S1x1024x2048 .bf16) (y : S256x2048.Idx) :
    k0_pay4 a w y = ∑ e : Fin 1024, a (ix2 (y 0) e) * w (ix3 0 e (y 1)) := by
  pointwise [k0_pay4]

theorem pay8_apply (a : Vec Ideal S256x1024 .bf16) (w : Vec Ideal S1x1024x2048 .bf16) (y : S256x2048.Idx) :
    k0_pay8 a w y = ∑ e : Fin 1024, a (ix2 (y 0) e) * w (ix3 0 e (y 1)) := by
  pointwise [k0_pay8, k0_pay5]

theorem pay5_apply (a : Vec Ideal S256x1024 .bf16) (w : Vec Ideal S1x1024x2048 .bf16) (y : S256x2048.Idx) :
    k0_pay5 a w y = ∑ e : Fin 1024, a (ix2 (y 0) e) * w (ix3 0 e (y 1)) := by
  pointwise [k0_pay5]

theorem pay9_apply (g : Vec Ideal S256x2048 .bf16) (y : S256x2048.Idx) : k0_pay9 g y = sg (g y) := by
  unfold sg
  pointwise [k0_pay9]
  rw [zero_sub]

theorem pay1_apply (ya yb yc s : FVec Ideal S256x2048 .f32) (g h : Vec Ideal S256x2048 .bf16) (y : S256x2048.Idx) :
    k0_pay1 ya yb yc s g h y = s y * ya y + sg (g y) * yb y + sg (h y) * yc y := by
  unfold sg
  pointwise [k0_pay1]
  rw [zero_sub, zero_sub]

theorem pay2_apply (ya yb yc s : FVec Ideal S256x2048 .f32) (g h : Vec Ideal S256x2048 .bf16) (x : Vec Ideal S256x2048 .f32)
    (w : Vec Ideal S1x2048x2048 .bf16) (y : S256x2048.Idx) :
    k0_pay2 ya yb yc s g h x w y = x y + ∑ e : Fin 2048, k0_pay1 ya yb yc s g h (ix2 (y 0) e) * w (ix3 0 e (y 1)) := by
  pointwise [k0_pay2]

variable (m : (ℓ : Loc nD τ sig) → Buf (Elt Ideal) ℓ)

theorem row (k : Fin cfg0.N) : k.val < 16 := k.isLt

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

theorem final10 (c : Dev nD) : (dats m 0 c).arrAt 10 cfg0.N
    = Pr (m ((c : Thread nD τ).loc main_arg2)) (m ((c : Thread nD τ).loc main_arg5)) := by
  refine (dats m 0 c).arrAt_eq_of_covers 10 _ (by decide +kernel) fun t hf y => ?_
  blk_simp
  rw [after0_10]
  frame_out
  rw [pay6_apply]
  unfold Pr
  refine Fin.sum_fin_congr fun s => ?_
  rw [← V_main_arg2 m c, ← V_main_arg5 m c]
  refine congrArg₂ (· * ·) ?_ ?_ <;> blk_simp [iblk]
  · exact congrArg _ (by blk_ext [idx2 t, idx10 t])
  · exact congrArg _ (by blk_ext [idx5 t, idx10 t])

theorem final11 (c : Dev nD) : (dats m 0 c).arrAt 11 cfg0.N
    = Pr (m ((c : Thread nD τ).loc main_arg3)) (m ((c : Thread nD τ).loc main_arg6)) := by
  refine (dats m 0 c).arrAt_eq_of_covers 11 _ (by decide +kernel) fun t hf y => ?_
  blk_simp
  rw [after0_11]
  frame_out
  rw [pay7_apply]
  unfold Pr
  refine Fin.sum_fin_congr fun s => ?_
  rw [← V_main_arg3 m c, ← V_main_arg6 m c]
  refine congrArg₂ (· * ·) ?_ ?_ <;> blk_simp [iblk]
  · exact congrArg _ (by blk_ext [idx3 t, idx11 t])
  · exact congrArg _ (by blk_ext [idx6 t, idx11 t])

theorem final12 (c : Dev nD) : (dats m 0 c).arrAt 12 cfg0.N
    = Pr (m ((c : Thread nD τ).loc main_arg4)) (m ((c : Thread nD τ).loc main_arg7)) := by
  refine (dats m 0 c).arrAt_eq_of_covers 12 _ (by decide +kernel) fun t hf y => ?_
  blk_simp
  rw [after0_12]
  frame_out
  rw [pay8_apply]
  unfold Pr
  refine Fin.sum_fin_congr fun s => ?_
  rw [← V_main_arg4 m c, ← V_main_arg7 m c]
  refine congrArg₂ (· * ·) ?_ ?_ <;> blk_simp [iblk]
  · exact congrArg _ (by blk_ext [idx4 t, idx12 t])
  · exact congrArg _ (by blk_ext [idx7 t, idx12 t])

/-- The entry of the whole array that entry `y` of grid point `t`'s block of rows is. -/
def at_ (t : Fin cfg0.N) (y : S256x2048.Idx) : S4096x2048.Idx :=
  ix2 ⟨t.val * 256 + (y 0).val, by have := row t; have h : (y 0).val < 256 := (y 0).isLt; omega⟩ (y 1)

theorem full0 (X : Vec Ideal S256x1024 .bf16) : View.ld (Val := Elt Ideal) (e' := .bf16) X r0_0 = X := View.ld_unit_lit _ _ (by decide)
theorem full1 (X : Vec Ideal S1x1024x2048 .bf16) : View.ld (Val := Elt Ideal) (e' := .bf16) X r0_1 = X := View.ld_unit_lit _ _ (by decide)

theorem blk3 (c : Dev nD) (t : Fin cfg0.N) (y : S256x2048.Idx) :
    k0_pay3 (View.ld (iblk m c 2 t) r0_0) (View.ld (iblk m c 5 t) r0_1) y
      = Pr (m ((c : Thread nD τ).loc main_arg2)) (m ((c : Thread nD τ).loc main_arg5)) (at_ t y) := by
  rw [pay3_apply]
  unfold Pr at_
  refine Fin.sum_fin_congr fun s => ?_
  rw [← V_main_arg2 m c, ← V_main_arg5 m c]
  refine congrArg₂ (· * ·) ?_ ?_ <;> (first | rw [full0] | rw [full1]) <;> blk_simp [iblk]
  · exact congrArg _ (by blk_ext [idx2 t])
  · exact congrArg _ (by blk_ext [idx5 t])

theorem blk4 (c : Dev nD) (t : Fin cfg0.N) (y : S256x2048.Idx) :
    k0_pay4 (View.ld (iblk m c 3 t) r0_0) (View.ld (iblk m c 6 t) r0_1) y
      = Pr (m ((c : Thread nD τ).loc main_arg3)) (m ((c : Thread nD τ).loc main_arg6)) (at_ t y) := by
  rw [pay4_apply]
  unfold Pr at_
  refine Fin.sum_fin_congr fun s => ?_
  rw [← V_main_arg3 m c, ← V_main_arg6 m c]
  refine congrArg₂ (· * ·) ?_ ?_ <;> (first | rw [full0] | rw [full1]) <;> blk_simp [iblk]
  · exact congrArg _ (by blk_ext [idx3 t])
  · exact congrArg _ (by blk_ext [idx6 t])

theorem blk5 (c : Dev nD) (t : Fin cfg0.N) (y : S256x2048.Idx) :
    k0_pay5 (View.ld (iblk m c 4 t) r0_0) (View.ld (iblk m c 7 t) r0_1) y
      = Pr (m ((c : Thread nD τ).loc main_arg4)) (m ((c : Thread nD τ).loc main_arg7)) (at_ t y) := by
  rw [pay5_apply]
  unfold Pr at_
  refine Fin.sum_fin_congr fun s => ?_
  rw [← V_main_arg4 m c, ← V_main_arg7 m c]
  refine congrArg₂ (· * ·) ?_ ?_ <;> (first | rw [full0] | rw [full1]) <;> blk_simp [iblk]
  · exact congrArg _ (by blk_ext [idx4 t])
  · exact congrArg _ (by blk_ext [idx7 t])

theorem idx1 : ∀ t : Fin cfg0.N, win0_1.index t = ![t.val * 256, 8704] := (by decide +kernel : ∀ t : Fin grid0.N, _)

/-- Where an entry of the gates' window lies in `z`: the window starts at an element, not at a multiple of its size. -/
theorem emb1 (t : Fin cfg0.N) (x : S256x6144.Idx) (i : S4096x14848.Idx) (h0 : (i 0).val = t.val * 256 + (x 0).val)
    (h1 : (i 1).val = 8704 + (x 1).val) : (win0_1.blk t).view.emb x = i := by
  funext a
  apply Fin.ext
  show win0_1.index t a + 1 * (x a).val = _
  rw [idx1, one_mul]
  fin_cases a
  · exact h0.symm
  · exact h1.symm

theorem blkg0 (c : Dev nD) (t : Fin cfg0.N) (y : S256x2048.Idx) :
    sg (View.ld (iblk m c 1 t) r0_3 y) = gate 0 (m ((c : Thread nD τ).loc main_arg1)) (at_ t y 0) (at_ t y 1) := by
  unfold gate
  rw [← V_main_arg1 m c]
  refine congrArg sg ?_
  refine (View.ld_unit_apply_of _ _ _ _ _ (ix2 (y 0) ⟨0 + (y 1).val, by have h : (y 1).val < 2048 := (y 1).isLt; omega⟩) ?_).trans ?_
  · intro a
    fin_cases a <;> simp
  blk_simp [iblk]
  exact congrArg _ (emb1 t _ _ rfl (by show 8704 + (2048 * 0 + (y 1).val) = 8704 + (y 1).val; omega))

theorem blkg1 (c : Dev nD) (t : Fin cfg0.N) (y : S256x2048.Idx) :
    sg (View.ld (iblk m c 1 t) r0_4 y) = gate 1 (m ((c : Thread nD τ).loc main_arg1)) (at_ t y 0) (at_ t y 1) := by
  unfold gate
  rw [← V_main_arg1 m c]
  refine congrArg sg ?_
  refine (View.ld_unit_apply_of _ _ _ _ _ (ix2 (y 0) ⟨2048 + (y 1).val, by have h : (y 1).val < 2048 := (y 1).isLt; omega⟩) ?_).trans ?_
  · intro a
    fin_cases a <;> simp
  blk_simp [iblk]
  exact congrArg _ (emb1 t _ _ rfl (by show 8704 + (2048 * 1 + (y 1).val) = 8704 + (2048 + (y 1).val); omega))

theorem blkg2 (c : Dev nD) (t : Fin cfg0.N) (y : S256x2048.Idx) :
    sg (View.ld (iblk m c 1 t) r0_5 y) = gate 2 (m ((c : Thread nD τ).loc main_arg1)) (at_ t y 0) (at_ t y 1) := by
  unfold gate
  rw [← V_main_arg1 m c]
  refine congrArg sg ?_
  refine (View.ld_unit_apply_of _ _ _ _ _ (ix2 (y 0) ⟨4096 + (y 1).val, by have h : (y 1).val < 2048 := (y 1).isLt; omega⟩) ?_).trans ?_
  · intro a
    fin_cases a <;> simp
  blk_simp [iblk]
  exact congrArg _ (emb1 t _ _ rfl (by show 8704 + (2048 * 2 + (y 1).val) = 8704 + (4096 + (y 1).val); omega))

/-- The merged block of a grid point is the merge's block of rows. -/
theorem merged_blk (c : Dev nD) (t : Fin cfg0.N) (y : S256x2048.Idx) :
    k0_pay1 (k0_pay3 (View.ld (iblk m c 2 t) r0_0) (View.ld (iblk m c 5 t) r0_1))
        (k0_pay4 (View.ld (iblk m c 3 t) r0_0) (View.ld (iblk m c 6 t) r0_1))
        (k0_pay5 (View.ld (iblk m c 4 t) r0_0) (View.ld (iblk m c 7 t) r0_1))
        (k0_pay9 (View.ld (iblk m c 1 t) r0_3)) (View.ld (iblk m c 1 t) r0_4) (View.ld (iblk m c 1 t) r0_5) y
      = (Mg (m ((c : Thread nD τ).loc main_arg1)) (Pr (m ((c : Thread nD τ).loc main_arg2)) (m ((c : Thread nD τ).loc main_arg5)))
      (Pr (m ((c : Thread nD τ).loc main_arg3)) (m ((c : Thread nD τ).loc main_arg6)))
      (Pr (m ((c : Thread nD τ).loc main_arg4)) (m ((c : Thread nD τ).loc main_arg7)))) (at_ t y) := by
  rw [pay1_apply, blk3, blk4, blk5, pay9_apply, blkg0, blkg1, blkg2]
  rfl

theorem final13 (c : Dev nD) : (dats m 0 c).arrAt 13 cfg0.N
    = (Mg (m ((c : Thread nD τ).loc main_arg1)) (Pr (m ((c : Thread nD τ).loc main_arg2)) (m ((c : Thread nD τ).loc main_arg5)))
      (Pr (m ((c : Thread nD τ).loc main_arg3)) (m ((c : Thread nD τ).loc main_arg6)))
      (Pr (m ((c : Thread nD τ).loc main_arg4)) (m ((c : Thread nD τ).loc main_arg7)))) := by
  refine (dats m 0 c).arrAt_eq_of_covers 13 _ (by decide +kernel) fun t hf y => ?_
  blk_simp
  rw [after0_13]
  frame_out
  refine (merged_blk m c t y).trans (congrArg _ ?_)
  unfold at_
  blk_ext [idx13 t]

theorem final9 (c : Dev nD) : (dats m 0 c).arrAt 9 cfg0.N
    = Y (m ((c : Thread nD τ).loc main_arg0)) (Mg (m ((c : Thread nD τ).loc main_arg1)) (Pr (m ((c : Thread nD τ).loc main_arg2)) (m ((c : Thread nD τ).loc main_arg5)))
      (Pr (m ((c : Thread nD τ).loc main_arg3)) (m ((c : Thread nD τ).loc main_arg6)))
      (Pr (m ((c : Thread nD τ).loc main_arg4)) (m ((c : Thread nD τ).loc main_arg7)))) (m ((c : Thread nD τ).loc main_arg8)) := by
  refine (dats m 0 c).arrAt_eq_of_covers 9 _ (by decide +kernel) fun t hf y => ?_
  blk_simp
  rw [after0_9]
  frame_out
  rw [pay2_apply]
  unfold Y
  refine congrArg₂ (· + ·) ?_ (Fin.sum_fin_congr fun e => congrArg₂ (· * ·) ((merged_blk m c t _).trans (congrArg _ ?_)) ?_)
  · rw [← V_main_arg0 m c]
    blk_simp [iblk]
    exact congrArg _ (by blk_ext [idx0 t, idx9 t])
  · unfold at_
    blk_ext [idx9 t]
  · rw [← V_main_arg8 m c]
    blk_simp [iblk]
    exact congrArg _ (by blk_ext [idx8 t, idx9 t])

/-- The reference's projection of a branch. -/
theorem ref_proj (a : FVec Ideal S4096x1024 .bf16) (w : FVec Ideal S1x1024x2048 .bf16) :
    truncf .bf16 (Host.dotGeneral Cert.Reference8Ideal.dot_S4096x1024_S1024x2048_S4096x2048_1_0_0_1_n_n none (extf .f32 a Cert.Reference8Ideal.Facts₀.bitsLt_bf16_f32) (shapeCast _ (extf .f32 w Cert.Reference8Ideal.Facts₀.bitsLt_bf16_f32) Cert.Reference8Ideal.Facts₀.shapeCasts_S1x1024x2048_S1024x2048)) Cert.Reference8Ideal.Facts₀.bitsLt_bf16_f32 = Pr a w := by
  funext i
  unfold Pr
  pointwise [Cert.Reference8Ideal.dot_S4096x1024_S1024x2048_S4096x2048_1_0_0_1_n_n, Cert.Reference8Ideal.dot_S4096x2048_S2048x2048_S4096x2048_1_0_0_1_n_n]

/-- The reference's merge. -/
theorem ref_merge (z : FVec Ideal S4096x14848 .bf16)
    (a b c : FVec Ideal S4096x1024 .bf16) (wa wb wc : FVec Ideal S1x1024x2048 .bf16) :
    (addf (addf (mulf (shapeCast _ (extractStridedSlice Cert.Reference8Ideal.S4096x1x2048 ![0, 0, 0] (shapeCast _ (Host.divf (broadcastInDim Cert.Reference8Ideal.S4096x6144 ![] Cert.Reference8Ideal.Facts₀.bcast_S_S4096x6144 (constant (F := Ideal) Cert.Reference8Ideal.S_ .f32 0x3F800000#32)) (addf (broadcastInDim Cert.Reference8Ideal.S4096x6144 ![] Cert.Reference8Ideal.Facts₀.bcast_S_S4096x6144 (constant (F := Ideal) Cert.Reference8Ideal.S_ .f32 0x3F800000#32)) (Host.exp (Host.negf (extf .f32 (extractStridedSlice Cert.Reference8Ideal.S4096x6144 ![0, 8704] z Cert.Reference8Ideal.Facts₀.slices_S4096x14848_S4096x6144_0_8704) Cert.Reference8Ideal.Facts₀.bitsLt_bf16_f32))))) Cert.Reference8Ideal.Facts₀.shapeCasts_S4096x6144_S4096x3x2048) Cert.Reference8Ideal.Facts₀.slices_S4096x3x2048_S4096x1x2048_0_0_0) Cert.Reference8Ideal.Facts₀.shapeCasts_S4096x1x2048_S4096x2048) (Host.dotGeneral Cert.Reference8Ideal.dot_S4096x1024_S1024x2048_S4096x2048_1_0_0_1_n_n none (extf .f32 a Cert.Reference8Ideal.Facts₀.bitsLt_bf16_f32) (shapeCast _ (extf .f32 wa Cert.Reference8Ideal.Facts₀.bitsLt_bf16_f32) Cert.Reference8Ideal.Facts₀.shapeCasts_S1x1024x2048_S1024x2048))) (mulf (shapeCast _ (extractStridedSlice Cert.Reference8Ideal.S4096x1x2048 ![0, 1, 0] (shapeCast _ (Host.divf (broadcastInDim Cert.Reference8Ideal.S4096x6144 ![] Cert.Reference8Ideal.Facts₀.bcast_S_S4096x6144 (constant (F := Ideal) Cert.Reference8Ideal.S_ .f32 0x3F800000#32)) (addf (broadcastInDim Cert.Reference8Ideal.S4096x6144 ![] Cert.Reference8Ideal.Facts₀.bcast_S_S4096x6144 (constant (F := Ideal) Cert.Reference8Ideal.S_ .f32 0x3F800000#32)) (Host.exp (Host.negf (extf .f32 (extractStridedSlice Cert.Reference8Ideal.S4096x6144 ![0, 8704] z Cert.Reference8Ideal.Facts₀.slices_S4096x14848_S4096x6144_0_8704) Cert.Reference8Ideal.Facts₀.bitsLt_bf16_f32))))) Cert.Reference8Ideal.Facts₀.shapeCasts_S4096x6144_S4096x3x2048) Cert.Reference8Ideal.Facts₀.slices_S4096x3x2048_S4096x1x2048_0_1_0) Cert.Reference8Ideal.Facts₀.shapeCasts_S4096x1x2048_S4096x2048) (Host.dotGeneral Cert.Reference8Ideal.dot_S4096x1024_S1024x2048_S4096x2048_1_0_0_1_n_n none (extf .f32 b Cert.Reference8Ideal.Facts₀.bitsLt_bf16_f32) (shapeCast _ (extf .f32 wb Cert.Reference8Ideal.Facts₀.bitsLt_bf16_f32) Cert.Reference8Ideal.Facts₀.shapeCasts_S1x1024x2048_S1024x2048)))) (mulf (shapeCast _ (extractStridedSlice Cert.Reference8Ideal.S4096x1x2048 ![0, 2, 0] (shapeCast _ (Host.divf (broadcastInDim Cert.Reference8Ideal.S4096x6144 ![] Cert.Reference8Ideal.Facts₀.bcast_S_S4096x6144 (constant (F := Ideal) Cert.Reference8Ideal.S_ .f32 0x3F800000#32)) (addf (broadcastInDim Cert.Reference8Ideal.S4096x6144 ![] Cert.Reference8Ideal.Facts₀.bcast_S_S4096x6144 (constant (F := Ideal) Cert.Reference8Ideal.S_ .f32 0x3F800000#32)) (Host.exp (Host.negf (extf .f32 (extractStridedSlice Cert.Reference8Ideal.S4096x6144 ![0, 8704] z Cert.Reference8Ideal.Facts₀.slices_S4096x14848_S4096x6144_0_8704) Cert.Reference8Ideal.Facts₀.bitsLt_bf16_f32))))) Cert.Reference8Ideal.Facts₀.shapeCasts_S4096x6144_S4096x3x2048) Cert.Reference8Ideal.Facts₀.slices_S4096x3x2048_S4096x1x2048_0_2_0) Cert.Reference8Ideal.Facts₀.shapeCasts_S4096x1x2048_S4096x2048) (Host.dotGeneral Cert.Reference8Ideal.dot_S4096x1024_S1024x2048_S4096x2048_1_0_0_1_n_n none (extf .f32 c Cert.Reference8Ideal.Facts₀.bitsLt_bf16_f32) (shapeCast _ (extf .f32 wc Cert.Reference8Ideal.Facts₀.bitsLt_bf16_f32) Cert.Reference8Ideal.Facts₀.shapeCasts_S1x1024x2048_S1024x2048))))
      = Mg z (Pr a wa) (Pr b wb) (Pr c wc) := by
  funext i
  unfold Mg gate sg Pr
  pointwise [Cert.Reference8Ideal.dot_S4096x1024_S1024x2048_S4096x2048_1_0_0_1_n_n, Cert.Reference8Ideal.dot_S4096x2048_S2048x2048_S4096x2048_1_0_0_1_n_n]

/-- The reference's output. -/
theorem ref_out (x M : FVec Ideal S4096x2048 .f32) (wo : FVec Ideal S1x2048x2048 .bf16) :
    addf x (Host.dotGeneral Cert.Reference8Ideal.dot_S4096x2048_S2048x2048_S4096x2048_1_0_0_1_n_n none M (shapeCast _ (extf .f32 wo Cert.Reference8Ideal.Facts₀.bitsLt_bf16_f32) Cert.Reference8Ideal.Facts₀.shapeCasts_S1x2048x2048_S2048x2048)) = Y x M wo := by
  funext i
  unfold Y
  pointwise [Cert.Reference8Ideal.dot_S4096x1024_S1024x2048_S4096x2048_1_0_0_1_n_n, Cert.Reference8Ideal.dot_S4096x2048_S2048x2048_S4096x2048_1_0_0_1_n_n]

/-- The two programs end with equal results. -/
theorem algebraic : Cert.algebraic_Kernel8Ideal_Reference8Ideal := by
  intro m g m' g' _ hargs
  refine ⟨fun c => Y (m ((c : Thread nD τ).loc main_arg0)) (Mg (m ((c : Thread nD τ).loc main_arg1)) (Pr (m ((c : Thread nD τ).loc main_arg2)) (m ((c : Thread nD τ).loc main_arg5)))
      (Pr (m ((c : Thread nD τ).loc main_arg3)) (m ((c : Thread nD τ).loc main_arg6)))
      (Pr (m ((c : Thread nD τ).loc main_arg4)) (m ((c : Thread nD τ).loc main_arg7)))) (m ((c : Thread nD τ).loc main_arg8)),
    fun c => Pr (m ((c : Thread nD τ).loc main_arg2)) (m ((c : Thread nD τ).loc main_arg5)),
    fun c => Pr (m ((c : Thread nD τ).loc main_arg3)) (m ((c : Thread nD τ).loc main_arg6)),
    fun c => Pr (m ((c : Thread nD τ).loc main_arg4)) (m ((c : Thread nD τ).loc main_arg7)),
    fun c => (Mg (m ((c : Thread nD τ).loc main_arg1)) (Pr (m ((c : Thread nD τ).loc main_arg2)) (m ((c : Thread nD τ).loc main_arg5)))
      (Pr (m ((c : Thread nD τ).loc main_arg3)) (m ((c : Thread nD τ).loc main_arg6)))
      (Pr (m ((c : Thread nD τ).loc main_arg4)) (m ((c : Thread nD τ).loc main_arg7)))), ?_, ?_⟩
  · exact (θ_run defs _ _).mono (fun r h c => ⟨(h c).1.trans (final9 m c), (h c).2.1.trans (final10 m c),
      (h c).2.2.1.trans (final11 m c), (h c).2.2.2.1.trans (final12 m c), (h c).2.2.2.2.1.trans (final13 m c),
      (h c).2.2.2.2.2⟩) (run_blocks m g)
  · refine (θ_run Cert.Reference8Ideal.defs _ _).mono (fun r h c => ⟨(h c).1.trans ?_, (h c).2.1.trans ?_,
      (h c).2.2.1.trans ?_, (h c).2.2.2.1.trans ?_, (h c).2.2.2.2.1.trans ?_, (h c).2.2.2.2.2⟩)
      (Cert.Reference8Ideal.Value.run m' g')
    all_goals obtain ⟨e0, e1, e2, e3, e4, e5, e6, e7, e8⟩ := hargs c
    · rw [e0, e1, e2, e3, e4, e5, e6, e7, e8]
      exact (ref_out _ _ _).trans (congrArg (fun M => Y _ M _) (ref_merge _ _ _ _ _ _ _))
    · rw [e2, e5]; exact ref_proj _ _
    · rw [e3, e6]; exact ref_proj _ _
    · rw [e4, e7]; exact ref_proj _ _
    · rw [e1, e2, e3, e4, e5, e6, e7]; exact ref_merge _ _ _ _ _ _ _

end Cert.Proof.MergeOut

end
-- ==== Proof.Products.NormBwd.lean ====
/-
  The gradient of the norm and of the residual: what each grid point writes, the two arrays the grid fills, the
  reference's terms, and the equation between the two: the kernel takes the mean of the product of the gradient with the
  normalised row where the reference differentiates the reciprocal root.
-/
module

public import proofs.«01_k».proof.Proof.Gen.Kernel9Ideal.Value
public import proofs.«01_k».proof.Proof.Gen.Reference9Ideal.Run
public import proofs.«01_k».proof.Defs
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.Proof.NormBwd

open Cert.Kernel9Ideal Cert.Kernel9Ideal.Gen Cert.Kernel9Ideal.Value Idealize.ShloMosaic Idealize.ShloMosaic.TcCoe
open Idealize.SL.Sem

/-! ## The constants -/

theorem c_eq : Ideal.ofBits .f32 0x45000000#32 = ((2048 : ℝ) : EReal) := by
  simp [Ideal.ofBits, Ideal.ieee, -EReal.coe_mul]; norm_num

theorem mh_eq : Ideal.ofBits .f32 0xBF000000#32 = ((-(1 / 2) : ℝ) : EReal) := by
  simp [Ideal.ofBits, Ideal.ieee, -EReal.coe_mul, -EReal.coe_neg]; norm_num

theorem e_eq : ∃ ε : ℝ, 0 < ε ∧ Ideal.ofBits .f32 0x358637BD#32 = (ε : EReal) := by
  refine ⟨8796093 / 2 ^ 43, by norm_num, ?_⟩
  simp [Ideal.ofBits, Ideal.ieee, -EReal.coe_mul]; norm_num

/-! ## One row -/

/-- The reciprocal root of a row's mean square. -/
def rr (x : Fin 2048 → EReal) : EReal :=
  Ideal.rsqrt (Ideal.div (∑ k : Fin 2048, x k * x k) (Ideal.ofBits .f32 0x45000000#32) + Ideal.ofBits .f32 0x358637BD#32)

/-- One entry of the gradient of a row, from the row's products `e` of the incoming gradient with the gain. -/
def dxRow (x e : Fin 2048 → EReal) (xj ej d : EReal) : EReal :=
  d + rr x * (ej - xj * rr x * Ideal.div (∑ k : Fin 2048, e k * (x k * rr x)) (Ideal.ofBits .f32 0x45000000#32))

/-- The reference's factor of `x` in that gradient. -/
def sRow (x e : Fin 2048 → EReal) : EReal :=
  Ideal.div ((∑ k : Fin 2048, x k * e k) * (Ideal.ofBits .f32 0xBF000000#32 *
    Ideal.div (rr x) (Ideal.div (∑ k : Fin 2048, x k * x k) (Ideal.ofBits .f32 0x45000000#32) + Ideal.ofBits .f32 0x358637BD#32)))
    (Ideal.ofBits .f32 0x45000000#32)

theorem sq_nonneg' (a : EReal) : 0 ≤ a * a := by
  induction a with
  | bot => simp
  | top => simp
  | coe r => exact_mod_cast mul_self_nonneg r

theorem sq_nonneg_sum (x : Fin 2048 → EReal) : 0 ≤ ∑ k : Fin 2048, x k * x k := Finset.sum_nonneg fun k _ => sq_nonneg' _

/-- An entry of a row whose squares have a finite sum is a real. -/
theorem real_of_sum (x : Fin 2048 → EReal) (j : Fin 2048) (h : ∑ k : Fin 2048, x k * x k ≠ ⊤) : ∃ a : ℝ, x j = a := by
  have hle : x j * x j ≤ ∑ k : Fin 2048, x k * x k :=
    Finset.single_le_sum (f := fun k => x k * x k) (fun k _ => sq_nonneg' _) (Finset.mem_univ j)
  generalize x j = b at hle
  induction b with
  | bot => simp at hle; exact absurd hle h
  | top => simp at hle; exact absurd hle h
  | coe r => exact ⟨r, rfl⟩

/-- A positive real factor leaves a sum. -/
theorem sum_mul_pos (f : Fin 2048 → EReal) (r : ℝ) (hr : 0 < r) : (∑ k : Fin 2048, f k) * (r : EReal) = ∑ k : Fin 2048, f k * (r : EReal) := by
  induction (Finset.univ : Finset (Fin 2048)) using Finset.induction_on with
  | empty => simp
  | insert a s h ih =>
    rw [Finset.sum_insert h, Finset.sum_insert h,
      EReal.right_distrib_of_nonneg_of_ne_top (by exact_mod_cast hr.le) (EReal.coe_ne_top r), ih]

theorem add_self' (a : EReal) : a + a = a * ((2 : ℝ) : EReal) := by
  induction a with
  | bot => rw [EReal.bot_mul_coe_of_pos (by norm_num)]; rfl
  | top => rw [EReal.top_mul_coe_of_pos (by norm_num)]; rfl
  | coe r => rw [← EReal.coe_mul, ← EReal.coe_add]; congr 1; ring

theorem dxRow_congr {x x' e e' : Fin 2048 → EReal} {a a' b b' d d' : EReal} (hx : x = x') (he : e = e') (ha : a = a')
    (hb : b = b') (hd : d = d') : dxRow x e a b d = dxRow x' e' a' b' d' := by
  subst hx he ha hb hd; rfl

/-- The two forms of a row's gradient are one. Where a square is infinite both are `d`; elsewhere the row is real, the
    reciprocal root a positive real, and real factors move through the sum. -/
theorem row_eq (x e : Fin 2048 → EReal) (j : Fin 2048) (ej d : EReal) :
    d + ej * rr x + x j * sRow x e + sRow x e * x j = dxRow x e (x j) ej d := by
  obtain ⟨ε, hε, he⟩ := e_eq
  unfold sRow dxRow rr
  rw [c_eq, he, mh_eq]
  have h2 : (2048 : ℝ) ≠ 0 := by norm_num
  simp only [Ideal.div_coe h2]
  have hS := sq_nonneg_sum x
  by_cases hT : ∑ k : Fin 2048, x k * x k = ⊤
  · rw [hT, EReal.top_mul_coe_of_pos (by norm_num), EReal.top_add_coe, Ideal.rsqrt_top]
    have h0 : Ideal.div 0 ⊤ = 0 := by simp [Ideal.div]
    rw [h0]
    simp
  obtain ⟨a, ha⟩ := real_of_sum x j hT
  rw [ha]
  generalize (∑ k : Fin 2048, x k * x k) = M at hS hT
  induction M with
  | bot => simp at hS
  | top => exact absurd rfl hT
  | coe M =>
  have hM : 0 ≤ M := by exact_mod_cast hS
  simp only [← EReal.coe_mul, ← EReal.coe_add]
  generalize hV : M * (1 / 2048) + ε = V
  have hpos : 0 < V := by rw [← hV]; positivity
  obtain ⟨q, hq, rfl⟩ : ∃ q : ℝ, 0 < q ∧ V = q * q :=
    ⟨Real.sqrt V, Real.sqrt_pos.mpr hpos, (Real.mul_self_sqrt hpos.le).symm⟩
  rw [Ideal.rsqrt_coe, if_neg hpos.not_gt, if_neg hpos.ne', Real.sqrt_mul_self hq.le, Ideal.div_coe hpos.ne']
  have hqi : (0 : ℝ) < q⁻¹ := inv_pos.mpr hq
  have hK : ∑ k : Fin 2048, e k * (x k * ((q⁻¹ : ℝ) : EReal)) = (∑ k : Fin 2048, x k * e k) * ((q⁻¹ : ℝ) : EReal) := by
    rw [sum_mul_pos _ _ hqi]
    exact Finset.sum_congr rfl fun k _ => by rw [← mul_assoc, mul_comm (e k)]
  rw [hK]
  generalize (∑ k : Fin 2048, x k * e k) = S
  rw [mul_comm (S * _ * _ : EReal) (a : EReal), add_assoc, add_self', add_assoc, sub_eq_add_neg,
    EReal.left_distrib_of_nonneg_of_ne_top (by exact_mod_cast hqi.le) (EReal.coe_ne_top _), mul_comm ej, ← EReal.neg_mul,
    ← EReal.neg_mul, ← EReal.coe_mul, ← EReal.coe_neg]
  refine congrArg (d + ·) (congrArg (((q⁻¹ : ℝ) : EReal) * ej + ·) ?_)
  simp only [← EReal.coe_mul, ← mul_assoc, mul_comm S]
  simp only [mul_assoc _ S, mul_comm S]
  simp only [← EReal.coe_mul, ← mul_assoc]
  rw [mul_assoc, mul_comm S, ← mul_assoc, ← EReal.coe_mul]
  refine congrArg (fun z : ℝ => (z : EReal) * S) ?_
  field_simp

/-! ## The kernel -/

theorem pay1_apply (y : S1x2048.Idx) : k0_pay1 (F := Ideal) y = 0 := by
  pointwise [k0_pay1]

theorem pay2_apply (x : Vec Ideal S512x2048 .f32) (y : S512x1.Idx) : k0_pay2 x y = rr (fun k => x (ix2 (y 0) k)) := by
  unfold rr
  pointwise [k0_pay2]

theorem pay4_apply (x h : Vec Ideal S512x2048 .f32) (a : Vec Ideal S1x2048 .f32) (y : S1x2048.Idx) :
    k0_pay4 x h a y = a y + ∑ s : Fin 512, h (ix2 s (y 1)) * (x (ix2 s (y 1)) * rr (fun k => x (ix2 s k))) := by
  pointwise [k0_pay4, k0_pay3]
  simp only [pay2_apply]
  rfl

theorem pay5_apply (x h : Vec Ideal S512x2048 .f32) (g : Vec Ideal S1x2048 .f32) (d : Vec Ideal S512x2048 .f32) (y : S512x2048.Idx) :
    k0_pay5 x h g d y = dxRow (fun k => x (ix2 (y 0) k)) (fun k => h (ix2 (y 0) k) * g (ix2 0 k)) (x y) (h y * g (ix2 0 (y 1))) (d y) := by
  unfold dxRow rr
  pointwise [k0_pay5, k0_pay3, k0_pay2]

/-- A block of rows' part of the gain's gradient. -/
def part (h x : Vec Ideal S512x2048 .f32) : S1x2048.Idx → EReal :=
  fun y => ∑ s : Fin 512, h (ix2 s (y 1)) * (x (ix2 s (y 1)) * rr (fun k => x (ix2 s k)))

/-- The gradient of `x`. -/
def DX (h x : S4096x2048.Idx → EReal) (g : S1x2048.Idx → EReal) (d : S4096x2048.Idx → EReal) : S4096x2048.Idx → EReal :=
  fun i => dxRow (fun k => x (ix2 (i 0) k)) (fun k => h (ix2 (i 0) k) * g (ix2 0 k)) (x i) (h i * g (ix2 0 (i 1))) (d i)

/-- The gradient of the gain. -/
def DG (h x : S4096x2048.Idx → EReal) : S1x2048.Idx → EReal :=
  fun i => ∑ s : Fin 4096, h (ix2 s (i 1)) * (x (ix2 s (i 1)) * rr (fun k => x (ix2 s k)))

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

/-- What a point leaves in the block of `x`'s gradient: the same in either case. -/
theorem outs4 (c : Dev nD) (t : Fin cfg0.N) :
    (outsAt0 m c t.val t.isLt).1 = k0_pay5 (iblk m c 1 t) (iblk m c 0 t) (iblk m c 2 t) (iblk m c 3 t) := by
  by_cases h : t.val % 8 = 0
  · rw [outsAt0_A m c t h]; funext y; frame_out
  · rw [outsAt0_B m c t h]; funext y; frame_out

theorem final4 (c : Dev nD) : (dats m 0 c).arrAt 4 cfg0.N
    = DX (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4, outs4, pay5_apply]
  unfold DX
  rw [← V_main_arg0 m c, ← V_main_arg1 m c, ← V_main_arg2 m c, ← V_main_arg3 m c]
  have e0 : ∀ k : Fin 2048, iblk m c 0 t (ix2 (y 0) k) = V m c main_arg0 (ix2 (((cfg0.win 4).blk t).view.emb y 0) k) := fun k => by
    blk_simp [iblk]; exact congrArg _ (by blk_ext [idx0 t, idx4 t])
  have e1 : ∀ k : Fin 2048, iblk m c 1 t (ix2 (y 0) k) = V m c main_arg1 (ix2 (((cfg0.win 4).blk t).view.emb y 0) k) := fun k => by
    blk_simp [iblk]; exact congrArg _ (by blk_ext [idx1 t, idx4 t])
  have e2 : ∀ k : Fin 2048, iblk m c 2 t (ix2 0 k) = V m c main_arg2 (ix2 0 k) := fun k => by
    blk_simp [iblk]; exact congrArg _ (by blk_ext [idx2 t])
  have a0 : iblk m c 0 t y = V m c main_arg0 (((cfg0.win 4).blk t).view.emb y) := by
    blk_simp [iblk]; exact congrArg _ (by blk_ext [idx0 t, idx4 t])
  have a1 : iblk m c 1 t y = V m c main_arg1 (((cfg0.win 4).blk t).view.emb y) := by
    blk_simp [iblk]; exact congrArg _ (by blk_ext [idx1 t, idx4 t])
  have a2 : iblk m c 2 t (ix2 0 (y 1)) = V m c main_arg2 (ix2 0 (((cfg0.win 4).blk t).view.emb y 1)) := by
    blk_simp [iblk]; exact congrArg _ (by blk_ext [idx2 t, idx4 t])
  have a3 : iblk m c 3 t y = V m c main_arg3 (((cfg0.win 4).blk t).view.emb y) := by
    blk_simp [iblk]; exact congrArg _ (by blk_ext [idx3 t, idx4 t])
  refine dxRow_congr (funext e1) (funext fun k => congrArg₂ (· * ·) (e0 k) (e2 k)) a1 (congrArg₂ (· * ·) a0 a2) a3

/-- What the last point leaves in the gain's gradient: the sum of the points' parts. -/
theorem outs5 (c : Dev nD) (t : Fin cfg0.N) (hf : (cfg0.win 5).flush t = true) (y : S1x2048.Idx) :
    (outsAt0 m c t.val t.isLt).2 y = 0 + ∑ s : Fin 8, part
      (iblk m c 0 ⟨8 * (t.val / 8) + s.val, Pipeline.run_point_lt_of_flush t ((flush0_5 t).mp hf) s⟩)
      (iblk m c 1 ⟨8 * (t.val / 8) + s.val, Pipeline.run_point_lt_of_flush t ((flush0_5 t).mp hf) s⟩) y :=
  Pipeline.eq_sum_fin_of_reset_step_apply_of_flush (M := EReal) (fun n h => (outsAt0 m c n h).2) 8 (fun _ => 0)
    (fun t y => part (iblk m c 0 t) (iblk m c 1 t) y)
    (fun t h y => by
      show (outsAt0 m c t.val t.isLt).2 y = _
      rw [outsAt0_A m c t h]; frame_out; rw [pay4_apply, pay1_apply]; rfl)
    (fun t h y => by
      show (outsAt0 m c t.val t.isLt).2 y = (outsAt0 m c (t.val - 1) _).2 y + _
      rw [outsAt0_B m c t (by omega)]; frame_out; rw [pay4_apply]; rfl)
    t ((flush0_5 t).mp hf) y

theorem final5 (c : Dev nD) : (dats m 0 c).arrAt 5 cfg0.N
    = DG (m ((c : Thread nD τ).loc main_arg0)) (m ((c : Thread nD τ).loc main_arg1)) := by
  refine (dats m 0 c).arrAt_eq_of_covers 5 _ (by decide +kernel) fun t hf y => ?_
  blk_simp
  rw [after0_5]
  refine (outs5 m c t hf y).trans ?_
  unfold DG part
  rw [zero_add, ← V_main_arg0 m c, ← V_main_arg1 m c]
  have h8 := (flush0_5 t).mp hf
  refine Fin.sum_mul_add_congr fun s q hl => ?_
  refine congrArg₂ (· * ·) ?_ (congrArg₂ (· * ·) ?_ (congrArg rr (funext fun k => ?_))) <;> blk_simp [iblk]
  · exact congrArg _ (by blk_ext [idx0, idx5 t])
  · exact congrArg _ (by blk_ext [idx1, idx5 t])
  · exact congrArg _ (by blk_ext [idx1, idx5 t])

/-! ## The reference -/

theorem ref_dg (dh x : FVec Ideal S4096x2048 .f32) (g : FVec Ideal S1x2048 .f32) (d : FVec Ideal S4096x2048 .f32) :
    shapeCast _ (Host.reduceAdd (shapeCast _ (Host.reduceAdd (mulf (mulf x (broadcastInDim Cert.Reference9Ideal.S4096x2048 ![0, 1] Cert.Reference9Ideal.Facts₀.bcast_S4096x1_S4096x2048_0_1 (Host.rsqrt (addf (Host.divf (broadcastInDim Cert.Reference9Ideal.S4096x1 ![0] Cert.Reference9Ideal.Facts₀.bcast_S4096_S4096x1_0 (Host.reduceAdd (mulf x x) (constant (F := Ideal) Cert.Reference9Ideal.S_ .f32 0x00000000#32) Cert.Reference9Ideal.Facts₀.reducesTo_S4096x2048_S4096_d1 Cert.Reference9Ideal.Gen.h_S_)) (broadcastInDim Cert.Reference9Ideal.S4096x1 ![] Cert.Reference9Ideal.Facts₀.bcast_S_S4096x1 (constant (F := Ideal) Cert.Reference9Ideal.S_ .f32 0x45000000#32))) (broadcastInDim Cert.Reference9Ideal.S4096x1 ![] Cert.Reference9Ideal.Facts₀.bcast_S_S4096x1 (constant (F := Ideal) Cert.Reference9Ideal.S_ .f32 0x358637BD#32)))))) dh) (constant (F := Ideal) Cert.Reference9Ideal.S_ .f32 0x00000000#32) Cert.Reference9Ideal.Facts₀.reducesTo_S4096x2048_S2048_d0 Cert.Reference9Ideal.Gen.h_S_) Cert.Reference9Ideal.Facts₀.shapeCasts_S2048_S1x2048) (constant (F := Ideal) Cert.Reference9Ideal.S_ .f32 0x00000000#32) Cert.Reference9Ideal.Facts₀.reducesTo_S1x2048_S2048_d0 Cert.Reference9Ideal.Gen.h_S_) Cert.Reference9Ideal.Facts₀.shapeCasts_S2048_S1x2048 = DG dh x := by
  funext i
  unfold DG rr
  pointwise
  refine (Fin.sum_univ_one _).trans (Finset.sum_congr rfl fun s _ => mul_comm (G := EReal) _ _)

/-- The reference's gradient of `x` before the equation of a row. -/
theorem ref_dx (dh x : FVec Ideal S4096x2048 .f32) (g : FVec Ideal S1x2048 .f32) (d : FVec Ideal S4096x2048 .f32) (i : S4096x2048.Idx) :
    (addf (addf (addf d (mulf (mulf dh (broadcastInDim Cert.Reference9Ideal.S4096x2048 ![0, 1] Cert.Reference9Ideal.Facts₀.bcast_S1x2048_S4096x2048_0_1 (broadcastInDim Cert.Reference9Ideal.S1x2048 ![1] Cert.Reference9Ideal.Facts₀.bcast_S2048_S1x2048_1 (shapeCast _ g Cert.Reference9Ideal.Facts₀.shapeCasts_S1x2048_S2048)))) (broadcastInDim Cert.Reference9Ideal.S4096x2048 ![0, 1] Cert.Reference9Ideal.Facts₀.bcast_S4096x1_S4096x2048_0_1 (Host.rsqrt (addf (Host.divf (broadcastInDim Cert.Reference9Ideal.S4096x1 ![0] Cert.Reference9Ideal.Facts₀.bcast_S4096_S4096x1_0 (Host.reduceAdd (mulf x x) (constant (F := Ideal) Cert.Reference9Ideal.S_ .f32 0x00000000#32) Cert.Reference9Ideal.Facts₀.reducesTo_S4096x2048_S4096_d1 Cert.Reference9Ideal.Gen.h_S_)) (broadcastInDim Cert.Reference9Ideal.S4096x1 ![] Cert.Reference9Ideal.Facts₀.bcast_S_S4096x1 (constant (F := Ideal) Cert.Reference9Ideal.S_ .f32 0x45000000#32))) (broadcastInDim Cert.Reference9Ideal.S4096x1 ![] Cert.Reference9Ideal.Facts₀.bcast_S_S4096x1 (constant (F := Ideal) Cert.Reference9Ideal.S_ .f32 0x358637BD#32))))))) (mulf x (broadcastInDim Cert.Reference9Ideal.S4096x2048 ![0] Cert.Reference9Ideal.Facts₀.bcast_S4096_S4096x2048_0 (Host.reduceAdd (Host.divf (mulf (shapeCast _ (Host.reduceAdd (mulf x (mulf dh (broadcastInDim Cert.Reference9Ideal.S4096x2048 ![0, 1] Cert.Reference9Ideal.Facts₀.bcast_S1x2048_S4096x2048_0_1 (broadcastInDim Cert.Reference9Ideal.S1x2048 ![1] Cert.Reference9Ideal.Facts₀.bcast_S2048_S1x2048_1 (shapeCast _ g Cert.Reference9Ideal.Facts₀.shapeCasts_S1x2048_S2048))))) (constant (F := Ideal) Cert.Reference9Ideal.S_ .f32 0x00000000#32) Cert.Reference9Ideal.Facts₀.reducesTo_S4096x2048_S4096_d1 Cert.Reference9Ideal.Gen.h_S_) Cert.Reference9Ideal.Facts₀.shapeCasts_S4096_S4096x1) (mulf (broadcastInDim Cert.Reference9Ideal.S4096x1 ![] Cert.Reference9Ideal.Facts₀.bcast_S_S4096x1 (constant (F := Ideal) Cert.Reference9Ideal.S_ .f32 0xBF000000#32)) (Host.divf (Host.rsqrt (addf (Host.divf (broadcastInDim Cert.Reference9Ideal.S4096x1 ![0] Cert.Reference9Ideal.Facts₀.bcast_S4096_S4096x1_0 (Host.reduceAdd (mulf x x) (constant (F := Ideal) Cert.Reference9Ideal.S_ .f32 0x00000000#32) Cert.Reference9Ideal.Facts₀.reducesTo_S4096x2048_S4096_d1 Cert.Reference9Ideal.Gen.h_S_)) (broadcastInDim Cert.Reference9Ideal.S4096x1 ![] Cert.Reference9Ideal.Facts₀.bcast_S_S4096x1 (constant (F := Ideal) Cert.Reference9Ideal.S_ .f32 0x45000000#32))) (broadcastInDim Cert.Reference9Ideal.S4096x1 ![] Cert.Reference9Ideal.Facts₀.bcast_S_S4096x1 (constant (F := Ideal) Cert.Reference9Ideal.S_ .f32 0x358637BD#32)))) (addf (Host.divf (broadcastInDim Cert.Reference9Ideal.S4096x1 ![0] Cert.Reference9Ideal.Facts₀.bcast_S4096_S4096x1_0 (Host.reduceAdd (mulf x x) (constant (F := Ideal) Cert.Reference9Ideal.S_ .f32 0x00000000#32) Cert.Reference9Ideal.Facts₀.reducesTo_S4096x2048_S4096_d1 Cert.Reference9Ideal.Gen.h_S_)) (broadcastInDim Cert.Reference9Ideal.S4096x1 ![] Cert.Reference9Ideal.Facts₀.bcast_S_S4096x1 (constant (F := Ideal) Cert.Reference9Ideal.S_ .f32 0x45000000#32))) (broadcastInDim Cert.Reference9Ideal.S4096x1 ![] Cert.Reference9Ideal.Facts₀.bcast_S_S4096x1 (constant (F := Ideal) Cert.Reference9Ideal.S_ .f32 0x358637BD#32)))))) (broadcastInDim Cert.Reference9Ideal.S4096x1 ![] Cert.Reference9Ideal.Facts₀.bcast_S_S4096x1 (constant (F := Ideal) Cert.Reference9Ideal.S_ .f32 0x45000000#32))) (constant (F := Ideal) Cert.Reference9Ideal.S_ .f32 0x00000000#32) Cert.Reference9Ideal.Facts₀.reducesTo_S4096x1_S4096_d1 Cert.Reference9Ideal.Gen.h_S_)))) (mulf (broadcastInDim Cert.Reference9Ideal.S4096x2048 ![0] Cert.Reference9Ideal.Facts₀.bcast_S4096_S4096x2048_0 (Host.reduceAdd (Host.divf (mulf (shapeCast _ (Host.reduceAdd (mulf x (mulf dh (broadcastInDim Cert.Reference9Ideal.S4096x2048 ![0, 1] Cert.Reference9Ideal.Facts₀.bcast_S1x2048_S4096x2048_0_1 (broadcastInDim Cert.Reference9Ideal.S1x2048 ![1] Cert.Reference9Ideal.Facts₀.bcast_S2048_S1x2048_1 (shapeCast _ g Cert.Reference9Ideal.Facts₀.shapeCasts_S1x2048_S2048))))) (constant (F := Ideal) Cert.Reference9Ideal.S_ .f32 0x00000000#32) Cert.Reference9Ideal.Facts₀.reducesTo_S4096x2048_S4096_d1 Cert.Reference9Ideal.Gen.h_S_) Cert.Reference9Ideal.Facts₀.shapeCasts_S4096_S4096x1) (mulf (broadcastInDim Cert.Reference9Ideal.S4096x1 ![] Cert.Reference9Ideal.Facts₀.bcast_S_S4096x1 (constant (F := Ideal) Cert.Reference9Ideal.S_ .f32 0xBF000000#32)) (Host.divf (Host.rsqrt (addf (Host.divf (broadcastInDim Cert.Reference9Ideal.S4096x1 ![0] Cert.Reference9Ideal.Facts₀.bcast_S4096_S4096x1_0 (Host.reduceAdd (mulf x x) (constant (F := Ideal) Cert.Reference9Ideal.S_ .f32 0x00000000#32) Cert.Reference9Ideal.Facts₀.reducesTo_S4096x2048_S4096_d1 Cert.Reference9Ideal.Gen.h_S_)) (broadcastInDim Cert.Reference9Ideal.S4096x1 ![] Cert.Reference9Ideal.Facts₀.bcast_S_S4096x1 (constant (F := Ideal) Cert.Reference9Ideal.S_ .f32 0x45000000#32))) (broadcastInDim Cert.Reference9Ideal.S4096x1 ![] Cert.Reference9Ideal.Facts₀.bcast_S_S4096x1 (constant (F := Ideal) Cert.Reference9Ideal.S_ .f32 0x358637BD#32)))) (addf (Host.divf (broadcastInDim Cert.Reference9Ideal.S4096x1 ![0] Cert.Reference9Ideal.Facts₀.bcast_S4096_S4096x1_0 (Host.reduceAdd (mulf x x) (constant (F := Ideal) Cert.Reference9Ideal.S_ .f32 0x00000000#32) Cert.Reference9Ideal.Facts₀.reducesTo_S4096x2048_S4096_d1 Cert.Reference9Ideal.Gen.h_S_)) (broadcastInDim Cert.Reference9Ideal.S4096x1 ![] Cert.Reference9Ideal.Facts₀.bcast_S_S4096x1 (constant (F := Ideal) Cert.Reference9Ideal.S_ .f32 0x45000000#32))) (broadcastInDim Cert.Reference9Ideal.S4096x1 ![] Cert.Reference9Ideal.Facts₀.bcast_S_S4096x1 (constant (F := Ideal) Cert.Reference9Ideal.S_ .f32 0x358637BD#32)))))) (broadcastInDim Cert.Reference9Ideal.S4096x1 ![] Cert.Reference9Ideal.Facts₀.bcast_S_S4096x1 (constant (F := Ideal) Cert.Reference9Ideal.S_ .f32 0x45000000#32))) (constant (F := Ideal) Cert.Reference9Ideal.S_ .f32 0x00000000#32) Cert.Reference9Ideal.Facts₀.reducesTo_S4096x1_S4096_d1 Cert.Reference9Ideal.Gen.h_S_)) x)) i
      = d i + dh i * g (ix2 0 (i 1)) * rr (fun k => x (ix2 (i 0) k))
        + x i * sRow (fun k => x (ix2 (i 0) k)) (fun k => dh (ix2 (i 0) k) * g (ix2 0 k))
        + sRow (fun k => x (ix2 (i 0) k)) (fun k => dh (ix2 (i 0) k) * g (ix2 0 k)) * x i := by
  unfold sRow rr
  pointwise
  exact congrArg₂ (· + ·) (congrArg (fun z => _ + x i * z) (Fin.sum_univ_one _)) (congrArg (· * x i) (Fin.sum_univ_one _))

/-- The reference's gradient of `x` is the kernel's. -/
theorem ref_dx_eq (dh x : FVec Ideal S4096x2048 .f32) (g : FVec Ideal S1x2048 .f32) (d : FVec Ideal S4096x2048 .f32) :
    addf (addf (addf d (mulf (mulf dh (broadcastInDim Cert.Reference9Ideal.S4096x2048 ![0, 1] Cert.Reference9Ideal.Facts₀.bcast_S1x2048_S4096x2048_0_1 (broadcastInDim Cert.Reference9Ideal.S1x2048 ![1] Cert.Reference9Ideal.Facts₀.bcast_S2048_S1x2048_1 (shapeCast _ g Cert.Reference9Ideal.Facts₀.shapeCasts_S1x2048_S2048)))) (broadcastInDim Cert.Reference9Ideal.S4096x2048 ![0, 1] Cert.Reference9Ideal.Facts₀.bcast_S4096x1_S4096x2048_0_1 (Host.rsqrt (addf (Host.divf (broadcastInDim Cert.Reference9Ideal.S4096x1 ![0] Cert.Reference9Ideal.Facts₀.bcast_S4096_S4096x1_0 (Host.reduceAdd (mulf x x) (constant (F := Ideal) Cert.Reference9Ideal.S_ .f32 0x00000000#32) Cert.Reference9Ideal.Facts₀.reducesTo_S4096x2048_S4096_d1 Cert.Reference9Ideal.Gen.h_S_)) (broadcastInDim Cert.Reference9Ideal.S4096x1 ![] Cert.Reference9Ideal.Facts₀.bcast_S_S4096x1 (constant (F := Ideal) Cert.Reference9Ideal.S_ .f32 0x45000000#32))) (broadcastInDim Cert.Reference9Ideal.S4096x1 ![] Cert.Reference9Ideal.Facts₀.bcast_S_S4096x1 (constant (F := Ideal) Cert.Reference9Ideal.S_ .f32 0x358637BD#32))))))) (mulf x (broadcastInDim Cert.Reference9Ideal.S4096x2048 ![0] Cert.Reference9Ideal.Facts₀.bcast_S4096_S4096x2048_0 (Host.reduceAdd (Host.divf (mulf (shapeCast _ (Host.reduceAdd (mulf x (mulf dh (broadcastInDim Cert.Reference9Ideal.S4096x2048 ![0, 1] Cert.Reference9Ideal.Facts₀.bcast_S1x2048_S4096x2048_0_1 (broadcastInDim Cert.Reference9Ideal.S1x2048 ![1] Cert.Reference9Ideal.Facts₀.bcast_S2048_S1x2048_1 (shapeCast _ g Cert.Reference9Ideal.Facts₀.shapeCasts_S1x2048_S2048))))) (constant (F := Ideal) Cert.Reference9Ideal.S_ .f32 0x00000000#32) Cert.Reference9Ideal.Facts₀.reducesTo_S4096x2048_S4096_d1 Cert.Reference9Ideal.Gen.h_S_) Cert.Reference9Ideal.Facts₀.shapeCasts_S4096_S4096x1) (mulf (broadcastInDim Cert.Reference9Ideal.S4096x1 ![] Cert.Reference9Ideal.Facts₀.bcast_S_S4096x1 (constant (F := Ideal) Cert.Reference9Ideal.S_ .f32 0xBF000000#32)) (Host.divf (Host.rsqrt (addf (Host.divf (broadcastInDim Cert.Reference9Ideal.S4096x1 ![0] Cert.Reference9Ideal.Facts₀.bcast_S4096_S4096x1_0 (Host.reduceAdd (mulf x x) (constant (F := Ideal) Cert.Reference9Ideal.S_ .f32 0x00000000#32) Cert.Reference9Ideal.Facts₀.reducesTo_S4096x2048_S4096_d1 Cert.Reference9Ideal.Gen.h_S_)) (broadcastInDim Cert.Reference9Ideal.S4096x1 ![] Cert.Reference9Ideal.Facts₀.bcast_S_S4096x1 (constant (F := Ideal) Cert.Reference9Ideal.S_ .f32 0x45000000#32))) (broadcastInDim Cert.Reference9Ideal.S4096x1 ![] Cert.Reference9Ideal.Facts₀.bcast_S_S4096x1 (constant (F := Ideal) Cert.Reference9Ideal.S_ .f32 0x358637BD#32)))) (addf (Host.divf (broadcastInDim Cert.Reference9Ideal.S4096x1 ![0] Cert.Reference9Ideal.Facts₀.bcast_S4096_S4096x1_0 (Host.reduceAdd (mulf x x) (constant (F := Ideal) Cert.Reference9Ideal.S_ .f32 0x00000000#32) Cert.Reference9Ideal.Facts₀.reducesTo_S4096x2048_S4096_d1 Cert.Reference9Ideal.Gen.h_S_)) (broadcastInDim Cert.Reference9Ideal.S4096x1 ![] Cert.Reference9Ideal.Facts₀.bcast_S_S4096x1 (constant (F := Ideal) Cert.Reference9Ideal.S_ .f32 0x45000000#32))) (broadcastInDim Cert.Reference9Ideal.S4096x1 ![] Cert.Reference9Ideal.Facts₀.bcast_S_S4096x1 (constant (F := Ideal) Cert.Reference9Ideal.S_ .f32 0x358637BD#32)))))) (broadcastInDim Cert.Reference9Ideal.S4096x1 ![] Cert.Reference9Ideal.Facts₀.bcast_S_S4096x1 (constant (F := Ideal) Cert.Reference9Ideal.S_ .f32 0x45000000#32))) (constant (F := Ideal) Cert.Reference9Ideal.S_ .f32 0x00000000#32) Cert.Reference9Ideal.Facts₀.reducesTo_S4096x1_S4096_d1 Cert.Reference9Ideal.Gen.h_S_)))) (mulf (broadcastInDim Cert.Reference9Ideal.S4096x2048 ![0] Cert.Reference9Ideal.Facts₀.bcast_S4096_S4096x2048_0 (Host.reduceAdd (Host.divf (mulf (shapeCast _ (Host.reduceAdd (mulf x (mulf dh (broadcastInDim Cert.Reference9Ideal.S4096x2048 ![0, 1] Cert.Reference9Ideal.Facts₀.bcast_S1x2048_S4096x2048_0_1 (broadcastInDim Cert.Reference9Ideal.S1x2048 ![1] Cert.Reference9Ideal.Facts₀.bcast_S2048_S1x2048_1 (shapeCast _ g Cert.Reference9Ideal.Facts₀.shapeCasts_S1x2048_S2048))))) (constant (F := Ideal) Cert.Reference9Ideal.S_ .f32 0x00000000#32) Cert.Reference9Ideal.Facts₀.reducesTo_S4096x2048_S4096_d1 Cert.Reference9Ideal.Gen.h_S_) Cert.Reference9Ideal.Facts₀.shapeCasts_S4096_S4096x1) (mulf (broadcastInDim Cert.Reference9Ideal.S4096x1 ![] Cert.Reference9Ideal.Facts₀.bcast_S_S4096x1 (constant (F := Ideal) Cert.Reference9Ideal.S_ .f32 0xBF000000#32)) (Host.divf (Host.rsqrt (addf (Host.divf (broadcastInDim Cert.Reference9Ideal.S4096x1 ![0] Cert.Reference9Ideal.Facts₀.bcast_S4096_S4096x1_0 (Host.reduceAdd (mulf x x) (constant (F := Ideal) Cert.Reference9Ideal.S_ .f32 0x00000000#32) Cert.Reference9Ideal.Facts₀.reducesTo_S4096x2048_S4096_d1 Cert.Reference9Ideal.Gen.h_S_)) (broadcastInDim Cert.Reference9Ideal.S4096x1 ![] Cert.Reference9Ideal.Facts₀.bcast_S_S4096x1 (constant (F := Ideal) Cert.Reference9Ideal.S_ .f32 0x45000000#32))) (broadcastInDim Cert.Reference9Ideal.S4096x1 ![] Cert.Reference9Ideal.Facts₀.bcast_S_S4096x1 (constant (F := Ideal) Cert.Reference9Ideal.S_ .f32 0x358637BD#32)))) (addf (Host.divf (broadcastInDim Cert.Reference9Ideal.S4096x1 ![0] Cert.Reference9Ideal.Facts₀.bcast_S4096_S4096x1_0 (Host.reduceAdd (mulf x x) (constant (F := Ideal) Cert.Reference9Ideal.S_ .f32 0x00000000#32) Cert.Reference9Ideal.Facts₀.reducesTo_S4096x2048_S4096_d1 Cert.Reference9Ideal.Gen.h_S_)) (broadcastInDim Cert.Reference9Ideal.S4096x1 ![] Cert.Reference9Ideal.Facts₀.bcast_S_S4096x1 (constant (F := Ideal) Cert.Reference9Ideal.S_ .f32 0x45000000#32))) (broadcastInDim Cert.Reference9Ideal.S4096x1 ![] Cert.Reference9Ideal.Facts₀.bcast_S_S4096x1 (constant (F := Ideal) Cert.Reference9Ideal.S_ .f32 0x358637BD#32)))))) (broadcastInDim Cert.Reference9Ideal.S4096x1 ![] Cert.Reference9Ideal.Facts₀.bcast_S_S4096x1 (constant (F := Ideal) Cert.Reference9Ideal.S_ .f32 0x45000000#32))) (constant (F := Ideal) Cert.Reference9Ideal.S_ .f32 0x00000000#32) Cert.Reference9Ideal.Facts₀.reducesTo_S4096x1_S4096_d1 Cert.Reference9Ideal.Gen.h_S_)) x)
      = DX dh x g d := by
  funext i
  rw [ref_dx]
  have hi : ix2 (i 0) (i 1) = i := by funext a; match a with | 0 => rfl | 1 => rfl
  have hx : x i = x (ix2 (i 0) (i 1)) := congrArg x hi.symm
  rw [hx]
  refine (row_eq (fun k => x (ix2 (i 0) k)) _ (i 1) _ _).trans ?_
  unfold DX
  rw [hx]

/-- The two programs end with equal results. -/
theorem algebraic : Cert.algebraic_Kernel9Ideal_Reference9Ideal := by
  intro m g m' g' _ hargs
  refine ⟨fun c => DX (m ((c : Thread nD τ).loc main_arg0)) (m ((c : Thread nD τ).loc main_arg1)) (m ((c : Thread nD τ).loc main_arg2))
      (m ((c : Thread nD τ).loc main_arg3)),
    fun c => DG (m ((c : Thread nD τ).loc main_arg0)) (m ((c : Thread nD τ).loc main_arg1)), ?_, ?_⟩
  · exact (θ_run defs _ _).mono (fun r h c => ⟨(h c).1.trans (final4 m c), (h c).2.1.trans (final5 m c), (h c).2.2⟩) (run_blocks m g)
  · refine (θ_run Cert.Reference9Ideal.defs _ _).mono (fun r h c => ⟨(h c).1.trans ?_, (h c).2.1.trans ?_, (h c).2.2⟩)
      (Cert.Reference9Ideal.Value.run m' g')
    all_goals obtain ⟨e0, e1, e2, e3⟩ := hargs c
    · unfold Cert.Reference9Ideal.Value.res_main_v37
      rw [e0, e1, e2, e3]
      exact ref_dx_eq _ _ _ _
    · rw [e0, e1]
      exact ref_dg _ _ (m ((c : Thread nD τ).loc main_arg2)) (m ((c : Thread nD τ).loc main_arg3))

end Cert.Proof.NormBwd

end
-- ==== Proof.Products.AdamW.lean ====
/-
  One entry of the optimiser's step: the moments and the update as functions of the entry's weight, gradient and moments.
-/
module

public import Idealize.ShloMosaic.PureOps.Ideal

@[expose] public section

noncomputable section

namespace Cert.Proof.AdamW

open Idealize.ShloMosaic

/-- The first moment. -/
def mom (g m : EReal) : EReal := Ideal.ofBits .f32 0x3F666666#32 * m + Ideal.ofBits .f32 0x3DCCCCCD#32 * g

/-- The second moment. -/
def sec (g v : EReal) : EReal := Ideal.ofBits .f32 0x3F7FBE77#32 * v + Ideal.ofBits .f32 0x3A83126F#32 * (g * g)

/-- The update of the weight. -/
def upd (w g m v : EReal) : EReal :=
  Ideal.ofBits .f32 0xBA83126F#32 * (Ideal.div (Ideal.div (mom g m) (Ideal.ofBits .f32 0x3F26BD02#32))
    (Ideal.sqrt (Ideal.div (sec g v) (Ideal.ofBits .f32 0x3C231ACC#32)) + Ideal.ofBits .f32 0x322BCC77#32)
    + Ideal.ofBits .f32 0x3C23D70A#32 * w)

end Cert.Proof.AdamW

end
-- ==== Proof.Products.AdamWIn.lean ====
/-
  The optimiser's step of the first layer's `w_in`: what each grid point writes, the four arrays the grid fills in the first
  layer's rows, and the reference's terms.
-/
module

public import proofs.«01_k».proof.Proof.Gen.Kernel10Ideal.Value
public import proofs.«01_k».proof.Proof.Gen.Reference10Ideal.Run
public import proofs.«01_k».proof.Proof.Products.AdamW
public import proofs.«01_k».proof.Defs
public import Idealize.ShloMosaic.Lib.Pipeline.ValueKit.Geometry
public import Idealize.ShloMosaic.Lib.Pipeline.ValueKit.Acc
public import Idealize.ShloMosaic.Lib.Pipeline.ValueKit.Partial
public import Idealize.ShloMosaic.Lib.Pointwise

@[expose] public section

set_option maxRecDepth 16384

noncomputable section

namespace Cert.Proof.AdamWIn

open Cert.Kernel10Ideal Cert.Kernel10Ideal.Gen Cert.Kernel10Ideal.Value Idealize.ShloMosaic Idealize.ShloMosaic.TcCoe
open Idealize.SL.Sem

/-- `f` in the first layer's rows, the carried array in the others. -/
def first (f c : S4x2048x3712.Idx → EReal) : S4x2048x3712.Idx → EReal := fun i => if (i 0).val < 1 then f i else c i

/-- The gradient's entry for a row of the first layer. -/
def row (g : S1x2048x3712.Idx → EReal) (i : S4x2048x3712.Idx) : EReal := g (ix3 (⟨(i 0).val % 1, Nat.mod_lt _ (by decide)⟩ : Fin 1) (i 1) (i 2))

/-! ## What a point stores -/

theorem pay_grad (g : Vec Ideal S1x32x3712 .f32) (y : S1x32x3712.Idx) : k0_pay5 g y = g y := by
  pointwise [k0_pay5, k0_pay4]

theorem pay_mom (g a : Vec Ideal S1x32x3712 .f32) (y : S1x32x3712.Idx) :
    k0_pay2 (k0_pay6 g a) y = AdamW.mom (g y) (a y) := by
  unfold AdamW.mom
  pointwise [k0_pay2, k0_pay6, k0_pay4]

theorem pay_sec (g b : Vec Ideal S1x32x3712 .f32) (y : S1x32x3712.Idx) :
    k0_pay3 (k0_pay7 g b) y = AdamW.sec (g y) (b y) := by
  unfold AdamW.sec
  pointwise [k0_pay3, k0_pay7, k0_pay4]

theorem pay_upd (g w a b : Vec Ideal S1x32x3712 .f32) (y : S1x32x3712.Idx) :
    k0_pay1 (k0_pay8 g w a b) (Scalar.ofBits .f32 0xBA83126F#32) y
      = AdamW.upd (w y) (g y) (a y) (b y) := by
  unfold AdamW.upd AdamW.mom AdamW.sec
  pointwise [k0_pay1, k0_pay8, k0_pay7, k0_pay6, k0_pay4]

variable (m : (ℓ : Loc nD τ sig) → Buf (Elt Ideal) ℓ)

/-! ## The blocks -/

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

theorem V_out0 (c : Dev nD) : V m c main_v0_0 = m ((c : Thread nD τ).loc main_arg4) := by
  unfold V hostOps0
  after_results
  rfl

theorem V_out1 (c : Dev nD) : V m c main_v0_1 = m ((c : Thread nD τ).loc main_arg5) := by
  unfold V hostOps0
  after_results
  rfl

theorem V_out2 (c : Dev nD) : V m c main_v0_2 = m ((c : Thread nD τ).loc main_arg6) := by
  unfold V hostOps0
  after_results
  rfl

theorem V_out3 (c : Dev nD) : V m c main_v0_3 = m ((c : Thread nD τ).loc main_arg7) := by
  unfold V hostOps0
  after_results
  rfl

/-- The array of window 4. -/
def Grad (g : S1x2048x3712.Idx → EReal) (c : S4x2048x3712.Idx → EReal) : S4x2048x3712.Idx → EReal := first (row g) c

theorem final4 (c : Dev nD) : (dats m 0 c).arrAt 4 cfg0.N = Grad (m ((c : Thread nD τ).loc main_arg1)) (m ((c : Thread nD τ).loc main_arg4)) := by
  refine ((dats m 0 c).arrAt_eq_of_coversWhere 4 (row (m ((c : Thread nD τ).loc main_arg1))) (P := fun i => (i 0).val < 1) (fun β => β 0 < 1) (by decide +kernel)
    (fun t hf y => ?_) (fun j => ?_)).trans (funext fun i => ?_)
  · blk_simp
    rw [after0_4]
    unfold outsAt0
    frame_out
    rw [pay_grad]
    rw [← V_main_arg1 m c]
    have e1 : iblk m c 1 t y = row (V m c main_arg1) (((cfg0.win 4).blk t).view.emb y) := by
      unfold row
      blk_simp [iblk]; exact congrArg _ (by blk_ext [idx1 t, idx4 t])
    rw [e1]
  · blk_simp [Pipeline.Window.cell_apply]
    rw [Nat.div_one]
  · unfold Grad first
    exact congrArg (fun z => if (i 0).val < 1 then _ else z) (congrFun ((A_eq m c 4).trans (V_out0 m c)) i)

/-- The array of window 5. -/
def Upd (w : S4x2048x3712.Idx → EReal) (g : S1x2048x3712.Idx → EReal) (a : S4x2048x3712.Idx → EReal) (b : S4x2048x3712.Idx → EReal) (c : S4x2048x3712.Idx → EReal) : S4x2048x3712.Idx → EReal := first (fun i => AdamW.upd (w i) (row g i) (a i) (b i)) c

theorem final5 (c : Dev nD) : (dats m 0 c).arrAt 5 cfg0.N = Upd (m ((c : Thread nD τ).loc main_arg0)) (m ((c : Thread nD τ).loc main_arg1)) (m ((c : Thread nD τ).loc main_arg2)) (m ((c : Thread nD τ).loc main_arg3)) (m ((c : Thread nD τ).loc main_arg5)) := by
  refine ((dats m 0 c).arrAt_eq_of_coversWhere 5 (fun i => AdamW.upd ((m ((c : Thread nD τ).loc main_arg0)) i) (row (m ((c : Thread nD τ).loc main_arg1)) i) ((m ((c : Thread nD τ).loc main_arg2)) i) ((m ((c : Thread nD τ).loc main_arg3)) i)) (P := fun i => (i 0).val < 1) (fun β => β 0 < 1) (by decide +kernel)
    (fun t hf y => ?_) (fun j => ?_)).trans (funext fun i => ?_)
  · blk_simp
    rw [after0_5]
    unfold outsAt0
    frame_out
    rw [pay_upd]
    rw [← V_main_arg0 m c, ← V_main_arg1 m c, ← V_main_arg2 m c, ← V_main_arg3 m c]
    have e0 : iblk m c 0 t y = V m c main_arg0 (((cfg0.win 5).blk t).view.emb y) := by
      blk_simp [iblk]; exact congrArg _ (by blk_ext [idx0 t, idx5 t])
    have e1 : iblk m c 1 t y = row (V m c main_arg1) (((cfg0.win 5).blk t).view.emb y) := by
      unfold row
      blk_simp [iblk]; exact congrArg _ (by blk_ext [idx1 t, idx5 t])
    have e2 : iblk m c 2 t y = V m c main_arg2 (((cfg0.win 5).blk t).view.emb y) := by
      blk_simp [iblk]; exact congrArg _ (by blk_ext [idx2 t, idx5 t])
    have e3 : iblk m c 3 t y = V m c main_arg3 (((cfg0.win 5).blk t).view.emb y) := by
      blk_simp [iblk]; exact congrArg _ (by blk_ext [idx3 t, idx5 t])
    rw [e0, e1, e2, e3]
  · blk_simp [Pipeline.Window.cell_apply]
    rw [Nat.div_one]
  · unfold Upd first
    exact congrArg (fun z => if (i 0).val < 1 then _ else z) (congrFun ((A_eq m c 5).trans (V_out1 m c)) i)

/-- The array of window 6. -/
def Mom (g : S1x2048x3712.Idx → EReal) (a : S4x2048x3712.Idx → EReal) (c : S4x2048x3712.Idx → EReal) : S4x2048x3712.Idx → EReal := first (fun i => AdamW.mom (row g i) (a i)) c

theorem final6 (c : Dev nD) : (dats m 0 c).arrAt 6 cfg0.N = Mom (m ((c : Thread nD τ).loc main_arg1)) (m ((c : Thread nD τ).loc main_arg2)) (m ((c : Thread nD τ).loc main_arg6)) := by
  refine ((dats m 0 c).arrAt_eq_of_coversWhere 6 (fun i => AdamW.mom (row (m ((c : Thread nD τ).loc main_arg1)) i) ((m ((c : Thread nD τ).loc main_arg2)) i)) (P := fun i => (i 0).val < 1) (fun β => β 0 < 1) (by decide +kernel)
    (fun t hf y => ?_) (fun j => ?_)).trans (funext fun i => ?_)
  · blk_simp
    rw [after0_6]
    unfold outsAt0
    frame_out
    rw [pay_mom]
    rw [← V_main_arg1 m c, ← V_main_arg2 m c]
    have e1 : iblk m c 1 t y = row (V m c main_arg1) (((cfg0.win 6).blk t).view.emb y) := by
      unfold row
      blk_simp [iblk]; exact congrArg _ (by blk_ext [idx1 t, idx6 t])
    have e2 : iblk m c 2 t y = V m c main_arg2 (((cfg0.win 6).blk t).view.emb y) := by
      blk_simp [iblk]; exact congrArg _ (by blk_ext [idx2 t, idx6 t])
    rw [e1, e2]
  · blk_simp [Pipeline.Window.cell_apply]
    rw [Nat.div_one]
  · unfold Mom first
    exact congrArg (fun z => if (i 0).val < 1 then _ else z) (congrFun ((A_eq m c 6).trans (V_out2 m c)) i)

/-- The array of window 7. -/
def Sec (g : S1x2048x3712.Idx → EReal) (b : S4x2048x3712.Idx → EReal) (c : S4x2048x3712.Idx → EReal) : S4x2048x3712.Idx → EReal := first (fun i => AdamW.sec (row g i) (b i)) c

theorem final7 (c : Dev nD) : (dats m 0 c).arrAt 7 cfg0.N = Sec (m ((c : Thread nD τ).loc main_arg1)) (m ((c : Thread nD τ).loc main_arg3)) (m ((c : Thread nD τ).loc main_arg7)) := by
  refine ((dats m 0 c).arrAt_eq_of_coversWhere 7 (fun i => AdamW.sec (row (m ((c : Thread nD τ).loc main_arg1)) i) ((m ((c : Thread nD τ).loc main_arg3)) i)) (P := fun i => (i 0).val < 1) (fun β => β 0 < 1) (by decide +kernel)
    (fun t hf y => ?_) (fun j => ?_)).trans (funext fun i => ?_)
  · blk_simp
    rw [after0_7]
    unfold outsAt0
    frame_out
    rw [pay_sec]
    rw [← V_main_arg1 m c, ← V_main_arg3 m c]
    have e1 : iblk m c 1 t y = row (V m c main_arg1) (((cfg0.win 7).blk t).view.emb y) := by
      unfold row
      blk_simp [iblk]; exact congrArg _ (by blk_ext [idx1 t, idx7 t])
    have e3 : iblk m c 3 t y = V m c main_arg3 (((cfg0.win 7).blk t).view.emb y) := by
      blk_simp [iblk]; exact congrArg _ (by blk_ext [idx3 t, idx7 t])
    rw [e1, e3]
  · blk_simp [Pipeline.Window.cell_apply]
    rw [Nat.div_one]
  · unfold Sec first
    exact congrArg (fun z => if (i 0).val < 1 then _ else z) (congrFun ((A_eq m c 7).trans (V_out3 m c)) i)

theorem row_of (g : S1x2048x3712.Idx → EReal) (i : S4x2048x3712.Idx) (h : (i 0).val < 1) :
    row g i = g (ix3 ⟨(i 0).val, h⟩ (i 1) (i 2)) :=
  congrArg (fun z : Fin 1 => g (ix3 z (i 1) (i 2))) (Fin.ext (Nat.mod_eq_of_lt h))

theorem rest_of (i : S4x2048x3712.Idx) (h : ¬ (i 0).val < 1) (h' : 1 + ((i 0).val - 1) < 4) :
    ix3 ⟨1 + ((i 0).val - 1), h'⟩ (i 1) (i 2) = i := by
  funext a
  match a with
  | 0 => exact Fin.ext (Nat.add_sub_cancel' (Nat.le_of_not_lt h))
  | 1 => rfl
  | 2 => rfl

/-! ## The reference -/

theorem ref_grad (w : FVec Ideal S4x2048x3712 .f32) (g : FVec Ideal S1x2048x3712 .f32) (m v cg cd cm cv : FVec Ideal S4x2048x3712 .f32) :
    concatenate Cert.Reference10Ideal.S4x2048x3712 0 [⟨Cert.Reference10Ideal.S1x2048x3712, g⟩, ⟨Cert.Reference10Ideal.S3x2048x3712, (extractStridedSlice Cert.Reference10Ideal.S3x2048x3712 ![1, 0, 0] cg Cert.Reference10Ideal.Facts₀.slices_S4x2048x3712_S3x2048x3712_1_0_0)⟩] Cert.Reference10Ideal.Facts₀.concatenates_S1x2048x3712_S3x2048x3712_S4x2048x3712_d0 = Grad g cg := by
  funext i
  unfold Grad first
  simp only [AdamW.upd, AdamW.mom, AdamW.sec]
  pointwise
  by_cases h : (i 0).val < 1
  · rw [dif_pos h, if_pos h, row_of g i h]
  · rw [dif_neg h, if_neg h]
    exact congrArg cg (rest_of i h _)

theorem ref_upd (w : FVec Ideal S4x2048x3712 .f32) (g : FVec Ideal S1x2048x3712 .f32) (m v cg cd cm cv : FVec Ideal S4x2048x3712 .f32) :
    concatenate Cert.Reference10Ideal.S4x2048x3712 0 [⟨Cert.Reference10Ideal.S1x2048x3712, (mulf (broadcastInDim Cert.Reference10Ideal.S1x2048x3712 ![] Cert.Reference10Ideal.Facts₀.bcast_S_S1x2048x3712 (constant Cert.Reference10Ideal.S_ .f32 0xBA83126F#32)) (addf (Host.divf (Host.divf (addf (mulf (broadcastInDim Cert.Reference10Ideal.S1x2048x3712 ![] Cert.Reference10Ideal.Facts₀.bcast_S_S1x2048x3712 (constant Cert.Reference10Ideal.S_ .f32 0x3F666666#32)) (extractStridedSlice Cert.Reference10Ideal.S1x2048x3712 ![0, 0, 0] m Cert.Reference10Ideal.Facts₀.slices_S4x2048x3712_S1x2048x3712_0_0_0)) (mulf (broadcastInDim Cert.Reference10Ideal.S1x2048x3712 ![] Cert.Reference10Ideal.Facts₀.bcast_S_S1x2048x3712 (constant Cert.Reference10Ideal.S_ .f32 0x3DCCCCCD#32)) g)) (broadcastInDim Cert.Reference10Ideal.S1x2048x3712 ![] Cert.Reference10Ideal.Facts₀.bcast_S_S1x2048x3712 (constant Cert.Reference10Ideal.S_ .f32 0x3F26BD02#32))) (addf (Host.sqrt (Host.divf (addf (mulf (broadcastInDim Cert.Reference10Ideal.S1x2048x3712 ![] Cert.Reference10Ideal.Facts₀.bcast_S_S1x2048x3712 (constant Cert.Reference10Ideal.S_ .f32 0x3F7FBE77#32)) (extractStridedSlice Cert.Reference10Ideal.S1x2048x3712 ![0, 0, 0] v Cert.Reference10Ideal.Facts₀.slices_S4x2048x3712_S1x2048x3712_0_0_0)) (mulf (broadcastInDim Cert.Reference10Ideal.S1x2048x3712 ![] Cert.Reference10Ideal.Facts₀.bcast_S_S1x2048x3712 (constant Cert.Reference10Ideal.S_ .f32 0x3A83126F#32)) (mulf g g))) (broadcastInDim Cert.Reference10Ideal.S1x2048x3712 ![] Cert.Reference10Ideal.Facts₀.bcast_S_S1x2048x3712 (constant Cert.Reference10Ideal.S_ .f32 0x3C231ACC#32)))) (broadcastInDim Cert.Reference10Ideal.S1x2048x3712 ![] Cert.Reference10Ideal.Facts₀.bcast_S_S1x2048x3712 (constant Cert.Reference10Ideal.S_ .f32 0x322BCC77#32)))) (mulf (broadcastInDim Cert.Reference10Ideal.S1x2048x3712 ![] Cert.Reference10Ideal.Facts₀.bcast_S_S1x2048x3712 (constant Cert.Reference10Ideal.S_ .f32 0x3C23D70A#32)) (extractStridedSlice Cert.Reference10Ideal.S1x2048x3712 ![0, 0, 0] w Cert.Reference10Ideal.Facts₀.slices_S4x2048x3712_S1x2048x3712_0_0_0))))⟩, ⟨Cert.Reference10Ideal.S3x2048x3712, (extractStridedSlice Cert.Reference10Ideal.S3x2048x3712 ![1, 0, 0] cd Cert.Reference10Ideal.Facts₀.slices_S4x2048x3712_S3x2048x3712_1_0_0)⟩] Cert.Reference10Ideal.Facts₀.concatenates_S1x2048x3712_S3x2048x3712_S4x2048x3712_d0 = Upd w g m v cd := by
  funext i
  unfold Upd first
  simp only [AdamW.upd, AdamW.mom, AdamW.sec]
  pointwise
  by_cases h : (i 0).val < 1
  · rw [dif_pos h, if_pos h, row_of g i h]
  · rw [dif_neg h, if_neg h]
    exact congrArg cd (rest_of i h _)

theorem ref_mom (w : FVec Ideal S4x2048x3712 .f32) (g : FVec Ideal S1x2048x3712 .f32) (m v cg cd cm cv : FVec Ideal S4x2048x3712 .f32) :
    concatenate Cert.Reference10Ideal.S4x2048x3712 0 [⟨Cert.Reference10Ideal.S1x2048x3712, (addf (mulf (broadcastInDim Cert.Reference10Ideal.S1x2048x3712 ![] Cert.Reference10Ideal.Facts₀.bcast_S_S1x2048x3712 (constant Cert.Reference10Ideal.S_ .f32 0x3F666666#32)) (extractStridedSlice Cert.Reference10Ideal.S1x2048x3712 ![0, 0, 0] m Cert.Reference10Ideal.Facts₀.slices_S4x2048x3712_S1x2048x3712_0_0_0)) (mulf (broadcastInDim Cert.Reference10Ideal.S1x2048x3712 ![] Cert.Reference10Ideal.Facts₀.bcast_S_S1x2048x3712 (constant Cert.Reference10Ideal.S_ .f32 0x3DCCCCCD#32)) g))⟩, ⟨Cert.Reference10Ideal.S3x2048x3712, (extractStridedSlice Cert.Reference10Ideal.S3x2048x3712 ![1, 0, 0] cm Cert.Reference10Ideal.Facts₀.slices_S4x2048x3712_S3x2048x3712_1_0_0)⟩] Cert.Reference10Ideal.Facts₀.concatenates_S1x2048x3712_S3x2048x3712_S4x2048x3712_d0 = Mom g m cm := by
  funext i
  unfold Mom first
  simp only [AdamW.upd, AdamW.mom, AdamW.sec]
  pointwise
  by_cases h : (i 0).val < 1
  · rw [dif_pos h, if_pos h, row_of g i h]
  · rw [dif_neg h, if_neg h]
    exact congrArg cm (rest_of i h _)

theorem ref_sec (w : FVec Ideal S4x2048x3712 .f32) (g : FVec Ideal S1x2048x3712 .f32) (m v cg cd cm cv : FVec Ideal S4x2048x3712 .f32) :
    concatenate Cert.Reference10Ideal.S4x2048x3712 0 [⟨Cert.Reference10Ideal.S1x2048x3712, (addf (mulf (broadcastInDim Cert.Reference10Ideal.S1x2048x3712 ![] Cert.Reference10Ideal.Facts₀.bcast_S_S1x2048x3712 (constant Cert.Reference10Ideal.S_ .f32 0x3F7FBE77#32)) (extractStridedSlice Cert.Reference10Ideal.S1x2048x3712 ![0, 0, 0] v Cert.Reference10Ideal.Facts₀.slices_S4x2048x3712_S1x2048x3712_0_0_0)) (mulf (broadcastInDim Cert.Reference10Ideal.S1x2048x3712 ![] Cert.Reference10Ideal.Facts₀.bcast_S_S1x2048x3712 (constant Cert.Reference10Ideal.S_ .f32 0x3A83126F#32)) (mulf g g)))⟩, ⟨Cert.Reference10Ideal.S3x2048x3712, (extractStridedSlice Cert.Reference10Ideal.S3x2048x3712 ![1, 0, 0] cv Cert.Reference10Ideal.Facts₀.slices_S4x2048x3712_S3x2048x3712_1_0_0)⟩] Cert.Reference10Ideal.Facts₀.concatenates_S1x2048x3712_S3x2048x3712_S4x2048x3712_d0 = Sec g v cv := by
  funext i
  unfold Sec first
  simp only [AdamW.upd, AdamW.mom, AdamW.sec]
  pointwise
  by_cases h : (i 0).val < 1
  · rw [dif_pos h, if_pos h, row_of g i h]
  · rw [dif_neg h, if_neg h]
    exact congrArg cv (rest_of i h _)

/-- The two programs end with equal results. -/
theorem algebraic : Cert.algebraic_Kernel10Ideal_Reference10Ideal := by
  intro m g m' g' _ hargs
  refine ⟨fun c => Grad (m ((c : Thread nD τ).loc main_arg1)) (m ((c : Thread nD τ).loc main_arg4)), fun c => Upd (m ((c : Thread nD τ).loc main_arg0)) (m ((c : Thread nD τ).loc main_arg1)) (m ((c : Thread nD τ).loc main_arg2)) (m ((c : Thread nD τ).loc main_arg3)) (m ((c : Thread nD τ).loc main_arg5)),
    fun c => Mom (m ((c : Thread nD τ).loc main_arg1)) (m ((c : Thread nD τ).loc main_arg2)) (m ((c : Thread nD τ).loc main_arg6)), fun c => Sec (m ((c : Thread nD τ).loc main_arg1)) (m ((c : Thread nD τ).loc main_arg3)) (m ((c : Thread nD τ).loc main_arg7)), ?_, ?_⟩
  · exact (θ_run defs _ _).mono (fun r h c => ⟨(h c).1.trans (final4 m c), (h c).2.1.trans (final5 m c),
      (h c).2.2.1.trans (final6 m c), (h c).2.2.2.1.trans (final7 m c), (h c).2.2.2.2⟩) (run_blocks m g)
  · refine (θ_run Cert.Reference10Ideal.defs _ _).mono (fun r h c => ⟨(h c).1.trans ?_, (h c).2.1.trans ?_,
      (h c).2.2.1.trans ?_, (h c).2.2.2.1.trans ?_, (h c).2.2.2.2⟩)
      (Cert.Reference10Ideal.Value.run m' g')
    all_goals obtain ⟨e0, e1, e2, e3, e4, e5, e6, e7⟩ := hargs c
    · rw [e1, e4]
      exact ref_grad (m ((c : Thread nD τ).loc main_arg0)) _ (m ((c : Thread nD τ).loc main_arg2)) (m ((c : Thread nD τ).loc main_arg3)) _ (m ((c : Thread nD τ).loc main_arg5)) (m ((c : Thread nD τ).loc main_arg6)) (m ((c : Thread nD τ).loc main_arg7))
    · rw [e0, e1, e2, e3, e5]
      exact ref_upd _ _ _ _ (m ((c : Thread nD τ).loc main_arg4)) _ (m ((c : Thread nD τ).loc main_arg6)) (m ((c : Thread nD τ).loc main_arg7))
    · rw [e1, e2, e6]
      exact ref_mom (m ((c : Thread nD τ).loc main_arg0)) _ _ (m ((c : Thread nD τ).loc main_arg3)) (m ((c : Thread nD τ).loc main_arg4)) (m ((c : Thread nD τ).loc main_arg5)) _ (m ((c : Thread nD τ).loc main_arg7))
    · rw [e1, e3, e7]
      exact ref_sec (m ((c : Thread nD τ).loc main_arg0)) _ (m ((c : Thread nD τ).loc main_arg2)) _ (m ((c : Thread nD τ).loc main_arg4)) (m ((c : Thread nD τ).loc main_arg5)) (m ((c : Thread nD τ).loc main_arg6)) _

end Cert.Proof.AdamWIn

end
-- ==== Proof.Products.AdamWBranch.lean ====
/-
  The optimiser's step of the first layer's `w_ret`: what each grid point writes, the four arrays the grid fills in the first
  layer's rows, and the reference's terms.
-/
module

public import proofs.«01_k».proof.Proof.Gen.Kernel11Ideal.Value
public import proofs.«01_k».proof.Proof.Gen.Reference11Ideal.Run
public import proofs.«01_k».proof.Proof.Products.AdamW
public import proofs.«01_k».proof.Defs
public import Idealize.ShloMosaic.Lib.Pipeline.ValueKit.Geometry
public import Idealize.ShloMosaic.Lib.Pipeline.ValueKit.Acc
public import Idealize.ShloMosaic.Lib.Pipeline.ValueKit.Partial
public import Idealize.ShloMosaic.Lib.Pointwise

@[expose] public section

set_option maxRecDepth 16384

noncomputable section

namespace Cert.Proof.AdamWBranch

open Cert.Kernel11Ideal Cert.Kernel11Ideal.Gen Cert.Kernel11Ideal.Value Idealize.ShloMosaic Idealize.ShloMosaic.TcCoe
open Idealize.SL.Sem

/-- `f` in the first layer's rows, the carried array in the others. -/
def first (f c : S4x1024x512.Idx → EReal) : S4x1024x512.Idx → EReal := fun i => if (i 0).val < 1 then f i else c i

/-- The gradient's entry for a row of the first layer. -/
def row (g : S1x1024x512.Idx → EReal) (i : S4x1024x512.Idx) : EReal := g (ix3 (⟨(i 0).val % 1, Nat.mod_lt _ (by decide)⟩ : Fin 1) (i 1) (i 2))

/-! ## What a point stores -/

theorem pay_grad (g : Vec Ideal S1x256x512 .f32) (y : S1x256x512.Idx) : k0_pay5 g y = g y := by
  pointwise [k0_pay5, k0_pay4]

theorem pay_mom (g a : Vec Ideal S1x256x512 .f32) (y : S1x256x512.Idx) :
    k0_pay2 (k0_pay6 g a) y = AdamW.mom (g y) (a y) := by
  unfold AdamW.mom
  pointwise [k0_pay2, k0_pay6, k0_pay4]

theorem pay_sec (g b : Vec Ideal S1x256x512 .f32) (y : S1x256x512.Idx) :
    k0_pay3 (k0_pay7 g b) y = AdamW.sec (g y) (b y) := by
  unfold AdamW.sec
  pointwise [k0_pay3, k0_pay7, k0_pay4]

theorem pay_upd (g w a b : Vec Ideal S1x256x512 .f32) (y : S1x256x512.Idx) :
    k0_pay1 (k0_pay8 g w a b) (Scalar.ofBits .f32 0xBA83126F#32) y
      = AdamW.upd (w y) (g y) (a y) (b y) := by
  unfold AdamW.upd AdamW.mom AdamW.sec
  pointwise [k0_pay1, k0_pay8, k0_pay7, k0_pay6, k0_pay4]

variable (m : (ℓ : Loc nD τ sig) → Buf (Elt Ideal) ℓ)

/-! ## The blocks -/

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

theorem V_out0 (c : Dev nD) : V m c main_v0_0 = m ((c : Thread nD τ).loc main_arg4) := by
  unfold V hostOps0
  after_results
  rfl

theorem V_out1 (c : Dev nD) : V m c main_v0_1 = m ((c : Thread nD τ).loc main_arg5) := by
  unfold V hostOps0
  after_results
  rfl

theorem V_out2 (c : Dev nD) : V m c main_v0_2 = m ((c : Thread nD τ).loc main_arg6) := by
  unfold V hostOps0
  after_results
  rfl

theorem V_out3 (c : Dev nD) : V m c main_v0_3 = m ((c : Thread nD τ).loc main_arg7) := by
  unfold V hostOps0
  after_results
  rfl

/-- The array of window 4. -/
def Grad (g : S1x1024x512.Idx → EReal) (c : S4x1024x512.Idx → EReal) : S4x1024x512.Idx → EReal := first (row g) c

theorem final4 (c : Dev nD) : (dats m 0 c).arrAt 4 cfg0.N = Grad (m ((c : Thread nD τ).loc main_arg1)) (m ((c : Thread nD τ).loc main_arg4)) := by
  refine ((dats m 0 c).arrAt_eq_of_coversWhere 4 (row (m ((c : Thread nD τ).loc main_arg1))) (P := fun i => (i 0).val < 1) (fun β => β 0 < 1) (by decide +kernel)
    (fun t hf y => ?_) (fun j => ?_)).trans (funext fun i => ?_)
  · blk_simp
    rw [after0_4]
    unfold outsAt0
    frame_out
    rw [pay_grad]
    rw [← V_main_arg1 m c]
    have e1 : iblk m c 1 t y = row (V m c main_arg1) (((cfg0.win 4).blk t).view.emb y) := by
      unfold row
      blk_simp [iblk]; exact congrArg _ (by blk_ext [idx1 t, idx4 t])
    rw [e1]
  · blk_simp [Pipeline.Window.cell_apply]
    rw [Nat.div_one]
  · unfold Grad first
    exact congrArg (fun z => if (i 0).val < 1 then _ else z) (congrFun ((A_eq m c 4).trans (V_out0 m c)) i)

/-- The array of window 5. -/
def Upd (w : S4x1024x512.Idx → EReal) (g : S1x1024x512.Idx → EReal) (a : S4x1024x512.Idx → EReal) (b : S4x1024x512.Idx → EReal) (c : S4x1024x512.Idx → EReal) : S4x1024x512.Idx → EReal := first (fun i => AdamW.upd (w i) (row g i) (a i) (b i)) c

theorem final5 (c : Dev nD) : (dats m 0 c).arrAt 5 cfg0.N = Upd (m ((c : Thread nD τ).loc main_arg0)) (m ((c : Thread nD τ).loc main_arg1)) (m ((c : Thread nD τ).loc main_arg2)) (m ((c : Thread nD τ).loc main_arg3)) (m ((c : Thread nD τ).loc main_arg5)) := by
  refine ((dats m 0 c).arrAt_eq_of_coversWhere 5 (fun i => AdamW.upd ((m ((c : Thread nD τ).loc main_arg0)) i) (row (m ((c : Thread nD τ).loc main_arg1)) i) ((m ((c : Thread nD τ).loc main_arg2)) i) ((m ((c : Thread nD τ).loc main_arg3)) i)) (P := fun i => (i 0).val < 1) (fun β => β 0 < 1) (by decide +kernel)
    (fun t hf y => ?_) (fun j => ?_)).trans (funext fun i => ?_)
  · blk_simp
    rw [after0_5]
    unfold outsAt0
    frame_out
    rw [pay_upd]
    rw [← V_main_arg0 m c, ← V_main_arg1 m c, ← V_main_arg2 m c, ← V_main_arg3 m c]
    have e0 : iblk m c 0 t y = V m c main_arg0 (((cfg0.win 5).blk t).view.emb y) := by
      blk_simp [iblk]; exact congrArg _ (by blk_ext [idx0 t, idx5 t])
    have e1 : iblk m c 1 t y = row (V m c main_arg1) (((cfg0.win 5).blk t).view.emb y) := by
      unfold row
      blk_simp [iblk]; exact congrArg _ (by blk_ext [idx1 t, idx5 t])
    have e2 : iblk m c 2 t y = V m c main_arg2 (((cfg0.win 5).blk t).view.emb y) := by
      blk_simp [iblk]; exact congrArg _ (by blk_ext [idx2 t, idx5 t])
    have e3 : iblk m c 3 t y = V m c main_arg3 (((cfg0.win 5).blk t).view.emb y) := by
      blk_simp [iblk]; exact congrArg _ (by blk_ext [idx3 t, idx5 t])
    rw [e0, e1, e2, e3]
  · blk_simp [Pipeline.Window.cell_apply]
    rw [Nat.div_one]
  · unfold Upd first
    exact congrArg (fun z => if (i 0).val < 1 then _ else z) (congrFun ((A_eq m c 5).trans (V_out1 m c)) i)

/-- The array of window 6. -/
def Mom (g : S1x1024x512.Idx → EReal) (a : S4x1024x512.Idx → EReal) (c : S4x1024x512.Idx → EReal) : S4x1024x512.Idx → EReal := first (fun i => AdamW.mom (row g i) (a i)) c

theorem final6 (c : Dev nD) : (dats m 0 c).arrAt 6 cfg0.N = Mom (m ((c : Thread nD τ).loc main_arg1)) (m ((c : Thread nD τ).loc main_arg2)) (m ((c : Thread nD τ).loc main_arg6)) := by
  refine ((dats m 0 c).arrAt_eq_of_coversWhere 6 (fun i => AdamW.mom (row (m ((c : Thread nD τ).loc main_arg1)) i) ((m ((c : Thread nD τ).loc main_arg2)) i)) (P := fun i => (i 0).val < 1) (fun β => β 0 < 1) (by decide +kernel)
    (fun t hf y => ?_) (fun j => ?_)).trans (funext fun i => ?_)
  · blk_simp
    rw [after0_6]
    unfold outsAt0
    frame_out
    rw [pay_mom]
    rw [← V_main_arg1 m c, ← V_main_arg2 m c]
    have e1 : iblk m c 1 t y = row (V m c main_arg1) (((cfg0.win 6).blk t).view.emb y) := by
      unfold row
      blk_simp [iblk]; exact congrArg _ (by blk_ext [idx1 t, idx6 t])
    have e2 : iblk m c 2 t y = V m c main_arg2 (((cfg0.win 6).blk t).view.emb y) := by
      blk_simp [iblk]; exact congrArg _ (by blk_ext [idx2 t, idx6 t])
    rw [e1, e2]
  · blk_simp [Pipeline.Window.cell_apply]
    rw [Nat.div_one]
  · unfold Mom first
    exact congrArg (fun z => if (i 0).val < 1 then _ else z) (congrFun ((A_eq m c 6).trans (V_out2 m c)) i)

/-- The array of window 7. -/
def Sec (g : S1x1024x512.Idx → EReal) (b : S4x1024x512.Idx → EReal) (c : S4x1024x512.Idx → EReal) : S4x1024x512.Idx → EReal := first (fun i => AdamW.sec (row g i) (b i)) c

theorem final7 (c : Dev nD) : (dats m 0 c).arrAt 7 cfg0.N = Sec (m ((c : Thread nD τ).loc main_arg1)) (m ((c : Thread nD τ).loc main_arg3)) (m ((c : Thread nD τ).loc main_arg7)) := by
  refine ((dats m 0 c).arrAt_eq_of_coversWhere 7 (fun i => AdamW.sec (row (m ((c : Thread nD τ).loc main_arg1)) i) ((m ((c : Thread nD τ).loc main_arg3)) i)) (P := fun i => (i 0).val < 1) (fun β => β 0 < 1) (by decide +kernel)
    (fun t hf y => ?_) (fun j => ?_)).trans (funext fun i => ?_)
  · blk_simp
    rw [after0_7]
    unfold outsAt0
    frame_out
    rw [pay_sec]
    rw [← V_main_arg1 m c, ← V_main_arg3 m c]
    have e1 : iblk m c 1 t y = row (V m c main_arg1) (((cfg0.win 7).blk t).view.emb y) := by
      unfold row
      blk_simp [iblk]; exact congrArg _ (by blk_ext [idx1 t, idx7 t])
    have e3 : iblk m c 3 t y = V m c main_arg3 (((cfg0.win 7).blk t).view.emb y) := by
      blk_simp [iblk]; exact congrArg _ (by blk_ext [idx3 t, idx7 t])
    rw [e1, e3]
  · blk_simp [Pipeline.Window.cell_apply]
    rw [Nat.div_one]
  · unfold Sec first
    exact congrArg (fun z => if (i 0).val < 1 then _ else z) (congrFun ((A_eq m c 7).trans (V_out3 m c)) i)

theorem row_of (g : S1x1024x512.Idx → EReal) (i : S4x1024x512.Idx) (h : (i 0).val < 1) :
    row g i = g (ix3 ⟨(i 0).val, h⟩ (i 1) (i 2)) :=
  congrArg (fun z : Fin 1 => g (ix3 z (i 1) (i 2))) (Fin.ext (Nat.mod_eq_of_lt h))

theorem rest_of (i : S4x1024x512.Idx) (h : ¬ (i 0).val < 1) (h' : 1 + ((i 0).val - 1) < 4) :
    ix3 ⟨1 + ((i 0).val - 1), h'⟩ (i 1) (i 2) = i := by
  funext a
  match a with
  | 0 => exact Fin.ext (Nat.add_sub_cancel' (Nat.le_of_not_lt h))
  | 1 => rfl
  | 2 => rfl

/-! ## The reference -/

theorem ref_grad (w : FVec Ideal S4x1024x512 .f32) (g : FVec Ideal S1x1024x512 .f32) (m v cg cd cm cv : FVec Ideal S4x1024x512 .f32) :
    concatenate Cert.Reference11Ideal.S4x1024x512 0 [⟨Cert.Reference11Ideal.S1x1024x512, g⟩, ⟨Cert.Reference11Ideal.S3x1024x512, (extractStridedSlice Cert.Reference11Ideal.S3x1024x512 ![1, 0, 0] cg Cert.Reference11Ideal.Facts₀.slices_S4x1024x512_S3x1024x512_1_0_0)⟩] Cert.Reference11Ideal.Facts₀.concatenates_S1x1024x512_S3x1024x512_S4x1024x512_d0 = Grad g cg := by
  funext i
  unfold Grad first
  simp only [AdamW.upd, AdamW.mom, AdamW.sec]
  pointwise
  by_cases h : (i 0).val < 1
  · rw [dif_pos h, if_pos h, row_of g i h]
  · rw [dif_neg h, if_neg h]
    exact congrArg cg (rest_of i h _)

theorem ref_upd (w : FVec Ideal S4x1024x512 .f32) (g : FVec Ideal S1x1024x512 .f32) (m v cg cd cm cv : FVec Ideal S4x1024x512 .f32) :
    concatenate Cert.Reference11Ideal.S4x1024x512 0 [⟨Cert.Reference11Ideal.S1x1024x512, (mulf (broadcastInDim Cert.Reference11Ideal.S1x1024x512 ![] Cert.Reference11Ideal.Facts₀.bcast_S_S1x1024x512 (constant Cert.Reference11Ideal.S_ .f32 0xBA83126F#32)) (addf (Host.divf (Host.divf (addf (mulf (broadcastInDim Cert.Reference11Ideal.S1x1024x512 ![] Cert.Reference11Ideal.Facts₀.bcast_S_S1x1024x512 (constant Cert.Reference11Ideal.S_ .f32 0x3F666666#32)) (extractStridedSlice Cert.Reference11Ideal.S1x1024x512 ![0, 0, 0] m Cert.Reference11Ideal.Facts₀.slices_S4x1024x512_S1x1024x512_0_0_0)) (mulf (broadcastInDim Cert.Reference11Ideal.S1x1024x512 ![] Cert.Reference11Ideal.Facts₀.bcast_S_S1x1024x512 (constant Cert.Reference11Ideal.S_ .f32 0x3DCCCCCD#32)) g)) (broadcastInDim Cert.Reference11Ideal.S1x1024x512 ![] Cert.Reference11Ideal.Facts₀.bcast_S_S1x1024x512 (constant Cert.Reference11Ideal.S_ .f32 0x3F26BD02#32))) (addf (Host.sqrt (Host.divf (addf (mulf (broadcastInDim Cert.Reference11Ideal.S1x1024x512 ![] Cert.Reference11Ideal.Facts₀.bcast_S_S1x1024x512 (constant Cert.Reference11Ideal.S_ .f32 0x3F7FBE77#32)) (extractStridedSlice Cert.Reference11Ideal.S1x1024x512 ![0, 0, 0] v Cert.Reference11Ideal.Facts₀.slices_S4x1024x512_S1x1024x512_0_0_0)) (mulf (broadcastInDim Cert.Reference11Ideal.S1x1024x512 ![] Cert.Reference11Ideal.Facts₀.bcast_S_S1x1024x512 (constant Cert.Reference11Ideal.S_ .f32 0x3A83126F#32)) (mulf g g))) (broadcastInDim Cert.Reference11Ideal.S1x1024x512 ![] Cert.Reference11Ideal.Facts₀.bcast_S_S1x1024x512 (constant Cert.Reference11Ideal.S_ .f32 0x3C231ACC#32)))) (broadcastInDim Cert.Reference11Ideal.S1x1024x512 ![] Cert.Reference11Ideal.Facts₀.bcast_S_S1x1024x512 (constant Cert.Reference11Ideal.S_ .f32 0x322BCC77#32)))) (mulf (broadcastInDim Cert.Reference11Ideal.S1x1024x512 ![] Cert.Reference11Ideal.Facts₀.bcast_S_S1x1024x512 (constant Cert.Reference11Ideal.S_ .f32 0x3C23D70A#32)) (extractStridedSlice Cert.Reference11Ideal.S1x1024x512 ![0, 0, 0] w Cert.Reference11Ideal.Facts₀.slices_S4x1024x512_S1x1024x512_0_0_0))))⟩, ⟨Cert.Reference11Ideal.S3x1024x512, (extractStridedSlice Cert.Reference11Ideal.S3x1024x512 ![1, 0, 0] cd Cert.Reference11Ideal.Facts₀.slices_S4x1024x512_S3x1024x512_1_0_0)⟩] Cert.Reference11Ideal.Facts₀.concatenates_S1x1024x512_S3x1024x512_S4x1024x512_d0 = Upd w g m v cd := by
  funext i
  unfold Upd first
  simp only [AdamW.upd, AdamW.mom, AdamW.sec]
  pointwise
  by_cases h : (i 0).val < 1
  · rw [dif_pos h, if_pos h, row_of g i h]
  · rw [dif_neg h, if_neg h]
    exact congrArg cd (rest_of i h _)

theorem ref_mom (w : FVec Ideal S4x1024x512 .f32) (g : FVec Ideal S1x1024x512 .f32) (m v cg cd cm cv : FVec Ideal S4x1024x512 .f32) :
    concatenate Cert.Reference11Ideal.S4x1024x512 0 [⟨Cert.Reference11Ideal.S1x1024x512, (addf (mulf (broadcastInDim Cert.Reference11Ideal.S1x1024x512 ![] Cert.Reference11Ideal.Facts₀.bcast_S_S1x1024x512 (constant Cert.Reference11Ideal.S_ .f32 0x3F666666#32)) (extractStridedSlice Cert.Reference11Ideal.S1x1024x512 ![0, 0, 0] m Cert.Reference11Ideal.Facts₀.slices_S4x1024x512_S1x1024x512_0_0_0)) (mulf (broadcastInDim Cert.Reference11Ideal.S1x1024x512 ![] Cert.Reference11Ideal.Facts₀.bcast_S_S1x1024x512 (constant Cert.Reference11Ideal.S_ .f32 0x3DCCCCCD#32)) g))⟩, ⟨Cert.Reference11Ideal.S3x1024x512, (extractStridedSlice Cert.Reference11Ideal.S3x1024x512 ![1, 0, 0] cm Cert.Reference11Ideal.Facts₀.slices_S4x1024x512_S3x1024x512_1_0_0)⟩] Cert.Reference11Ideal.Facts₀.concatenates_S1x1024x512_S3x1024x512_S4x1024x512_d0 = Mom g m cm := by
  funext i
  unfold Mom first
  simp only [AdamW.upd, AdamW.mom, AdamW.sec]
  pointwise
  by_cases h : (i 0).val < 1
  · rw [dif_pos h, if_pos h, row_of g i h]
  · rw [dif_neg h, if_neg h]
    exact congrArg cm (rest_of i h _)

theorem ref_sec (w : FVec Ideal S4x1024x512 .f32) (g : FVec Ideal S1x1024x512 .f32) (m v cg cd cm cv : FVec Ideal S4x1024x512 .f32) :
    concatenate Cert.Reference11Ideal.S4x1024x512 0 [⟨Cert.Reference11Ideal.S1x1024x512, (addf (mulf (broadcastInDim Cert.Reference11Ideal.S1x1024x512 ![] Cert.Reference11Ideal.Facts₀.bcast_S_S1x1024x512 (constant Cert.Reference11Ideal.S_ .f32 0x3F7FBE77#32)) (extractStridedSlice Cert.Reference11Ideal.S1x1024x512 ![0, 0, 0] v Cert.Reference11Ideal.Facts₀.slices_S4x1024x512_S1x1024x512_0_0_0)) (mulf (broadcastInDim Cert.Reference11Ideal.S1x1024x512 ![] Cert.Reference11Ideal.Facts₀.bcast_S_S1x1024x512 (constant Cert.Reference11Ideal.S_ .f32 0x3A83126F#32)) (mulf g g)))⟩, ⟨Cert.Reference11Ideal.S3x1024x512, (extractStridedSlice Cert.Reference11Ideal.S3x1024x512 ![1, 0, 0] cv Cert.Reference11Ideal.Facts₀.slices_S4x1024x512_S3x1024x512_1_0_0)⟩] Cert.Reference11Ideal.Facts₀.concatenates_S1x1024x512_S3x1024x512_S4x1024x512_d0 = Sec g v cv := by
  funext i
  unfold Sec first
  simp only [AdamW.upd, AdamW.mom, AdamW.sec]
  pointwise
  by_cases h : (i 0).val < 1
  · rw [dif_pos h, if_pos h, row_of g i h]
  · rw [dif_neg h, if_neg h]
    exact congrArg cv (rest_of i h _)

/-- The two programs end with equal results. -/
theorem algebraic : Cert.algebraic_Kernel11Ideal_Reference11Ideal := by
  intro m g m' g' _ hargs
  refine ⟨fun c => Grad (m ((c : Thread nD τ).loc main_arg1)) (m ((c : Thread nD τ).loc main_arg4)), fun c => Upd (m ((c : Thread nD τ).loc main_arg0)) (m ((c : Thread nD τ).loc main_arg1)) (m ((c : Thread nD τ).loc main_arg2)) (m ((c : Thread nD τ).loc main_arg3)) (m ((c : Thread nD τ).loc main_arg5)),
    fun c => Mom (m ((c : Thread nD τ).loc main_arg1)) (m ((c : Thread nD τ).loc main_arg2)) (m ((c : Thread nD τ).loc main_arg6)), fun c => Sec (m ((c : Thread nD τ).loc main_arg1)) (m ((c : Thread nD τ).loc main_arg3)) (m ((c : Thread nD τ).loc main_arg7)), ?_, ?_⟩
  · exact (θ_run defs _ _).mono (fun r h c => ⟨(h c).1.trans (final4 m c), (h c).2.1.trans (final5 m c),
      (h c).2.2.1.trans (final6 m c), (h c).2.2.2.1.trans (final7 m c), (h c).2.2.2.2⟩) (run_blocks m g)
  · refine (θ_run Cert.Reference11Ideal.defs _ _).mono (fun r h c => ⟨(h c).1.trans ?_, (h c).2.1.trans ?_,
      (h c).2.2.1.trans ?_, (h c).2.2.2.1.trans ?_, (h c).2.2.2.2⟩)
      (Cert.Reference11Ideal.Value.run m' g')
    all_goals obtain ⟨e0, e1, e2, e3, e4, e5, e6, e7⟩ := hargs c
    · rw [e1, e4]
      exact ref_grad (m ((c : Thread nD τ).loc main_arg0)) _ (m ((c : Thread nD τ).loc main_arg2)) (m ((c : Thread nD τ).loc main_arg3)) _ (m ((c : Thread nD τ).loc main_arg5)) (m ((c : Thread nD τ).loc main_arg6)) (m ((c : Thread nD τ).loc main_arg7))
    · rw [e0, e1, e2, e3, e5]
      exact ref_upd _ _ _ _ (m ((c : Thread nD τ).loc main_arg4)) _ (m ((c : Thread nD τ).loc main_arg6)) (m ((c : Thread nD τ).loc main_arg7))
    · rw [e1, e2, e6]
      exact ref_mom (m ((c : Thread nD τ).loc main_arg0)) _ _ (m ((c : Thread nD τ).loc main_arg3)) (m ((c : Thread nD τ).loc main_arg4)) (m ((c : Thread nD τ).loc main_arg5)) _ (m ((c : Thread nD τ).loc main_arg7))
    · rw [e1, e3, e7]
      exact ref_sec (m ((c : Thread nD τ).loc main_arg0)) _ (m ((c : Thread nD τ).loc main_arg2)) _ (m ((c : Thread nD τ).loc main_arg4)) (m ((c : Thread nD τ).loc main_arg5)) (m ((c : Thread nD τ).loc main_arg6)) _

end Cert.Proof.AdamWBranch

end
-- ==== Proof.Products.AdamWOut.lean ====
/-
  The optimiser's step of the first layer's `w_out`: what each grid point writes, the four arrays the grid fills in the first
  layer's rows, and the reference's terms.
-/
module

public import proofs.«01_k».proof.Proof.Gen.Kernel12Ideal.Value
public import proofs.«01_k».proof.Proof.Gen.Reference12Ideal.Run
public import proofs.«01_k».proof.Proof.Products.AdamW
public import proofs.«01_k».proof.Defs
public import Idealize.ShloMosaic.Lib.Pipeline.ValueKit.Geometry
public import Idealize.ShloMosaic.Lib.Pipeline.ValueKit.Acc
public import Idealize.ShloMosaic.Lib.Pipeline.ValueKit.Partial
public import Idealize.ShloMosaic.Lib.Pointwise

@[expose] public section

set_option maxRecDepth 16384

noncomputable section

namespace Cert.Proof.AdamWOut

open Cert.Kernel12Ideal Cert.Kernel12Ideal.Gen Cert.Kernel12Ideal.Value Idealize.ShloMosaic Idealize.ShloMosaic.TcCoe
open Idealize.SL.Sem

/-- `f` in the first layer's rows, the carried array in the others. -/
def first (f c : S4x512x2048.Idx → EReal) : S4x512x2048.Idx → EReal := fun i => if (i 0).val < 1 then f i else c i

/-- The gradient's entry for a row of the first layer. -/
def row (g : S1x512x2048.Idx → EReal) (i : S4x512x2048.Idx) : EReal := g (ix3 (⟨(i 0).val % 1, Nat.mod_lt _ (by decide)⟩ : Fin 1) (i 1) (i 2))

/-! ## What a point stores -/

theorem pay_grad (g : Vec Ideal S1x64x2048 .f32) (y : S1x64x2048.Idx) : k0_pay5 g y = g y := by
  pointwise [k0_pay5, k0_pay4]

theorem pay_mom (g a : Vec Ideal S1x64x2048 .f32) (y : S1x64x2048.Idx) :
    k0_pay2 (k0_pay6 g a) y = AdamW.mom (g y) (a y) := by
  unfold AdamW.mom
  pointwise [k0_pay2, k0_pay6, k0_pay4]

theorem pay_sec (g b : Vec Ideal S1x64x2048 .f32) (y : S1x64x2048.Idx) :
    k0_pay3 (k0_pay7 g b) y = AdamW.sec (g y) (b y) := by
  unfold AdamW.sec
  pointwise [k0_pay3, k0_pay7, k0_pay4]

theorem pay_upd (g w a b : Vec Ideal S1x64x2048 .f32) (y : S1x64x2048.Idx) :
    k0_pay1 (k0_pay8 g w a b) (Scalar.ofBits .f32 0xBA83126F#32) y
      = AdamW.upd (w y) (g y) (a y) (b y) := by
  unfold AdamW.upd AdamW.mom AdamW.sec
  pointwise [k0_pay1, k0_pay8, k0_pay7, k0_pay6, k0_pay4]

variable (m : (ℓ : Loc nD τ sig) → Buf (Elt Ideal) ℓ)

/-! ## The blocks -/

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

theorem V_out0 (c : Dev nD) : V m c main_v0_0 = m ((c : Thread nD τ).loc main_arg4) := by
  unfold V hostOps0
  after_results
  rfl

theorem V_out1 (c : Dev nD) : V m c main_v0_1 = m ((c : Thread nD τ).loc main_arg5) := by
  unfold V hostOps0
  after_results
  rfl

theorem V_out2 (c : Dev nD) : V m c main_v0_2 = m ((c : Thread nD τ).loc main_arg6) := by
  unfold V hostOps0
  after_results
  rfl

theorem V_out3 (c : Dev nD) : V m c main_v0_3 = m ((c : Thread nD τ).loc main_arg7) := by
  unfold V hostOps0
  after_results
  rfl

/-- The array of window 4. -/
def Grad (g : S1x512x2048.Idx → EReal) (c : S4x512x2048.Idx → EReal) : S4x512x2048.Idx → EReal := first (row g) c

theorem final4 (c : Dev nD) : (dats m 0 c).arrAt 4 cfg0.N = Grad (m ((c : Thread nD τ).loc main_arg1)) (m ((c : Thread nD τ).loc main_arg4)) := by
  refine ((dats m 0 c).arrAt_eq_of_coversWhere 4 (row (m ((c : Thread nD τ).loc main_arg1))) (P := fun i => (i 0).val < 1) (fun β => β 0 < 1) (by decide +kernel)
    (fun t hf y => ?_) (fun j => ?_)).trans (funext fun i => ?_)
  · blk_simp
    rw [after0_4]
    unfold outsAt0
    frame_out
    rw [pay_grad]
    rw [← V_main_arg1 m c]
    have e1 : iblk m c 1 t y = row (V m c main_arg1) (((cfg0.win 4).blk t).view.emb y) := by
      unfold row
      blk_simp [iblk]; exact congrArg _ (by blk_ext [idx1 t, idx4 t])
    rw [e1]
  · blk_simp [Pipeline.Window.cell_apply]
    rw [Nat.div_one]
  · unfold Grad first
    exact congrArg (fun z => if (i 0).val < 1 then _ else z) (congrFun ((A_eq m c 4).trans (V_out0 m c)) i)

/-- The array of window 5. -/
def Upd (w : S4x512x2048.Idx → EReal) (g : S1x512x2048.Idx → EReal) (a : S4x512x2048.Idx → EReal) (b : S4x512x2048.Idx → EReal) (c : S4x512x2048.Idx → EReal) : S4x512x2048.Idx → EReal := first (fun i => AdamW.upd (w i) (row g i) (a i) (b i)) c

theorem final5 (c : Dev nD) : (dats m 0 c).arrAt 5 cfg0.N = Upd (m ((c : Thread nD τ).loc main_arg0)) (m ((c : Thread nD τ).loc main_arg1)) (m ((c : Thread nD τ).loc main_arg2)) (m ((c : Thread nD τ).loc main_arg3)) (m ((c : Thread nD τ).loc main_arg5)) := by
  refine ((dats m 0 c).arrAt_eq_of_coversWhere 5 (fun i => AdamW.upd ((m ((c : Thread nD τ).loc main_arg0)) i) (row (m ((c : Thread nD τ).loc main_arg1)) i) ((m ((c : Thread nD τ).loc main_arg2)) i) ((m ((c : Thread nD τ).loc main_arg3)) i)) (P := fun i => (i 0).val < 1) (fun β => β 0 < 1) (by decide +kernel)
    (fun t hf y => ?_) (fun j => ?_)).trans (funext fun i => ?_)
  · blk_simp
    rw [after0_5]
    unfold outsAt0
    frame_out
    rw [pay_upd]
    rw [← V_main_arg0 m c, ← V_main_arg1 m c, ← V_main_arg2 m c, ← V_main_arg3 m c]
    have e0 : iblk m c 0 t y = V m c main_arg0 (((cfg0.win 5).blk t).view.emb y) := by
      blk_simp [iblk]; exact congrArg _ (by blk_ext [idx0 t, idx5 t])
    have e1 : iblk m c 1 t y = row (V m c main_arg1) (((cfg0.win 5).blk t).view.emb y) := by
      unfold row
      blk_simp [iblk]; exact congrArg _ (by blk_ext [idx1 t, idx5 t])
    have e2 : iblk m c 2 t y = V m c main_arg2 (((cfg0.win 5).blk t).view.emb y) := by
      blk_simp [iblk]; exact congrArg _ (by blk_ext [idx2 t, idx5 t])
    have e3 : iblk m c 3 t y = V m c main_arg3 (((cfg0.win 5).blk t).view.emb y) := by
      blk_simp [iblk]; exact congrArg _ (by blk_ext [idx3 t, idx5 t])
    rw [e0, e1, e2, e3]
  · blk_simp [Pipeline.Window.cell_apply]
    rw [Nat.div_one]
  · unfold Upd first
    exact congrArg (fun z => if (i 0).val < 1 then _ else z) (congrFun ((A_eq m c 5).trans (V_out1 m c)) i)

/-- The array of window 6. -/
def Mom (g : S1x512x2048.Idx → EReal) (a : S4x512x2048.Idx → EReal) (c : S4x512x2048.Idx → EReal) : S4x512x2048.Idx → EReal := first (fun i => AdamW.mom (row g i) (a i)) c

theorem final6 (c : Dev nD) : (dats m 0 c).arrAt 6 cfg0.N = Mom (m ((c : Thread nD τ).loc main_arg1)) (m ((c : Thread nD τ).loc main_arg2)) (m ((c : Thread nD τ).loc main_arg6)) := by
  refine ((dats m 0 c).arrAt_eq_of_coversWhere 6 (fun i => AdamW.mom (row (m ((c : Thread nD τ).loc main_arg1)) i) ((m ((c : Thread nD τ).loc main_arg2)) i)) (P := fun i => (i 0).val < 1) (fun β => β 0 < 1) (by decide +kernel)
    (fun t hf y => ?_) (fun j => ?_)).trans (funext fun i => ?_)
  · blk_simp
    rw [after0_6]
    unfold outsAt0
    frame_out
    rw [pay_mom]
    rw [← V_main_arg1 m c, ← V_main_arg2 m c]
    have e1 : iblk m c 1 t y = row (V m c main_arg1) (((cfg0.win 6).blk t).view.emb y) := by
      unfold row
      blk_simp [iblk]; exact congrArg _ (by blk_ext [idx1 t, idx6 t])
    have e2 : iblk m c 2 t y = V m c main_arg2 (((cfg0.win 6).blk t).view.emb y) := by
      blk_simp [iblk]; exact congrArg _ (by blk_ext [idx2 t, idx6 t])
    rw [e1, e2]
  · blk_simp [Pipeline.Window.cell_apply]
    rw [Nat.div_one]
  · unfold Mom first
    exact congrArg (fun z => if (i 0).val < 1 then _ else z) (congrFun ((A_eq m c 6).trans (V_out2 m c)) i)

/-- The array of window 7. -/
def Sec (g : S1x512x2048.Idx → EReal) (b : S4x512x2048.Idx → EReal) (c : S4x512x2048.Idx → EReal) : S4x512x2048.Idx → EReal := first (fun i => AdamW.sec (row g i) (b i)) c

theorem final7 (c : Dev nD) : (dats m 0 c).arrAt 7 cfg0.N = Sec (m ((c : Thread nD τ).loc main_arg1)) (m ((c : Thread nD τ).loc main_arg3)) (m ((c : Thread nD τ).loc main_arg7)) := by
  refine ((dats m 0 c).arrAt_eq_of_coversWhere 7 (fun i => AdamW.sec (row (m ((c : Thread nD τ).loc main_arg1)) i) ((m ((c : Thread nD τ).loc main_arg3)) i)) (P := fun i => (i 0).val < 1) (fun β => β 0 < 1) (by decide +kernel)
    (fun t hf y => ?_) (fun j => ?_)).trans (funext fun i => ?_)
  · blk_simp
    rw [after0_7]
    unfold outsAt0
    frame_out
    rw [pay_sec]
    rw [← V_main_arg1 m c, ← V_main_arg3 m c]
    have e1 : iblk m c 1 t y = row (V m c main_arg1) (((cfg0.win 7).blk t).view.emb y) := by
      unfold row
      blk_simp [iblk]; exact congrArg _ (by blk_ext [idx1 t, idx7 t])
    have e3 : iblk m c 3 t y = V m c main_arg3 (((cfg0.win 7).blk t).view.emb y) := by
      blk_simp [iblk]; exact congrArg _ (by blk_ext [idx3 t, idx7 t])
    rw [e1, e3]
  · blk_simp [Pipeline.Window.cell_apply]
    rw [Nat.div_one]
  · unfold Sec first
    exact congrArg (fun z => if (i 0).val < 1 then _ else z) (congrFun ((A_eq m c 7).trans (V_out3 m c)) i)

theorem row_of (g : S1x512x2048.Idx → EReal) (i : S4x512x2048.Idx) (h : (i 0).val < 1) :
    row g i = g (ix3 ⟨(i 0).val, h⟩ (i 1) (i 2)) :=
  congrArg (fun z : Fin 1 => g (ix3 z (i 1) (i 2))) (Fin.ext (Nat.mod_eq_of_lt h))

theorem rest_of (i : S4x512x2048.Idx) (h : ¬ (i 0).val < 1) (h' : 1 + ((i 0).val - 1) < 4) :
    ix3 ⟨1 + ((i 0).val - 1), h'⟩ (i 1) (i 2) = i := by
  funext a
  match a with
  | 0 => exact Fin.ext (Nat.add_sub_cancel' (Nat.le_of_not_lt h))
  | 1 => rfl
  | 2 => rfl

/-! ## The reference -/

theorem ref_grad (w : FVec Ideal S4x512x2048 .f32) (g : FVec Ideal S1x512x2048 .f32) (m v cg cd cm cv : FVec Ideal S4x512x2048 .f32) :
    concatenate Cert.Reference12Ideal.S4x512x2048 0 [⟨Cert.Reference12Ideal.S1x512x2048, g⟩, ⟨Cert.Reference12Ideal.S3x512x2048, (extractStridedSlice Cert.Reference12Ideal.S3x512x2048 ![1, 0, 0] cg Cert.Reference12Ideal.Facts₀.slices_S4x512x2048_S3x512x2048_1_0_0)⟩] Cert.Reference12Ideal.Facts₀.concatenates_S1x512x2048_S3x512x2048_S4x512x2048_d0 = Grad g cg := by
  funext i
  unfold Grad first
  simp only [AdamW.upd, AdamW.mom, AdamW.sec]
  pointwise
  by_cases h : (i 0).val < 1
  · rw [dif_pos h, if_pos h, row_of g i h]
  · rw [dif_neg h, if_neg h]
    exact congrArg cg (rest_of i h _)

theorem ref_upd (w : FVec Ideal S4x512x2048 .f32) (g : FVec Ideal S1x512x2048 .f32) (m v cg cd cm cv : FVec Ideal S4x512x2048 .f32) :
    concatenate Cert.Reference12Ideal.S4x512x2048 0 [⟨Cert.Reference12Ideal.S1x512x2048, (mulf (broadcastInDim Cert.Reference12Ideal.S1x512x2048 ![] Cert.Reference12Ideal.Facts₀.bcast_S_S1x512x2048 (constant Cert.Reference12Ideal.S_ .f32 0xBA83126F#32)) (addf (Host.divf (Host.divf (addf (mulf (broadcastInDim Cert.Reference12Ideal.S1x512x2048 ![] Cert.Reference12Ideal.Facts₀.bcast_S_S1x512x2048 (constant Cert.Reference12Ideal.S_ .f32 0x3F666666#32)) (extractStridedSlice Cert.Reference12Ideal.S1x512x2048 ![0, 0, 0] m Cert.Reference12Ideal.Facts₀.slices_S4x512x2048_S1x512x2048_0_0_0)) (mulf (broadcastInDim Cert.Reference12Ideal.S1x512x2048 ![] Cert.Reference12Ideal.Facts₀.bcast_S_S1x512x2048 (constant Cert.Reference12Ideal.S_ .f32 0x3DCCCCCD#32)) g)) (broadcastInDim Cert.Reference12Ideal.S1x512x2048 ![] Cert.Reference12Ideal.Facts₀.bcast_S_S1x512x2048 (constant Cert.Reference12Ideal.S_ .f32 0x3F26BD02#32))) (addf (Host.sqrt (Host.divf (addf (mulf (broadcastInDim Cert.Reference12Ideal.S1x512x2048 ![] Cert.Reference12Ideal.Facts₀.bcast_S_S1x512x2048 (constant Cert.Reference12Ideal.S_ .f32 0x3F7FBE77#32)) (extractStridedSlice Cert.Reference12Ideal.S1x512x2048 ![0, 0, 0] v Cert.Reference12Ideal.Facts₀.slices_S4x512x2048_S1x512x2048_0_0_0)) (mulf (broadcastInDim Cert.Reference12Ideal.S1x512x2048 ![] Cert.Reference12Ideal.Facts₀.bcast_S_S1x512x2048 (constant Cert.Reference12Ideal.S_ .f32 0x3A83126F#32)) (mulf g g))) (broadcastInDim Cert.Reference12Ideal.S1x512x2048 ![] Cert.Reference12Ideal.Facts₀.bcast_S_S1x512x2048 (constant Cert.Reference12Ideal.S_ .f32 0x3C231ACC#32)))) (broadcastInDim Cert.Reference12Ideal.S1x512x2048 ![] Cert.Reference12Ideal.Facts₀.bcast_S_S1x512x2048 (constant Cert.Reference12Ideal.S_ .f32 0x322BCC77#32)))) (mulf (broadcastInDim Cert.Reference12Ideal.S1x512x2048 ![] Cert.Reference12Ideal.Facts₀.bcast_S_S1x512x2048 (constant Cert.Reference12Ideal.S_ .f32 0x3C23D70A#32)) (extractStridedSlice Cert.Reference12Ideal.S1x512x2048 ![0, 0, 0] w Cert.Reference12Ideal.Facts₀.slices_S4x512x2048_S1x512x2048_0_0_0))))⟩, ⟨Cert.Reference12Ideal.S3x512x2048, (extractStridedSlice Cert.Reference12Ideal.S3x512x2048 ![1, 0, 0] cd Cert.Reference12Ideal.Facts₀.slices_S4x512x2048_S3x512x2048_1_0_0)⟩] Cert.Reference12Ideal.Facts₀.concatenates_S1x512x2048_S3x512x2048_S4x512x2048_d0 = Upd w g m v cd := by
  funext i
  unfold Upd first
  simp only [AdamW.upd, AdamW.mom, AdamW.sec]
  pointwise
  by_cases h : (i 0).val < 1
  · rw [dif_pos h, if_pos h, row_of g i h]
  · rw [dif_neg h, if_neg h]
    exact congrArg cd (rest_of i h _)

theorem ref_mom (w : FVec Ideal S4x512x2048 .f32) (g : FVec Ideal S1x512x2048 .f32) (m v cg cd cm cv : FVec Ideal S4x512x2048 .f32) :
    concatenate Cert.Reference12Ideal.S4x512x2048 0 [⟨Cert.Reference12Ideal.S1x512x2048, (addf (mulf (broadcastInDim Cert.Reference12Ideal.S1x512x2048 ![] Cert.Reference12Ideal.Facts₀.bcast_S_S1x512x2048 (constant Cert.Reference12Ideal.S_ .f32 0x3F666666#32)) (extractStridedSlice Cert.Reference12Ideal.S1x512x2048 ![0, 0, 0] m Cert.Reference12Ideal.Facts₀.slices_S4x512x2048_S1x512x2048_0_0_0)) (mulf (broadcastInDim Cert.Reference12Ideal.S1x512x2048 ![] Cert.Reference12Ideal.Facts₀.bcast_S_S1x512x2048 (constant Cert.Reference12Ideal.S_ .f32 0x3DCCCCCD#32)) g))⟩, ⟨Cert.Reference12Ideal.S3x512x2048, (extractStridedSlice Cert.Reference12Ideal.S3x512x2048 ![1, 0, 0] cm Cert.Reference12Ideal.Facts₀.slices_S4x512x2048_S3x512x2048_1_0_0)⟩] Cert.Reference12Ideal.Facts₀.concatenates_S1x512x2048_S3x512x2048_S4x512x2048_d0 = Mom g m cm := by
  funext i
  unfold Mom first
  simp only [AdamW.upd, AdamW.mom, AdamW.sec]
  pointwise
  by_cases h : (i 0).val < 1
  · rw [dif_pos h, if_pos h, row_of g i h]
  · rw [dif_neg h, if_neg h]
    exact congrArg cm (rest_of i h _)

theorem ref_sec (w : FVec Ideal S4x512x2048 .f32) (g : FVec Ideal S1x512x2048 .f32) (m v cg cd cm cv : FVec Ideal S4x512x2048 .f32) :
    concatenate Cert.Reference12Ideal.S4x512x2048 0 [⟨Cert.Reference12Ideal.S1x512x2048, (addf (mulf (broadcastInDim Cert.Reference12Ideal.S1x512x2048 ![] Cert.Reference12Ideal.Facts₀.bcast_S_S1x512x2048 (constant Cert.Reference12Ideal.S_ .f32 0x3F7FBE77#32)) (extractStridedSlice Cert.Reference12Ideal.S1x512x2048 ![0, 0, 0] v Cert.Reference12Ideal.Facts₀.slices_S4x512x2048_S1x512x2048_0_0_0)) (mulf (broadcastInDim Cert.Reference12Ideal.S1x512x2048 ![] Cert.Reference12Ideal.Facts₀.bcast_S_S1x512x2048 (constant Cert.Reference12Ideal.S_ .f32 0x3A83126F#32)) (mulf g g)))⟩, ⟨Cert.Reference12Ideal.S3x512x2048, (extractStridedSlice Cert.Reference12Ideal.S3x512x2048 ![1, 0, 0] cv Cert.Reference12Ideal.Facts₀.slices_S4x512x2048_S3x512x2048_1_0_0)⟩] Cert.Reference12Ideal.Facts₀.concatenates_S1x512x2048_S3x512x2048_S4x512x2048_d0 = Sec g v cv := by
  funext i
  unfold Sec first
  simp only [AdamW.upd, AdamW.mom, AdamW.sec]
  pointwise
  by_cases h : (i 0).val < 1
  · rw [dif_pos h, if_pos h, row_of g i h]
  · rw [dif_neg h, if_neg h]
    exact congrArg cv (rest_of i h _)

/-- The two programs end with equal results. -/
theorem algebraic : Cert.algebraic_Kernel12Ideal_Reference12Ideal := by
  intro m g m' g' _ hargs
  refine ⟨fun c => Grad (m ((c : Thread nD τ).loc main_arg1)) (m ((c : Thread nD τ).loc main_arg4)), fun c => Upd (m ((c : Thread nD τ).loc main_arg0)) (m ((c : Thread nD τ).loc main_arg1)) (m ((c : Thread nD τ).loc main_arg2)) (m ((c : Thread nD τ).loc main_arg3)) (m ((c : Thread nD τ).loc main_arg5)),
    fun c => Mom (m ((c : Thread nD τ).loc main_arg1)) (m ((c : Thread nD τ).loc main_arg2)) (m ((c : Thread nD τ).loc main_arg6)), fun c => Sec (m ((c : Thread nD τ).loc main_arg1)) (m ((c : Thread nD τ).loc main_arg3)) (m ((c : Thread nD τ).loc main_arg7)), ?_, ?_⟩
  · exact (θ_run defs _ _).mono (fun r h c => ⟨(h c).1.trans (final4 m c), (h c).2.1.trans (final5 m c),
      (h c).2.2.1.trans (final6 m c), (h c).2.2.2.1.trans (final7 m c), (h c).2.2.2.2⟩) (run_blocks m g)
  · refine (θ_run Cert.Reference12Ideal.defs _ _).mono (fun r h c => ⟨(h c).1.trans ?_, (h c).2.1.trans ?_,
      (h c).2.2.1.trans ?_, (h c).2.2.2.1.trans ?_, (h c).2.2.2.2⟩)
      (Cert.Reference12Ideal.Value.run m' g')
    all_goals obtain ⟨e0, e1, e2, e3, e4, e5, e6, e7⟩ := hargs c
    · rw [e1, e4]
      exact ref_grad (m ((c : Thread nD τ).loc main_arg0)) _ (m ((c : Thread nD τ).loc main_arg2)) (m ((c : Thread nD τ).loc main_arg3)) _ (m ((c : Thread nD τ).loc main_arg5)) (m ((c : Thread nD τ).loc main_arg6)) (m ((c : Thread nD τ).loc main_arg7))
    · rw [e0, e1, e2, e3, e5]
      exact ref_upd _ _ _ _ (m ((c : Thread nD τ).loc main_arg4)) _ (m ((c : Thread nD τ).loc main_arg6)) (m ((c : Thread nD τ).loc main_arg7))
    · rw [e1, e2, e6]
      exact ref_mom (m ((c : Thread nD τ).loc main_arg0)) _ _ (m ((c : Thread nD τ).loc main_arg3)) (m ((c : Thread nD τ).loc main_arg4)) (m ((c : Thread nD τ).loc main_arg5)) _ (m ((c : Thread nD τ).loc main_arg7))
    · rw [e1, e3, e7]
      exact ref_sec (m ((c : Thread nD τ).loc main_arg0)) _ (m ((c : Thread nD τ).loc main_arg2)) _ (m ((c : Thread nD τ).loc main_arg4)) (m ((c : Thread nD τ).loc main_arg5)) (m ((c : Thread nD τ).loc main_arg6)) _

end Cert.Proof.AdamWOut

end
-- ==== Proof.Products.AdamPoolW.lean ====
/-
  The optimiser's step of the first layer's `pool_w`: what each grid point writes, the four arrays the grid fills in the first
  layer's rows, and the reference's terms.
-/
module

public import proofs.«01_k».proof.Proof.Gen.Kernel13Ideal.Value
public import proofs.«01_k».proof.Proof.Gen.Reference13Ideal.Run
public import proofs.«01_k».proof.Proof.Products.AdamW
public import proofs.«01_k».proof.Defs
public import Idealize.ShloMosaic.Lib.Pipeline.ValueKit.Geometry
public import Idealize.ShloMosaic.Lib.Pipeline.ValueKit.Acc
public import Idealize.ShloMosaic.Lib.Pipeline.ValueKit.Partial
public import Idealize.ShloMosaic.Lib.Pointwise

@[expose] public section

set_option maxRecDepth 16384

noncomputable section

namespace Cert.Proof.AdamPoolW

open Cert.Kernel13Ideal Cert.Kernel13Ideal.Gen Cert.Kernel13Ideal.Value Idealize.ShloMosaic Idealize.ShloMosaic.TcCoe
open Idealize.SL.Sem

/-- `f` in the first layer's rows, the carried array in the others. -/
def first (f c : S16x64x256.Idx → EReal) : S16x64x256.Idx → EReal := fun i => if (i 0).val < 4 then f i else c i

/-- The gradient's entry for a row of the first layer. -/
def row (g : S4x64x256.Idx → EReal) (i : S16x64x256.Idx) : EReal := g (ix3 (⟨(i 0).val % 4, Nat.mod_lt _ (by decide)⟩ : Fin 4) (i 1) (i 2))

/-! ## What a point stores -/

theorem pay_grad (g : Vec Ideal S1x64x256 .f32) (y : S1x64x256.Idx) : k0_pay5 g y = g y := by
  pointwise [k0_pay5, k0_pay4]

theorem pay_mom (g a : Vec Ideal S1x64x256 .f32) (y : S1x64x256.Idx) :
    k0_pay2 (k0_pay6 g a) y = AdamW.mom (g y) (a y) := by
  unfold AdamW.mom
  pointwise [k0_pay2, k0_pay6, k0_pay4]

theorem pay_sec (g b : Vec Ideal S1x64x256 .f32) (y : S1x64x256.Idx) :
    k0_pay3 (k0_pay7 g b) y = AdamW.sec (g y) (b y) := by
  unfold AdamW.sec
  pointwise [k0_pay3, k0_pay7, k0_pay4]

theorem pay_upd (g w a b : Vec Ideal S1x64x256 .f32) (y : S1x64x256.Idx) :
    k0_pay1 (k0_pay8 g w a b) (Scalar.ofBits .f32 0xBA83126F#32) y
      = AdamW.upd (w y) (g y) (a y) (b y) := by
  unfold AdamW.upd AdamW.mom AdamW.sec
  pointwise [k0_pay1, k0_pay8, k0_pay7, k0_pay6, k0_pay4]

variable (m : (ℓ : Loc nD τ sig) → Buf (Elt Ideal) ℓ)

/-! ## The blocks -/

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)
theorem idx7 : ∀ t : Fin cfg0.N, win0_7.index t = ![t.val, 0, 0] := (by decide +kernel : ∀ t : Fin grid0.N, _)

theorem V_out0 (c : Dev nD) : V m c main_v0_0 = m ((c : Thread nD τ).loc main_arg4) := by
  unfold V hostOps0
  after_results
  rfl

theorem V_out1 (c : Dev nD) : V m c main_v0_1 = m ((c : Thread nD τ).loc main_arg5) := by
  unfold V hostOps0
  after_results
  rfl

theorem V_out2 (c : Dev nD) : V m c main_v0_2 = m ((c : Thread nD τ).loc main_arg6) := by
  unfold V hostOps0
  after_results
  rfl

theorem V_out3 (c : Dev nD) : V m c main_v0_3 = m ((c : Thread nD τ).loc main_arg7) := by
  unfold V hostOps0
  after_results
  rfl

/-- The array of window 4. -/
def Grad (g : S4x64x256.Idx → EReal) (c : S16x64x256.Idx → EReal) : S16x64x256.Idx → EReal := first (row g) c

theorem final4 (c : Dev nD) : (dats m 0 c).arrAt 4 cfg0.N = Grad (m ((c : Thread nD τ).loc main_arg1)) (m ((c : Thread nD τ).loc main_arg4)) := by
  refine ((dats m 0 c).arrAt_eq_of_coversWhere 4 (row (m ((c : Thread nD τ).loc main_arg1))) (P := fun i => (i 0).val < 4) (fun β => β 0 < 4) (by decide +kernel)
    (fun t hf y => ?_) (fun j => ?_)).trans (funext fun i => ?_)
  · blk_simp
    rw [after0_4]
    unfold outsAt0
    frame_out
    rw [pay_grad]
    rw [← V_main_arg1 m c]
    have e1 : iblk m c 1 t y = row (V m c main_arg1) (((cfg0.win 4).blk t).view.emb y) := by
      unfold row
      blk_simp [iblk]; exact congrArg _ (by blk_ext [idx1 t, idx4 t])
    rw [e1]
  · blk_simp [Pipeline.Window.cell_apply]
    rw [Nat.div_one]
  · unfold Grad first
    exact congrArg (fun z => if (i 0).val < 4 then _ else z) (congrFun ((A_eq m c 4).trans (V_out0 m c)) i)

/-- The array of window 5. -/
def Upd (w : S16x64x256.Idx → EReal) (g : S4x64x256.Idx → EReal) (a : S16x64x256.Idx → EReal) (b : S16x64x256.Idx → EReal) (c : S16x64x256.Idx → EReal) : S16x64x256.Idx → EReal := first (fun i => AdamW.upd (w i) (row g i) (a i) (b i)) c

theorem final5 (c : Dev nD) : (dats m 0 c).arrAt 5 cfg0.N = Upd (m ((c : Thread nD τ).loc main_arg0)) (m ((c : Thread nD τ).loc main_arg1)) (m ((c : Thread nD τ).loc main_arg2)) (m ((c : Thread nD τ).loc main_arg3)) (m ((c : Thread nD τ).loc main_arg5)) := by
  refine ((dats m 0 c).arrAt_eq_of_coversWhere 5 (fun i => AdamW.upd ((m ((c : Thread nD τ).loc main_arg0)) i) (row (m ((c : Thread nD τ).loc main_arg1)) i) ((m ((c : Thread nD τ).loc main_arg2)) i) ((m ((c : Thread nD τ).loc main_arg3)) i)) (P := fun i => (i 0).val < 4) (fun β => β 0 < 4) (by decide +kernel)
    (fun t hf y => ?_) (fun j => ?_)).trans (funext fun i => ?_)
  · blk_simp
    rw [after0_5]
    unfold outsAt0
    frame_out
    rw [pay_upd]
    rw [← V_main_arg0 m c, ← V_main_arg1 m c, ← V_main_arg2 m c, ← V_main_arg3 m c]
    have e0 : iblk m c 0 t y = V m c main_arg0 (((cfg0.win 5).blk t).view.emb y) := by
      blk_simp [iblk]; exact congrArg _ (by blk_ext [idx0 t, idx5 t])
    have e1 : iblk m c 1 t y = row (V m c main_arg1) (((cfg0.win 5).blk t).view.emb y) := by
      unfold row
      blk_simp [iblk]; exact congrArg _ (by blk_ext [idx1 t, idx5 t])
    have e2 : iblk m c 2 t y = V m c main_arg2 (((cfg0.win 5).blk t).view.emb y) := by
      blk_simp [iblk]; exact congrArg _ (by blk_ext [idx2 t, idx5 t])
    have e3 : iblk m c 3 t y = V m c main_arg3 (((cfg0.win 5).blk t).view.emb y) := by
      blk_simp [iblk]; exact congrArg _ (by blk_ext [idx3 t, idx5 t])
    rw [e0, e1, e2, e3]
  · blk_simp [Pipeline.Window.cell_apply]
    rw [Nat.div_one]
  · unfold Upd first
    exact congrArg (fun z => if (i 0).val < 4 then _ else z) (congrFun ((A_eq m c 5).trans (V_out1 m c)) i)

/-- The array of window 6. -/
def Mom (g : S4x64x256.Idx → EReal) (a : S16x64x256.Idx → EReal) (c : S16x64x256.Idx → EReal) : S16x64x256.Idx → EReal := first (fun i => AdamW.mom (row g i) (a i)) c

theorem final6 (c : Dev nD) : (dats m 0 c).arrAt 6 cfg0.N = Mom (m ((c : Thread nD τ).loc main_arg1)) (m ((c : Thread nD τ).loc main_arg2)) (m ((c : Thread nD τ).loc main_arg6)) := by
  refine ((dats m 0 c).arrAt_eq_of_coversWhere 6 (fun i => AdamW.mom (row (m ((c : Thread nD τ).loc main_arg1)) i) ((m ((c : Thread nD τ).loc main_arg2)) i)) (P := fun i => (i 0).val < 4) (fun β => β 0 < 4) (by decide +kernel)
    (fun t hf y => ?_) (fun j => ?_)).trans (funext fun i => ?_)
  · blk_simp
    rw [after0_6]
    unfold outsAt0
    frame_out
    rw [pay_mom]
    rw [← V_main_arg1 m c, ← V_main_arg2 m c]
    have e1 : iblk m c 1 t y = row (V m c main_arg1) (((cfg0.win 6).blk t).view.emb y) := by
      unfold row
      blk_simp [iblk]; exact congrArg _ (by blk_ext [idx1 t, idx6 t])
    have e2 : iblk m c 2 t y = V m c main_arg2 (((cfg0.win 6).blk t).view.emb y) := by
      blk_simp [iblk]; exact congrArg _ (by blk_ext [idx2 t, idx6 t])
    rw [e1, e2]
  · blk_simp [Pipeline.Window.cell_apply]
    rw [Nat.div_one]
  · unfold Mom first
    exact congrArg (fun z => if (i 0).val < 4 then _ else z) (congrFun ((A_eq m c 6).trans (V_out2 m c)) i)

/-- The array of window 7. -/
def Sec (g : S4x64x256.Idx → EReal) (b : S16x64x256.Idx → EReal) (c : S16x64x256.Idx → EReal) : S16x64x256.Idx → EReal := first (fun i => AdamW.sec (row g i) (b i)) c

theorem final7 (c : Dev nD) : (dats m 0 c).arrAt 7 cfg0.N = Sec (m ((c : Thread nD τ).loc main_arg1)) (m ((c : Thread nD τ).loc main_arg3)) (m ((c : Thread nD τ).loc main_arg7)) := by
  refine ((dats m 0 c).arrAt_eq_of_coversWhere 7 (fun i => AdamW.sec (row (m ((c : Thread nD τ).loc main_arg1)) i) ((m ((c : Thread nD τ).loc main_arg3)) i)) (P := fun i => (i 0).val < 4) (fun β => β 0 < 4) (by decide +kernel)
    (fun t hf y => ?_) (fun j => ?_)).trans (funext fun i => ?_)
  · blk_simp
    rw [after0_7]
    unfold outsAt0
    frame_out
    rw [pay_sec]
    rw [← V_main_arg1 m c, ← V_main_arg3 m c]
    have e1 : iblk m c 1 t y = row (V m c main_arg1) (((cfg0.win 7).blk t).view.emb y) := by
      unfold row
      blk_simp [iblk]; exact congrArg _ (by blk_ext [idx1 t, idx7 t])
    have e3 : iblk m c 3 t y = V m c main_arg3 (((cfg0.win 7).blk t).view.emb y) := by
      blk_simp [iblk]; exact congrArg _ (by blk_ext [idx3 t, idx7 t])
    rw [e1, e3]
  · blk_simp [Pipeline.Window.cell_apply]
    rw [Nat.div_one]
  · unfold Sec first
    exact congrArg (fun z => if (i 0).val < 4 then _ else z) (congrFun ((A_eq m c 7).trans (V_out3 m c)) i)

theorem row_of (g : S4x64x256.Idx → EReal) (i : S16x64x256.Idx) (h : (i 0).val < 4) :
    row g i = g (ix3 ⟨(i 0).val, h⟩ (i 1) (i 2)) :=
  congrArg (fun z : Fin 4 => g (ix3 z (i 1) (i 2))) (Fin.ext (Nat.mod_eq_of_lt h))

theorem rest_of (i : S16x64x256.Idx) (h : ¬ (i 0).val < 4) (h' : 4 + ((i 0).val - 4) < 16) :
    ix3 ⟨4 + ((i 0).val - 4), h'⟩ (i 1) (i 2) = i := by
  funext a
  match a with
  | 0 => exact Fin.ext (Nat.add_sub_cancel' (Nat.le_of_not_lt h))
  | 1 => rfl
  | 2 => rfl

/-! ## The reference -/

theorem ref_grad (w : FVec Ideal S16x64x256 .f32) (g : FVec Ideal S4x64x256 .f32) (m v cg cd cm cv : FVec Ideal S16x64x256 .f32) :
    concatenate Cert.Reference13Ideal.S16x64x256 0 [⟨Cert.Reference13Ideal.S4x64x256, g⟩, ⟨Cert.Reference13Ideal.S12x64x256, (extractStridedSlice Cert.Reference13Ideal.S12x64x256 ![4, 0, 0] cg Cert.Reference13Ideal.Facts₀.slices_S16x64x256_S12x64x256_4_0_0)⟩] Cert.Reference13Ideal.Facts₀.concatenates_S4x64x256_S12x64x256_S16x64x256_d0 = Grad g cg := by
  funext i
  unfold Grad first
  simp only [AdamW.upd, AdamW.mom, AdamW.sec]
  pointwise
  by_cases h : (i 0).val < 4
  · rw [dif_pos h, if_pos h, row_of g i h]
  · rw [dif_neg h, if_neg h]
    exact congrArg cg (rest_of i h _)

theorem ref_upd (w : FVec Ideal S16x64x256 .f32) (g : FVec Ideal S4x64x256 .f32) (m v cg cd cm cv : FVec Ideal S16x64x256 .f32) :
    concatenate Cert.Reference13Ideal.S16x64x256 0 [⟨Cert.Reference13Ideal.S4x64x256, (mulf (broadcastInDim Cert.Reference13Ideal.S4x64x256 ![] Cert.Reference13Ideal.Facts₀.bcast_S_S4x64x256 (constant Cert.Reference13Ideal.S_ .f32 0xBA83126F#32)) (addf (Host.divf (Host.divf (addf (mulf (broadcastInDim Cert.Reference13Ideal.S4x64x256 ![] Cert.Reference13Ideal.Facts₀.bcast_S_S4x64x256 (constant Cert.Reference13Ideal.S_ .f32 0x3F666666#32)) (extractStridedSlice Cert.Reference13Ideal.S4x64x256 ![0, 0, 0] m Cert.Reference13Ideal.Facts₀.slices_S16x64x256_S4x64x256_0_0_0)) (mulf (broadcastInDim Cert.Reference13Ideal.S4x64x256 ![] Cert.Reference13Ideal.Facts₀.bcast_S_S4x64x256 (constant Cert.Reference13Ideal.S_ .f32 0x3DCCCCCD#32)) g)) (broadcastInDim Cert.Reference13Ideal.S4x64x256 ![] Cert.Reference13Ideal.Facts₀.bcast_S_S4x64x256 (constant Cert.Reference13Ideal.S_ .f32 0x3F26BD02#32))) (addf (Host.sqrt (Host.divf (addf (mulf (broadcastInDim Cert.Reference13Ideal.S4x64x256 ![] Cert.Reference13Ideal.Facts₀.bcast_S_S4x64x256 (constant Cert.Reference13Ideal.S_ .f32 0x3F7FBE77#32)) (extractStridedSlice Cert.Reference13Ideal.S4x64x256 ![0, 0, 0] v Cert.Reference13Ideal.Facts₀.slices_S16x64x256_S4x64x256_0_0_0)) (mulf (broadcastInDim Cert.Reference13Ideal.S4x64x256 ![] Cert.Reference13Ideal.Facts₀.bcast_S_S4x64x256 (constant Cert.Reference13Ideal.S_ .f32 0x3A83126F#32)) (mulf g g))) (broadcastInDim Cert.Reference13Ideal.S4x64x256 ![] Cert.Reference13Ideal.Facts₀.bcast_S_S4x64x256 (constant Cert.Reference13Ideal.S_ .f32 0x3C231ACC#32)))) (broadcastInDim Cert.Reference13Ideal.S4x64x256 ![] Cert.Reference13Ideal.Facts₀.bcast_S_S4x64x256 (constant Cert.Reference13Ideal.S_ .f32 0x322BCC77#32)))) (mulf (broadcastInDim Cert.Reference13Ideal.S4x64x256 ![] Cert.Reference13Ideal.Facts₀.bcast_S_S4x64x256 (constant Cert.Reference13Ideal.S_ .f32 0x3C23D70A#32)) (extractStridedSlice Cert.Reference13Ideal.S4x64x256 ![0, 0, 0] w Cert.Reference13Ideal.Facts₀.slices_S16x64x256_S4x64x256_0_0_0))))⟩, ⟨Cert.Reference13Ideal.S12x64x256, (extractStridedSlice Cert.Reference13Ideal.S12x64x256 ![4, 0, 0] cd Cert.Reference13Ideal.Facts₀.slices_S16x64x256_S12x64x256_4_0_0)⟩] Cert.Reference13Ideal.Facts₀.concatenates_S4x64x256_S12x64x256_S16x64x256_d0 = Upd w g m v cd := by
  funext i
  unfold Upd first
  simp only [AdamW.upd, AdamW.mom, AdamW.sec]
  pointwise
  by_cases h : (i 0).val < 4
  · rw [dif_pos h, if_pos h, row_of g i h]
  · rw [dif_neg h, if_neg h]
    exact congrArg cd (rest_of i h _)

theorem ref_mom (w : FVec Ideal S16x64x256 .f32) (g : FVec Ideal S4x64x256 .f32) (m v cg cd cm cv : FVec Ideal S16x64x256 .f32) :
    concatenate Cert.Reference13Ideal.S16x64x256 0 [⟨Cert.Reference13Ideal.S4x64x256, (addf (mulf (broadcastInDim Cert.Reference13Ideal.S4x64x256 ![] Cert.Reference13Ideal.Facts₀.bcast_S_S4x64x256 (constant Cert.Reference13Ideal.S_ .f32 0x3F666666#32)) (extractStridedSlice Cert.Reference13Ideal.S4x64x256 ![0, 0, 0] m Cert.Reference13Ideal.Facts₀.slices_S16x64x256_S4x64x256_0_0_0)) (mulf (broadcastInDim Cert.Reference13Ideal.S4x64x256 ![] Cert.Reference13Ideal.Facts₀.bcast_S_S4x64x256 (constant Cert.Reference13Ideal.S_ .f32 0x3DCCCCCD#32)) g))⟩, ⟨Cert.Reference13Ideal.S12x64x256, (extractStridedSlice Cert.Reference13Ideal.S12x64x256 ![4, 0, 0] cm Cert.Reference13Ideal.Facts₀.slices_S16x64x256_S12x64x256_4_0_0)⟩] Cert.Reference13Ideal.Facts₀.concatenates_S4x64x256_S12x64x256_S16x64x256_d0 = Mom g m cm := by
  funext i
  unfold Mom first
  simp only [AdamW.upd, AdamW.mom, AdamW.sec]
  pointwise
  by_cases h : (i 0).val < 4
  · rw [dif_pos h, if_pos h, row_of g i h]
  · rw [dif_neg h, if_neg h]
    exact congrArg cm (rest_of i h _)

theorem ref_sec (w : FVec Ideal S16x64x256 .f32) (g : FVec Ideal S4x64x256 .f32) (m v cg cd cm cv : FVec Ideal S16x64x256 .f32) :
    concatenate Cert.Reference13Ideal.S16x64x256 0 [⟨Cert.Reference13Ideal.S4x64x256, (addf (mulf (broadcastInDim Cert.Reference13Ideal.S4x64x256 ![] Cert.Reference13Ideal.Facts₀.bcast_S_S4x64x256 (constant Cert.Reference13Ideal.S_ .f32 0x3F7FBE77#32)) (extractStridedSlice Cert.Reference13Ideal.S4x64x256 ![0, 0, 0] v Cert.Reference13Ideal.Facts₀.slices_S16x64x256_S4x64x256_0_0_0)) (mulf (broadcastInDim Cert.Reference13Ideal.S4x64x256 ![] Cert.Reference13Ideal.Facts₀.bcast_S_S4x64x256 (constant Cert.Reference13Ideal.S_ .f32 0x3A83126F#32)) (mulf g g)))⟩, ⟨Cert.Reference13Ideal.S12x64x256, (extractStridedSlice Cert.Reference13Ideal.S12x64x256 ![4, 0, 0] cv Cert.Reference13Ideal.Facts₀.slices_S16x64x256_S12x64x256_4_0_0)⟩] Cert.Reference13Ideal.Facts₀.concatenates_S4x64x256_S12x64x256_S16x64x256_d0 = Sec g v cv := by
  funext i
  unfold Sec first
  simp only [AdamW.upd, AdamW.mom, AdamW.sec]
  pointwise
  by_cases h : (i 0).val < 4
  · rw [dif_pos h, if_pos h, row_of g i h]
  · rw [dif_neg h, if_neg h]
    exact congrArg cv (rest_of i h _)

/-- The two programs end with equal results. -/
theorem algebraic : Cert.algebraic_Kernel13Ideal_Reference13Ideal := by
  intro m g m' g' _ hargs
  refine ⟨fun c => Grad (m ((c : Thread nD τ).loc main_arg1)) (m ((c : Thread nD τ).loc main_arg4)), fun c => Upd (m ((c : Thread nD τ).loc main_arg0)) (m ((c : Thread nD τ).loc main_arg1)) (m ((c : Thread nD τ).loc main_arg2)) (m ((c : Thread nD τ).loc main_arg3)) (m ((c : Thread nD τ).loc main_arg5)),
    fun c => Mom (m ((c : Thread nD τ).loc main_arg1)) (m ((c : Thread nD τ).loc main_arg2)) (m ((c : Thread nD τ).loc main_arg6)), fun c => Sec (m ((c : Thread nD τ).loc main_arg1)) (m ((c : Thread nD τ).loc main_arg3)) (m ((c : Thread nD τ).loc main_arg7)), ?_, ?_⟩
  · exact (θ_run defs _ _).mono (fun r h c => ⟨(h c).1.trans (final4 m c), (h c).2.1.trans (final5 m c),
      (h c).2.2.1.trans (final6 m c), (h c).2.2.2.1.trans (final7 m c), (h c).2.2.2.2⟩) (run_blocks m g)
  · refine (θ_run Cert.Reference13Ideal.defs _ _).mono (fun r h c => ⟨(h c).1.trans ?_, (h c).2.1.trans ?_,
      (h c).2.2.1.trans ?_, (h c).2.2.2.1.trans ?_, (h c).2.2.2.2⟩)
      (Cert.Reference13Ideal.Value.run m' g')
    all_goals obtain ⟨e0, e1, e2, e3, e4, e5, e6, e7⟩ := hargs c
    · rw [e1, e4]
      exact ref_grad (m ((c : Thread nD τ).loc main_arg0)) _ (m ((c : Thread nD τ).loc main_arg2)) (m ((c : Thread nD τ).loc main_arg3)) _ (m ((c : Thread nD τ).loc main_arg5)) (m ((c : Thread nD τ).loc main_arg6)) (m ((c : Thread nD τ).loc main_arg7))
    · rw [e0, e1, e2, e3, e5]
      exact ref_upd _ _ _ _ (m ((c : Thread nD τ).loc main_arg4)) _ (m ((c : Thread nD τ).loc main_arg6)) (m ((c : Thread nD τ).loc main_arg7))
    · rw [e1, e2, e6]
      exact ref_mom (m ((c : Thread nD τ).loc main_arg0)) _ _ (m ((c : Thread nD τ).loc main_arg3)) (m ((c : Thread nD τ).loc main_arg4)) (m ((c : Thread nD τ).loc main_arg5)) _ (m ((c : Thread nD τ).loc main_arg7))
    · rw [e1, e3, e7]
      exact ref_sec (m ((c : Thread nD τ).loc main_arg0)) _ (m ((c : Thread nD τ).loc main_arg2)) _ (m ((c : Thread nD τ).loc main_arg4)) (m ((c : Thread nD τ).loc main_arg5)) (m ((c : Thread nD τ).loc main_arg6)) _

end Cert.Proof.AdamPoolW

end
-- ==== Proof.Pool.Blocks.lean ====
/-
  The pooling gradient of one group of 256 channels, as functions of the arrays it reads: what each block of 512 rows
  computes, the two accumulators, and the whole arrays the blocks make up.
-/
module

public import proofs.«01_k».proof.Proof.Gen.KernelIdeal.Skeleton
public import Idealize.ShloMosaic.Lib.Pipeline.ValueKit.Tiles
public import Idealize.ShloMosaic.Lib.WritesUnit

@[expose] public section

set_option maxRecDepth 8192

noncomputable section

namespace Cert.KernelIdeal.Pool

open Cert.KernelIdeal Cert.KernelIdeal.Gen
open Idealize.ShloMosaic Idealize.ShloMosaic.TcCoe

variable {F : FTy → Type} [FloatOps F]

/-- Row `r` (wrapped at 4096), column `c` of an array of 4096 rows. -/
def ix (r : ℕ) (c : Fin 256) : S4096x256.Idx := fun a => match a with | ⟨0, _⟩ => ⟨r % 4096, Nat.mod_lt _ (by decide)⟩ | ⟨1, _⟩ => c
/-- Row `r` (wrapped at 512), column `c` of a block. -/
def bx (r : ℕ) (c : Fin 256) : S512x256.Idx := fun a => match a with | ⟨0, _⟩ => ⟨r % 512, Nat.mod_lt _ (by decide)⟩ | ⟨1, _⟩ => c

/-- Where the window of 768 rows of block `n` begins. -/
def start (n : ℕ) : ℕ := min 3328 (512 * n - 128)
/-- Rows `512 n …` of an array. -/
def rows {e : EltTy} (X : Vec F S4096x256 e) (n : ℕ) : Vec F S512x256 e := fun x => X (ix (512 * n + (x 0).val) (x 1))
/-- The window of block `n`. -/
def wnd {e : EltTy} (X : Vec F S4096x256 e) (n : ℕ) : Vec F S768x256 e := fun x => X (ix (start n + (x 0).val) (x 1))
/-- The array whose rows `512 n …` are block `B n`. -/
def glue {e : EltTy} (B : ℕ → Vec F S512x256 e) : Vec F S4096x256 e := fun y => B ((y 0).val / 512) (bx ((y 0).val) (y 1))

/-- The group's half width, `2 ^ group`, as the kernel computes it. -/
abbrev half (i : grid0.Coords) : BitVec 32 := Scalar.shli 1#32 (BitVec.ofNat 32 (i 0).val)

section Block

variable (i : grid0.Coords) (w : Vec F S1x256x256 .bf16) (s : Vec F S1x1x256 .f32) (u g d : Vec F S4096x256 .bf16)

/-- The pooled values of block `n`: the mean over the window less the value itself. -/
def pB (n : ℕ) : Vec F S512x256 .bf16 := k0_pay19 (k0_pay17 (half i) (BitVec.ofNat 32 n)) (k0_pay18 (half i) (BitVec.ofNat 32 n)) (wnd u n) (rows u n)
/-- The pooled values times the group's weight. -/
def yB (n : ℕ) : FVec F S512x256 .f32 := k0_pay20 (k0_pay26 w) (k0_pay17 (half i) (BitVec.ofNat 32 n)) (k0_pay18 (half i) (BitVec.ofNat 32 n)) (wnd u n) (rows u n)
/-- The gradient of the gate in block `n`. -/
def dgB (n : ℕ) : Vec F S512x256 .bf16 := k0_pay23 (k0_pay26 w) (k0_pay27 s) (k0_pay17 (half i) (BitVec.ofNat 32 n)) (k0_pay18 (half i) (BitVec.ofNat 32 n)) (wnd u n) (rows u n) (rows g n) (rows d n)
/-- The gradient of the pooled values in block `n`. -/
def dpB (n : ℕ) : Vec F S512x256 .f32 := k0_pay35 w s (k0_pay21 (rows g n)) (k0_pay22 (rows d n)) (k0_pay24 (rows g n))
/-- The same divided by the number of rows in each row's window. -/
def dpcB (n : ℕ) : Vec F S512x256 .bf16 := k0_pay36 w s (k0_pay18 (half i) (BitVec.ofNat 32 n)) (k0_pay21 (rows g n)) (k0_pay22 (rows d n)) (k0_pay24 (rows g n))
/-- The gradient of the scale over the blocks before `n`. -/
def scAcc : ℕ → Vec F S1x1x256 .f32
  | 0 => k0_pay29
  | n + 1 => k0_pay31 (yB i w u n) (k0_pay21 (rows g n)) (k0_pay22 (rows d n)) (k0_pay24 (rows g n)) (scAcc n)
/-- The gradient of the weight over the blocks before `n`. -/
def dwAcc : ℕ → Vec F S256x256 .f32
  | 0 => k0_pay28
  | n + 1 => k0_pay33 s (pB i u n) (k0_pay21 (rows g n)) (k0_pay22 (rows d n)) (k0_pay24 (rows g n)) (dwAcc n)
/-- The gradient of the gate. -/
def dgAll : Vec F S4096x256 .bf16 := glue (dgB i w s u g d)
/-- The gradient of the pooled values. -/
def dpAll : Vec F S4096x256 .f32 := glue (dpB w s g d)
/-- The gradient of the means, over the window sizes. -/
def dpcAll : Vec F S4096x256 .bf16 := glue (dpcB i w s g d)
/-- The gradient of the pooled input in block `n`. -/
def duB (n : ℕ) : Vec F S512x256 .bf16 := k0_pay38 i (BitVec.ofNat 32 n) 512#32 (wnd (dpcAll i w s g d) n) (rows (dpAll w s g d) n)
/-- The gradient of the pooled input. -/
def duAll : Vec F S4096x256 .bf16 := glue (duB i w s g d)

theorem scAcc_two (k : ℕ) : scAcc i w u g d (2 * (k + 1)) =
    k0_pay31 (yB i w u (2 * k + 1)) (k0_pay21 (rows g (2 * k + 1))) (k0_pay22 (rows d (2 * k + 1))) (k0_pay24 (rows g (2 * k + 1)))
      (k0_pay31 (yB i w u (2 * k)) (k0_pay21 (rows g (2 * k))) (k0_pay22 (rows d (2 * k))) (k0_pay24 (rows g (2 * k))) (scAcc i w u g d (2 * k))) := rfl
theorem dwAcc_two (k : ℕ) : dwAcc i s u g d (2 * (k + 1)) =
    k0_pay33 s (pB i u (2 * k + 1)) (k0_pay21 (rows g (2 * k + 1))) (k0_pay22 (rows d (2 * k + 1))) (k0_pay24 (rows g (2 * k + 1)))
      (k0_pay33 s (pB i u (2 * k)) (k0_pay21 (rows g (2 * k))) (k0_pay22 (rows d (2 * k))) (k0_pay24 (rows g (2 * k))) (dwAcc i s u g d (2 * k))) := rfl

end Block

/-! ## The kernel's two half trips name blocks `2k` and `2k + 1` -/

theorem iv0 : ∀ k : Fin k0_t1_loop.trips, Scalar.addi (Scalar.muli (Scf.iv 0#32 1#32 k) 2#32) 0#32 = BitVec.ofNat 32 (2 * k.val) := by decide +kernel
theorem iv1 : ∀ k : Fin k0_t1_loop.trips, Scalar.addi (Scalar.muli (Scf.iv 0#32 1#32 k) 2#32) 1#32 = BitVec.ofNat 32 (2 * k.val + 1) := by decide +kernel
theorem iv0' : ∀ k : Fin k0_t2_loop.trips, Scalar.addi (Scalar.muli (Scf.iv 0#32 1#32 k) 2#32) 0#32 = BitVec.ofNat 32 (2 * k.val) := by decide +kernel
theorem iv1' : ∀ k : Fin k0_t2_loop.trips, Scalar.addi (Scalar.muli (Scf.iv 0#32 1#32 k) 2#32) 1#32 = BitVec.ofNat 32 (2 * k.val + 1) := by decide +kernel
theorem off2_eq : ∀ (k : Fin k0_t1_loop.trips) (r : Fin 2), k0_off2 k (BitVec.ofNat 32 r.val) = ![start (2 * k.val + r.val), 0] := by decide +kernel
theorem off4_eq : ∀ (k : Fin k0_t2_loop.trips) (r : Fin 2), k0_off4 k (BitVec.ofNat 32 r.val) = ![start (2 * k.val + r.val), 0] := by decide +kernel

theorem band0 (v0 : BitVec 32) (k : Fin k0_t1_loop.trips) : k0_pay1 (F := F) v0 0#32 1#32 k = k0_pay17 v0 (BitVec.ofNat 32 (2 * k.val)) := by
  rw [← iv0]; rfl
theorem cnt0 (v0 : BitVec 32) (k : Fin k0_t1_loop.trips) : k0_pay3 (k0_pay2 (F := F) v0 0#32 1#32 k) = k0_pay18 v0 (BitVec.ofNat 32 (2 * k.val)) := by
  rw [← iv0]; rfl
theorem sig0 (x : Vec F S512x256 .bf16) : k0_pay24 x = divf (broadcast S512x256 (Scalar.ofBits .f32 0x3F800000#32)) (addf (broadcast S512x256 (Scalar.ofBits .f32 0x3F800000#32)) (k0_pay9 x)) := rfl

/-! ## Loads of rows and of windows -/

theorem ld_rows {e : EltTy} (X : Vec F S4096x256 e) (off : Fin 2 → ℕ) (n : ℕ) (h : off = ![512 * n, 0]) (inb : ∀ a, off a + S512x256.size a ≤ S4096x256.size a) :
    View.ld X (Rect.unit (s := S4096x256) off S512x256.size inb) = rows X n := by
  subst h
  funext x
  refine ((View.ld_unit_apply_of X _ _ inb x (ix (512 * n + (x 0).val) (x 1)) ?_)).trans rfl
  have := inb 0
  intro a
  match a with
  | ⟨0, _⟩ => exact Nat.mod_eq_of_lt (lt_of_lt_of_le (Nat.add_lt_add_left (x 0).isLt _) (inb 0))
  | ⟨1, _⟩ => exact (Nat.zero_add _).symm

theorem ld_wnd {e : EltTy} (X : Vec F S4096x256 e) (off : Fin 2 → ℕ) (n : ℕ) (h : off = ![start n, 0]) (inb : ∀ a, off a + S768x256.size a ≤ S4096x256.size a) :
    View.ld X (Rect.unit (s := S4096x256) off S768x256.size inb) = wnd X n := by
  subst h
  funext x
  refine ((View.ld_unit_apply_of X _ _ inb x (ix (start n + (x 0).val) (x 1)) ?_)).trans rfl
  intro a
  match a with
  | ⟨0, _⟩ => exact Nat.mod_eq_of_lt (lt_of_lt_of_le (Nat.add_lt_add_left (x 0).isLt _) (inb 0))
  | ⟨1, _⟩ => exact (Nat.zero_add _).symm

/-- Block `n` of the array glued from the blocks is block `n`. -/
theorem rows_glue {e : EltTy} (B : ℕ → Vec F S512x256 e) (n : ℕ) (hn : n < 8) : rows (glue B) n = B n := by
  funext x
  have hx : (x 0).val < 512 := (x 0).isLt
  show B (((512 * n + (x 0).val) % 4096) / 512) (bx ((512 * n + (x 0).val) % 4096) (x 1)) = B n x
  have h1 : (512 * n + (x 0).val) % 4096 = 512 * n + (x 0).val := Nat.mod_eq_of_lt (by omega)
  rw [h1, show (512 * n + (x 0).val) / 512 = n by omega]
  refine congrArg (B n) (funext fun a => ?_)
  match a with
  | ⟨0, _⟩ => exact Fin.ext (show (512 * n + (x 0).val) % 512 = (x 0).val by omega)
  | ⟨1, _⟩ => rfl

/-! ## Rows written so far -/

/-- The first `m` rows of the buffer's contents are those of `X`. -/
def Upto {e : EltTy} (Y X : Vec F S4096x256 e) (m : ℕ) : Prop := ∀ y : S4096x256.Idx, (y 0).val < m → Y y = X y

theorem Upto.zero {e : EltTy} (Y X : Vec F S4096x256 e) : Upto Y X 0 := fun _ h => absurd h (Nat.not_lt_zero _)
theorem Upto.all {e : EltTy} {Y X : Vec F S4096x256 e} {m : ℕ} (h : Upto Y X m) (hm : 4096 ≤ m) : Y = X := funext fun y => h y (lt_of_lt_of_le (y 0).isLt hm)

variable {sig' : RefSig} {κ : Kind} {sp : Space}

theorem upto_write {e : EltTy} (v : View sig' κ sp S4096x256 e) (f : v.ty.Contents (Elt F)) (B : ℕ → Vec F S512x256 e) (n : ℕ) (off : Fin 2 → ℕ)
    (h : off = ![512 * n, 0]) (inb : ∀ a, off a + S512x256.size a ≤ S4096x256.size a) (L : List (View.Piece (Elt F) S4096x256 e))
    (hL : Upto (v.read (Elt F) (v.writes (Elt F) f L)) (glue B) (512 * n)) (p : Vec F S512x256 e) (hp : p = B n) :
    Upto (v.read (Elt F) (v.writes (Elt F) f (⟨Rect.unit (s := S4096x256) off S512x256.size inb, p⟩ :: L))) (glue B) (512 * (n + 1)) := by
  subst hp
  intro y hy
  by_cases hlt : (y 0).val < 512 * n
  · rw [View.read_writes_cons_rows_of_not_mem (W := 512) v f inb _ _ y h rfl (Or.inl hlt)]; exact hL y hlt
  · rw [View.read_writes_cons_rows_of_mem v f inb _ _ y (bx (y 0).val (y 1)) h (show (y 0).val = 512 * n + (y 0).val % 512 by omega) rfl]
    show B n _ = B ((y 0).val / 512) _
    rw [show (y 0).val / 512 = n by omega]

/-- A trip of a loop stores blocks `2k` and `2k + 1`. -/
theorem upto_two {e : EltTy} (v : View sig' κ sp S4096x256 e) (f : v.ty.Contents (Elt F)) (B : ℕ → Vec F S512x256 e) (k : ℕ) (off0 off1 : Fin 2 → ℕ)
    (h0 : off0 = ![512 * (2 * k), 0]) (h1 : off1 = ![512 * (2 * k + 1), 0])
    (inb0 : ∀ a, off0 a + S512x256.size a ≤ S4096x256.size a) (inb1 : ∀ a, off1 a + S512x256.size a ≤ S4096x256.size a)
    (hf : Upto (v.read (Elt F) f) (glue B) (1024 * k)) (p0 p1 : Vec F S512x256 e) (hp0 : p0 = B (2 * k)) (hp1 : p1 = B (2 * k + 1)) :
    Upto (v.read (Elt F) (v.writes (Elt F) f [⟨Rect.unit (s := S4096x256) off1 S512x256.size inb1, p1⟩, ⟨Rect.unit (s := S4096x256) off0 S512x256.size inb0, p0⟩]))
      (glue B) (1024 * (k + 1)) := by
  have hL : Upto (v.read (Elt F) (v.writes (Elt F) f [])) (glue B) (512 * (2 * k)) := fun y hy => hf y (by omega)
  exact fun y hy => upto_write v f B (2 * k + 1) off1 h1 inb1 _ (upto_write v f B (2 * k) off0 h0 inb0 [] hL p0 hp0) p1 hp1 y (by omega)

end Cert.KernelIdeal.Pool

end
-- ==== Proof.Pool.Loop1.lean ====
module

public import proofs.«01_k».proof.Proof.Pool.Blocks
public import proofs.«01_k».proof.Proof.Gen.KernelIdeal.Loops
public import Idealize.ShloMosaic.Lib.Pipeline.Routed
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 8192
set_option maxHeartbeats 4000000

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Idealize.ShloMosaic.Pipeline.UC sig nD τ) ℕ
/-- Before trip `k` of the first loop: the inputs, the accumulators over the blocks before `2 k`, and the three scratch
    arrays filled up to row `1024 k`. -/
abbrev inv1 (c : Dev nD) (i : grid0.Coords) (arg1 arg2 arg3 : Memref sig .tc .vmem S4096x256 .bf16) (arg8 : Memref sig .tc .vmem S1x1x256 .f32) (arg10 : Memref sig .tc .vmem S4096x256 .f32) (arg11 : Memref sig .tc .vmem S4096x256 .bf16) (arg12 : Memref sig .tc .vmem S256x256 .f32) (arg14 : Memref sig .tc .vmem S4096x256 .bf16)
    (w : Vec F S1x256x256 .bf16) (s : Vec F S1x1x256 .f32) (X1 : BufTy.Contents (Elt F) arg1.view.ty) (X2 : BufTy.Contents (Elt F) arg2.view.ty) (X3 : BufTy.Contents (Elt F) arg3.view.ty) (k : ℕ) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
    ∗ (∃ f, (arg8.view.loc (c : Thread nD τ) ↦[arg8.view.set]{fullShare} f) ∗ ⌜arg8.view.read (Elt F) f = scAcc i w (arg1.view.read (Elt F) X1) (arg2.view.read (Elt F) X2) (arg3.view.read (Elt F) X3) (2 * k)⌝)
    ∗ (∃ f, (arg10.view.loc (c : Thread nD τ) ↦[arg10.view.set]{fullShare} f) ∗ ⌜Upto (arg10.view.read (Elt F) f) (dpAll w s (arg2.view.read (Elt F) X2) (arg3.view.read (Elt F) X3)) (1024 * k)⌝)
    ∗ (∃ f, (arg11.view.loc (c : Thread nD τ) ↦[arg11.view.set]{fullShare} f) ∗ ⌜Upto (arg11.view.read (Elt F) f) (dpcAll i w s (arg2.view.read (Elt F) X2) (arg3.view.read (Elt F) X3)) (1024 * k)⌝)
    ∗ (∃ f, (arg12.view.loc (c : Thread nD τ) ↦[arg12.view.set]{fullShare} f) ∗ ⌜arg12.view.read (Elt F) f = dwAcc i s (arg1.view.read (Elt F) X1) (arg2.view.read (Elt F) X2) (arg3.view.read (Elt F) X3) (2 * k)⌝)
    ∗ (∃ f, (arg14.view.loc (c : Thread nD τ) ↦[arg14.view.set]{fullShare} f) ∗ ⌜Upto (arg14.view.read (Elt F) f) (dgAll i w s (arg1.view.read (Elt F) X1) (arg2.view.read (Elt F) X2) (arg3.view.read (Elt F) X3)) (1024 * k)⌝))

set_option warn.classDefReducibility false in
/-- The first loop by that invariant. -/
@[sl_loop] def loop1 (𝒱 : Variants) (c : Dev nD) (bd : Option 𝒱.V) (E : Set ℕ) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x256x256 .bf16) (harg4 : arg4.IsWhole) (arg5 : Memref sig .tc .vmem S1x1x256 .f32) (harg5 : arg5.IsWhole) (arg6 : Memref sig .tc .hbm S4096x14848 .bf16) (harg6 : arg6.IsWhole) (arg7 : Memref sig .tc .vmem S1x256x256 .bf16) (harg7 : arg7.IsWhole) (arg8 : Memref sig .tc .vmem S1x1x256 .f32) (harg8 : arg8.IsWhole) (arg9 : Memref sig .tc .hbm S4096x14848 .bf16) (harg9 : arg9.IsWhole) (arg10 : Memref sig .tc .vmem S4096x256 .f32) (harg10 : arg10.IsWhole) (arg11 : Memref sig .tc .vmem S4096x256 .bf16) (harg11 : arg11.IsWhole) (arg12 : Memref sig .tc .vmem S256x256 .f32) (harg12 : arg12.IsWhole) (arg13 : Memref sig .tc .vmem S4096x256 .bf16) (harg13 : arg13.IsWhole) (arg14 : Memref sig .tc .vmem S4096x256 .bf16) (harg14 : arg14.IsWhole) (arg15 : DmaSems sig S2)
    (v1 : Vec F S1x256x256 .bf16) (v3 : Vec F S1x1x256 .f32)
    (X1 : BufTy.Contents (Elt F) arg1.view.ty) (X2 : BufTy.Contents (Elt F) arg2.view.ty) (X3 : BufTy.Contents (Elt F) arg3.view.ty) :
    LoopInvTy_k0_t1 (F := F) Unit ℕ (Idealize.ShloMosaic.Pipeline.UC sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 (Scalar.shli 1#32 (BitVec.ofNat 32 (i 0).val)) v1 v3 where
  inv k _ := inv1 (F := F) c i arg1 arg2 arg3 arg8 arg10 arg11 arg12 arg14 v1 v3 X1 X2 X3 k
  step k acc := by
    have hk : k.val < 4 := Nat.lt_of_lt_of_le k.isLt k0_t1_abs.2.1
    iintro ⟨HR_arg1, HR_arg2, HR_arg3, ⟨%f8, HW_arg8, %h8⟩, ⟨%f10, HW_arg10, %h10⟩, ⟨%f11, HW_arg11, %h11⟩, ⟨%f12, HW_arg12, %h12⟩, ⟨%f14, HW_arg14, %h14⟩⟩
    have hm1 : 1024 * k.val + 512 * (1 : Fin 2).val = 512 * (2 * k.val + 1) := by show 1024 * k.val + 512 * 1 = _; omega
    have hm0 : 1024 * k.val + 512 * (0 : Fin 2).val = 512 * (2 * k.val) := by show 1024 * k.val + 512 * 0 = _; omega
    have o1 : k0_off3 k 1#32 = ![512 * (2 * k.val + 1), 0] := (k0_off3_eq k 1).trans (by rw [hm1])
    have o0 : k0_off3 k 0#32 = ![512 * (2 * k.val), 0] := (k0_off3_eq k 0).trans (by rw [hm0])
    have hW1 : arg1.view.readAt (Elt F) (Rect.unit (s := S4096x256) (k0_off2 k 1#32) S768x256.size (k0_off2_inb k 1)).toLoadRect X1 = wnd (arg1.view.read (Elt F) X1) (2 * k.val + 1) := ld_wnd (F := F) (arg1.view.read (Elt F) X1) (k0_off2 k 1#32) (2 * k.val + 1) (off2_eq k 1) (k0_off2_inb k 1)
    have hW0 : arg1.view.readAt (Elt F) (Rect.unit (s := S4096x256) (k0_off2 k 0#32) S768x256.size (k0_off2_inb k 0)).toLoadRect X1 = wnd (arg1.view.read (Elt F) X1) (2 * k.val) := ld_wnd (F := F) (arg1.view.read (Elt F) X1) (k0_off2 k 0#32) (2 * k.val) (off2_eq k 0) (k0_off2_inb k 0)
    have hU1 : arg1.view.readAt (Elt F) (Rect.unit (s := S4096x256) (k0_off3 k 1#32) S512x256.size (k0_off3_inb k 1)).toLoadRect X1 = rows (arg1.view.read (Elt F) X1) (2 * k.val + 1) := ld_rows (F := F) (arg1.view.read (Elt F) X1) (k0_off3 k 1#32) (2 * k.val + 1) o1 (k0_off3_inb k 1)
    have hU0 : arg1.view.readAt (Elt F) (Rect.unit (s := S4096x256) (k0_off3 k 0#32) S512x256.size (k0_off3_inb k 0)).toLoadRect X1 = rows (arg1.view.read (Elt F) X1) (2 * k.val) := ld_rows (F := F) (arg1.view.read (Elt F) X1) (k0_off3 k 0#32) (2 * k.val) o0 (k0_off3_inb k 0)
    have hG1 : arg2.view.readAt (Elt F) (Rect.unit (s := S4096x256) (k0_off3 k 1#32) S512x256.size (k0_off3_inb k 1)).toLoadRect X2 = rows (arg2.view.read (Elt F) X2) (2 * k.val + 1) := ld_rows (F := F) (arg2.view.read (Elt F) X2) (k0_off3 k 1#32) (2 * k.val + 1) o1 (k0_off3_inb k 1)
    have hG0 : arg2.view.readAt (Elt F) (Rect.unit (s := S4096x256) (k0_off3 k 0#32) S512x256.size (k0_off3_inb k 0)).toLoadRect X2 = rows (arg2.view.read (Elt F) X2) (2 * k.val) := ld_rows (F := F) (arg2.view.read (Elt F) X2) (k0_off3 k 0#32) (2 * k.val) o0 (k0_off3_inb k 0)
    have hD1 : arg3.view.readAt (Elt F) (Rect.unit (s := S4096x256) (k0_off3 k 1#32) S512x256.size (k0_off3_inb k 1)).toLoadRect X3 = rows (arg3.view.read (Elt F) X3) (2 * k.val + 1) := ld_rows (F := F) (arg3.view.read (Elt F) X3) (k0_off3 k 1#32) (2 * k.val + 1) o1 (k0_off3_inb k 1)
    have hD0 : arg3.view.readAt (Elt F) (Rect.unit (s := S4096x256) (k0_off3 k 0#32) S512x256.size (k0_off3_inb k 0)).toLoadRect X3 = rows (arg3.view.read (Elt F) X3) (2 * k.val) := ld_rows (F := F) (arg3.view.read (Elt F) X3) (k0_off3 k 0#32) (2 * k.val) o0 (k0_off3_inb k 0)
    have hv0 := iv1 k
    unfold k0_t1_body
    sl_exec
    sl_step
    isplitl [HR_arg1]
    · iexact HR_arg1
    isplitl [HR_arg2]
    · iexact HR_arg2
    isplitl [HR_arg3]
    · iexact HR_arg3
    isplitl [HW_arg8]
    · iexists _
      isplitl
      · iexact HW_arg8
      · ipureintro
        refine (View.read_writes_full _ _ _ _ _).trans ?_
        refine (congrArg (k0_pay31 _ _ _ _) (View.readCov_full _ _ _ _ _)).trans ?_
        rw [scAcc_two]
        rw [← h8, yB, yB, ← band0, ← cnt0, ← hv0]
        exact congrArg (k0_pay31 _ _ _ _) (congrArg (k0_pay11 _ _ _ _ _) (View.readAt_full _ _ _))
    isplitl [HW_arg10]
    · iexists _
      isplitl
      · iexact HW_arg10
      · ipureintro
        refine upto_two _ _ _ k.val _ _ o0 o1 _ _ h10 _ _ ?_ ?_
        · rw [dpB]; sl_unfold_words; rfl
        · rw [dpB]; sl_unfold_words; rfl
    isplitl [HW_arg11]
    · iexists _
      isplitl
      · iexact HW_arg11
      · ipureintro
        refine upto_two _ _ _ k.val _ _ o0 o1 _ _ h11 _ _ ?_ ?_
        · rw [dpcB, ← cnt0]; sl_unfold_words; rfl
        · rw [dpcB, ← hv0]; sl_unfold_words; rfl
    isplitl [HW_arg12]
    · iexists _
      isplitl
      · iexact HW_arg12
      · ipureintro
        refine (View.read_writes_full _ _ _ _ _).trans ?_
        refine (congrArg (k0_pay33 _ _ _ _ _) (View.readCov_full _ _ _ _ _)).trans ?_
        rw [dwAcc_two]
        rw [← h12, pB, pB, ← band0, ← cnt0, ← hv0]
        exact congrArg (k0_pay33 _ _ _ _ _) (congrArg (k0_pay13 _ _ _ _ _ _) (View.readAt_full _ _ _))
    · iexists _
      isplitl
      · iexact HW_arg14
      · ipureintro
        refine upto_two _ _ _ k.val _ _ o0 o1 _ _ h14 _ _ ?_ ?_
        · rw [dgB, ← band0, ← cnt0]; sl_unfold_words; rfl
        · rw [dgB, ← hv0]; sl_unfold_words; rfl

end Cert.KernelIdeal.Pool

end
-- ==== Proof.Pool.Loop2.lean ====
module

public import proofs.«01_k».proof.Proof.Pool.Blocks
public import proofs.«01_k».proof.Proof.Gen.KernelIdeal.Loops
public import Idealize.ShloMosaic.Lib.Pipeline.Routed
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 8192
set_option maxHeartbeats 4000000

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Idealize.ShloMosaic.Pipeline.UC sig nD τ) ℕ

/-- The gradient of the pooled input from the two scratch arrays `P` (before the mean's division) and `C` (after it). -/
abbrev duOf (i : grid0.Coords) (P : Vec F S4096x256 .f32) (C : Vec F S4096x256 .bf16) : Vec F S4096x256 .bf16 :=
  glue fun n => k0_pay38 i (BitVec.ofNat 32 n) 512#32 (wnd C n) (rows P n)

/-- `Y` with the rows of the first `k` trips those of `X`. -/
def fillTo (X Y : Vec F S4096x256 .bf16) : ℕ → Vec F S4096x256 .bf16
  | 0 => Y
  | k + 1 => fun y => if (y 0).val < 1024 * (k + 1) then X y else Y y

theorem upto_of_fill {X Y : Vec F S4096x256 .bf16} {k : ℕ} (h : Y = fillTo X Y k) : Upto Y X (1024 * k) := by
  intro y hy
  cases k with
  | zero => exact absurd hy (Nat.not_lt_zero _)
  | succ k => rw [h]; exact if_pos hy

theorem fill_of_upto {X Y : Vec F S4096x256 .bf16} {k : ℕ} (h : Upto Y X (1024 * k)) : Y = fillTo X Y k := by
  cases k with
  | zero => rfl
  | succ k =>
    funext y
    show Y y = if (y 0).val < 1024 * (k + 1) then X y else Y y
    split
    · exact h y ‹_›
    · rfl

/-- Before trip `k` of the second loop: the two scratch arrays it reads and the gradient filled up to row `1024 k`. -/
abbrev inv2 (c : Dev nD) (i : grid0.Coords) (arg10 : Memref sig .tc .vmem S4096x256 .f32) (arg11 : Memref sig .tc .vmem S4096x256 .bf16) (arg13 : Memref sig .tc .vmem S4096x256 .bf16)
    (X10 : BufTy.Contents (Elt F) arg10.view.ty) (X11 : BufTy.Contents (Elt F) arg11.view.ty) (k : ℕ) : sProp 𝕄 :=
  iprop((arg10.view.loc (c : Thread nD τ) ↦[arg10.view.set]{fullShare} X10)
    ∗ (arg11.view.loc (c : Thread nD τ) ↦[arg11.view.set]{fullShare} X11)
    ∗ (∃ f, (arg13.view.loc (c : Thread nD τ) ↦[arg13.view.set]{fullShare} f) ∗ ⌜arg13.view.read (Elt F) f = fillTo (duOf i (arg10.view.read (Elt F) X10) (arg11.view.read (Elt F) X11)) (arg13.view.read (Elt F) f) k⌝))

/-- The first half's gradient is the second half's text at the other block. -/
theorem du0 (i : grid0.Coords) (k : Fin k0_t2_loop.trips) (x : Vec F S768x256 .bf16) (y : Vec F S512x256 .f32) :
    k0_pay25 (half i) 0#32 1#32 k x y = k0_pay38 i (BitVec.ofNat 32 (2 * k.val)) 512#32 x y := by
  rw [← iv0']; rfl

set_option warn.classDefReducibility false in
/-- The second loop by that invariant. -/
@[sl_loop] def loop2 (𝒱 : Variants) (c : Dev nD) (bd : Option 𝒱.V) (E : Set ℕ) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x256x256 .bf16) (harg4 : arg4.IsWhole) (arg5 : Memref sig .tc .vmem S1x1x256 .f32) (harg5 : arg5.IsWhole) (arg6 : Memref sig .tc .hbm S4096x14848 .bf16) (harg6 : arg6.IsWhole) (arg7 : Memref sig .tc .vmem S1x256x256 .bf16) (harg7 : arg7.IsWhole) (arg8 : Memref sig .tc .vmem S1x1x256 .f32) (harg8 : arg8.IsWhole) (arg9 : Memref sig .tc .hbm S4096x14848 .bf16) (harg9 : arg9.IsWhole) (arg10 : Memref sig .tc .vmem S4096x256 .f32) (harg10 : arg10.IsWhole) (arg11 : Memref sig .tc .vmem S4096x256 .bf16) (harg11 : arg11.IsWhole) (arg12 : Memref sig .tc .vmem S256x256 .f32) (harg12 : arg12.IsWhole) (arg13 : Memref sig .tc .vmem S4096x256 .bf16) (harg13 : arg13.IsWhole) (arg14 : Memref sig .tc .vmem S4096x256 .bf16) (harg14 : arg14.IsWhole) (arg15 : DmaSems sig S2)
    (X10 : BufTy.Contents (Elt F) arg10.view.ty) (X11 : BufTy.Contents (Elt F) arg11.view.ty) :
    LoopInvTy_k0_t2 (F := F) Unit ℕ (Idealize.ShloMosaic.Pipeline.UC sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 (Scalar.shli 1#32 (BitVec.ofNat 32 (i 0).val)) where
  inv k _ := inv2 (F := F) c i arg10 arg11 arg13 X10 X11 k
  step k acc := by
    iintro ⟨HR_arg10, HR_arg11, ⟨%f13, HW_arg13, %h13⟩⟩
    have hm1 : 1024 * k.val + 512 * (1 : Fin 2).val = 512 * (2 * k.val + 1) := by show 1024 * k.val + 512 * 1 = _; omega
    have hm0 : 1024 * k.val + 512 * (0 : Fin 2).val = 512 * (2 * k.val) := by show 1024 * k.val + 512 * 0 = _; omega
    have o1 : k0_off5 k 1#32 = ![512 * (2 * k.val + 1), 0] := (k0_off5_eq k 1).trans (by rw [hm1])
    have o0 : k0_off5 k 0#32 = ![512 * (2 * k.val), 0] := (k0_off5_eq k 0).trans (by rw [hm0])
    have hW1 : arg11.view.readAt (Elt F) (Rect.unit (s := S4096x256) (k0_off4 k 1#32) S768x256.size (k0_off4_inb k 1)).toLoadRect X11 = wnd (arg11.view.read (Elt F) X11) (2 * k.val + 1) := ld_wnd (F := F) (arg11.view.read (Elt F) X11) (k0_off4 k 1#32) (2 * k.val + 1) (off4_eq k 1) (k0_off4_inb k 1)
    have hW0 : arg11.view.readAt (Elt F) (Rect.unit (s := S4096x256) (k0_off4 k 0#32) S768x256.size (k0_off4_inb k 0)).toLoadRect X11 = wnd (arg11.view.read (Elt F) X11) (2 * k.val) := ld_wnd (F := F) (arg11.view.read (Elt F) X11) (k0_off4 k 0#32) (2 * k.val) (off4_eq k 0) (k0_off4_inb k 0)
    have hU1 : arg10.view.readAt (Elt F) (Rect.unit (s := S4096x256) (k0_off5 k 1#32) S512x256.size (k0_off5_inb k 1)).toLoadRect X10 = rows (arg10.view.read (Elt F) X10) (2 * k.val + 1) := ld_rows (F := F) (arg10.view.read (Elt F) X10) (k0_off5 k 1#32) (2 * k.val + 1) o1 (k0_off5_inb k 1)
    have hU0 : arg10.view.readAt (Elt F) (Rect.unit (s := S4096x256) (k0_off5 k 0#32) S512x256.size (k0_off5_inb k 0)).toLoadRect X10 = rows (arg10.view.read (Elt F) X10) (2 * k.val) := ld_rows (F := F) (arg10.view.read (Elt F) X10) (k0_off5 k 0#32) (2 * k.val) o0 (k0_off5_inb k 0)
    have hv1 := iv1' k
    unfold k0_t2_body
    sl_exec
    sl_step
    isplitl [HR_arg10]
    · iexact HR_arg10
    isplitl [HR_arg11]
    · iexact HR_arg11
    · iexists _
      isplitl
      · iexact HW_arg13
      · ipureintro
        refine fill_of_upto (upto_two _ _ _ k.val _ _ o0 o1 _ _ (upto_of_fill h13) _ _ ?_ ?_)
        · rw [← du0]
        · rw [← hv1]; sl_unfold_words; rfl

end Cert.KernelIdeal.Pool

end
-- ==== Proof.Pool.Windows.lean ====
module

public import proofs.«01_k».proof.Proof.Pool.Blocks
public import proofs.«01_k».proof.Proof.Gen.KernelIdeal.Launch
public import proofs.«01_k».proof.Proof.Gen.KernelIdeal.Loops
public import Idealize.ShloMosaic.Lib.Pipeline.Routed
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 8192
set_option maxHeartbeats 1000000

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Idealize.ShloMosaic.Pipeline.UC sig nD τ) ℕ

/-- The column window the pooled input's gradient of group `i` lands in. -/
abbrev winU (arg9 : Memref sig .tc .hbm S4096x14848 .bf16) (i : grid0.Coords) : Memref sig .tc .hbm S4096x256 .bf16 :=
  arg9.slice (Rect.unit (s := S4096x14848) (k0_off6 i 4096#32) S4096x256.size (k0_off6_inb i 0)) (fun _ => rfl)
/-- The column window the gate's gradient of group `i` lands in. -/
abbrev winG (arg9 : Memref sig .tc .hbm S4096x14848 .bf16) (i : grid0.Coords) : Memref sig .tc .hbm S4096x256 .bf16 :=
  arg9.slice (Rect.unit (s := S4096x14848) (k0_off6 i 5120#32) S4096x256.size (k0_off6_inb i 1)) (fun _ => rfl)

/-- A transfer of one scratch array into a window, under way. -/
abbrev flight (c : Dev nD) (d : Memref sig .tc .hbm S4096x256 .bf16) (a : Memref sig .tc .vmem S4096x256 .bf16) (sm : DmaSem sig)
    (Z : Buf (Elt F) (d.view.loc (c : Thread nD τ))) (f : Buf (Elt F) (a.view.loc (c : Thread nD τ))) : sProp 𝕄 :=
  Transfers.Flight (countersEmb (U := Idealize.ShloMosaic.Pipeline.UC sig nD τ)) (c : Thread nD τ) (.dma sm) () (d.view.amount (SemLoc.dma sm))
    iprop((d.view.loc (c : Thread nD τ) ↦[d.view.set]{fullShare} d.view.write (Elt F) Z (a.view.read (Elt F) f) Finset.univ)
      ∗ (a.view.loc (c : Thread nD τ) ↦[a.view.set]{fullShare} f))

/-- The two transfers of a group's gradients, started. -/
def tailP (i : grid0.Coords) (arg9 : Memref sig .tc .hbm S4096x14848 .bf16) (harg9 : arg9.IsWhole)
    (arg13 : Memref sig .tc .vmem S4096x256 .bf16) (harg13 : arg13.IsWhole) (arg14 : Memref sig .tc .vmem S4096x256 .bf16) (harg14 : arg14.IsWhole) :
    Prog (TpuEff nD τ sig (Elt F) Λ₀ .tc) PUnit := do
  Prog.lift (.enqueueDma arg13 (.here (winU arg9 i)) (.dma ((cc0_scratch5.slice (Rect.unit (s := S2) ![0] S1.size inb_S2_S1_0)).squeeze S_ squeezes_S1_S_).sem) harg13.wordExact (harg9.wordExact_slice rfl _ (k0_off6_wordsbf16 i 0)) ⟨Or.inl rfl, trivial⟩)
  Prog.lift (.enqueueDma arg14 (.here (winG arg9 i)) (.dma ((cc0_scratch5.slice (Rect.unit (s := S2) ![1] S1.size inb_S2_S1_1)).squeeze S_ squeezes_S1_S_).sem) harg14.wordExact (harg9.wordExact_slice rfl _ (k0_off6_wordsbf16 i 1)) ⟨Or.inl rfl, trivial⟩)
/-- The body after its loops, not at the last group: the two transfers start. -/
theorem tail_start (c : Dev nD) (i : grid0.Coords) (arg9 : Memref sig .tc .hbm S4096x14848 .bf16) (harg9 : arg9.IsWhole)
    (arg13 : Memref sig .tc .vmem S4096x256 .bf16) (harg13 : arg13.IsWhole) (arg14 : Memref sig .tc .vmem S4096x256 .bf16) (harg14 : arg14.IsWhole)
    (Z : Buf (Elt F) (arg9.view.loc (c : Thread nD τ))) (f13 : BufTy.Contents (Elt F) arg13.view.ty) (f14 : BufTy.Contents (Elt F) arg14.view.ty) (K : PUnit → sProp 𝕄) :
    iprop((arg13.view.loc (c : Thread nD τ) ↦[arg13.view.set]{fullShare} f13) ∗ (arg14.view.loc (c : Thread nD τ) ↦[arg14.view.set]{fullShare} f14)
        ∗ ((winU arg9 i).view.loc (c : Thread nD τ) ↦[(winU arg9 i).view.set]{fullShare} Z) ∗ ((winG arg9 i).view.loc (c : Thread nD τ) ↦[(winG arg9 i).view.set]{fullShare} Z)
        ∗ semVal ((c : Thread nD τ), SemLoc.dma 14) 0 ∗ semVal ((c : Thread nD τ), SemLoc.dma 15) 0
        ∗ (iprop(flight c (winU arg9 i) arg13 14 Z f13 ∗ flight c (winG arg9 i) arg14 15 Z f14) -∗ K ⟨⟩))
      ⊢ wp frame (wpE (defs₀ (F := F)) Variants.none c none) Set.univ (tailP i arg9 harg9 arg13 harg13 arg14 harg14) K := by
  iintro ⟨H13, H14, HZ0, HZ1, Hs0, Hs1, HK⟩
  unfold tailP
  sl_exec
  sl_step
  iapply HK
  isplitl [Hs0]
  · rw [← View.write_univ_eq_writes_whole]; iexact Hs0
  · rw [← View.write_univ_eq_writes_whole]; iexact Hs1
end Cert.KernelIdeal.Pool

end
-- ==== Proof.Pool.PartFirst.lean ====
module

public import proofs.«01_k».proof.Proof.Pool.Loop1
public import proofs.«01_k».proof.Proof.Pool.Loop2
public import proofs.«01_k».proof.Proof.Pool.Windows
public import proofs.«01_k».proof.Proof.Gen.KernelIdeal.Launch
public import proofs.«01_k».proof.Proof.Gen.KernelIdeal.Loops
public import Idealize.ShloMosaic.Lib.Pipeline.Routed
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 8192
set_option maxHeartbeats 1000000

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Idealize.ShloMosaic.Pipeline.UC sig nD τ) ℕ

/-- The body up to its transfers, at the first group. -/
theorem part_first (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x256x256 .bf16) (harg4 : arg4.IsWhole) (arg5 : Memref sig .tc .vmem S1x1x256 .f32) (harg5 : arg5.IsWhole) (arg6 : Memref sig .tc .hbm S4096x14848 .bf16) (harg6 : arg6.IsWhole) (arg7 : Memref sig .tc .vmem S1x256x256 .bf16) (harg7 : arg7.IsWhole) (arg8 : Memref sig .tc .vmem S1x1x256 .f32) (harg8 : arg8.IsWhole) (arg9 : Memref sig .tc .hbm S4096x14848 .bf16) (harg9 : arg9.IsWhole) (arg10 : Memref sig .tc .vmem S4096x256 .f32) (harg10 : arg10.IsWhole) (arg11 : Memref sig .tc .vmem S4096x256 .bf16) (harg11 : arg11.IsWhole) (arg12 : Memref sig .tc .vmem S256x256 .f32) (harg12 : arg12.IsWhole) (arg13 : Memref sig .tc .vmem S4096x256 .bf16) (harg13 : arg13.IsWhole) (arg14 : Memref sig .tc .vmem S4096x256 .bf16) (harg14 : arg14.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty)
    (h1 : ¬ k0_cond1 i = 1#1) (W : Waits sig Unit) (K : (Σ' (arg0 : BitVec 32), BitVec 32) → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ owes (c : Thread nD τ) 0 W
        ∗ (∀ r, iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg7.view.loc (c : Thread nD τ) ↦[arg7.view.set]{fullShare} f) ∗ ⌜arg7.view.read (Elt F) f = k0_pay37 (dwAcc i (arg5.view.read (Elt F) X5) (arg1.view.read (Elt F) X1) (arg2.view.read (Elt F) X2) (arg3.view.read (Elt F) X3) 8)⌝) ∗ (∃ f, (arg8.view.loc (c : Thread nD τ) ↦[arg8.view.set]{fullShare} f) ∗ ⌜arg8.view.read (Elt F) f = scAcc i (arg4.view.read (Elt F) X4) (arg1.view.read (Elt F) X1) (arg2.view.read (Elt F) X2) (arg3.view.read (Elt F) X3) 8⌝) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f) ∗ ⌜arg13.view.read (Elt F) f = duAll i (arg4.view.read (Elt F) X4) (arg5.view.read (Elt F) X5) (arg2.view.read (Elt F) X2) (arg3.view.read (Elt F) X3)⌝) ∗ (∃ f, (arg14.view.loc (c : Thread nD τ) ↦[arg14.view.set]{fullShare} f) ∗ ⌜arg14.view.read (Elt F) f = dgAll i (arg4.view.read (Elt F) X4) (arg5.view.read (Elt F) X5) (arg1.view.read (Elt F) X1) (arg2.view.read (Elt F) X2) (arg3.view.read (Elt F) X3)⌝) ∗ (∃ W', owes (c : Thread nD τ) 0 W')) -∗ K r))
      ⊢ wp frame (wpE (defs₀ (F := F)) Variants.none c none) Set.univ (k0_part7 i arg1 harg1 arg2 harg2 arg3 harg3 arg4 harg4 arg5 harg5 arg6 harg6 arg7 harg7 arg8 harg8 arg9 harg9 arg10 harg10 arg11 harg11 arg12 harg12 arg13 harg13 arg14 harg14 cc0_scratch5) K := by
  iintro ⟨HR1, HR2, HR3, HR4, HR5, ⟨%f7, HW7⟩, ⟨%f8, HW8⟩, ⟨%f10, HW10⟩, ⟨%f11, HW11⟩, ⟨%f12, HW12⟩, ⟨%f13, HW13⟩, ⟨%f14, HW14⟩, HO, HK⟩
  have e8 : arg8.view.read (Elt F) (arg8.view.writes (Elt F) arg8.view.junk [⟨Rect.unit (s := S1x1x256) ![0, 0, 0] S1x1x256.size inb_S1x1x256_S1x1x256_0_0_0, k0_pay29 (F := F)⟩])
      = scAcc i (arg4.view.readAt (Elt F) (Rect.unit (s := S1x256x256) ![0, 0, 0] S1x256x256.size inb_S1x256x256_S1x256x256_0_0_0).toLoadRect X4) (arg1.view.read (Elt F) X1) (arg2.view.read (Elt F) X2) (arg3.view.read (Elt F) X3) (2 * 0) := View.read_writes_full _ _ _ _ _
  have e12 : arg12.view.read (Elt F) (arg12.view.writes (Elt F) arg12.view.junk [⟨Rect.unit (s := S256x256) ![0, 0] S256x256.size inb_S256x256_S256x256_0_0, k0_pay28 (F := F)⟩])
      = dwAcc i (arg5.view.readAt (Elt F) (Rect.unit (s := S1x1x256) ![0, 0, 0] S1x1x256.size inb_S1x1x256_S1x1x256_0_0_0).toLoadRect X5) (arg1.view.read (Elt F) X1) (arg2.view.read (Elt F) X2) (arg3.view.read (Elt F) X3) (2 * 0) := View.read_writes_full _ _ _ _ _
  have e10 : Upto (arg10.view.read (Elt F) f10) (dpAll (arg4.view.readAt (Elt F) (Rect.unit (s := S1x256x256) ![0, 0, 0] S1x256x256.size inb_S1x256x256_S1x256x256_0_0_0).toLoadRect X4) (arg5.view.readAt (Elt F) (Rect.unit (s := S1x1x256) ![0, 0, 0] S1x1x256.size inb_S1x1x256_S1x1x256_0_0_0).toLoadRect X5) (arg2.view.read (Elt F) X2) (arg3.view.read (Elt F) X3)) (1024 * 0) := Upto.zero _ _
  have e11 : Upto (arg11.view.read (Elt F) f11) (dpcAll i (arg4.view.readAt (Elt F) (Rect.unit (s := S1x256x256) ![0, 0, 0] S1x256x256.size inb_S1x256x256_S1x256x256_0_0_0).toLoadRect X4) (arg5.view.readAt (Elt F) (Rect.unit (s := S1x1x256) ![0, 0, 0] S1x1x256.size inb_S1x1x256_S1x1x256_0_0_0).toLoadRect X5) (arg2.view.read (Elt F) X2) (arg3.view.read (Elt F) X3)) (1024 * 0) := Upto.zero _ _
  have e14 : Upto (arg14.view.read (Elt F) f14) (dgAll i (arg4.view.readAt (Elt F) (Rect.unit (s := S1x256x256) ![0, 0, 0] S1x256x256.size inb_S1x256x256_S1x256x256_0_0_0).toLoadRect X4) (arg5.view.readAt (Elt F) (Rect.unit (s := S1x1x256) ![0, 0, 0] S1x1x256.size inb_S1x1x256_S1x1x256_0_0_0).toLoadRect X5) (arg1.view.read (Elt F) X1) (arg2.view.read (Elt F) X2) (arg3.view.read (Elt F) X3)) (1024 * 0) := Upto.zero _ _
  rw [k0_part7_eq_skeleton]; unfold k0_part7_skel
  sl_exec
  sl_step

  have t1 : Scf.trips k0_t1_loop.lb k0_t1_loop.ub k0_t1_loop.st = 4 := by decide
  have t2 : Scf.trips k0_t2_loop.lb k0_t2_loop.ub k0_t2_loop.st = 4 := by decide
  have ew : (arg4.view.readAt (Elt F) (Rect.unit (s := S1x256x256) ![0, 0, 0] S1x256x256.size inb_S1x256x256_S1x256x256_0_0_0).toLoadRect X4) = (arg4.view.read (Elt F) X4) := View.readAt_full _ _ _
  have es : (arg5.view.readAt (Elt F) (Rect.unit (s := S1x1x256) ![0, 0, 0] S1x1x256.size inb_S1x1x256_S1x1x256_0_0_0).toLoadRect X5) = (arg5.view.read (Elt F) X5) := View.readAt_full _ _ _
  rw [t1, ew] at hL4
  rw [t1, ew, es] at hL6 hL8 hL12
  rw [t1, es] at hL10
  rw [t2] at hL16
  have q10 := hL6.all (by decide)
  have q11 := hL8.all (by decide)
  have q14 := hL12.all (by decide)
  have q13 := (upto_of_fill hL16).all (by decide)
  rw [q10, q11] at q13
  iapply HK
  isplitl [HR1]; · iexact HR1
  isplitl [HR2]; · iexact HR2
  isplitl [HR3]; · iexact HR3
  isplitl [HR4]; · iexact HR4
  isplitl [HR5]; · iexact HR5
  isplitl [HW7]
  · iexists _
    isplitl; · iexact HW7
    ipureintro
    refine (View.read_writes_full _ _ _ _ _).trans ?_
    rw [← hL10]
    exact congrArg k0_pay37 (View.readAt_full _ _ _)
  isplitl [HW8]
  · iexists _
    isplitl; · iexact HW8
    ipureintro; exact hL4
  isplitl [HW10]; · iexists _; iexact HW10
  isplitl [HW11]; · iexists _; iexact HW11
  isplitl [HW12]; · iexists _; iexact HW12
  isplitl [HW13]
  · iexists _
    isplitl; · iexact HW13
    ipureintro; exact q13
  isplitl [HW14]
  · iexists _
    isplitl; · iexact HW14
    ipureintro; exact q14
  iexists _; iexact HO

end Cert.KernelIdeal.Pool

end
-- ==== Proof.Pool.PartLater.lean ====
module

public import proofs.«01_k».proof.Proof.Pool.Loop1
public import proofs.«01_k».proof.Proof.Pool.Loop2
public import proofs.«01_k».proof.Proof.Pool.Windows
public import proofs.«01_k».proof.Proof.Gen.KernelIdeal.Launch
public import proofs.«01_k».proof.Proof.Gen.KernelIdeal.Loops
public import Idealize.ShloMosaic.Lib.Pipeline.Routed
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 8192
set_option maxHeartbeats 1000000

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Idealize.ShloMosaic.Pipeline.UC sig nD τ) ℕ

/-- The body up to its transfers, at a later group: it first waits for the two transfers of the group before. -/
theorem part_later (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x256x256 .bf16) (harg4 : arg4.IsWhole) (arg5 : Memref sig .tc .vmem S1x1x256 .f32) (harg5 : arg5.IsWhole) (arg6 : Memref sig .tc .hbm S4096x14848 .bf16) (harg6 : arg6.IsWhole) (arg7 : Memref sig .tc .vmem S1x256x256 .bf16) (harg7 : arg7.IsWhole) (arg8 : Memref sig .tc .vmem S1x1x256 .f32) (harg8 : arg8.IsWhole) (arg9 : Memref sig .tc .hbm S4096x14848 .bf16) (harg9 : arg9.IsWhole) (arg10 : Memref sig .tc .vmem S4096x256 .f32) (harg10 : arg10.IsWhole) (arg11 : Memref sig .tc .vmem S4096x256 .bf16) (harg11 : arg11.IsWhole) (arg12 : Memref sig .tc .vmem S256x256 .f32) (harg12 : arg12.IsWhole) (arg13 : Memref sig .tc .vmem S4096x256 .bf16) (harg13 : arg13.IsWhole) (arg14 : Memref sig .tc .vmem S4096x256 .bf16) (harg14 : arg14.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty)
    (S14 S15 : Finset (Idx (arg9.view.loc (c : Thread nD τ)))) (Z14 Z15 : Buf (Elt F) (arg9.view.loc (c : Thread nD τ)))
    (f13 : BufTy.Contents (Elt F) arg13.view.ty) (f14 : BufTy.Contents (Elt F) arg14.view.ty)
    (h1 : k0_cond1 i = 1#1) (W : Waits sig Unit) (K : (Σ' (arg0 : BitVec 32), BitVec 32) → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (Transfers.Flight (countersEmb (U := Idealize.ShloMosaic.Pipeline.UC sig nD τ)) (c : Thread nD τ) (.dma 14) () ((winU arg9 i).view.amount (SemLoc.dma (sig := sig) 14)) iprop((arg9.view.loc (c : Thread nD τ) ↦[S14]{fullShare} Z14) ∗ (arg13.view.loc (c : Thread nD τ) ↦[arg13.view.set]{fullShare} f13))) ∗ (Transfers.Flight (countersEmb (U := Idealize.ShloMosaic.Pipeline.UC sig nD τ)) (c : Thread nD τ) (.dma 15) () ((winG arg9 i).view.amount (SemLoc.dma (sig := sig) 15)) iprop((arg9.view.loc (c : Thread nD τ) ↦[S15]{fullShare} Z15) ∗ (arg14.view.loc (c : Thread nD τ) ↦[arg14.view.set]{fullShare} f14))) ∗ owes (c : Thread nD τ) 0 W
        ∗ (∀ r, iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg7.view.loc (c : Thread nD τ) ↦[arg7.view.set]{fullShare} f) ∗ ⌜arg7.view.read (Elt F) f = k0_pay37 (dwAcc i (arg5.view.read (Elt F) X5) (arg1.view.read (Elt F) X1) (arg2.view.read (Elt F) X2) (arg3.view.read (Elt F) X3) 8)⌝) ∗ (∃ f, (arg8.view.loc (c : Thread nD τ) ↦[arg8.view.set]{fullShare} f) ∗ ⌜arg8.view.read (Elt F) f = scAcc i (arg4.view.read (Elt F) X4) (arg1.view.read (Elt F) X1) (arg2.view.read (Elt F) X2) (arg3.view.read (Elt F) X3) 8⌝) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f) ∗ ⌜arg13.view.read (Elt F) f = duAll i (arg4.view.read (Elt F) X4) (arg5.view.read (Elt F) X5) (arg2.view.read (Elt F) X2) (arg3.view.read (Elt F) X3)⌝) ∗ (∃ f, (arg14.view.loc (c : Thread nD τ) ↦[arg14.view.set]{fullShare} f) ∗ ⌜arg14.view.read (Elt F) f = dgAll i (arg4.view.read (Elt F) X4) (arg5.view.read (Elt F) X5) (arg1.view.read (Elt F) X1) (arg2.view.read (Elt F) X2) (arg3.view.read (Elt F) X3)⌝)
            ∗ (arg9.view.loc (c : Thread nD τ) ↦[S14]{fullShare} Z14) ∗ (arg9.view.loc (c : Thread nD τ) ↦[S15]{fullShare} Z15)
            ∗ semVal ((c : Thread nD τ), SemLoc.dma 14) 0 ∗ semVal ((c : Thread nD τ), SemLoc.dma 15) 0
            ∗ (∃ W', owes (c : Thread nD τ) 0 W')) -∗ K r))
      ⊢ wp frame (wpE (defs₀ (F := F)) Variants.none c none) Set.univ (k0_part7 i arg1 harg1 arg2 harg2 arg3 harg3 arg4 harg4 arg5 harg5 arg6 harg6 arg7 harg7 arg8 harg8 arg9 harg9 arg10 harg10 arg11 harg11 arg12 harg12 arg13 harg13 arg14 harg14 cc0_scratch5) K := by
  iintro ⟨HR1, HR2, HR3, HR4, HR5, ⟨%f7, HW7⟩, ⟨%f8, HW8⟩, ⟨%f10, HW10⟩, ⟨%f11, HW11⟩, ⟨%f12, HW12⟩, Hs0, Hs1, HO, HK⟩
  have e8 : arg8.view.read (Elt F) (arg8.view.writes (Elt F) arg8.view.junk [⟨Rect.unit (s := S1x1x256) ![0, 0, 0] S1x1x256.size inb_S1x1x256_S1x1x256_0_0_0, k0_pay29 (F := F)⟩])
      = scAcc i (arg4.view.readAt (Elt F) (Rect.unit (s := S1x256x256) ![0, 0, 0] S1x256x256.size inb_S1x256x256_S1x256x256_0_0_0).toLoadRect X4) (arg1.view.read (Elt F) X1) (arg2.view.read (Elt F) X2) (arg3.view.read (Elt F) X3) (2 * 0) := View.read_writes_full _ _ _ _ _
  have e12 : arg12.view.read (Elt F) (arg12.view.writes (Elt F) arg12.view.junk [⟨Rect.unit (s := S256x256) ![0, 0] S256x256.size inb_S256x256_S256x256_0_0, k0_pay28 (F := F)⟩])
      = dwAcc i (arg5.view.readAt (Elt F) (Rect.unit (s := S1x1x256) ![0, 0, 0] S1x1x256.size inb_S1x1x256_S1x1x256_0_0_0).toLoadRect X5) (arg1.view.read (Elt F) X1) (arg2.view.read (Elt F) X2) (arg3.view.read (Elt F) X3) (2 * 0) := View.read_writes_full _ _ _ _ _
  have e10 : Upto (arg10.view.read (Elt F) f10) (dpAll (arg4.view.readAt (Elt F) (Rect.unit (s := S1x256x256) ![0, 0, 0] S1x256x256.size inb_S1x256x256_S1x256x256_0_0_0).toLoadRect X4) (arg5.view.readAt (Elt F) (Rect.unit (s := S1x1x256) ![0, 0, 0] S1x1x256.size inb_S1x1x256_S1x1x256_0_0_0).toLoadRect X5) (arg2.view.read (Elt F) X2) (arg3.view.read (Elt F) X3)) (1024 * 0) := Upto.zero _ _
  have e11 : Upto (arg11.view.read (Elt F) f11) (dpcAll i (arg4.view.readAt (Elt F) (Rect.unit (s := S1x256x256) ![0, 0, 0] S1x256x256.size inb_S1x256x256_S1x256x256_0_0_0).toLoadRect X4) (arg5.view.readAt (Elt F) (Rect.unit (s := S1x1x256) ![0, 0, 0] S1x1x256.size inb_S1x1x256_S1x1x256_0_0_0).toLoadRect X5) (arg2.view.read (Elt F) X2) (arg3.view.read (Elt F) X3)) (1024 * 0) := Upto.zero _ _
  have e14 : Upto (arg14.view.read (Elt F) f14) (dgAll i (arg4.view.readAt (Elt F) (Rect.unit (s := S1x256x256) ![0, 0, 0] S1x256x256.size inb_S1x256x256_S1x256x256_0_0_0).toLoadRect X4) (arg5.view.readAt (Elt F) (Rect.unit (s := S1x1x256) ![0, 0, 0] S1x1x256.size inb_S1x1x256_S1x1x256_0_0_0).toLoadRect X5) (arg1.view.read (Elt F) X1) (arg2.view.read (Elt F) X2) (arg3.view.read (Elt F) X3)) (1024 * 0) := Upto.zero _ _
  rw [k0_part7_eq_skeleton]; unfold k0_part7_skel
  sl_exec
  sl_step
  have t1 : Scf.trips k0_t1_loop.lb k0_t1_loop.ub k0_t1_loop.st = 4 := by decide
  have t2 : Scf.trips k0_t2_loop.lb k0_t2_loop.ub k0_t2_loop.st = 4 := by decide
  have ew : (arg4.view.readAt (Elt F) (Rect.unit (s := S1x256x256) ![0, 0, 0] S1x256x256.size inb_S1x256x256_S1x256x256_0_0_0).toLoadRect X4) = (arg4.view.read (Elt F) X4) := View.readAt_full _ _ _
  have es : (arg5.view.readAt (Elt F) (Rect.unit (s := S1x1x256) ![0, 0, 0] S1x1x256.size inb_S1x1x256_S1x1x256_0_0_0).toLoadRect X5) = (arg5.view.read (Elt F) X5) := View.readAt_full _ _ _
  rw [t1, ew] at hL4
  rw [t1, ew, es] at hL6 hL8 hL12
  rw [t1, es] at hL10
  rw [t2] at hL16
  have q10 := hL6.all (by decide)
  have q11 := hL8.all (by decide)
  have q14 := hL12.all (by decide)
  have q13 := (upto_of_fill hL16).all (by decide)
  rw [q10, q11] at q13
  iapply HK
  isplitl [HR1]; · iexact HR1
  isplitl [HR2]; · iexact HR2
  isplitl [HR3]; · iexact HR3
  isplitl [HR4]; · iexact HR4
  isplitl [HR5]; · iexact HR5
  isplitl [HW7]
  · iexists _
    isplitl; · iexact HW7
    ipureintro
    refine (View.read_writes_full _ _ _ _ _).trans ?_
    rw [← hL10]
    exact congrArg k0_pay37 (View.readAt_full _ _ _)
  isplitl [HW8]
  · iexists _
    isplitl; · iexact HW8
    ipureintro; exact hL4
  isplitl [HW10]; · iexists _; iexact HW10
  isplitl [HW11]; · iexists _; iexact HW11
  isplitl [HW12]; · iexists _; iexact HW12
  isplitl [Hs0_src]
  · iexists _
    isplitl; · iexact Hs0_src
    ipureintro; exact q13
  isplitl [Hs1_src]
  · iexists _
    isplitl; · iexact Hs1_src
    ipureintro; exact q14
  isplitl [Hs0_dst]; · iexact Hs0_dst
  isplitl [Hs1_dst]; · iexact Hs1_dst
  isplitl [Hs0]; · iexact Hs0
  isplitl [Hs1]; · iexact Hs1
  iexists _; iexact HO

end Cert.KernelIdeal.Pool

end
-- ==== Proof.Pool.Parts.lean ====
module

public import proofs.«01_k».proof.Proof.Pool.Windows
public import Idealize.ShloMosaic.Lib.ViewIndex
public import proofs.«01_k».proof.Proof.Gen.KernelIdeal.Launch
public import proofs.«01_k».proof.Proof.Gen.KernelIdeal.Loops
public import Idealize.ShloMosaic.Lib.Pipeline.Routed
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 8192
set_option maxHeartbeats 1000000

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Idealize.ShloMosaic.Pipeline.UC sig nD τ) ℕ

/-- The two windows of one group do not meet. -/
theorem win_disj (i : grid0.Coords) (arg9 : Memref sig .tc .hbm S4096x14848 .bf16) :
    Disjoint (winU arg9 i).view.set (winG arg9 i).view.set := by
  refine View.disjoint_slice ?_
  rw [Finset.disjoint_left]
  intro x hx hy
  rw [Rect.mem_set_unit] at hx hy
  have a := (hx 1).2; have b := (hy 1).1
  have e0 : k0_off6 i 4096#32 = _ := k0_off6_eq i 0
  have e1 : k0_off6 i 5120#32 = _ := k0_off6_eq i 1
  rw [e0] at a; rw [e1] at b
  have h4 : (i 0).val < 4 := (i 0).isLt
  simp [S4096x256] at a b
  omega

/-- The array of gradients after one group's two windows are written. -/
def znew (c : Dev nD) (i : grid0.Coords) (arg9 : Memref sig .tc .hbm S4096x14848 .bf16) (Z : Buf (Elt F) (arg9.view.loc (c : Thread nD τ)))
    (a b : Vec F S4096x256 .bf16) : Buf (Elt F) (arg9.view.loc (c : Thread nD τ)) :=
  (winG arg9 i).view.write (Elt F) ((winU arg9 i).view.write (Elt F) Z a Finset.univ) b Finset.univ

/-- The elements of the array outside the two windows of a group. -/
abbrev restS (i : grid0.Coords) (arg9 : Memref sig .tc .hbm S4096x14848 .bf16) : Finset arg9.view.ty.Idx :=
  (arg9.view.set \ (winU arg9 i).view.set) \ (winG arg9 i).view.set

theorem winU_sub (i : grid0.Coords) (arg9 : Memref sig .tc .hbm S4096x14848 .bf16) : (winU arg9 i).view.set ⊆ arg9.view.set :=
  View.set_slice_subset arg9.view _
theorem winG_sub (i : grid0.Coords) (arg9 : Memref sig .tc .hbm S4096x14848 .bf16) :
    (winG arg9 i).view.set ⊆ arg9.view.set \ (winU arg9 i).view.set := by
  intro x hx
  rw [Finset.mem_sdiff]
  exact ⟨View.set_slice_subset arg9.view _ hx, fun h => Finset.disjoint_left.mp (win_disj i arg9) h hx⟩

theorem znew_on_U (c : Dev nD) (i : grid0.Coords) (arg9 : Memref sig .tc .hbm S4096x14848 .bf16) (Z : Buf (Elt F) (arg9.view.loc (c : Thread nD τ)))
    (a b : Vec F S4096x256 .bf16) : ∀ x ∈ (winU arg9 i).view.set,
      ((winU arg9 i).view.write (Elt F) Z a Finset.univ) x = znew c i arg9 Z a b x := fun x hx =>
  (View.write_of_not_mem _ _ _ (fun h => Finset.disjoint_left.mp (win_disj i arg9) hx h)).symm

theorem znew_on_G (c : Dev nD) (i : grid0.Coords) (arg9 : Memref sig .tc .hbm S4096x14848 .bf16) (Z : Buf (Elt F) (arg9.view.loc (c : Thread nD τ)))
    (a b : Vec F S4096x256 .bf16) : ∀ x ∈ (winG arg9 i).view.set,
      ((winG arg9 i).view.write (Elt F) Z b Finset.univ) x = znew c i arg9 Z a b x := by
  intro x hx
  rw [← View.setOn_univ] at hx
  obtain ⟨y, -, rfl⟩ := Finset.mem_map.mp hx
  unfold znew
  rw [View.write_emb_of_mem _ _ (Finset.mem_univ y)]
  exact (View.write_emb_of_mem _ _ (Finset.mem_univ y)).symm

theorem znew_off (c : Dev nD) (i : grid0.Coords) (arg9 : Memref sig .tc .hbm S4096x14848 .bf16) (Z : Buf (Elt F) (arg9.view.loc (c : Thread nD τ)))
    (a b : Vec F S4096x256 .bf16) : ∀ x ∈ restS i arg9, Z x = znew c i arg9 Z a b x := by
  intro x hx
  rw [Finset.mem_sdiff, Finset.mem_sdiff] at hx
  unfold znew
  rw [View.write_of_not_mem _ _ _ hx.2, View.write_of_not_mem _ _ _ hx.1.2]

/-- The array taken apart for one group's transfers. -/
theorem dz_split (c : Dev nD) (i : grid0.Coords) (arg9 : Memref sig .tc .hbm S4096x14848 .bf16) (Z : Buf (Elt F) (arg9.view.loc (c : Thread nD τ)))
    (a b : Vec F S4096x256 .bf16) :
    (arg9.view.loc (c : Thread nD τ) ↦[arg9.view.set]{fullShare} Z : sProp 𝕄)
      ⊢ iprop(((winU arg9 i).view.loc (c : Thread nD τ) ↦[(winU arg9 i).view.set]{fullShare} Z)
        ∗ ((winG arg9 i).view.loc (c : Thread nD τ) ↦[(winG arg9 i).view.set]{fullShare} Z)
        ∗ (arg9.view.loc (c : Thread nD τ) ↦[restS i arg9]{fullShare} znew c i arg9 Z a b)) := by
  iintro H
  ihave H := (pointsTo_split_subset (winU_sub i arg9)).1 $$ H
  icases H with ⟨HU, H⟩
  ihave H := (pointsTo_split_subset (winG_sub i arg9)).1 $$ H
  icases H with ⟨HG, H⟩
  isplitl [HU]; · iexact HU
  isplitl [HG]; · iexact HG
  iapply (Entails.of_eq (pointsTo_congr (ℓ := arg9.view.loc (c : Thread nD τ)) (q := fullShare) (znew_off c i arg9 Z a b)))
  iexact H

/-- The array put together after the group's transfers. -/
theorem dz_join (c : Dev nD) (i : grid0.Coords) (arg9 : Memref sig .tc .hbm S4096x14848 .bf16) (Z : Buf (Elt F) (arg9.view.loc (c : Thread nD τ)))
    (a b : Vec F S4096x256 .bf16) :
    iprop((arg9.view.loc (c : Thread nD τ) ↦[(winU arg9 i).view.set]{fullShare} (winU arg9 i).view.write (Elt F) Z a Finset.univ)
        ∗ (arg9.view.loc (c : Thread nD τ) ↦[(winG arg9 i).view.set]{fullShare} (winG arg9 i).view.write (Elt F) Z b Finset.univ)
        ∗ (arg9.view.loc (c : Thread nD τ) ↦[restS i arg9]{fullShare} znew c i arg9 Z a b))
      ⊢ (arg9.view.loc (c : Thread nD τ) ↦[arg9.view.set]{fullShare} znew c i arg9 Z a b : sProp 𝕄) := by
  iintro ⟨HU, HG, H⟩
  ihave HU := (Entails.of_eq (pointsTo_congr (ℓ := arg9.view.loc (c : Thread nD τ)) (q := fullShare) (znew_on_U c i arg9 Z a b))) $$ HU
  ihave HG := (Entails.of_eq (pointsTo_congr (ℓ := arg9.view.loc (c : Thread nD τ)) (q := fullShare) (znew_on_G c i arg9 Z a b))) $$ HG
  iapply (pointsTo_split_subset (winU_sub i arg9)).2
  isplitl [HU]; · iexact HU
  iapply (pointsTo_split_subset (winG_sub i arg9)).2
  isplitl [HG]; · iexact HG
  iexact H

/-- The last group's wait for its own two transfers. -/
def endP (i : grid0.Coords) (arg9 : Memref sig .tc .hbm S4096x14848 .bf16) (harg9 : arg9.IsWhole)
    (arg13 : Memref sig .tc .vmem S4096x256 .bf16) (harg13 : arg13.IsWhole) (arg14 : Memref sig .tc .vmem S4096x256 .bf16) (harg14 : arg14.IsWhole)
    (k0_h2 : k0_cond2 i = 1#1) : Prog (TpuEff nD τ sig (Elt F) Λ₀ .tc) PUnit := do
  Prog.lift (.waitDma2 ((cc0_scratch5.slice (Rect.unit (s := S2) ![0] S1.size inb_S2_S1_0)).squeeze S_ squeezes_S1_S_).sem arg13 (arg9.slice (Rect.unit (s := S4096x14848) (k0_off7 i 4096#32) S4096x256.size (k0_off7_inb i k0_h2 0)) (fun _ => rfl)) harg13.wordExact (harg9.wordExact_slice rfl _ (k0_off7_wordsbf16 i k0_h2 0)))
  Prog.lift (.waitDma2 ((cc0_scratch5.slice (Rect.unit (s := S2) ![1] S1.size inb_S2_S1_1)).squeeze S_ squeezes_S1_S_).sem arg14 (arg9.slice (Rect.unit (s := S4096x14848) (k0_off7 i 5120#32) S4096x256.size (k0_off7_inb i k0_h2 1)) (fun _ => rfl)) harg14.wordExact (harg9.wordExact_slice rfl _ (k0_off7_wordsbf16 i k0_h2 1)))
  pure ⟨⟩

theorem end_wait (c : Dev nD) (i : grid0.Coords) (arg9 : Memref sig .tc .hbm S4096x14848 .bf16) (harg9 : arg9.IsWhole)
    (arg13 : Memref sig .tc .vmem S4096x256 .bf16) (harg13 : arg13.IsWhole) (arg14 : Memref sig .tc .vmem S4096x256 .bf16) (harg14 : arg14.IsWhole)
    (k0_h2 : k0_cond2 i = 1#1) (W : Waits sig Unit)
    (S14 S15 : Finset (Idx (arg9.view.loc (c : Thread nD τ)))) (Z14 Z15 : Buf (Elt F) (arg9.view.loc (c : Thread nD τ)))
    (f13 : BufTy.Contents (Elt F) arg13.view.ty) (f14 : BufTy.Contents (Elt F) arg14.view.ty) (K : PUnit → sProp 𝕄) :
    iprop(Transfers.Flight (countersEmb (U := Idealize.ShloMosaic.Pipeline.UC sig nD τ)) (c : Thread nD τ) (.dma 14) () ((winU arg9 i).view.amount (SemLoc.dma 14)) iprop((arg9.view.loc (c : Thread nD τ) ↦[S14]{fullShare} Z14) ∗ (arg13.view.loc (c : Thread nD τ) ↦[arg13.view.set]{fullShare} f13))
        ∗ Transfers.Flight (countersEmb (U := Idealize.ShloMosaic.Pipeline.UC sig nD τ)) (c : Thread nD τ) (.dma 15) () ((winG arg9 i).view.amount (SemLoc.dma 15)) iprop((arg9.view.loc (c : Thread nD τ) ↦[S15]{fullShare} Z15) ∗ (arg14.view.loc (c : Thread nD τ) ↦[arg14.view.set]{fullShare} f14))
        ∗ owes (c : Thread nD τ) 0 W
        ∗ (iprop((arg9.view.loc (c : Thread nD τ) ↦[S14]{fullShare} Z14) ∗ (arg9.view.loc (c : Thread nD τ) ↦[S15]{fullShare} Z15)
            ∗ (arg13.view.loc (c : Thread nD τ) ↦[arg13.view.set]{fullShare} f13) ∗ (arg14.view.loc (c : Thread nD τ) ↦[arg14.view.set]{fullShare} f14)
            ∗ semVal ((c : Thread nD τ), SemLoc.dma 14) 0 ∗ semVal ((c : Thread nD τ), SemLoc.dma 15) 0 ∗ (∃ W', owes (c : Thread nD τ) 0 W')) -∗ K ⟨⟩))
      ⊢ wp frame (wpE (defs₀ (F := F)) Variants.none c none) Set.univ (endP i arg9 harg9 arg13 harg13 arg14 harg14 k0_h2) K := by
  iintro ⟨Hs0, Hs1, HO, HK⟩
  unfold endP
  sl_exec
  sl_step
  iapply HK
  isplitl [Hs0_dst]; · iexact Hs0_dst
  isplitl [Hs1_dst]; · iexact Hs1_dst
  isplitl [Hs0_src]; · iexact Hs0_src
  isplitl [Hs1_src]; · iexact Hs1_src
  isplitl [Hs0]; · iexact Hs0
  isplitl [Hs1]; · iexact Hs1
  iexists _; iexact HO
end Cert.KernelIdeal.Pool

end
-- ==== Proof.Pool.Steps.lean ====
module

public import proofs.«01_k».proof.Proof.Pool.PartFirst
public import proofs.«01_k».proof.Proof.Pool.PartLater
public import proofs.«01_k».proof.Proof.Pool.Parts
public import Idealize.ShloMosaic.Lib.ViewIndex
public import proofs.«01_k».proof.Proof.Gen.KernelIdeal.Launch
public import proofs.«01_k».proof.Proof.Gen.KernelIdeal.Loops
public import Idealize.ShloMosaic.Lib.Pipeline.Routed
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 8192
set_option maxHeartbeats 1000000

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Idealize.ShloMosaic.Pipeline.UC sig nD τ) ℕ

/-- The array of gradients held, both scratch arrays free, no transfer under way. -/
def Idle (c : Dev nD) (arg9 : Memref sig .tc .hbm S4096x14848 .bf16) (arg13 arg14 : Memref sig .tc .vmem S4096x256 .bf16)
    (Z : Buf (Elt F) (arg9.view.loc (c : Thread nD τ))) : sProp 𝕄 :=
  iprop((arg9.view.loc (c : Thread nD τ) ↦[arg9.view.set]{fullShare} Z) ∗ (∃ f, (arg13.view.loc (c : Thread nD τ) ↦[arg13.view.set]{fullShare} f)) ∗ (∃ f, (arg14.view.loc (c : Thread nD τ) ↦[arg14.view.set]{fullShare} f)) ∗ semVal ((c : Thread nD τ), SemLoc.dma 14) 0 ∗ semVal ((c : Thread nD τ), SemLoc.dma 15) 0)
/-- The array of gradients held, both scratch arrays filled, no transfer under way. -/
def Ready (c : Dev nD) (arg9 : Memref sig .tc .hbm S4096x14848 .bf16) (arg13 arg14 : Memref sig .tc .vmem S4096x256 .bf16)
    (Z : Buf (Elt F) (arg9.view.loc (c : Thread nD τ))) (a b : Vec F S4096x256 .bf16) : sProp 𝕄 :=
  iprop((arg9.view.loc (c : Thread nD τ) ↦[arg9.view.set]{fullShare} Z) ∗ owns (c : Thread nD τ) arg13 fullShare a ∗ owns (c : Thread nD τ) arg14 fullShare b ∗ semVal ((c : Thread nD τ), SemLoc.dma 14) 0 ∗ semVal ((c : Thread nD τ), SemLoc.dma 15) 0)
/-- The two transfers of group `i` under way, over contents `Z` of the array of gradients. -/
def Flying (c : Dev nD) (i : grid0.Coords) (arg9 : Memref sig .tc .hbm S4096x14848 .bf16) (arg13 arg14 : Memref sig .tc .vmem S4096x256 .bf16)
    (Z : Buf (Elt F) (arg9.view.loc (c : Thread nD τ))) (a b : Vec F S4096x256 .bf16) : sProp 𝕄 :=
  iprop(∃ f13 : BufTy.Contents (Elt F) arg13.view.ty, ∃ f14 : BufTy.Contents (Elt F) arg14.view.ty,
    ⌜arg13.view.read (Elt F) f13 = a⌝ ∗ ⌜arg14.view.read (Elt F) f14 = b⌝
    ∗ flight c (winU arg9 i) arg13 14 Z f13 ∗ flight c (winG arg9 i) arg14 15 Z f14
    ∗ (arg9.view.loc (c : Thread nD τ) ↦[restS i arg9]{fullShare} znew c i arg9 Z a b))

/-- What a group leaves in the weight gradient's block. -/
def dwV (i : grid0.Coords) (s : Vec F S1x1x256 .f32) (u g d : Vec F S4096x256 .bf16) : Vec F S1x256x256 .bf16 := k0_pay37 (dwAcc i s u g d 8)
/-- What a group leaves in the scale gradient's block. -/
def scV (i : grid0.Coords) (w : Vec F S1x256x256 .bf16) (u g d : Vec F S4096x256 .bf16) : Vec F S1x1x256 .f32 := scAcc i w u g d 8

/-- The transfers start. -/
theorem ready_flying (c : Dev nD) (i : grid0.Coords) (arg9 : Memref sig .tc .hbm S4096x14848 .bf16) (harg9 : arg9.IsWhole)
    (arg13 : Memref sig .tc .vmem S4096x256 .bf16) (harg13 : arg13.IsWhole) (arg14 : Memref sig .tc .vmem S4096x256 .bf16) (harg14 : arg14.IsWhole)
    (Z : Buf (Elt F) (arg9.view.loc (c : Thread nD τ))) (a b : Vec F S4096x256 .bf16) (K : PUnit → sProp 𝕄) :
    iprop(Ready c arg9 arg13 arg14 Z a b ∗ (Flying c i arg9 arg13 arg14 Z a b -∗ K ⟨⟩))
      ⊢ wp frame (wpE (defs₀ (F := F)) Variants.none c none) Set.univ (tailP i arg9 harg9 arg13 harg13 arg14 harg14) K := by
  unfold Ready owns
  iintro ⟨⟨HZ, ⟨%f13, %e13, H13⟩, ⟨%f14, %e14, H14⟩, Hs0, Hs1⟩, HK⟩
  ihave HZ := (dz_split c i arg9 Z a b) $$ HZ
  icases HZ with ⟨HU, HG, HR⟩
  iapply (tail_start c i arg9 harg9 arg13 harg13 arg14 harg14 Z f13 f14 K)
  isplitl [H13]; · iexact H13
  isplitl [H14]; · iexact H14
  isplitl [HU]; · iexact HU
  isplitl [HG]; · iexact HG
  isplitl [Hs0]; · iexact Hs0
  isplitl [Hs1]; · iexact Hs1
  iintro ⟨F0, F1⟩
  iapply HK
  unfold Flying
  iexists f13; iexists f14
  isplitr; · ipureintro; exact e13
  isplitr; · ipureintro; exact e14
  isplitl [F0]; · iexact F0
  isplitl [F1]; · iexact F1
  iexact HR

/-- The last group's transfers end. -/
theorem flying_idle (c : Dev nD) (i : grid0.Coords) (arg9 : Memref sig .tc .hbm S4096x14848 .bf16) (harg9 : arg9.IsWhole)
    (arg13 : Memref sig .tc .vmem S4096x256 .bf16) (harg13 : arg13.IsWhole) (arg14 : Memref sig .tc .vmem S4096x256 .bf16) (harg14 : arg14.IsWhole)
    (h2 : k0_cond2 i = 1#1) (Z : Buf (Elt F) (arg9.view.loc (c : Thread nD τ))) (a b : Vec F S4096x256 .bf16) (W : Waits sig Unit) (K : PUnit → sProp 𝕄) :
    iprop(Flying c i arg9 arg13 arg14 Z a b ∗ owes (c : Thread nD τ) 0 W
        ∗ (iprop(Idle c arg9 arg13 arg14 (znew c i arg9 Z a b) ∗ (∃ W', owes (c : Thread nD τ) 0 W')) -∗ K ⟨⟩))
      ⊢ wp frame (wpE (defs₀ (F := F)) Variants.none c none) Set.univ (endP i arg9 harg9 arg13 harg13 arg14 harg14 h2) K := by
  unfold Flying
  iintro ⟨⟨%f13, %f14, %e13, %e14, F0, F1, HR⟩, HO, HK⟩
  iapply (end_wait c i arg9 harg9 arg13 harg13 arg14 harg14 h2 W (winU arg9 i).view.set (winG arg9 i).view.set _ _ f13 f14 K)
  isplitl [F0]; · iexact F0
  isplitl [F1]; · iexact F1
  isplitl [HO]; · iexact HO
  iintro ⟨HU, HG, H13, H14, Hs0, Hs1, HO⟩
  iapply HK
  isplitr [HO]; swap; · iexact HO
  unfold Idle
  rw [e13, e14]
  isplitl [HU HG HR]
  · iapply (dz_join c i arg9 Z a b)
    isplitl [HU]; · iexact HU
    isplitl [HG]; · iexact HG
    iexact HR
  isplitl [H13]; · iexists _; iexact H13
  isplitl [H14]; · iexists _; iexact H14
  isplitl [Hs0]; · iexact Hs0
  iexact Hs1

/-- The first group fills the scratch arrays. -/
theorem first_ready (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x256x256 .bf16) (harg4 : arg4.IsWhole) (arg5 : Memref sig .tc .vmem S1x1x256 .f32) (harg5 : arg5.IsWhole) (arg6 : Memref sig .tc .hbm S4096x14848 .bf16) (harg6 : arg6.IsWhole) (arg7 : Memref sig .tc .vmem S1x256x256 .bf16) (harg7 : arg7.IsWhole) (arg8 : Memref sig .tc .vmem S1x1x256 .f32) (harg8 : arg8.IsWhole) (arg9 : Memref sig .tc .hbm S4096x14848 .bf16) (harg9 : arg9.IsWhole) (arg10 : Memref sig .tc .vmem S4096x256 .f32) (harg10 : arg10.IsWhole) (arg11 : Memref sig .tc .vmem S4096x256 .bf16) (harg11 : arg11.IsWhole) (arg12 : Memref sig .tc .vmem S256x256 .f32) (harg12 : arg12.IsWhole) (arg13 : Memref sig .tc .vmem S4096x256 .bf16) (harg13 : arg13.IsWhole) (arg14 : Memref sig .tc .vmem S4096x256 .bf16) (harg14 : arg14.IsWhole)
    (x1 x2 x3 : Vec F S4096x256 .bf16) (x4 : Vec F S1x256x256 .bf16) (x5 : Vec F S1x1x256 .f32)
    (Z : Buf (Elt F) (arg9.view.loc (c : Thread nD τ)))
    (h1 : ¬ k0_cond1 i = 1#1) (W : Waits sig Unit) (K : (Σ' (arg0 : BitVec 32), BitVec 32) → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ Idle c arg9 arg13 arg14 Z ∗ owes (c : Thread nD τ) 0 W
        ∗ (∀ r, iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare (dwV i x5 x1 x2 x3) ∗ owns (c : Thread nD τ) arg8 fullShare (scV i x4 x1 x2 x3) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ Ready c arg9 arg13 arg14 Z (duAll i x4 x5 x2 x3) (dgAll i x4 x5 x1 x2 x3) ∗ (∃ W', owes (c : Thread nD τ) 0 W')) -∗ K r))
      ⊢ wp frame (wpE (defs₀ (F := F)) Variants.none c none) Set.univ (k0_part7 i arg1 harg1 arg2 harg2 arg3 harg3 arg4 harg4 arg5 harg5 arg6 harg6 arg7 harg7 arg8 harg8 arg9 harg9 arg10 harg10 arg11 harg11 arg12 harg12 arg13 harg13 arg14 harg14 cc0_scratch5) K := by
  unfold owns Idle
  iintro ⟨⟨%X1, %e1, H1⟩, ⟨%X2, %e2, H2⟩, ⟨%X3, %e3, H3⟩, ⟨%X4, %e4, H4⟩, ⟨%X5, %e5, H5⟩, H7, H8, H10, H11, H12, ⟨HZ, H13, H14, Hs0, Hs1⟩, HO, HK⟩
  subst e1; subst e2; subst e3; subst e4; subst e5
  iapply (part_first c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 h1 W K)
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H10]; · iexact H10
  isplitl [H11]; · iexact H11
  isplitl [H12]; · iexact H12
  isplitl [H13]; · iexact H13
  isplitl [H14]; · iexact H14
  isplitl [HO]; · iexact HO
  iintro %r ⟨H1, H2, H3, H4, H5, ⟨%f7, H7, %e7⟩, ⟨%f8, H8, %e8⟩, H10, H11, H12, ⟨%f13, H13, %e13⟩, ⟨%f14, H14, %e14⟩, HO⟩
  iapply HK
  isplitl [H1]
  · iexists _; isplitr
    · ipureintro; first | rfl | exact e1
    · iexact H1
  isplitl [H2]
  · iexists _; isplitr
    · ipureintro; first | rfl | exact e2
    · iexact H2
  isplitl [H3]
  · iexists _; isplitr
    · ipureintro; first | rfl | exact e3
    · iexact H3
  isplitl [H4]
  · iexists _; isplitr
    · ipureintro; first | rfl | exact e4
    · iexact H4
  isplitl [H5]
  · iexists _; isplitr
    · ipureintro; first | rfl | exact e5
    · iexact H5
  isplitl [H7]
  · iexists _; isplitr
    · ipureintro; first | rfl | exact e7
    · iexact H7
  isplitl [H8]
  · iexists _; isplitr
    · ipureintro; first | rfl | exact e8
    · iexact H8
  isplitl [H10]; · iexact H10
  isplitl [H11]; · iexact H11
  isplitl [H12]; · iexact H12
  isplitr [HO]; swap; · iexact HO
  unfold Ready owns
  isplitl [HZ]; · iexact HZ
  isplitl [H13]
  · iexists _; isplitr
    · ipureintro; first | rfl | exact e13
    · iexact H13
  isplitl [H14]
  · iexists _; isplitr
    · ipureintro; first | rfl | exact e14
    · iexact H14
  isplitl [Hs0]; · iexact Hs0
  iexact Hs1

/-- A later group waits for the transfers of the group before and fills the scratch arrays. -/
theorem later_ready (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x256x256 .bf16) (harg4 : arg4.IsWhole) (arg5 : Memref sig .tc .vmem S1x1x256 .f32) (harg5 : arg5.IsWhole) (arg6 : Memref sig .tc .hbm S4096x14848 .bf16) (harg6 : arg6.IsWhole) (arg7 : Memref sig .tc .vmem S1x256x256 .bf16) (harg7 : arg7.IsWhole) (arg8 : Memref sig .tc .vmem S1x1x256 .f32) (harg8 : arg8.IsWhole) (arg9 : Memref sig .tc .hbm S4096x14848 .bf16) (harg9 : arg9.IsWhole) (arg10 : Memref sig .tc .vmem S4096x256 .f32) (harg10 : arg10.IsWhole) (arg11 : Memref sig .tc .vmem S4096x256 .bf16) (harg11 : arg11.IsWhole) (arg12 : Memref sig .tc .vmem S256x256 .f32) (harg12 : arg12.IsWhole) (arg13 : Memref sig .tc .vmem S4096x256 .bf16) (harg13 : arg13.IsWhole) (arg14 : Memref sig .tc .vmem S4096x256 .bf16) (harg14 : arg14.IsWhole)
    (x1 x2 x3 : Vec F S4096x256 .bf16) (x4 : Vec F S1x256x256 .bf16) (x5 : Vec F S1x1x256 .f32)
    (i' : grid0.Coords) (Z : Buf (Elt F) (arg9.view.loc (c : Thread nD τ))) (a b : Vec F S4096x256 .bf16)
    (h1 : k0_cond1 i = 1#1) (W : Waits sig Unit) (K : (Σ' (arg0 : BitVec 32), BitVec 32) → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ Flying c i' arg9 arg13 arg14 Z a b ∗ owes (c : Thread nD τ) 0 W
        ∗ (∀ r, iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare (dwV i x5 x1 x2 x3) ∗ owns (c : Thread nD τ) arg8 fullShare (scV i x4 x1 x2 x3) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ Ready c arg9 arg13 arg14 (znew c i' arg9 Z a b) (duAll i x4 x5 x2 x3) (dgAll i x4 x5 x1 x2 x3) ∗ (∃ W', owes (c : Thread nD τ) 0 W')) -∗ K r))
      ⊢ wp frame (wpE (defs₀ (F := F)) Variants.none c none) Set.univ (k0_part7 i arg1 harg1 arg2 harg2 arg3 harg3 arg4 harg4 arg5 harg5 arg6 harg6 arg7 harg7 arg8 harg8 arg9 harg9 arg10 harg10 arg11 harg11 arg12 harg12 arg13 harg13 arg14 harg14 cc0_scratch5) K := by
  unfold owns Flying
  iintro ⟨⟨%X1, %e1, H1⟩, ⟨%X2, %e2, H2⟩, ⟨%X3, %e3, H3⟩, ⟨%X4, %e4, H4⟩, ⟨%X5, %e5, H5⟩, H7, H8, H10, H11, H12, ⟨%g13, %g14, %p13, %p14, F0, F1, HR⟩, HO, HK⟩
  subst e1; subst e2; subst e3; subst e4; subst e5
  iapply (part_later c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 (winU arg9 i').view.set (winG arg9 i').view.set _ _ g13 g14 h1 W K)
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H10]; · iexact H10
  isplitl [H11]; · iexact H11
  isplitl [H12]; · iexact H12
  isplitl [F0]; · iexact F0
  isplitl [F1]; · iexact F1
  isplitl [HO]; · iexact HO
  iintro %r ⟨H1, H2, H3, H4, H5, ⟨%f7, H7, %e7⟩, ⟨%f8, H8, %e8⟩, H10, H11, H12, ⟨%f13, H13, %e13⟩, ⟨%f14, H14, %e14⟩, HU, HG, Hs0, Hs1, HO⟩
  iapply HK
  isplitl [H1]
  · iexists _; isplitr
    · ipureintro; first | rfl | exact e1
    · iexact H1
  isplitl [H2]
  · iexists _; isplitr
    · ipureintro; first | rfl | exact e2
    · iexact H2
  isplitl [H3]
  · iexists _; isplitr
    · ipureintro; first | rfl | exact e3
    · iexact H3
  isplitl [H4]
  · iexists _; isplitr
    · ipureintro; first | rfl | exact e4
    · iexact H4
  isplitl [H5]
  · iexists _; isplitr
    · ipureintro; first | rfl | exact e5
    · iexact H5
  isplitl [H7]
  · iexists _; isplitr
    · ipureintro; first | rfl | exact e7
    · iexact H7
  isplitl [H8]
  · iexists _; isplitr
    · ipureintro; first | rfl | exact e8
    · iexact H8
  isplitl [H10]; · iexact H10
  isplitl [H11]; · iexact H11
  isplitl [H12]; · iexact H12
  isplitr [HO]; swap; · iexact HO
  unfold Ready owns
  isplitl [HU HG HR]
  · subst p13; subst p14
    iapply (dz_join c i' arg9 Z (arg13.view.read (Elt F) g13) (arg14.view.read (Elt F) g14))
    isplitl [HU]; · iexact HU
    isplitl [HG]; · iexact HG
    iexact HR
  isplitl [H13]
  · iexists _; isplitr
    · ipureintro; first | rfl | exact e13
    · iexact H13
  isplitl [H14]
  · iexists _; isplitr
    · ipureintro; first | rfl | exact e14
    · iexact H14
  isplitl [Hs0]; · iexact Hs0
  iexact Hs1

end Cert.KernelIdeal.Pool

end
-- ==== Proof.Pool.Body.lean ====
module

public import proofs.«01_k».proof.Proof.Pool.Steps
public import Idealize.ShloMosaic.Lib.ViewIndex
public import proofs.«01_k».proof.Proof.Gen.KernelIdeal.Launch
public import proofs.«01_k».proof.Proof.Gen.KernelIdeal.Loops
public import Idealize.ShloMosaic.Lib.Pipeline.Routed
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 8192
set_option maxHeartbeats 1000000

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Idealize.ShloMosaic.Pipeline.UC sig nD τ) ℕ

/-- The body: its loops, the transfers' start, and at the last group their end. -/
theorem body_eq (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x256x256 .bf16) (harg4 : arg4.IsWhole) (arg5 : Memref sig .tc .vmem S1x1x256 .f32) (harg5 : arg5.IsWhole) (arg6 : Memref sig .tc .hbm S4096x14848 .bf16) (harg6 : arg6.IsWhole) (arg7 : Memref sig .tc .vmem S1x256x256 .bf16) (harg7 : arg7.IsWhole) (arg8 : Memref sig .tc .vmem S1x1x256 .f32) (harg8 : arg8.IsWhole) (arg9 : Memref sig .tc .hbm S4096x14848 .bf16) (harg9 : arg9.IsWhole) (arg10 : Memref sig .tc .vmem S4096x256 .f32) (harg10 : arg10.IsWhole) (arg11 : Memref sig .tc .vmem S4096x256 .bf16) (harg11 : arg11.IsWhole) (arg12 : Memref sig .tc .vmem S256x256 .f32) (harg12 : arg12.IsWhole) (arg13 : Memref sig .tc .vmem S4096x256 .bf16) (harg13 : arg13.IsWhole) (arg14 : Memref sig .tc .vmem S4096x256 .bf16) (harg14 : arg14.IsWhole) :
    cc0_pool_bwd i arg1 harg1 arg2 harg2 arg3 harg3 arg4 harg4 arg5 harg5 arg6 harg6 arg7 harg7 arg8 harg8 arg9 harg9 arg10 harg10 arg11 harg11 arg12 harg12 arg13 harg13 arg14 harg14 cc0_scratch5 = ((k0_part7 i arg1 harg1 arg2 harg2 arg3 harg3 arg4 harg4 arg5 harg5 arg6 harg6 arg7 harg7 arg8 harg8 arg9 harg9 arg10 harg10 arg11 harg11 arg12 harg12 arg13 harg13 arg14 harg14 cc0_scratch5 : Prog (TpuEff nD τ sig (Elt F) Λ₀ .tc) _) >>= fun _ =>
      tailP i arg9 harg9 arg13 harg13 arg14 harg14 >>= fun _ =>
        if h2 : k0_cond2 i = 1#1 then endP i arg9 harg9 arg13 harg13 arg14 harg14 h2 else pure ⟨⟩) := by
  rw [cc0_pool_bwd_eq_skeleton]; unfold cc0_pool_bwd_skel tailP endP
  rfl

/-- The body at the first group. -/
theorem body_first (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x256x256 .bf16) (harg4 : arg4.IsWhole) (arg5 : Memref sig .tc .vmem S1x1x256 .f32) (harg5 : arg5.IsWhole) (arg6 : Memref sig .tc .hbm S4096x14848 .bf16) (harg6 : arg6.IsWhole) (arg7 : Memref sig .tc .vmem S1x256x256 .bf16) (harg7 : arg7.IsWhole) (arg8 : Memref sig .tc .vmem S1x1x256 .f32) (harg8 : arg8.IsWhole) (arg9 : Memref sig .tc .hbm S4096x14848 .bf16) (harg9 : arg9.IsWhole) (arg10 : Memref sig .tc .vmem S4096x256 .f32) (harg10 : arg10.IsWhole) (arg11 : Memref sig .tc .vmem S4096x256 .bf16) (harg11 : arg11.IsWhole) (arg12 : Memref sig .tc .vmem S256x256 .f32) (harg12 : arg12.IsWhole) (arg13 : Memref sig .tc .vmem S4096x256 .bf16) (harg13 : arg13.IsWhole) (arg14 : Memref sig .tc .vmem S4096x256 .bf16) (harg14 : arg14.IsWhole)
    (x1 x2 x3 : Vec F S4096x256 .bf16) (x4 : Vec F S1x256x256 .bf16) (x5 : Vec F S1x1x256 .f32)
    (Z : Buf (Elt F) (arg9.view.loc (c : Thread nD τ)))
    (h1 : ¬ k0_cond1 i = 1#1) (h2 : ¬ k0_cond2 i = 1#1) (W : Waits sig Unit) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ Idle c arg9 arg13 arg14 Z ∗ owes (c : Thread nD τ) 0 W
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare (dwV i x5 x1 x2 x3) ∗ owns (c : Thread nD τ) arg8 fullShare (scV i x4 x1 x2 x3) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ Flying c i arg9 arg13 arg14 Z (duAll i x4 x5 x2 x3) (dgAll i x4 x5 x1 x2 x3) ∗ (∃ W', owes (c : Thread nD τ) 0 W')) -∗ K ⟨⟩))
      ⊢ wp frame (wpE (defs₀ (F := F)) Variants.none c none) Set.univ (cc0_pool_bwd i arg1 harg1 arg2 harg2 arg3 harg3 arg4 harg4 arg5 harg5 arg6 harg6 arg7 harg7 arg8 harg8 arg9 harg9 arg10 harg10 arg11 harg11 arg12 harg12 arg13 harg13 arg14 harg14 cc0_scratch5) K := by
  rw [body_eq, wp_bind]
  iintro ⟨H1, H2, H3, H4, H5, H7, H8, H10, H11, H12, HP, HO, HK⟩
  iapply (first_ready c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 Z h1 W _)
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H10]; · iexact H10
  isplitl [H11]; · iexact H11
  isplitl [H12]; · iexact H12
  isplitl [HP]; · iexact HP
  isplitl [HO]; · iexact HO
  iintro %r ⟨H1, H2, H3, H4, H5, H7, H8, H10, H11, H12, HP, HO⟩
  rw [wp_bind]
  iapply (ready_flying c i arg9 harg9 arg13 harg13 arg14 harg14 Z (duAll i x4 x5 x2 x3) (dgAll i x4 x5 x1 x2 x3))
  isplitl [HP]; · iexact HP
  iintro HP
  rw [dif_neg h2]
  iapply (le_wp_ret _ _ _ _ K)
  iapply HK
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H10]; · iexact H10
  isplitl [H11]; · iexact H11
  isplitl [H12]; · iexact H12
  isplitl [HP]; · iexact HP
  iexact HO

/-- The body at a middle group. -/
theorem body_mid (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x256x256 .bf16) (harg4 : arg4.IsWhole) (arg5 : Memref sig .tc .vmem S1x1x256 .f32) (harg5 : arg5.IsWhole) (arg6 : Memref sig .tc .hbm S4096x14848 .bf16) (harg6 : arg6.IsWhole) (arg7 : Memref sig .tc .vmem S1x256x256 .bf16) (harg7 : arg7.IsWhole) (arg8 : Memref sig .tc .vmem S1x1x256 .f32) (harg8 : arg8.IsWhole) (arg9 : Memref sig .tc .hbm S4096x14848 .bf16) (harg9 : arg9.IsWhole) (arg10 : Memref sig .tc .vmem S4096x256 .f32) (harg10 : arg10.IsWhole) (arg11 : Memref sig .tc .vmem S4096x256 .bf16) (harg11 : arg11.IsWhole) (arg12 : Memref sig .tc .vmem S256x256 .f32) (harg12 : arg12.IsWhole) (arg13 : Memref sig .tc .vmem S4096x256 .bf16) (harg13 : arg13.IsWhole) (arg14 : Memref sig .tc .vmem S4096x256 .bf16) (harg14 : arg14.IsWhole)
    (x1 x2 x3 : Vec F S4096x256 .bf16) (x4 : Vec F S1x256x256 .bf16) (x5 : Vec F S1x1x256 .f32)
    (i' : grid0.Coords) (Z : Buf (Elt F) (arg9.view.loc (c : Thread nD τ))) (a b : Vec F S4096x256 .bf16)
    (h1 : k0_cond1 i = 1#1) (h2 : ¬ k0_cond2 i = 1#1) (W : Waits sig Unit) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ Flying c i' arg9 arg13 arg14 Z a b ∗ owes (c : Thread nD τ) 0 W
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare (dwV i x5 x1 x2 x3) ∗ owns (c : Thread nD τ) arg8 fullShare (scV i x4 x1 x2 x3) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ Flying c i arg9 arg13 arg14 (znew c i' arg9 Z a b) (duAll i x4 x5 x2 x3) (dgAll i x4 x5 x1 x2 x3) ∗ (∃ W', owes (c : Thread nD τ) 0 W')) -∗ K ⟨⟩))
      ⊢ wp frame (wpE (defs₀ (F := F)) Variants.none c none) Set.univ (cc0_pool_bwd i arg1 harg1 arg2 harg2 arg3 harg3 arg4 harg4 arg5 harg5 arg6 harg6 arg7 harg7 arg8 harg8 arg9 harg9 arg10 harg10 arg11 harg11 arg12 harg12 arg13 harg13 arg14 harg14 cc0_scratch5) K := by
  rw [body_eq, wp_bind]
  iintro ⟨H1, H2, H3, H4, H5, H7, H8, H10, H11, H12, HP, HO, HK⟩
  iapply (later_ready c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 i' Z a b h1 W _)
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H10]; · iexact H10
  isplitl [H11]; · iexact H11
  isplitl [H12]; · iexact H12
  isplitl [HP]; · iexact HP
  isplitl [HO]; · iexact HO
  iintro %r ⟨H1, H2, H3, H4, H5, H7, H8, H10, H11, H12, HP, HO⟩
  rw [wp_bind]
  iapply (ready_flying c i arg9 harg9 arg13 harg13 arg14 harg14 (znew c i' arg9 Z a b) (duAll i x4 x5 x2 x3) (dgAll i x4 x5 x1 x2 x3))
  isplitl [HP]; · iexact HP
  iintro HP
  rw [dif_neg h2]
  iapply (le_wp_ret _ _ _ _ K)
  iapply HK
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H10]; · iexact H10
  isplitl [H11]; · iexact H11
  isplitl [H12]; · iexact H12
  isplitl [HP]; · iexact HP
  iexact HO

/-- The body at the last group. -/
theorem body_last (c : Dev nD) (i : grid0.Coords) (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x256x256 .bf16) (harg4 : arg4.IsWhole) (arg5 : Memref sig .tc .vmem S1x1x256 .f32) (harg5 : arg5.IsWhole) (arg6 : Memref sig .tc .hbm S4096x14848 .bf16) (harg6 : arg6.IsWhole) (arg7 : Memref sig .tc .vmem S1x256x256 .bf16) (harg7 : arg7.IsWhole) (arg8 : Memref sig .tc .vmem S1x1x256 .f32) (harg8 : arg8.IsWhole) (arg9 : Memref sig .tc .hbm S4096x14848 .bf16) (harg9 : arg9.IsWhole) (arg10 : Memref sig .tc .vmem S4096x256 .f32) (harg10 : arg10.IsWhole) (arg11 : Memref sig .tc .vmem S4096x256 .bf16) (harg11 : arg11.IsWhole) (arg12 : Memref sig .tc .vmem S256x256 .f32) (harg12 : arg12.IsWhole) (arg13 : Memref sig .tc .vmem S4096x256 .bf16) (harg13 : arg13.IsWhole) (arg14 : Memref sig .tc .vmem S4096x256 .bf16) (harg14 : arg14.IsWhole)
    (x1 x2 x3 : Vec F S4096x256 .bf16) (x4 : Vec F S1x256x256 .bf16) (x5 : Vec F S1x1x256 .f32)
    (i' : grid0.Coords) (Z : Buf (Elt F) (arg9.view.loc (c : Thread nD τ))) (a b : Vec F S4096x256 .bf16)
    (h1 : k0_cond1 i = 1#1) (h2 : k0_cond2 i = 1#1) (W : Waits sig Unit) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ Flying c i' arg9 arg13 arg14 Z a b ∗ owes (c : Thread nD τ) 0 W
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare (dwV i x5 x1 x2 x3) ∗ owns (c : Thread nD τ) arg8 fullShare (scV i x4 x1 x2 x3) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ Idle c arg9 arg13 arg14 (znew c i arg9 (znew c i' arg9 Z a b) (duAll i x4 x5 x2 x3) (dgAll i x4 x5 x1 x2 x3)) ∗ (∃ W', owes (c : Thread nD τ) 0 W')) -∗ K ⟨⟩))
      ⊢ wp frame (wpE (defs₀ (F := F)) Variants.none c none) Set.univ (cc0_pool_bwd i arg1 harg1 arg2 harg2 arg3 harg3 arg4 harg4 arg5 harg5 arg6 harg6 arg7 harg7 arg8 harg8 arg9 harg9 arg10 harg10 arg11 harg11 arg12 harg12 arg13 harg13 arg14 harg14 cc0_scratch5) K := by
  rw [body_eq, wp_bind]
  iintro ⟨H1, H2, H3, H4, H5, H7, H8, H10, H11, H12, HP, HO, HK⟩
  iapply (later_ready c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 i' Z a b h1 W _)
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H10]; · iexact H10
  isplitl [H11]; · iexact H11
  isplitl [H12]; · iexact H12
  isplitl [HP]; · iexact HP
  isplitl [HO]; · iexact HO
  iintro %r ⟨H1, H2, H3, H4, H5, H7, H8, H10, H11, H12, HP, HO⟩
  rw [wp_bind]
  iapply (ready_flying c i arg9 harg9 arg13 harg13 arg14 harg14 (znew c i' arg9 Z a b) (duAll i x4 x5 x2 x3) (dgAll i x4 x5 x1 x2 x3))
  isplitl [HP]; · iexact HP
  iintro HP
  rw [dif_pos h2]
  icases HO with ⟨%W', HO⟩
  iapply (flying_idle c i arg9 harg9 arg13 harg13 arg14 harg14 h2 (znew c i' arg9 Z a b) (duAll i x4 x5 x2 x3) (dgAll i x4 x5 x1 x2 x3) W')
  isplitl [HP]; · iexact HP
  isplitl [HO]; · iexact HO
  iintro ⟨HP, HO⟩
  iapply HK
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H10]; · iexact H10
  isplitl [H11]; · iexact H11
  isplitl [H12]; · iexact H12
  isplitl [HP]; · iexact HP
  iexact HO

end Cert.KernelIdeal.Pool

end
-- ==== Proof.Pool.Data.lean ====
module

public import proofs.«01_k».proof.Proof.Pool.Body
public import proofs.«01_k».proof.Proof.Gen.KernelIdeal.Frame
public import Idealize.ShloMosaic.Lib.ViewIndex
public import proofs.«01_k».proof.Proof.Gen.KernelIdeal.Launch
public import proofs.«01_k».proof.Proof.Gen.KernelIdeal.Loops
public import Idealize.ShloMosaic.Lib.Pipeline.Routed
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 8192
set_option maxHeartbeats 1000000

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Idealize.ShloMosaic.Pipeline.UC sig nD τ) ℕ

variable (m : (ℓ : Loc nD τ sig) → Buf (Elt F) ℓ) (ρ : Dev nD → PrngReg)

/-- The array of gradients, which the body writes by its own transfers. -/
abbrev dzM : Memref sig .tc .hbm S4096x14848 .bf16 := Memref.whole main_v1_2
/-- The scratch arrays the transfers read. -/
abbrev duM : Memref sig .tc .vmem S4096x256 .bf16 := Memref.whole cc0_scratch3
abbrev dgM : Memref sig .tc .vmem S4096x256 .bf16 := Memref.whole cc0_scratch4

/-- The blocks a group reads: pooled input, gate, incoming gradient, weights, scale. -/
abbrev bU (c : Dev nD) (t : Fin cfg0.N) : Vec F S4096x256 .bf16 := iblk m c 0 t
abbrev bG (c : Dev nD) (t : Fin cfg0.N) : Vec F S4096x256 .bf16 := iblk m c 1 t
abbrev bD (c : Dev nD) (t : Fin cfg0.N) : Vec F S4096x256 .bf16 := iblk m c 2 t
abbrev bW (c : Dev nD) (t : Fin cfg0.N) : Vec F S1x256x256 .bf16 := iblk m c 3 t
abbrev bS (c : Dev nD) (t : Fin cfg0.N) : Vec F S1x1x256 .f32 := iblk m c 4 t
/-- A group's results. -/
def duT (c : Dev nD) (t : Fin cfg0.N) : Vec F S4096x256 .bf16 := duAll (grid0.coords t) (bW m c t) (bS m c t) (bG m c t) (bD m c t)
def dgT (c : Dev nD) (t : Fin cfg0.N) : Vec F S4096x256 .bf16 := dgAll (grid0.coords t) (bW m c t) (bS m c t) (bU m c t) (bG m c t) (bD m c t)
def dwT (c : Dev nD) (t : Fin cfg0.N) : Vec F S1x256x256 .bf16 := dwV (grid0.coords t) (bS m c t) (bU m c t) (bG m c t) (bD m c t)
def scT (c : Dev nD) (t : Fin cfg0.N) : Vec F S1x1x256 .f32 := scV (grid0.coords t) (bW m c t) (bU m c t) (bG m c t) (bD m c t)

/-- The array of gradients before each group and at the end. -/
def Z0 (c : Dev nD) : Buf (Elt F) (dzM.view.loc (c : Thread nD τ)) := V m c main_v1_2
def Z1 (c : Dev nD) : Buf (Elt F) (dzM.view.loc (c : Thread nD τ)) := znew c (grid0.coords t0_0) dzM (Z0 m c) (duT m c t0_0) (dgT m c t0_0)
def Z2 (c : Dev nD) : Buf (Elt F) (dzM.view.loc (c : Thread nD τ)) := znew c (grid0.coords t0_1) dzM (Z1 m c) (duT m c t0_1) (dgT m c t0_1)
def Z3 (c : Dev nD) : Buf (Elt F) (dzM.view.loc (c : Thread nD τ)) := znew c (grid0.coords t0_2) dzM (Z2 m c) (duT m c t0_2) (dgT m c t0_2)
def Z4 (c : Dev nD) : Buf (Elt F) (dzM.view.loc (c : Thread nD τ)) := znew c (grid0.coords t0_3) dzM (Z3 m c) (duT m c t0_3) (dgT m c t0_3)

/-- Where the transfers stand before point `n`. -/
def flow (c : Dev nD) : ℕ → sProp 𝕄
  | 0 => Idle c dzM duM dgM (Z0 m c)
  | 1 => Flying c (grid0.coords t0_0) dzM duM dgM (Z0 m c) (duT m c t0_0) (dgT m c t0_0)
  | 2 => Flying c (grid0.coords t0_1) dzM duM dgM (Z1 m c) (duT m c t0_1) (dgT m c t0_1)
  | 3 => Flying c (grid0.coords t0_2) dzM duM dgM (Z2 m c) (duT m c t0_2) (dgT m c t0_2)
  | _ => Idle c dzM duM dgM (Z4 m c)

/-- A scratch array at some contents. -/
abbrev someAt (c : Dev nD) {sp : Space} {S : Shape} {e : EltTy} (M : Memref sig .tc sp S e) : sProp 𝕄 :=
  iprop(∃ f, (M.view.loc (c : Thread nD τ) ↦[M.view.set]{fullShare} f))

theorem owns_some (c : Dev nD) {sp : Space} {S : Shape} {e : EltTy} (M : Memref sig .tc sp S e) (d : S.Idx → Elt F e) :
    (owns (c : Thread nD τ) M fullShare d : sProp 𝕄) ⊢ someAt c M := by
  unfold owns
  iintro ⟨%f, -, H⟩
  iexists f; iexact H

/-- What the body keeps from point to point. -/
def inv (c : Dev nD) (n : ℕ) : sProp 𝕄 :=
  iprop(someAt c (Memref.whole cc0_scratch0 : Memref sig .tc .vmem S4096x256 .f32) ∗ someAt c (Memref.whole cc0_scratch1 : Memref sig .tc .vmem S4096x256 .bf16)
    ∗ someAt c (Memref.whole cc0_scratch2 : Memref sig .tc .vmem S256x256 .f32) ∗ flow m c n ∗ ∃ r, prngReg c r)

def dats (_ : Fin 1) (c : Dev nD) : Dat τ (Elt F) Unit ℕ (Idealize.ShloMosaic.Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dwT m c t
    | ⟨6, _⟩ => scT m c t
  Φ t := inv m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem after_5 (c : Dev nD) (t : Fin cfg0.N) : (dats m 0 c).after 5 t = dwT m c t := by dsimp only [dats]
theorem after_6 (c : Dev nD) (t : Fin cfg0.N) : (dats m 0 c).after 6 t = scT m c t := by dsimp only [dats]

/-- A point's resources, before and after its body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

/-- A body's run from the inputs' blocks to the results' blocks carries a point's resources across. -/
theorem sound_of (c : Dev nD) (t : Fin cfg0.N)
    (h : ∀ (W : Waits sig Unit) (K : PUnit → sProp 𝕄),
      iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ someAt c (st0_5 t) ∗ someAt c (st0_6 t)
        ∗ someAt c (Memref.whole cc0_scratch0 : Memref sig .tc .vmem S4096x256 .f32) ∗ someAt c (Memref.whole cc0_scratch1 : Memref sig .tc .vmem S4096x256 .bf16)
        ∗ someAt c (Memref.whole cc0_scratch2 : Memref sig .tc .vmem S256x256 .f32) ∗ flow m c t.val ∗ owes (c : Thread nD τ) 0 W
        ∗ (iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (dwT m c t) ∗ owns (c : Thread nD τ) (st0_6 t) fullShare (scT m c t)
          ∗ someAt c (Memref.whole cc0_scratch0 : Memref sig .tc .vmem S4096x256 .f32) ∗ someAt c (Memref.whole cc0_scratch1 : Memref sig .tc .vmem S4096x256 .bf16)
          ∗ someAt c (Memref.whole cc0_scratch2 : Memref sig .tc .vmem S256x256 .f32) ∗ flow m c (t.val + 1) ∗ (∃ W', owes (c : Thread nD τ) 0 W')) -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  rw [show (dats m 0 c).Φ t.castSucc = inv m c t.val from rfl, show (dats m 0 c).Φ t.succ = inv m c (t.val + 1) from rfl]
  rw [after_0, after_1, after_2, after_3, after_4, after_5, after_6]
  simp only [before_0, before_1, before_2, before_3, before_4]
  unfold Dat.owesAt Pipeline.owesWithin inv
  rw [show (dats m 0 c).owed t.castSucc = 0 from rfl, show (dats m 0 c).owed t.succ = 0 from rfl]
  iintro ⟨⟨S0, S1, S2, HF, HG⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (h W _)
  isplitl [H0]; · iexact H0
  isplitl [H1]; · iexact H1
  isplitl [H2]; · iexact H2
  isplitl [H3]; · iexact H3
  isplitl [H4]; · iexact H4
  isplitl [H5]; · iapply (owns_some c (st0_5 t)); iexact H5
  isplitl [H6]; · iapply (owns_some c (st0_6 t)); iexact H6
  isplitl [S0]; · iexact S0
  isplitl [S1]; · iexact S1
  isplitl [S2]; · iexact S2
  isplitl [HF]; · iexact HF
  isplitl [HW]; · iexact HW
  iintro ⟨H0, H1, H2, H3, H4, H5, H6, S0, S1, S2, HF, ⟨%W', HW⟩⟩
  isplitl [S0 S1 S2 HF HG]
  · isplitl [S0]; · iexact S0
    isplitl [S1]; · iexact S1
    isplitl [S2]; · iexact S2
    isplitl [HF]; · iexact HF
    iexact HG
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

theorem c1_0 : ¬ (k0_cond1 (grid0.coords t0_0) = 1#1) := by decide +kernel
theorem c2_0 : ¬ (k0_cond2 (grid0.coords t0_0) = 1#1) := by decide +kernel
theorem c1_1 :  (k0_cond1 (grid0.coords t0_1) = 1#1) := by decide +kernel
theorem c2_1 : ¬ (k0_cond2 (grid0.coords t0_1) = 1#1) := by decide +kernel
theorem c1_2 :  (k0_cond1 (grid0.coords t0_2) = 1#1) := by decide +kernel
theorem c2_2 : ¬ (k0_cond2 (grid0.coords t0_2) = 1#1) := by decide +kernel
theorem c1_3 :  (k0_cond1 (grid0.coords t0_3) = 1#1) := by decide +kernel
theorem c2_3 :  (k0_cond2 (grid0.coords t0_3) = 1#1) := by decide +kernel

theorem sound_body (c : Dev nD) (t : Fin cfg0.N) :
    bodyPre m c t ⊢ wp frame (wpE (defs₀ (F := F)) Variants.none c none) Set.univ (bodyAt0 t) (fun _ => bodyPost m c t) := by
  rcases fin_N0 t with rfl | rfl | rfl | rfl
  · exact sound_of m c t0_0 fun W K => body_first c (grid0.coords t0_0) _ _ _ _ _ _ _ _ _ _ _ _ _ _ _ _ _ _ _ _ _ _ _ _ _ _ _ _ _ _ _ _ _ (Z0 m c) c1_0 c2_0 W K
  · exact sound_of m c t0_1 fun W K => body_mid c (grid0.coords t0_1) _ _ _ _ _ _ _ _ _ _ _ _ _ _ _ _ _ _ _ _ _ _ _ _ _ _ _ _ _ _ _ _ _ (grid0.coords t0_0) (Z0 m c) (duT m c t0_0) (dgT m c t0_0) c1_1 c2_1 W K
  · exact sound_of m c t0_2 fun W K => body_mid c (grid0.coords t0_2) _ _ _ _ _ _ _ _ _ _ _ _ _ _ _ _ _ _ _ _ _ _ _ _ _ _ _ _ _ _ _ _ _ (grid0.coords t0_1) (Z1 m c) (duT m c t0_1) (dgT m c t0_1) c1_2 c2_2 W K
  · exact sound_of m c t0_3 fun W K => body_last c (grid0.coords t0_3) _ _ _ _ _ _ _ _ _ _ _ _ _ _ _ _ _ _ _ _ _ _ _ _ _ _ _ _ _ _ _ _ _ (grid0.coords t0_2) (Z2 m c) (duT m c t0_2) (dgT m c t0_2) c1_3 c2_3 W K

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Pool

end
-- ==== Proof.Pool.Run.lean ====
module

public import proofs.«01_k».proof.Proof.Pool.Data
public import proofs.«01_k».proof.Proof.Gen.KernelIdeal.Frame
public import Idealize.ShloMosaic.Lib.ViewIndex
public import proofs.«01_k».proof.Proof.Gen.KernelIdeal.Launch
public import proofs.«01_k».proof.Proof.Gen.KernelIdeal.Loops
public import Idealize.ShloMosaic.Lib.Pipeline.Routed
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 8192
set_option maxHeartbeats 1000000

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Idealize.ShloMosaic.Pipeline.UC sig nD τ) ℕ

variable (m : (ℓ : Loc nD τ sig) → Buf (Elt F) ℓ) (ρ : Dev nD → PrngReg)

/-- The body's two transfer counters. -/
abbrev osem0 : Fin 2 → SemLoc sig := ![SemLoc.dma 14, SemLoc.dma 15]
theorem ownSemFacts0 : OwnSemFacts spec0 osem0 := by decide
theorem ownSems_eq (c : Dev nD) :
    (ownSems0 (Ix := Unit) (Name := ℕ) (U := UC sig nD τ) (Lvl := ℕ) (Val := Elt F) (τ := τ) osem0 c : sProp 𝕄)
      = iprop(semVal ((c : Thread nD τ), SemLoc.dma 14) 0 ∗ semVal ((c : Thread nD τ), SemLoc.dma 15) 0) := by
  rw [ownSems0_eq_of_list c osem0 [0, 1] (by decide) (by decide)]; rfl

theorem hmainC (𝒱₀ : Variants) : HMain (Ix := Unit) (Name := ℕ) (U := UC sig nD τ) (Lvl := ℕ) cfgs 0 defs₀ 𝒱₀ m (main (F := F)) (V m) :=
  hmain_prefix cfgs 0 defs₀ 𝒱₀ m main hostOps0 hostOps0_sub hostOps0_fresh main_chain

/-- The one buffer the body's own transfers write. -/
abbrev R0 : Finset (Ref sig .tc) := {main_v1_2}
theorem R0_sub : R0 ⊆ restRefs sig spec0 := by decide
/-- What the buffers hold at the end: the array of gradients with every group's windows written. -/
def Yc (c : Dev nD) (b : Ref sig .tc) : Buf (Elt F) ((c : Thread nD τ).loc b) :=
  if h : b = main_v1_2 then h ▸ (Z4 m c) else V m c b
theorem Yc_dz (c : Dev nD) : Yc m c main_v1_2 = Z4 m c := by unfold Yc; rw [dif_pos rfl]

theorem Idle_eq (c : Dev nD) (Z : Buf (Elt F) (dzM.view.loc (c : Thread nD τ))) :
    (Idle c dzM duM dgM Z : sProp 𝕄) = iprop((((c : Thread nD τ).loc main_v1_2) ↦{fullShare} Z)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ semVal ((c : Thread nD τ), SemLoc.dma 14) 0 ∗ semVal ((c : Thread nD τ), SemLoc.dma 15) 0) := by
  unfold Idle dzM duM dgM
  simp only [Memref.view_whole, View.set_whole]

theorem inv_in (c : Dev nD) : Ends spec0 osem0 R0 c (V m c) ⊢ (inv m c 0 : sProp 𝕄) := by
  unfold Ends inv
  rw [show flow m c 0 = Idle c dzM duM dgM (Z0 m c) from rfl, routed_singleton, ownSems_eq, scopedRest0_eq, Idle_eq]
  simp only [someAt, Memref.view_whole, View.set_whole]
  iintro ⟨HZ, ⟨Hs0, Hs1⟩, ⟨S0, S1, S2, S3, S4⟩, HG⟩
  isplitl [S0]; · iexact S0
  isplitl [S1]; · iexact S1
  isplitl [S2]; · iexact S2
  isplitr [HG]; swap; · iexact HG
  isplitl [HZ]; · iexact HZ
  isplitl [S3]; · iexact S3
  isplitl [S4]; · iexact S4
  isplitl [Hs0]; · iexact Hs0
  iexact Hs1

theorem inv_out (c : Dev nD) : (inv m c 4 : sProp 𝕄) ⊢ Ends spec0 osem0 R0 c (Yc m c) := by
  unfold Ends inv
  rw [show flow m c 4 = Idle c dzM duM dgM (Z4 m c) from rfl, routed_singleton, ownSems_eq, scopedRest0_eq, Idle_eq, Yc_dz]
  simp only [someAt, Memref.view_whole, View.set_whole]
  iintro ⟨S0, S1, S2, ⟨HZ, S3, S4, Hs0, Hs1⟩, HG⟩
  isplitl [HZ]; · iexact HZ
  isplitl [Hs0 Hs1]
  · isplitl [Hs0]; · iexact Hs0
    iexact Hs1
  isplitr [HG]; swap; · iexact HG
  isplitl [S0]; · iexact S0
  isplitl [S1]; · iexact S1
  isplitl [S2]; · iexact S2
  isplitl [S3]; · iexact S3
  iexact S4

/-- The final memory: the windowed arrays at what the points wrote, the array of gradients at `Z4`, the rest as found. -/
def Post (r : PUnit × MemSt nD τ sig (Elt F)) : Prop :=
  ∀ c : Dev nD, (∀ w, r.2.mem ((spec0 w).arr.view.loc (c : Thread nD τ)) = (dats m 0 c).arrAt w cfg0.N)
    ∧ r.2.mem ((c : Thread nD τ).loc main_v1_2) = Z4 m c
    ∧ (∀ b ∈ restRefs sig spec0 \ R0, r.2.mem ((c : Thread nD τ).loc b) = V m c b)

set_option backward.isDefEq.respectTransparency.types false in
theorem run_main : θ_run defs (onTc (τ := τ) (main (F := F))) (s₀ m ρ) (fun r => Post m r ∧ r.2.sem = fun _ => 0) :=
  θ_run_region_pf_quiescent (fun p => (cfgs p).toPCfg) (fun p => (cfgs p).toPCfg_adm) (dats m) () cellOf_inj 0 launch₀0.win ownSemFacts0
    (PreFacts.none _) embL defs₀ Variants.none m ρ main
    (fun c => (body_obligation m c).loose) launch₀0.block_pos launch₀0.arr_whole launch₀0.stage_whole (fun _ _ => rfl)
    (G := fun _ => iprop(emp)) (u₀ := (initOf (cells cfgs cellOf_inj) (launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmainC m Variants.none)
    (hsplit := fun c => (dats m 0 c).arrays_split_shared launch₀0.sharedIn launch₀0.arr_whole (fun _ _ => rfl) (V m c) _ (A_eq m c))
    (hpf := fun _ k => k.elim0)
    (X := fun c => iprop(routed R0 c (V m c) ∗ ownSems0 osem0 c ∗ ∃ r, prngReg c r))
    (Y := fun c => iprop(routed R0 c (Yc m c) ∗ ∃ r, prngReg c r))
    (Z := fun c => bigSep (restRefs sig spec0 \ R0) fun b => (((c : Thread nD τ).loc b) ↦{fullShare} V m c b : sProp 𝕄))
    (hX := fun c => by
      rw [unscopedRestP_none]
      rw [show unscopedRest (Ix := Unit) (Name := ℕ) (U := UC sig nD τ) (Lvl := ℕ) spec0 c (V m c)
          = iprop(routed R0 c (V m c) ∗ bigSep (restRefs sig spec0 \ R0) fun b => (((c : Thread nD τ).loc b) ↦{fullShare} V m c b : sProp 𝕄))
        from by unfold unscopedRest routed; exact BI.bigSep_sdiff_split R0_sub]
      iintro ⟨⟨HR, HZ⟩, Hos, -, Hp, -⟩; imodintro
      isplitr [HZ]
      · isplitl [HR]; · iexact HR
        isplitl [Hos]; · iexact Hos
        iexists _; iexact Hp
      · iexact HZ)
    (hin := fun c => (show _ ⊢ Ends spec0 osem0 R0 c (V m c) by
      unfold Ends
      iintro ⟨⟨HR, Hos, Hp⟩, -, Hr⟩
      isplitl [HR]; · iexact HR
      isplitl [Hos]; · iexact Hos
      isplitl [Hr] <;> iassumption).trans (inv_in m c))
    (hout := fun c => (inv_out m c).trans (by
      unfold Ends
      iintro ⟨HR, Hos, Hr, Hp⟩
      isplitl [HR Hp]
      · isplitl [HR] <;> iassumption
      isplitl [Hos] <;> iassumption))
    (QY := fun c s => (∀ b ∈ R0, s.mem ((c : Thread nD τ).loc b) = Yc m c b)
      ∧ (∀ b ∈ restRefs sig spec0 \ R0, s.mem ((c : Thread nD τ).loc b) = V m c b))
    (hY := fun c s' => by
      unfold routed
      iintro ⟨⟨HR, -⟩, HZ, HSI⟩
      ihave H := (pointsTo_read_all R0 (fun b => (c : Thread nD τ).loc b) (Yc m c) s') $$ [HR HSI]
      · isplitl [HR] <;> iassumption
      icases H with ⟨%hR', HSI⟩
      ihave H := (pointsTo_read_all (restRefs sig spec0 \ R0) (fun b => (c : Thread nD τ).loc b) (V m c) s') $$ [HZ HSI]
      · isplitl [HZ] <;> iassumption
      icases H with ⟨%hZ, HSI⟩
      imodintro
      isplitr; · ipureintro; exact ⟨hR', hZ⟩
      iexact HSI)
    (hQ := fun _ h hz => ⟨fun c => ⟨(h c).1, ((h c).2.2.1 main_v1_2 (Finset.mem_singleton_self _)).trans (Yc_dz m c), (h c).2.2.2⟩, hz⟩)

/-- The frame at any float values: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 1).trans (((dats m 0 c).arrAt_in 1 rfl _).trans ((A_eq m c 1).trans (V_main_arg0 m c))),
      ((h.1 c).2.2 main_arg1 (Finset.mem_sdiff.mpr ⟨mem_restRefs_of main_arg1 (by decide) (by decide), by decide⟩)).trans (V_main_arg1 m c),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).2.2 main_arg4 (Finset.mem_sdiff.mpr ⟨mem_restRefs_of main_arg4 (by decide) (by decide), by decide⟩)).trans (V_main_arg4 m c)⟩, h.2⟩) (run_main m ρ)

end Cert.KernelIdeal.Pool

end
-- ==== Proof.Pool.SameText.lean ====
/-
  The pool's program and its idealization are printed from one module and no rewrite was made between them, so the two
  texts are one: every part of the kernel function, the body table and the whole table, by unfolding.
-/
module

public import proofs.«01_k».proof.Defs
public import proofs.«01_k».proof.Proof.Gen.Kernel
public import proofs.«01_k».proof.Proof.Pool.Run

@[expose] public section

set_option maxRecDepth 100000

noncomputable section

namespace Cert.KernelIdeal.Pool

open Idealize.ShloMosaic Idealize.SL.Sem

variable {F : FTy → Type} [FloatOps F]

theorem part1_same : @Cert.Kernel.k0_part1 F _ _ = @Cert.KernelIdeal.k0_part1 F _ _ := rfl
theorem part2_same : @Cert.Kernel.k0_part2 F _ _ = @Cert.KernelIdeal.k0_part2 F _ _ := rfl
theorem part3_same : @Cert.Kernel.k0_part3 F _ _ = @Cert.KernelIdeal.k0_part3 F _ _ := rfl
theorem part4_same : @Cert.Kernel.k0_part4 F _ _ = @Cert.KernelIdeal.k0_part4 F _ _ := rfl
theorem part5_same : @Cert.Kernel.k0_part5 F _ _ = @Cert.KernelIdeal.k0_part5 F _ _ := rfl
theorem part6_same : @Cert.Kernel.k0_part6 F _ _ = @Cert.KernelIdeal.k0_part6 F _ _ := rfl
theorem part7_same : @Cert.Kernel.k0_part7 F _ _ = @Cert.KernelIdeal.k0_part7 F _ _ := rfl
theorem dot_same : Cert.Kernel.dot_S512x768_S768x256_S512x256_1_0_0_1_n_n = Cert.KernelIdeal.dot_S512x768_S768x256_S512x256_1_0_0_1_n_n := rfl
theorem loop1_same : Cert.Kernel.k0_t1_loop = Cert.KernelIdeal.k0_t1_loop := rfl
theorem loop2_same : Cert.Kernel.k0_t2_loop = Cert.KernelIdeal.k0_t2_loop := rfl
theorem body_same : @Cert.Kernel.cc0_pool_bwd F _ _ = @Cert.KernelIdeal.cc0_pool_bwd F _ _ := rfl
/-- The kernels' body tables are one. -/
theorem defs₀_same : Cert.Kernel.defs₀ (F := F) = Cert.KernelIdeal.defs₀ (F := F) := by
  unfold Cert.Kernel.defs₀ Cert.KernelIdeal.defs₀
  rw [body_same]
  congr 1
  funext ℓ x
  match ℓ, x with
  | 0, (t, s) => rfl
theorem defs_same : Cert.Kernel.defs (F := F) = Cert.KernelIdeal.defs (F := F) := by
  unfold Cert.Kernel.defs Cert.KernelIdeal.defs
  rw [defs₀_same]; rfl

/-- The frame of the program before idealization: the run of its idealization at bit patterns. -/
theorem frame_bits : Cert.quiescent_Kernel := fun m ρ _ =>
  Eq.mpr (congrArg (fun d : Defs Cert.Kernel.nD Cert.Kernel.τ Cert.Kernel.sig (Elt Bits) _ =>
    θ_run d (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)) (defs_same (F := Bits))) (frame (F := Bits) m ρ)

end Cert.KernelIdeal.Pool

end
-- ==== Proof.PoolValue.Ref.lean ====
/-
  The gradients of the pooling branch's weights and scale as the reference has them: a sum over the rows of the centred
  means, the weights and the gated gradient of the branch's output.
-/
module

public import proofs.«01_k».proof.Defs
public import proofs.«01_k».proof.Proof.Gen.ReferenceIdeal.Run
public import proofs.«01_k».proof.Proof.PoolFwd.Ref
public import Idealize.ShloMosaic.Lib.Pointwise

@[expose] public section

set_option maxRecDepth 16384

noncomputable section

namespace Cert.Proof.PoolValue

open Cert.ReferenceIdeal Cert.ReferenceIdeal.Gen Cert.ReferenceIdeal.Value Idealize.ShloMosaic Idealize.ShloMosaic.TcCoe
open Cert.Proof.PoolFwd (centred gate refLo refHi refU refP refG refP_eq refG_apply)

/-! ## The values -/

/-- The gradient before the gate: the branch's output gradient by the gate. -/
def gated (z : S4096x14848.Idx → EReal) (y : S4096x1024.Idx → EReal) (g : Fin 4) (s : Fin 4096) (e : Fin 256) : EReal :=
  y (ix2 s ⟨256 * g.val + e.val, by omega⟩) * gate (z (ix2 s ⟨5120 + (256 * g.val + e.val), by omega⟩))

/-- The gradient of a group's scale. -/
def dscale (z : S4096x14848.Idx → EReal) (y : S4096x1024.Idx → EReal) (w : S4x256x256.Idx → EReal) (g : Fin 4) (e : Fin 256) : EReal :=
  ∑ s : Fin 4096, gated z y g s e * ∑ d : Fin 256, centred z g s d * w (ix3 g d e)

/-- The gradient of a group's weights. -/
def dweight (z : S4096x14848.Idx → EReal) (y : S4096x1024.Idx → EReal) (ps : S1024.Idx → EReal) (g : Fin 4) (d e : Fin 256) : EReal :=
  ∑ s : Fin 4096, centred z g s d * (gated z y g s e * ps (ix1 ⟨256 * g.val + e.val, by omega⟩))

/-- The two results. -/
def resW (z : S4096x14848.Idx → EReal) (y : S4096x1024.Idx → EReal) (ps : S1024.Idx → EReal) : S4x256x256.Idx → EReal :=
  fun i => dweight z y ps (i 0) (i 1) (i 2)
def resS (z : S4096x14848.Idx → EReal) (y : S4096x1024.Idx → EReal) (w : S4x256x256.Idx → EReal) : S4x1x256.Idx → EReal :=
  fun i => dscale z y w (i 0) (i 2)

/-! ## The reference -/

/-- The gradient before the gate. -/
def refY (G : FVec Ideal S4096x1024 .f32) (y : FVec Ideal S4096x1024 .bf16) : FVec Ideal S4096x1024 .f32 :=
  (mulf (extf .f32 y Facts₀.bitsLt_bf16_f32) (mulf G (Host.divf (broadcastInDim S4096x1024 ![] Facts₀.bcast_S_S4096x1024 (constant (F := Ideal) S_ .f32 0x3F800000#32)) (addf (broadcastInDim S4096x1024 ![] Facts₀.bcast_S_S4096x1024 (constant (F := Ideal) S_ .f32 0x3F800000#32)) (Host.exp (Host.negf G))))))

/-- The gradient of the scale. -/
def refS (P : FVec Ideal S4x4096x256 .f32) (Y : FVec Ideal S4096x1024 .f32) (w : FVec Ideal S4x256x256 .bf16) : FVec Ideal S4x1x256 .f32 :=
  shapeCast S4x1x256 (Host.reduceAdd (shapeCast S1x1024 (Host.reduceAdd (mulf (shapeCast S4096x1024 (transpose S4096x4x256 [2, 0, 1] (Host.dotGeneral dot_S4x256x256_S4x4096x256_S4x256x4096_1_2_2_1_0_0 none (extf .f32 w Facts₀.bitsLt_bf16_f32) (extf .f32 (truncf .bf16 P Facts₀.bitsLt_bf16_f32) Facts₀.bitsLt_bf16_f32)) Facts₀.transposes_S4x256x4096_S4096x4x256_2_0_1) Facts₀.shapeCasts_S4096x4x256_S4096x1024) Y) (constant (F := Ideal) S_ .f32 0x00000000#32) Facts₀.reducesTo_S4096x1024_S1024_d0 h_S_) Facts₀.shapeCasts_S1024_S1x1024) (constant (F := Ideal) S_ .f32 0x00000000#32) Facts₀.reducesTo_S1x1024_S1024_d0 h_S_) Facts₀.shapeCasts_S1024_S4x1x256

/-- The gradient of the weights. -/
def refW (P : FVec Ideal S4x4096x256 .f32) (Y : FVec Ideal S4096x1024 .f32) (ps : FVec Ideal S1024 .f32) : FVec Ideal S4x256x256 .bf16 :=
  truncf .bf16 (transpose S4x256x256 [0, 2, 1] (Host.dotGeneral dot_S4x256x4096_S4x4096x256_S4x256x256_2_1_1_2_0_0 none (transpose S4x256x4096 [1, 2, 0] (shapeCast S4096x4x256 (mulf Y (broadcastInDim S4096x1024 ![0, 1] Facts₀.bcast_S1x1024_S4096x1024_0_1 (broadcastInDim S1x1024 ![1] Facts₀.bcast_S1024_S1x1024_1 ps))) Facts₀.shapeCasts_S4096x1024_S4096x4x256) Facts₀.transposes_S4096x4x256_S4x256x4096_1_2_0) (extf .f32 (truncf .bf16 P Facts₀.bitsLt_bf16_f32) Facts₀.bitsLt_bf16_f32)) Facts₀.transposes_S4x256x256_S4x256x256_0_2_1) Facts₀.bitsLt_bf16_f32

theorem refY_apply (z : FVec Ideal S4096x14848 .bf16) (y : FVec Ideal S4096x1024 .bf16) (g : Fin 4) (s : Fin 4096) (e : Fin 256)
    (h : 256 * g.val + e.val < 1024) :
    refY (refG z) y (ix2 s ⟨256 * g.val + e.val, h⟩) = gated z y g s e := by
  have eg : refG z (ix2 s ⟨256 * g.val + e.val, h⟩) = z (ix2 s ⟨5120 + (256 * g.val + e.val), by omega⟩) :=
    refG_apply z (ix2 s ⟨256 * g.val + e.val, h⟩) (show 5120 + (256 * g.val + e.val) < 14848 by omega)
  unfold gated gate
  rw [← eg]
  pointwise [refY]
  rw [sub_eq_add_neg, zero_add]

theorem refS_apply (P : FVec Ideal S4x4096x256 .f32) (Y : FVec Ideal S4096x1024 .f32) (w : FVec Ideal S4x256x256 .bf16) (g : Fin 4) (e : Fin 256) :
    refS P Y w (ix3 g 0 e) = ∑ s : Fin 4096, Y (ix2 s ⟨256 * g.val + e.val, by omega⟩) * ∑ d : Fin 256, P (ix3 g s d) * w (ix3 g d e) := by
  pointwise [refS]
  rw [Finset.univ_unique, Finset.sum_singleton]
  refine Finset.sum_congr (M := EReal) rfl fun s _ => (mul_comm _ _).trans (congrArg₂ (· * ·) ?_ ?_)
  · exact congrArg _ (congrArg _ (Fin.ext (by simp only; omega)))
  · exact Finset.sum_congr (M := EReal) rfl fun d _ => mul_comm _ _

theorem refW_apply (P : FVec Ideal S4x4096x256 .f32) (Y : FVec Ideal S4096x1024 .f32) (ps : FVec Ideal S1024 .f32) (g : Fin 4) (d e : Fin 256) :
    refW P Y ps (ix3 g d e) = ∑ s : Fin 4096, P (ix3 g s d) * (Y (ix2 s ⟨256 * g.val + e.val, by omega⟩) * ps (ix1 ⟨256 * g.val + e.val, by omega⟩)) := by
  pointwise [refW]
  have e1 : (⟨g.val * 256 + e.val, by omega⟩ : Fin 1024) = ⟨256 * g.val + e.val, by omega⟩ := Fin.ext (by simp only; omega)
  refine Finset.sum_congr (M := EReal) rfl fun s _ => (mul_comm _ _).trans (congrArg (_ * ·) ?_)
  exact congrArg₂ (· * ·) (congrArg _ (congrArg _ e1)) (congrArg _ (congrArg _ e1))

theorem ref_termS (m : (ℓ : Loc nD τ sig) → Buf (Elt Ideal) ℓ) (c : Dev nD) : res_main_v102 m c
    = refS (refP refLo refHi (refU (m ((c.tc : Thread nD τ).loc main_arg0)))) (refY (refG (m ((c.tc : Thread nD τ).loc main_arg0))) (m ((c.tc : Thread nD τ).loc main_arg2)))
        (m ((c.tc : Thread nD τ).loc main_arg3)) := rfl

theorem ref_termW (m : (ℓ : Loc nD τ sig) → Buf (Elt Ideal) ℓ) (c : Dev nD) : res_main_v78 m c
    = refW (refP refLo refHi (refU (m ((c.tc : Thread nD τ).loc main_arg0)))) (refY (refG (m ((c.tc : Thread nD τ).loc main_arg0))) (m ((c.tc : Thread nD τ).loc main_arg2)))
        (m ((c.tc : Thread nD τ).loc main_arg4)) := rfl

theorem refS_eq (m : (ℓ : Loc nD τ sig) → Buf (Elt Ideal) ℓ) (c : Dev nD) : res_main_v102 m c
    = resS (m ((c.tc : Thread nD τ).loc main_arg0)) (m ((c.tc : Thread nD τ).loc main_arg2)) (m ((c.tc : Thread nD τ).loc main_arg3)) := by
  rw [ref_termS]
  funext i
  obtain ⟨g, x, e, rfl⟩ : ∃ (g : Fin 4) (x : Fin 1) (e : Fin 256), i = ix3 g x e := ⟨i 0, i 1, i 2, eq_ix3 i⟩
  obtain rfl : x = 0 := Subsingleton.elim _ _
  refine (refS_apply _ _ _ g e).trans ?_
  unfold resS dscale
  refine Finset.sum_congr (M := EReal) rfl fun s _ => ?_
  rw [refY_apply]
  exact congrArg (_ * ·) (Finset.sum_congr (M := EReal) rfl fun d _ => congrArg (· * _) (refP_eq _ _ _ _))

theorem refW_eq (m : (ℓ : Loc nD τ sig) → Buf (Elt Ideal) ℓ) (c : Dev nD) : res_main_v78 m c
    = resW (m ((c.tc : Thread nD τ).loc main_arg0)) (m ((c.tc : Thread nD τ).loc main_arg2)) (m ((c.tc : Thread nD τ).loc main_arg4)) := by
  rw [ref_termW]
  funext i
  obtain ⟨g, d, e, rfl⟩ : ∃ (g : Fin 4) (d : Fin 256) (e : Fin 256), i = ix3 g d e := ⟨i 0, i 1, i 2, eq_ix3 i⟩
  refine (refW_apply _ _ _ g d e).trans ?_
  unfold resW dweight
  refine Finset.sum_congr (M := EReal) rfl fun s _ => ?_
  rw [refY_apply]
  exact congrArg (· * _) (refP_eq _ _ _ _)

end Cert.Proof.PoolValue

end
-- ==== Proof.PoolValue.Body.lean ====
/-
  One group of the pooling gradient: the eight stretches of 512 rows add up to the sums over all the rows.
-/
module

public import proofs.«01_k».proof.Proof.Pool.Blocks
public import proofs.«01_k».proof.Proof.Pool.Steps
public import proofs.«01_k».proof.Proof.PoolFwd.Ref
public import Idealize.ShloMosaic.Lib.Pointwise

@[expose] public section

set_option maxRecDepth 16384

noncomputable section

namespace Cert.Proof.PoolValue

open Cert.KernelIdeal Cert.KernelIdeal.Gen Idealize.ShloMosaic Idealize.ShloMosaic.TcCoe
open Cert.KernelIdeal.Pool (start rows wnd pB yB scAcc dwAcc dwV scV)
open Cert.Proof.PoolFwd (win ct gate band stretch div_ct)

/-- A row's number, wrapped at the last. -/
def row (n : ℕ) : Fin 4096 := ⟨n % 4096, Nat.mod_lt _ (by decide)⟩

theorem row_of {n : ℕ} (h : n < 4096) : row n = ⟨n, h⟩ := Fin.ext (Nat.mod_eq_of_lt h)

/-- One row's mean less the row. -/
def cen (h : ℕ) (X : S4096x256.Idx → EReal) (s : Fin 4096) (d : Fin 256) : EReal :=
  Ideal.div (win h (fun c => X (ix2 c d)) s) (ct h s.val) - X (ix2 s d)

/-- One row of the gradient before the gate. -/
def gat (G Y : S4096x256.Idx → EReal) (s : Fin 4096) (e : Fin 256) : EReal := Y (ix2 s e) * gate (G (ix2 s e))

theorem mid (h : ℕ) (h1 : 1 ≤ h) (hh : h ≤ 8) (R st : ℕ) (hR : R + 512 ≤ 4096) (hst : st + 768 ≤ 4096) (c1 : st = 0 ∨ st + 8 ≤ R)
    (c2 : st + 768 = 4096 ∨ R + 520 ≤ st + 768) (v rw' sw : BitVec 32) (hv : v = BitVec.ofNat 32 h) (hrw : rw' = BitVec.ofNat 32 R)
    (hsw : sw = BitVec.ofNat 32 st) (X : S4096x256.Idx → EReal) (w : S768x256.Idx → EReal) (u : S512x256.Idx → EReal) (r : Fin 512) (d : Fin 256)
    (hw : ∀ x : Fin 768, w (ix2 x d) = X (ix2 ⟨st + x.val, by omega⟩ d)) (hu : u (ix2 r d) = X (ix2 ⟨R + r.val, by omega⟩ d)) :
    (∑ k : Fin 768, Scalar.select (IntOp.andi
        (IntOp.cmpi .sge (IntOp.subi (IntOp.addi (BitVec.ofNat 32 k.val) sw) (IntOp.addi (BitVec.ofNat 32 r.val) rw')) (Scalar.subi 0#32 v))
        (IntOp.cmpi .sle (IntOp.subi (IntOp.addi (BitVec.ofNat 32 k.val) sw) (IntOp.addi (BitVec.ofNat 32 r.val) rw')) (Scalar.subi v 1#32)))
          (w (ix2 k d)) 0)
        * Ideal.div 1 (FloatOps.sitofp (F := Ideal) FTy.f32 (IntOp.subi
            (IntOp.minsi 4096#32 (IntOp.maxsi 0#32 (IntOp.addi (IntOp.addi (BitVec.ofNat 32 r.val) rw') v)))
            (IntOp.minsi 4096#32 (IntOp.maxsi 0#32 (IntOp.subi (IntOp.addi (BitVec.ofNat 32 r.val) rw') v)))))
        - u (ix2 r d) = cen h X ⟨R + r.val, by omega⟩ d := by
  have ew : (∑ k : Fin 768, Scalar.select (IntOp.andi
        (IntOp.cmpi .sge (IntOp.subi (IntOp.addi (BitVec.ofNat 32 k.val) sw) (IntOp.addi (BitVec.ofNat 32 r.val) rw')) (Scalar.subi 0#32 v))
        (IntOp.cmpi .sle (IntOp.subi (IntOp.addi (BitVec.ofNat 32 k.val) sw) (IntOp.addi (BitVec.ofNat 32 r.val) rw')) (Scalar.subi v 1#32)))
          (w (ix2 k d)) 0) = win h (fun c => X (ix2 c d)) ⟨R + r.val, by omega⟩ := by
    refine Eq.trans (Finset.sum_congr rfl fun k _ => ?_)
      (stretch h st hst (fun c => X (ix2 c d)) ⟨R + r.val, by omega⟩ (c1.imp_right fun _ => by simp only; omega)
        (c2.imp_right fun _ => by simp only; omega))
    rw [band h k.val r.val st R hh k.isLt r.isLt (by omega) (by omega) v hv sw rw' hsw hrw, hw]
  have ea : IntOp.addi (BitVec.ofNat 32 r.val) rw' = BitVec.ofNat 32 (R + r.val) := by
    subst hrw
    show BitVec.ofNat 32 r.val + BitVec.ofNat 32 R = _
    rw [← BitVec.ofNat_add, Nat.add_comm]
  unfold cen
  rw [ew, hu, ea, hv]
  exact congrArg (· - _) (div_ct h (R + r.val) h1 hh (by omega) _)

theorem words : ∀ n : Fin 8, Scalar.muli (BitVec.ofNat 32 n.val) 512#32 = BitVec.ofNat 32 (512 * n.val)
    ∧ Scalar.minsi 3328#32 (Scalar.maxsi 0#32 (Scalar.subi (Scalar.muli (BitVec.ofNat 32 n.val) 512#32) 128#32)) = BitVec.ofNat 32 (start n.val) := by
  decide +kernel

theorem ix_eq (n : ℕ) (d : Fin 256) : Cert.KernelIdeal.Pool.ix n d = ix2 (row n) d := by
  funext a
  fin_cases a <;> rfl

theorem rows_apply' {t : EltTy} (X : Vec Ideal S4096x256 t) (n : ℕ) (r : Fin 512) (d : Fin 256) : rows X n (ix2 r d) = X (ix2 (row (512 * n + r.val)) d) :=
  congrArg X (ix_eq _ _)

theorem rows_apply (X : Vec Ideal S4096x256 .bf16) (n : ℕ) (r : Fin 512) (d : Fin 256) : rows X n (ix2 r d) = X (ix2 (row (512 * n + r.val)) d) :=
  congrArg X (ix_eq _ _)

theorem wnd_apply (X : Vec Ideal S4096x256 .bf16) (n : ℕ) (x : Fin 768) (d : Fin 256) : wnd X n (ix2 x d) = X (ix2 (row (start n + x.val)) d) :=
  congrArg X (ix_eq _ _)

section
variable (i : grid0.Coords) (w : Vec Ideal S1x256x256 .bf16) (s : Vec Ideal S1x1x256 .f32) (u g y : Vec Ideal S4096x256 .bf16)
  (h : ℕ) (h1 : 1 ≤ h) (hh : h ≤ 8) (hv : Cert.KernelIdeal.Pool.half i = BitVec.ofNat 32 h)
include h1 hh hv

theorem pB_apply (n : ℕ) (hn : n < 8) (r : Fin 512) (d : Fin 256) : pB i u n (ix2 r d) = cen h u (row (512 * n + r.val)) d := by
  obtain ⟨w1, w2⟩ := words ⟨n, hn⟩
  have hs : start n = min 3328 (512 * n - 128) := rfl
  rw [row_of (show 512 * n + r.val < 4096 by omega)]
  refine Eq.trans ?_ (mid h h1 hh (512 * n) (start n) (by omega) (by omega) (by omega) (by omega) _ _ _ hv w1 w2 u (wnd u n) (rows u n) r d
    (fun x => (wnd_apply u n x d).trans (by rw [row_of])) ((rows_apply u n r d).trans (by rw [row_of])))
  pointwise [pB, k0_pay19, k0_pay17, k0_pay18]

theorem yB_apply (n : ℕ) (hn : n < 8) (r : Fin 512) (e : Fin 256) :
    yB i w u n (ix2 r e) = ∑ d : Fin 256, cen h u (row (512 * n + r.val)) d * w (ix3 0 d e) := by
  have e0 : yB i w u n (ix2 r e) = ∑ d : Fin 256, pB i u n (ix2 r d) * w (ix3 0 d e) := by
    unfold pB yB k0_pay20
    pointwise [k0_pay26]
  rw [e0]
  exact Finset.sum_congr (M := EReal) rfl fun d _ => congrArg (· * _) (pB_apply i u h h1 hh hv n hn r d)

omit h1 hh hv in
theorem gB_apply (n : ℕ) (r : Fin 512) (e : Fin 256) :
    k0_pay30 (k0_pay21 (rows g n)) (k0_pay22 (rows y n)) (k0_pay24 (rows g n)) (ix2 r e) = gat g y (row (512 * n + r.val)) e := by
  unfold gat gate
  rw [← rows_apply g n r e, ← rows_apply y n r e]
  pointwise [k0_pay30, k0_pay21, k0_pay22, k0_pay24]

omit h1 hh hv in
theorem sc_step (a b c v : FVec Ideal S512x256 .f32) (A : Vec Ideal S1x1x256 .f32) (e : Fin 256) :
    k0_pay31 v a b c A (ix3 0 0 e) = A (ix3 0 0 e) + ∑ r : Fin 512, k0_pay30 a b c (ix2 r e) * v (ix2 r e) := by
  unfold k0_pay31
  pointwise

omit h1 hh hv in
theorem dw_step (a b c : FVec Ideal S512x256 .f32) (p : FVec Ideal S512x256 .bf16) (A : Vec Ideal S256x256 .f32) (d e : Fin 256) :
    k0_pay33 s p a b c A (ix2 d e) = A (ix2 d e) + ∑ r : Fin 512, p (ix2 r d) * (k0_pay30 a b c (ix2 r e) * s (ix3 0 0 e)) := by
  unfold k0_pay33 k0_pay32
  pointwise [k0_pay27]

theorem sc_sum (e : Fin 256) (n : ℕ) (hn : n ≤ 8) : scAcc i w u g y n (ix3 0 0 e)
    = ∑ k ∈ Finset.range (512 * n), gat g y (row k) e * ∑ d : Fin 256, cen h u (row k) d * w (ix3 0 d e) := by
  induction n with
  | zero =>
    show k0_pay29 (F := Ideal) (ix3 0 0 e) = _
    rw [Nat.mul_zero, Finset.sum_range_zero]
    pointwise [k0_pay29]
  | succ n ih =>
    have e1 : scAcc i w u g y (n + 1) (ix3 0 0 e) = _ := sc_step _ _ _ _ _ e
    rw [e1, ih (by omega), Nat.mul_succ, Finset.sum_range_add]
    refine congrArg (_ + ·) ((Finset.sum_congr (M := EReal) rfl fun r _ => ?_).trans (Finset.sum_range (n := 512) (fun k => gat g y (row (512 * n + k)) e
      * ∑ d : Fin 256, cen h u (row (512 * n + k)) d * w (ix3 0 d e))).symm)
    rw [gB_apply, yB_apply i w u h h1 hh hv n (by omega)]

theorem dw_sum (d e : Fin 256) (n : ℕ) (hn : n ≤ 8) : dwAcc i s u g y n (ix2 d e)
    = ∑ k ∈ Finset.range (512 * n), cen h u (row k) d * (gat g y (row k) e * s (ix3 0 0 e)) := by
  induction n with
  | zero =>
    show k0_pay28 (F := Ideal) (ix2 d e) = _
    rw [Nat.mul_zero, Finset.sum_range_zero]
    pointwise [k0_pay28]
  | succ n ih =>
    have e1 : dwAcc i s u g y (n + 1) (ix2 d e) = _ := dw_step _ _ _ _ _ _ d e
    rw [e1, ih (by omega), Nat.mul_succ, Finset.sum_range_add]
    refine congrArg (_ + ·) ((Finset.sum_congr (M := EReal) rfl fun r _ => ?_).trans (Finset.sum_range (n := 512) (fun k => cen h u (row (512 * n + k)) d
      * (gat g y (row (512 * n + k)) e * s (ix3 0 0 e)))).symm)
    rw [gB_apply, pB_apply i u h h1 hh hv n (by omega)]

theorem scV_apply (e : Fin 256) : scV i w u g y (ix3 0 0 e)
    = ∑ k : Fin 4096, gat g y k e * ∑ d : Fin 256, cen h u k d * w (ix3 0 d e) := by
  unfold scV
  rw [sc_sum i w u g y h h1 hh hv e 8 le_rfl]
  refine (Finset.sum_range (n := 4096) _).trans (Finset.sum_congr (M := EReal) rfl fun k _ => ?_)
  rw [row_of k.isLt]

theorem dwV_apply (d e : Fin 256) : dwV i s u g y (ix3 0 d e)
    = ∑ k : Fin 4096, cen h u k d * (gat g y k e * s (ix3 0 0 e)) := by
  have e0 : dwV i s u g y (ix3 0 d e) = dwAcc i s u g y 8 (ix2 d e) := by
    unfold dwV
    pointwise [k0_pay37]
  rw [e0, dw_sum i s u g y h h1 hh hv d e 8 le_rfl]
  refine (Finset.sum_range (n := 4096) _).trans (Finset.sum_congr (M := EReal) rfl fun k _ => ?_)
  rw [row_of k.isLt]

end

end Cert.Proof.PoolValue

end
-- ==== Proof.PoolValue.Back.lean ====
/-
  One group of the pooling gradient: the gradients of the pooled rows and of the gate, row by row.
-/
module

public import proofs.«01_k».proof.Proof.PoolValue.Body

@[expose] public section

set_option maxRecDepth 16384

noncomputable section

namespace Cert.Proof.PoolValue

open Cert.KernelIdeal Cert.KernelIdeal.Gen Idealize.ShloMosaic Idealize.ShloMosaic.TcCoe
open Cert.KernelIdeal.Pool (start rows wnd pB yB dpB dpcB dgB duB glue dpAll dpcAll dgAll duAll)
open Cert.Proof.PoolFwd (win ct gate lo hi toInt_sub toInt_add toInt_nat sel and_bool div_ct)

/-- The sum over the rows whose windows hold row `s`. -/
def back (h : ℕ) (f : Fin 4096 → EReal) (s : Fin 4096) : EReal :=
  ∑ c : Fin 4096, if c.val ≤ s.val + h ∧ s.val < c.val + h then f c else 0

/-- The gate's slope. -/
def slope (x : EReal) : EReal := Ideal.div 1 (1 + Ideal.exp (0 - x)) * (1 + x * (1 - Ideal.div 1 (1 + Ideal.exp (0 - x))))

/-- The gradient of a group's pooled rows. -/
def dpl (w : S1x256x256.Idx → EReal) (s : S1x1x256.Idx → EReal) (G Y : S4096x256.Idx → EReal) (k : Fin 4096) (d : Fin 256) : EReal :=
  ∑ e : Fin 256, gat G Y k e * s (ix3 0 0 e) * w (ix3 0 d e)

/-- The gradient of the rows pooled. -/
def dul (h : ℕ) (w : S1x256x256.Idx → EReal) (s : S1x1x256.Idx → EReal) (G Y : S4096x256.Idx → EReal) (k : Fin 4096) (d : Fin 256) : EReal :=
  back h (fun c => Ideal.div (dpl w s G Y c d) (ct h c.val)) k - dpl w s G Y k d

/-- The gradient of the gate. -/
def dgl (h : ℕ) (w : S1x256x256.Idx → EReal) (s : S1x1x256.Idx → EReal) (X G Y : S4096x256.Idx → EReal) (k : Fin 4096) (e : Fin 256) : EReal :=
  Y (ix2 k e) * ((∑ d : Fin 256, cen h X k d * w (ix3 0 d e)) * s (ix3 0 0 e)) * slope (G (ix2 k e))

/-- The rows that the turned band keeps. -/
theorem bandT {α : Type} (h c r st row : ℕ) (hh : h ≤ 8) (hc : c < 768) (hr : r < 512) (hst : st ≤ 4096) (hrow : row ≤ 4096)
    (v : BitVec 32) (hv : v = BitVec.ofNat 32 h) (S R : BitVec 32) (hS : S = BitVec.ofNat 32 st) (hR : R = BitVec.ofNat 32 row) (a b : α) :
    Scalar.select (IntOp.andi
        (IntOp.cmpi .sge (IntOp.subi (IntOp.addi (BitVec.ofNat 32 c) S) (IntOp.addi (BitVec.ofNat 32 r) R)) (Scalar.addi (Scalar.subi 0#32 v) 1#32))
        (IntOp.cmpi .sle (IntOp.subi (IntOp.addi (BitVec.ofNat 32 c) S) (IntOp.addi (BitVec.ofNat 32 r) R)) v)) a b
      = if c + st ≤ row + r + h ∧ row + r < c + st + h then a else b := by
  subst hv hS hR
  have e : (IntOp.subi (IntOp.addi (BitVec.ofNat 32 c) (BitVec.ofNat 32 st)) (IntOp.addi (BitVec.ofNat 32 r) (BitVec.ofNat 32 row))).toInt
      = ((c : ℤ) + st) - (r + row) :=
    toInt_sub (toInt_add (toInt_nat c (by omega)) (toInt_nat st (by omega)) (by omega) (by omega))
      (toInt_add (toInt_nat r (by omega)) (toInt_nat row (by omega)) (by omega) (by omega)) (by omega) (by omega)
  have e1 : (Scalar.addi (Scalar.subi 0#32 (BitVec.ofNat 32 h)) 1#32).toInt = 0 - (h : ℤ) + 1 :=
    toInt_add (b := 1#32) (y := 1) (toInt_sub (a := 0#32) (x := 0) (by decide) (toInt_nat h (by omega)) (by omega) (by omega)) (by decide) (by omega) (by omega)
  show Scalar.select (IntOp.andi (BitVec.ofBool (decide (_ ≤ _))) (BitVec.ofBool (decide (_ ≤ _)))) a b = _
  rw [and_bool, sel, e, e1, toInt_nat h (by omega)]
  refine if_congr ?_ rfl rfl
  omega

/-- A stretch of 768 rows that holds the windows' centres has their sum. -/
theorem stretchT (h st : ℕ) (hst : st + 768 ≤ 4096) (f : Fin 4096 → EReal) (s : Fin 4096) (h1 : st = 0 ∨ st + h ≤ s.val)
    (h2 : st + 768 = 4096 ∨ s.val + h < st + 768) :
    (∑ x : Fin 768, if x.val + st ≤ s.val + h ∧ s.val < x.val + st + h then f ⟨st + x.val, by omega⟩ else 0) = back h f s := by
  unfold back
  refine Finset.sum_of_injOn (fun x : Fin 768 => (⟨st + x.val, by omega⟩ : Fin 4096)) ?_ (fun x _ => Finset.mem_coe.mpr (Finset.mem_univ _)) ?_ ?_
  · intro x _ y _ e
    have := congrArg Fin.val e
    exact Fin.ext (by simp only at this; omega)
  · intro c _ hc
    refine if_neg fun hw => hc ⟨⟨c.val - st, by omega⟩, Finset.mem_coe.mpr (Finset.mem_univ _), Fin.ext (by simp only; omega)⟩
  · intro x _
    refine if_congr ?_ rfl rfl
    simp only
    omega

theorem glue_eq {t : EltTy} (B : ℕ → Vec Ideal S512x256 t) (f : Fin 4096 → Fin 256 → Elt Ideal t)
    (hB : ∀ n, n < 8 → ∀ (r : Fin 512) (d : Fin 256), B n (ix2 r d) = f (row (512 * n + r.val)) d) (k : Fin 4096) (d : Fin 256) :
    glue B (ix2 k d) = f k d := by
  have e : Cert.KernelIdeal.Pool.bx k.val d = ix2 ⟨k.val % 512, Nat.mod_lt _ (by decide)⟩ d := by
    funext a
    fin_cases a <;> rfl
  show B (k.val / 512) (Cert.KernelIdeal.Pool.bx k.val d) = _
  rw [e, hB (k.val / 512) (by omega)]
  refine congrArg (f · d) ?_
  rw [row_of (by simp only; omega)]
  exact Fin.ext (by simp only; omega)

section
variable (i : grid0.Coords) (w : Vec Ideal S1x256x256 .bf16) (s : Vec Ideal S1x1x256 .f32) (u g y : Vec Ideal S4096x256 .bf16)
  (h : ℕ) (h1 : 1 ≤ h) (hh : h ≤ 8) (hv : Cert.KernelIdeal.Pool.half i = BitVec.ofNat 32 h)

theorem pay34_apply (a b c : FVec Ideal S512x256 .f32) (r : Fin 512) (d : Fin 256) :
    k0_pay34 w s a b c (ix2 r d) = ∑ e : Fin 256, k0_pay30 a b c (ix2 r e) * s (ix3 0 0 e) * w (ix3 0 d e) := by
  unfold k0_pay34 k0_pay32
  pointwise [k0_pay27, k0_pay26]

theorem dp_apply (n : ℕ) (r : Fin 512) (d : Fin 256) :
    k0_pay34 w s (k0_pay21 (rows g n)) (k0_pay22 (rows y n)) (k0_pay24 (rows g n)) (ix2 r d) = dpl w s g y (row (512 * n + r.val)) d := by
  rw [pay34_apply]
  unfold dpl
  exact Finset.sum_congr (M := EReal) rfl fun e _ => congrArg (· * _) (congrArg (· * _) (gB_apply g y n r e))

theorem dpB_apply (n : ℕ) (r : Fin 512) (d : Fin 256) : dpB w s g y n (ix2 r d) = dpl w s g y (row (512 * n + r.val)) d := by
  rw [← dp_apply]
  unfold dpB
  pointwise [k0_pay35]

include h1 hh hv

theorem cnt_apply (n : ℕ) (hn : n < 8) (r : Fin 512) :
    k0_pay18 (F := Ideal) (Cert.KernelIdeal.Pool.half i) (BitVec.ofNat 32 n) (ix2 r 0) = Ideal.div 1 (ct h (512 * n + r.val)) := by
  obtain ⟨w1, -⟩ := words ⟨n, hn⟩
  have ea : IntOp.addi (BitVec.ofNat 32 r.val) (Scalar.muli (BitVec.ofNat 32 n) 512#32) = BitVec.ofNat 32 (512 * n + r.val) := by
    rw [w1]
    show BitVec.ofNat 32 r.val + BitVec.ofNat 32 (512 * n) = _
    rw [← BitVec.ofNat_add, Nat.add_comm]
  unfold ct lo hi
  rw [← ea, ← hv]
  pointwise [k0_pay18]

theorem dpcB_apply (n : ℕ) (hn : n < 8) (r : Fin 512) (d : Fin 256) : dpcB i w s g y n (ix2 r d)
    = Ideal.div (dpl w s g y (row (512 * n + r.val)) d) (ct h (row (512 * n + r.val)).val) := by
  have e0 : dpcB i w s g y n (ix2 r d) = k0_pay34 w s (k0_pay21 (rows g n)) (k0_pay22 (rows y n)) (k0_pay24 (rows g n)) (ix2 r d)
      * k0_pay18 (F := Ideal) (Cert.KernelIdeal.Pool.half i) (BitVec.ofNat 32 n) (ix2 r 0) := by
    unfold dpcB
    pointwise [k0_pay36]
  have hr := r.isLt
  rw [e0, dp_apply, cnt_apply i h h1 hh hv n hn, row_of (show 512 * n + r.val < 4096 by omega)]
  exact div_ct h _ h1 hh (by omega) _

theorem duB_apply (n : ℕ) (hn : n < 8) (r : Fin 512) (d : Fin 256) : duB i w s g y n (ix2 r d) = dul h w s g y (row (512 * n + r.val)) d := by
  obtain ⟨w1, w2⟩ := words ⟨n, hn⟩
  have hs : start n = min 3328 (512 * n - 128) := rfl
  have hr := r.isLt
  have ep : rows (dpAll w s g y) n (ix2 r d) = dpl w s g y (row (512 * n + r.val)) d :=
    (rows_apply' _ n r d).trans (glue_eq (t := .f32) (dpB w s g y) (dpl w s g y) (fun n _ r d => dpB_apply w s g y n r d) _ d)
  have ec : ∀ x : Fin 768, wnd (dpcAll i w s g y) n (ix2 x d)
      = (fun c : Fin 4096 => Ideal.div (dpl w s g y c d) (ct h c.val)) ⟨start n + x.val, by omega⟩ := fun x =>
    ((wnd_apply _ n x d).trans (glue_eq (t := .bf16) (dpcB i w s g y) (fun c d => Ideal.div (dpl w s g y c d) (ct h c.val))
      (fun n hn r d => dpcB_apply i w s g y h h1 hh hv n hn r d) _ d)).trans (by rw [row_of (by omega)])
  rw [row_of (show 512 * n + r.val < 4096 by omega)] at ep ⊢
  unfold dul
  rw [← ep, ← stretchT h (start n) (by omega) _ ⟨512 * n + r.val, by omega⟩ (by simp only; omega) (by simp only; omega)]
  have e0 : ∀ (A : Vec Ideal S768x256 .bf16) (P : Vec Ideal S512x256 .f32), k0_pay38 i (BitVec.ofNat 32 n) 512#32 A P (ix2 r d)
      = (∑ k : Fin 768, Scalar.select (IntOp.andi
        (IntOp.cmpi .sge (IntOp.subi (IntOp.addi (BitVec.ofNat 32 k.val) (Scalar.minsi 3328#32 (Scalar.maxsi 0#32 (Scalar.subi (Scalar.muli (BitVec.ofNat 32 n) 512#32) 128#32))))
          (IntOp.addi (BitVec.ofNat 32 r.val) (Scalar.muli (BitVec.ofNat 32 n) 512#32))) (Scalar.addi (Scalar.subi 0#32 (Cert.KernelIdeal.Pool.half i)) 1#32))
        (IntOp.cmpi .sle (IntOp.subi (IntOp.addi (BitVec.ofNat 32 k.val) (Scalar.minsi 3328#32 (Scalar.maxsi 0#32 (Scalar.subi (Scalar.muli (BitVec.ofNat 32 n) 512#32) 128#32))))
          (IntOp.addi (BitVec.ofNat 32 r.val) (Scalar.muli (BitVec.ofNat 32 n) 512#32))) (Cert.KernelIdeal.Pool.half i))) (A (ix2 k d)) 0) - P (ix2 r d) := fun A P => by
    pointwise [k0_pay38]
  unfold duB
  refine (e0 _ _).trans (congrArg (· - _) (Finset.sum_congr (M := EReal) rfl fun k _ => ?_))
  rw [bandT h k.val r.val (start n) (512 * n) hh k.isLt hr (by omega) (by omega) _ hv _ _ w2 w1, ec]

theorem duAll_apply (k : Fin 4096) (d : Fin 256) : duAll i w s g y (ix2 k d) = dul h w s g y k d :=
  glue_eq (t := .bf16) (duB i w s g y) (dul h w s g y) (fun n hn r d => duB_apply i w s g y h h1 hh hv n hn r d) k d

theorem dgB_apply (n : ℕ) (hn : n < 8) (r : Fin 512) (e : Fin 256) : dgB i w s u g y n (ix2 r e) = dgl h w s u g y (row (512 * n + r.val)) e := by
  have e0 : dgB i w s u g y n (ix2 r e) = rows y n (ix2 r e) * (yB i w u n (ix2 r e) * s (ix3 0 0 e)) * slope (rows g n (ix2 r e)) := by
    unfold slope dgB yB k0_pay23
    pointwise [k0_pay22, k0_pay21, k0_pay27]
  rw [e0, yB_apply i w u h h1 hh hv n hn, rows_apply, rows_apply]
  rfl

theorem dgAll_apply (k : Fin 4096) (e : Fin 256) : dgAll i w s u g y (ix2 k e) = dgl h w s u g y k e :=
  glue_eq (t := .bf16) (dgB i w s u g y) (dgl h w s u g y) (fun n hn r d => dgB_apply i w s u g y h h1 hh hv n hn r d) k e

end

end Cert.Proof.PoolValue

end
-- ==== Proof.PoolValue.RefBack.lean ====
/-
  The gradients of the pooled rows and of the gate as the reference has them, and where they stand among the columns.
-/
module

public import proofs.«01_k».proof.Proof.PoolValue.Ref
public import proofs.«01_k».proof.Proof.PoolValue.Back
public import Idealize.ShloMosaic.Lib.Pipeline.Value

@[expose] public section

set_option maxRecDepth 16384

noncomputable section

namespace Cert.Proof.PoolValue

open Cert.ReferenceIdeal Cert.ReferenceIdeal.Gen Cert.ReferenceIdeal.Value Idealize.ShloMosaic Idealize.ShloMosaic.TcCoe
open Cert.Proof.PoolFwd (centred gate refLo refHi refU refP refG refP_eq refG_apply refLo_apply refHi_apply half half_le lo hi ct inside grp col)

/-! ## The values -/

/-- The gradient of a group's pooled rows. -/
def dpool (z : S4096x14848.Idx → EReal) (y : S4096x1024.Idx → EReal) (w : S4x256x256.Idx → EReal) (ps : S1024.Idx → EReal)
    (g : Fin 4) (s : Fin 4096) (d : Fin 256) : EReal :=
  ∑ e : Fin 256, gated z y g s e * ps (ix1 ⟨256 * g.val + e.val, by omega⟩) * w (ix3 g d e)

/-- The gradient of the rows pooled. -/
def dinp (z : S4096x14848.Idx → EReal) (y : S4096x1024.Idx → EReal) (w : S4x256x256.Idx → EReal) (ps : S1024.Idx → EReal)
    (g : Fin 4) (s : Fin 4096) (d : Fin 256) : EReal :=
  back (half g.val) (fun c => Ideal.div (dpool z y w ps g c d) (ct (half g.val) c.val)) s - dpool z y w ps g s d

/-- The gradient of the gate. -/
def dgat (z : S4096x14848.Idx → EReal) (y : S4096x1024.Idx → EReal) (w : S4x256x256.Idx → EReal) (ps : S1024.Idx → EReal)
    (g : Fin 4) (s : Fin 4096) (e : Fin 256) : EReal :=
  y (ix2 s ⟨256 * g.val + e.val, by omega⟩) * ((∑ d : Fin 256, centred z g s d * w (ix3 g d e)) * ps (ix1 ⟨256 * g.val + e.val, by omega⟩))
    * slope (z (ix2 s ⟨5120 + (256 * g.val + e.val), by omega⟩))

/-- The columns the branch does not own as they were, the two gradients in those it does. -/
def resZ (z dz : S4096x14848.Idx → EReal) (y : S4096x1024.Idx → EReal) (w : S4x256x256.Idx → EReal) (ps : S1024.Idx → EReal) :
    S4096x14848.Idx → EReal := fun i =>
  if h : 4096 ≤ (i 1).val ∧ (i 1).val < 5120 then
    dinp z y w ps (grp ⟨(i 1).val - 4096, by omega⟩) (i 0) (col ⟨(i 1).val - 4096, by omega⟩)
  else if h : 5120 ≤ (i 1).val ∧ (i 1).val < 6144 then
    dgat z y w ps (grp ⟨(i 1).val - 5120, by omega⟩) (i 0) (col ⟨(i 1).val - 5120, by omega⟩)
  else dz i

/-! ## The reference -/

/-- The gradient of the pooled rows. -/
def refD (Y : FVec Ideal S4096x1024 .f32) (w : FVec Ideal S4x256x256 .bf16) (ps : FVec Ideal S1024 .f32) : FVec Ideal S4x4096x256 .f32 :=
  (extf .f32 (truncf .bf16 (Host.dotGeneral dot_S4x256x4096_S4x256x256_S4x4096x256_1_2_2_1_0_0 none (transpose S4x256x4096 [1, 2, 0] (shapeCast _ (mulf Y (broadcastInDim S4096x1024 ![0, 1] Facts₀.bcast_S1x1024_S4096x1024_0_1 (broadcastInDim S1x1024 ![1] Facts₀.bcast_S1024_S1x1024_1 ps))) Facts₀.shapeCasts_S4096x1024_S4096x4x256) Facts₀.transposes_S4096x4x256_S4x256x4096_1_2_0) (extf .f32 w Facts₀.bitsLt_bf16_f32)) Facts₀.bitsLt_bf16_f32) Facts₀.bitsLt_bf16_f32)

/-- The gradient of the rows pooled. -/
def refB (l h : IVec S4x4096 32) (D : FVec Ideal S4x4096x256 .f32) : FVec Ideal S4x4096x256 .f32 :=
  (addf (Host.negf D) (Host.reduceAdd (broadcastInDim S4x1x4096x256 ![0, 2, 3] Facts₀.bcast_S4x4096x256_S4x1x4096x256_0_2_3 (Host.reduceAdd (select (broadcastInDim S4x4096x4096x256 ![0, 1, 2, 3] Facts₀.bcast_S4x4096x4096x1_S4x4096x4096x256_0_1_2_3 (broadcastInDim S4x4096x4096x1 ![0, 1, 2] Facts₀.bcast_S4x4096x4096_S4x4096x4096x1_0_1_2 (andi (cmpi .sle (broadcastInDim S4x4096x4096 ![0, 1, 2] Facts₀.bcast_S4x4096x1_S4x4096x4096_0_1_2 (broadcastInDim S4x4096x1 ![0, 1] Facts₀.bcast_S4x4096_S4x4096x1_0_1 l)) (broadcastInDim S4x4096x4096 ![0, 1, 2] Facts₀.bcast_S1x1x4096_S4x4096x4096_0_1_2 (broadcastInDim S1x1x4096 ![2] Facts₀.bcast_S4096_S1x1x4096_2 (iotaInDim S4096 32 0)))) (cmpi .slt (broadcastInDim S4x4096x4096 ![0, 1, 2] Facts₀.bcast_S1x1x4096_S4x4096x4096_0_1_2 (broadcastInDim S1x1x4096 ![2] Facts₀.bcast_S4096_S1x1x4096_2 (iotaInDim S4096 32 0))) (broadcastInDim S4x4096x4096 ![0, 1, 2] Facts₀.bcast_S4x4096x1_S4x4096x4096_0_1_2 (broadcastInDim S4x4096x1 ![0, 1] Facts₀.bcast_S4x4096_S4x4096x1_0_1 h)))))) (broadcastInDim S4x4096x4096x256 ![0, 1, 3] Facts₀.bcast_S4x4096x256_S4x4096x4096x256_0_1_3 (Host.divf D (broadcastInDim S4x4096x256 ![0, 1, 2] Facts₀.bcast_S4x4096x1_S4x4096x256_0_1_2 (broadcastInDim S4x4096x1 ![0, 1] Facts₀.bcast_S4x4096_S4x4096x1_0_1 (sitofp .f32 (subi h l)))))) (broadcastInDim S4x4096x4096x256 ![] Facts₀.bcast_S_S4x4096x4096x256 (constant (F := Ideal) S_ .f32 0x00000000#32))) (constant (F := Ideal) S_ .f32 0x00000000#32) Facts₀.reducesTo_S4x4096x4096x256_S4x4096x256_d1 h_S_)) (constant (F := Ideal) S_ .f32 0x00000000#32) Facts₀.reducesTo_S4x1x4096x256_S4x4096x256_d1 h_S_))

/-- The gradient of the gate. -/
def refE (P : FVec Ideal S4x4096x256 .f32) (G : FVec Ideal S4096x1024 .f32) (y : FVec Ideal S4096x1024 .bf16) (w : FVec Ideal S4x256x256 .bf16)
    (ps : FVec Ideal S1024 .f32) : FVec Ideal S4096x1024 .bf16 :=
  (truncf .bf16 (mulf (mulf (extf .f32 y Facts₀.bitsLt_bf16_f32) (mulf (shapeCast _ (transpose S4096x4x256 [2, 0, 1] (Host.dotGeneral dot_S4x256x256_S4x4096x256_S4x256x4096_1_2_2_1_0_0 none (extf .f32 w Facts₀.bitsLt_bf16_f32) (extf .f32 (truncf .bf16 P Facts₀.bitsLt_bf16_f32) Facts₀.bitsLt_bf16_f32)) Facts₀.transposes_S4x256x4096_S4096x4x256_2_0_1) Facts₀.shapeCasts_S4096x4x256_S4096x1024) (broadcastInDim S4096x1024 ![0, 1] Facts₀.bcast_S1x1024_S4096x1024_0_1 (broadcastInDim S1x1024 ![1] Facts₀.bcast_S1024_S1x1024_1 ps)))) (mulf (Host.divf (broadcastInDim S4096x1024 ![] Facts₀.bcast_S_S4096x1024 (constant (F := Ideal) S_ .f32 0x3F800000#32)) (addf (broadcastInDim S4096x1024 ![] Facts₀.bcast_S_S4096x1024 (constant (F := Ideal) S_ .f32 0x3F800000#32)) (Host.exp (Host.negf G)))) (addf (broadcastInDim S4096x1024 ![] Facts₀.bcast_S_S4096x1024 (constant (F := Ideal) S_ .f32 0x3F800000#32)) (mulf G (subf (broadcastInDim S4096x1024 ![] Facts₀.bcast_S_S4096x1024 (constant (F := Ideal) S_ .f32 0x3F800000#32)) (Host.divf (broadcastInDim S4096x1024 ![] Facts₀.bcast_S_S4096x1024 (constant (F := Ideal) S_ .f32 0x3F800000#32)) (addf (broadcastInDim S4096x1024 ![] Facts₀.bcast_S_S4096x1024 (constant (F := Ideal) S_ .f32 0x3F800000#32)) (Host.exp (Host.negf G))))))))) Facts₀.bitsLt_bf16_f32)

/-- The columns put together. -/
def refZ (dz : FVec Ideal S4096x14848 .bf16) (U : FVec Ideal S4x4096x256 .f32) (E : FVec Ideal S4096x1024 .bf16) : FVec Ideal S4096x14848 .bf16 :=
  (concatenate S4096x14848 1 [⟨S4096x4096, ((extractStridedSlice S4096x4096 ![0, 0] dz Facts₀.slices_S4096x14848_S4096x4096_0_0) : (⟨S4096x4096, .bf16⟩ : BufTy).Contents (Elt Ideal))⟩, ⟨S4096x1024, ((truncf .bf16 (shapeCast _ (transpose S4096x4x256 [1, 0, 2] U Facts₀.transposes_S4x4096x256_S4096x4x256_1_0_2) Facts₀.shapeCasts_S4096x4x256_S4096x1024) Facts₀.bitsLt_bf16_f32) : (⟨S4096x1024, .bf16⟩ : BufTy).Contents (Elt Ideal))⟩, ⟨S4096x1024, (E : (⟨S4096x1024, .bf16⟩ : BufTy).Contents (Elt Ideal))⟩, ⟨S4096x8704, ((extractStridedSlice S4096x8704 ![0, 6144] dz Facts₀.slices_S4096x14848_S4096x8704_0_6144) : (⟨S4096x8704, .bf16⟩ : BufTy).Contents (Elt Ideal))⟩] Facts₀.concatenates_S4096x4096_S4096x1024_S4096x1024_S4096x8704_S4096x14848_d1 : (⟨S4096x14848, .bf16⟩ : BufTy).Contents (Elt Ideal))

theorem ref_termZ (m : (ℓ : Loc nD τ sig) → Buf (Elt Ideal) ℓ) (c : Dev nD) : res_main_v107 m c
    = refZ (m ((c.tc : Thread nD τ).loc main_arg1))
        (refB refLo refHi (refD (refY (refG (m ((c.tc : Thread nD τ).loc main_arg0))) (m ((c.tc : Thread nD τ).loc main_arg2)))
          (m ((c.tc : Thread nD τ).loc main_arg3)) (m ((c.tc : Thread nD τ).loc main_arg4))))
        (refE (refP refLo refHi (refU (m ((c.tc : Thread nD τ).loc main_arg0)))) (refG (m ((c.tc : Thread nD τ).loc main_arg0)))
          (m ((c.tc : Thread nD τ).loc main_arg2)) (m ((c.tc : Thread nD τ).loc main_arg3)) (m ((c.tc : Thread nD τ).loc main_arg4))) := rfl

theorem refD_apply (Y : FVec Ideal S4096x1024 .f32) (w : FVec Ideal S4x256x256 .bf16) (ps : FVec Ideal S1024 .f32) (g : Fin 4) (s : Fin 4096) (d : Fin 256) :
    refD Y w ps (ix3 g s d) = ∑ e : Fin 256, Y (ix2 s ⟨256 * g.val + e.val, by omega⟩) * ps (ix1 ⟨256 * g.val + e.val, by omega⟩) * w (ix3 g d e) := by
  pointwise [refD]
  have e1 : ∀ e : Fin 256, (⟨g.val * 256 + e.val, by omega⟩ : Fin 1024) = ⟨256 * g.val + e.val, by omega⟩ := fun e => Fin.ext (by simp only; omega)
  exact Finset.sum_congr (M := EReal) rfl fun e _ => congrArg (· * _) (congrArg₂ (· * ·) (congrArg _ (congrArg _ (e1 e))) (congrArg _ (congrArg _ (e1 e))))

theorem refB_apply (l h : IVec S4x4096 32) (D : FVec Ideal S4x4096x256 .f32) (g : Fin 4) (s : Fin 4096) (d : Fin 256) (n : ℕ) (hn : n ≤ 8)
    (hl : ∀ c : Fin 4096, l (ix2 g c) = lo n c.val) (hh : ∀ c : Fin 4096, h (ix2 g c) = hi n c.val) :
    refB l h D (ix3 g s d) = back n (fun c => Ideal.div (D (ix3 g c d)) (ct n c.val)) s - D (ix3 g s d) := by
  have e : back n (fun c => Ideal.div (D (ix3 g c d)) (ct n c.val)) s = ∑ c : Fin 4096, Scalar.select (IntOp.andi (IntOp.cmpi .sle (lo n c.val) (BitVec.ofNat 32 s.val))
      (IntOp.cmpi .slt (BitVec.ofNat 32 s.val) (hi n c.val))) (Ideal.div (D (ix3 g c d)) (ct n c.val)) 0 :=
    Finset.sum_congr rfl fun c _ => (inside n s.val c.val hn s.isLt c.isLt _ _).symm
  rw [e]
  unfold ct
  simp only [← hl, ← hh]
  rw [sub_eq_add_neg, add_comm]
  pointwise [refB]
  try rw [Finset.univ_unique, Finset.sum_singleton]

theorem refE_apply (P : FVec Ideal S4x4096x256 .f32) (G : FVec Ideal S4096x1024 .f32) (y : FVec Ideal S4096x1024 .bf16) (w : FVec Ideal S4x256x256 .bf16)
    (ps : FVec Ideal S1024 .f32) (i : S4096x1024.Idx) :
    refE P G y w ps i = y i * ((∑ d : Fin 256, P (ix3 (grp (i 1)) (i 0) d) * w (ix3 (grp (i 1)) d (col (i 1)))) * ps (ix1 (i 1))) * slope (G i) := by
  unfold slope grp col
  rw [sub_eq_add_neg 0, zero_add]
  pointwise [refE]
  exact congrArg (· * _) (congrArg (_ * ·) (congrArg (· * _) (Finset.sum_congr (M := EReal) rfl fun d _ => mul_comm _ _)))

theorem flat_apply (U : FVec Ideal S4x4096x256 .f32) (s : Fin 4096) (k : Fin 1024) :
    truncf .bf16 (shapeCast S4096x1024 (transpose S4096x4x256 [1, 0, 2] U Facts₀.transposes_S4x4096x256_S4096x4x256_1_0_2) Facts₀.shapeCasts_S4096x4x256_S4096x1024) Facts₀.bitsLt_bf16_f32 (ix2 s k)
      = U (ix3 (grp k) s (col k)) := by
  unfold grp col
  pointwise

theorem slice_apply {n : ℕ} (o : ℕ) (dz : FVec Ideal S4096x14848 .bf16) (hs : S4096x14848.Slices ![0, o] ⟨2, ![4096, n]⟩) (s : Fin 4096) (k : Fin n) (j : Fin 14848)
    (hj : o + k.val = j.val) : extractStridedSlice ⟨2, ![4096, n]⟩ ![0, o] dz hs (ix2 s k) = dz (ix2 s j) := by
  pointwise
  exact congrArg _ (congrArg _ (Fin.ext hj))

theorem refZ_apply (dz : FVec Ideal S4096x14848 .bf16) (U : FVec Ideal S4x4096x256 .f32) (E : FVec Ideal S4096x1024 .bf16) (s : Fin 4096) (j : Fin 14848) :
    refZ dz U E (ix2 s j) = if h : 4096 ≤ j.val ∧ j.val < 5120 then
        U (ix3 (grp ⟨j.val - 4096, by omega⟩) s (col ⟨j.val - 4096, by omega⟩))
      else if h : 5120 ≤ j.val ∧ j.val < 6144 then E (ix2 s ⟨j.val - 5120, by omega⟩)
      else dz (ix2 s j) := by
  unfold refZ
  have hj := j.isLt
  by_cases h : 4096 ≤ j.val ∧ j.val < 5120
  · rw [dif_pos h]
    refine (concatenate_apply_piece (t := S4096x14848) 1 _ _ (ix2 s j) 1 (by show 1 < 4; omega) S4096x1024 _ (by rfl) rfl 4096 (by rfl) (ix2 s ⟨j.val - 4096, by omega⟩)
      (fun b hb => by fin_cases b; exacts [rfl, absurd rfl hb]) (show 4096 + (j.val - 4096) = j.val by omega)).trans ?_
    exact flat_apply U s _
  · rw [dif_neg h]
    by_cases h' : 5120 ≤ j.val ∧ j.val < 6144
    · rw [dif_pos h']
      exact (concatenate_apply_piece (t := S4096x14848) 1 _ _ (ix2 s j) 2 (by show 2 < 4; omega) S4096x1024 _ (by rfl) rfl 5120 (by rfl) (ix2 s ⟨j.val - 5120, by omega⟩)
      (fun b hb => by fin_cases b; exacts [rfl, absurd rfl hb]) (show 5120 + (j.val - 5120) = j.val by omega))
    · rw [dif_neg h']
      by_cases h0 : j.val < 4096
      · refine (concatenate_apply_piece (t := S4096x14848) 1 _ _ (ix2 s j) 0 (by show 0 < 4; omega) S4096x4096 _ (by rfl) rfl 0 (by rfl) (ix2 s ⟨j.val - 0, by omega⟩)
      (fun b hb => by fin_cases b; exacts [rfl, absurd rfl hb]) (show 0 + (j.val - 0) = j.val by omega)).trans ?_
        exact slice_apply 0 dz _ s _ j (by simp only; omega)
      · refine (concatenate_apply_piece (t := S4096x14848) 1 _ _ (ix2 s j) 3 (by show 3 < 4; omega) S4096x8704 _ (by rfl) rfl 6144 (by rfl) (ix2 s ⟨j.val - 6144, by omega⟩)
      (fun b hb => by fin_cases b; exacts [rfl, absurd rfl hb]) (show 6144 + (j.val - 6144) = j.val by omega)).trans ?_
        exact slice_apply 6144 dz _ s _ j (by simp only; omega)

theorem refZ_eq (m : (ℓ : Loc nD τ sig) → Buf (Elt Ideal) ℓ) (c : Dev nD) : res_main_v107 m c
    = resZ (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rw [ref_termZ]
  funext i
  obtain ⟨s, j, rfl⟩ : ∃ (s : Fin 4096) (j : Fin 14848), i = ix2 s j := ⟨i 0, i 1, eq_ix2 i⟩
  refine (refZ_apply _ _ _ s j).trans ?_
  unfold resZ
  have eD : ∀ (g : Fin 4) (k : Fin 4096) (d : Fin 256), refD (refY (refG (m ((c.tc : Thread nD τ).loc main_arg0))) (m ((c.tc : Thread nD τ).loc main_arg2)))
          (m ((c.tc : Thread nD τ).loc main_arg3)) (m ((c.tc : Thread nD τ).loc main_arg4)) (ix3 g k d)
        = dpool (m ((c.tc : Thread nD τ).loc main_arg0)) (m ((c.tc : Thread nD τ).loc main_arg2)) (m ((c.tc : Thread nD τ).loc main_arg3)) (m ((c.tc : Thread nD τ).loc main_arg4)) g k d := by
    intro g k d
    rw [refD_apply]
    unfold dpool
    exact Finset.sum_congr (M := EReal) rfl fun e _ => congrArg (· * _) (congrArg (· * _) (refY_apply _ _ g k e _))
  refine dite_congr rfl (fun h => ?_) (fun _ => dite_congr rfl (fun h => ?_) (fun _ => rfl))
  · refine (refB_apply _ _ _ _ _ _ _ (half_le _ (Fin.isLt _)) (refLo_apply _) (refHi_apply _)).trans ?_
    unfold dinp
    simp only [eD]
    rfl
  · refine (refE_apply _ _ _ _ _ _).trans ?_
    have hd : 256 * ((j.val - 5120) / 256) + (j.val - 5120) % 256 = j.val - 5120 := by omega
    unfold dgat
    refine congrArg₂ (· * ·) (congrArg₂ (· * ·) ?_ (congrArg₂ (· * ·) (Finset.sum_congr (M := EReal) rfl fun d _ => congrArg (· * _) (refP_eq _ _ _ _)) ?_)) (congrArg slope ?_)
    · exact congrArg _ (congrArg _ (Fin.ext hd.symm))
    · exact congrArg _ (congrArg _ (Fin.ext hd.symm))
    · rw [refG_apply _ _ (by show 5120 + (j.val - 5120) < 14848; omega)]
      exact congrArg _ (congrArg _ (Fin.ext (show 5120 + (j.val - 5120) = 5120 + (256 * ((j.val - 5120) / 256) + (j.val - 5120) % 256) by omega)))

end Cert.Proof.PoolValue

end
-- ==== Proof.PoolValue.Columns.lean ====
/-
  The array of gradients after the four groups: each group's two windows of columns hold its two gradients, the other
  columns what they held before.
-/
module

public import proofs.«01_k».proof.Proof.Pool.Run
public import proofs.«01_k».proof.Proof.PoolValue.Body
public import Idealize.ShloMosaic.Lib.Pipeline.ValueKit.Geometry
public import Idealize.ShloMosaic.Lib.Pipeline.ValueKit.Tiles

@[expose] public section

set_option maxRecDepth 16384

noncomputable section

namespace Cert.Proof.PoolValue

open Cert.KernelIdeal Cert.KernelIdeal.Gen Idealize.ShloMosaic Idealize.ShloMosaic.TcCoe
open Idealize.SL.Sem
open Cert.KernelIdeal.Pool (dzM znew duT dgT Z0 Z1 Z2 Z3 Z4)

/-- One window of columns written. -/
theorem put (o : ℕ) (off : Fin 2 → ℕ) (ho : off = ![0, o]) (inb : ∀ a, off a + S4096x256.size a ≤ S4096x14848.size a)
    (Z : S4096x14848.Idx → EReal) (a : S4096x256.Idx → EReal) (s : Fin 4096) (j : Fin 14848) :
    ((dzM.slice (Rect.unit (s := S4096x14848) off S4096x256.size inb) (fun _ => rfl)).view.write (Elt Ideal) Z a Finset.univ : S4096x14848.Idx → EReal) (ix2 s j)
      = if h : o ≤ j.val ∧ j.val < o + 256 then a (ix2 s ⟨j.val - o, by omega⟩) else Z (ix2 s j) := by
  subst ho
  by_cases h : o ≤ j.val ∧ j.val < o + 256
  · rw [dif_pos h]
    have E : (ix2 s j : S4096x14848.Idx) = (dzM.slice (Rect.unit (s := S4096x14848) ![0, o] S4096x256.size inb) (fun _ => rfl)).view.emb (ix2 s ⟨j.val - o, by omega⟩) := by
      funext x
      fin_cases x
      · exact Fin.ext (show s.val = 0 + 1 * s.val by omega)
      · exact Fin.ext (show j.val = o + 1 * (j.val - o) by omega)
    rw [E]
    exact View.write_emb_of_mem _ _ (Finset.mem_univ _)
  · rw [dif_neg h]
    refine View.write_of_not_mem _ _ _ fun hm => h ?_
    rw [View.setOn_univ] at hm
    have hm' : (ix2 s j : S4096x14848.Idx) ∈ ((View.whole main_v1_2).slice (Rect.unit (s := S4096x14848) ![0, o] S4096x256.size inb)).set := hm
    rw [View.set_slice_whole] at hm'
    exact (Rect.mem_set_unit.mp hm') 1

theorem offU : ∀ t : Fin cfg0.N, k0_off6 (grid0.coords t) 4096#32 = ![0, 4096 + 256 * t.val] := (by decide +kernel : ∀ t : Fin grid0.N, _)
theorem offG : ∀ t : Fin cfg0.N, k0_off6 (grid0.coords t) 5120#32 = ![0, 5120 + 256 * t.val] := (by decide +kernel : ∀ t : Fin grid0.N, _)

theorem put2 (c : Dev nD) (t : Fin cfg0.N) (Z : S4096x14848.Idx → EReal) (a b : S4096x256.Idx → EReal) (s : Fin 4096) (j : Fin 14848) :
    (znew (F := Ideal) c (grid0.coords t) dzM Z a b : S4096x14848.Idx → EReal) (ix2 s j)
      = if h : 5120 + 256 * t.val ≤ j.val ∧ j.val < 5120 + 256 * t.val + 256 then b (ix2 s ⟨j.val - (5120 + 256 * t.val), by omega⟩)
        else if h : 4096 + 256 * t.val ≤ j.val ∧ j.val < 4096 + 256 * t.val + 256 then a (ix2 s ⟨j.val - (4096 + 256 * t.val), by omega⟩)
        else Z (ix2 s j) :=
  (put _ _ (offG t) _ _ b s j).trans (dite_congr rfl (fun _ => rfl) (fun _ => put _ _ (offU t) _ Z a s j))

variable (m : (ℓ : Loc nD τ sig) → Buf (Elt Ideal) ℓ)

theorem Z0_eq (c : Dev nD) : (Z0 m c : S4096x14848.Idx → EReal) = m ((c : Thread nD τ).loc main_arg1) := by
  unfold Z0 V
  after_results
  rfl

/-- The columns at the end, given each group's two gradients. -/
theorem cols (c : Dev nD) (A B : Fin 4 → Fin 4096 → Fin 256 → EReal)
    (hA : ∀ (t : Fin cfg0.N) (h : t.val < 4) (s : Fin 4096) (d : Fin 256), (duT m c t : S4096x256.Idx → EReal) (ix2 s d) = A ⟨t.val, h⟩ s d)
    (hB : ∀ (t : Fin cfg0.N) (h : t.val < 4) (s : Fin 4096) (d : Fin 256), (dgT m c t : S4096x256.Idx → EReal) (ix2 s d) = B ⟨t.val, h⟩ s d)
    (s : Fin 4096) (j : Fin 14848) : (Z4 m c : S4096x14848.Idx → EReal) (ix2 s j)
      = if h : 4096 ≤ j.val ∧ j.val < 5120 then A ⟨(j.val - 4096) / 256, by omega⟩ s ⟨(j.val - 4096) % 256, by omega⟩
        else if h : 5120 ≤ j.val ∧ j.val < 6144 then B ⟨(j.val - 5120) / 256, by omega⟩ s ⟨(j.val - 5120) % 256, by omega⟩
        else (m ((c : Thread nD τ).loc main_arg1) : S4096x14848.Idx → EReal) (ix2 s j) := by
  have e1 : (Z4 m c : S4096x14848.Idx → EReal) (ix2 s j) = _ := put2 c t0_3 (Z3 m c) (duT m c t0_3) (dgT m c t0_3) s j
  have e2 : (Z3 m c : S4096x14848.Idx → EReal) (ix2 s j) = _ := put2 c t0_2 (Z2 m c) (duT m c t0_2) (dgT m c t0_2) s j
  have e3 : (Z2 m c : S4096x14848.Idx → EReal) (ix2 s j) = _ := put2 c t0_1 (Z1 m c) (duT m c t0_1) (dgT m c t0_1) s j
  have e4 : (Z1 m c : S4096x14848.Idx → EReal) (ix2 s j) = _ := put2 c t0_0 (Z0 m c) (duT m c t0_0) (dgT m c t0_0) s j
  have v0 : t0_0.val = 0 := rfl
  have v1 : t0_1.val = 1 := rfl
  have v2 : t0_2.val = 2 := rfl
  have v3 : t0_3.val = 3 := rfl
  rw [e1, e2, e3, e4, Z0_eq]
  simp only [hA _ (Fin.isLt _), hB _ (Fin.isLt _)]
  have pick : ∀ (f : Fin 4 → Fin 4096 → Fin 256 → EReal) (g g' : Fin 4) (d d' : Fin 256), g.val = g'.val → d.val = d'.val → f g s d = f g' s d' := by
    intro f g g' d d' hg hd
    rw [Fin.ext hg, Fin.ext hd]
  split_ifs <;> first
    | rfl
    | exact pick _ _ _ _ _ (by simp only; omega) (by simp only; omega)
    | (exfalso; omega)

end Cert.Proof.PoolValue

end
-- ==== Proof.PoolValue.Algebraic.lean ====
/-
  The gradients of the pooling branch: the call's three results against the reference's.
-/
module

public import proofs.«01_k».proof.Defs
public import proofs.«01_k».proof.Proof.Pool.Run
public import proofs.«01_k».proof.Proof.PoolValue.Ref
public import proofs.«01_k».proof.Proof.PoolValue.Back
public import proofs.«01_k».proof.Proof.PoolValue.RefBack
public import proofs.«01_k».proof.Proof.PoolValue.Columns
public import Idealize.ShloMosaic.Lib.Pipeline.ValueKit.Geometry
public import Idealize.ShloMosaic.Lib.Pipeline.ValueKit.Tiles
public import Idealize.ShloMosaic.Lib.Pipeline.ValueKit.Acc
public import Idealize.ShloMosaic.Lib.Claim

@[expose] public section

set_option maxRecDepth 16384

noncomputable section

namespace Cert.Proof.PoolValue

open Cert.KernelIdeal Cert.KernelIdeal.Gen Idealize.ShloMosaic Idealize.ShloMosaic.TcCoe
open Idealize.SL.Sem
open Cert.KernelIdeal.Pool (dats)
open Cert.Proof.PoolFwd (win ct gate centred half half_pos half_le)

variable (m : (ℓ : Loc nD τ sig) → Buf (Elt Ideal) ℓ)

theorem idx0 : ∀ t : Fin cfg0.N, win0_0.index t = ![0, 16 + t.val] := (by decide +kernel : ∀ t : Fin grid0.N, _)
theorem idx1 : ∀ t : Fin cfg0.N, win0_1.index t = ![0, 20 + t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)

theorem half_word (t : Fin cfg0.N) : Cert.KernelIdeal.Pool.half (grid0.coords t) = BitVec.ofNat 32 (half t.val) := by
  revert t
  decide +kernel

/-- The scale as the call sees it. -/
theorem scale_eq (c : Dev nD) (g : Fin 4) (e : Fin 256) :
    (V m c main_v0 : S4x1x256.Idx → EReal) (ix3 g 0 e) = (m ((c : Thread nD τ).loc main_arg4) : S1024.Idx → EReal) (ix1 ⟨256 * g.val + e.val, by omega⟩) := by
  have h : V m c main_v0 = shapeCast S4x1x256 (m ((c : Thread nD τ).loc main_arg4) : FVec Ideal S1024 .f32) shapeCasts_S1024_S4x1x256 := by
    unfold V
    after_results
    rfl
  rw [h]
  pointwise
  exact congrArg _ (congrArg _ (Fin.ext (by simp only; omega)))

theorem blk0 (c : Dev nD) (t : Fin cfg0.N) (s : Fin 4096) (d : Fin 256) (h : 4096 + (256 * t.val + d.val) < 14848) :
    (iblk m c 0 t : S4096x256.Idx → EReal) (ix2 s d) = (m ((c : Thread nD τ).loc main_arg0) : S4096x14848.Idx → EReal) (ix2 s ⟨4096 + (256 * t.val + d.val), h⟩) := by
  rw [← V_main_arg0 m c]
  blk_simp [iblk]
  exact congrArg _ (by blk_ext [idx0 t])

theorem blk1 (c : Dev nD) (t : Fin cfg0.N) (s : Fin 4096) (d : Fin 256) (h : 5120 + (256 * t.val + d.val) < 14848) :
    (iblk m c 1 t : S4096x256.Idx → EReal) (ix2 s d) = (m ((c : Thread nD τ).loc main_arg0) : S4096x14848.Idx → EReal) (ix2 s ⟨5120 + (256 * t.val + d.val), h⟩) := by
  rw [← V_main_arg0 m c]
  blk_simp [iblk]
  exact congrArg _ (by blk_ext [idx1 t])

theorem blk2 (c : Dev nD) (t : Fin cfg0.N) (s : Fin 4096) (d : Fin 256) (h : 256 * t.val + d.val < 1024) :
    (iblk m c 2 t : S4096x256.Idx → EReal) (ix2 s d) = (m ((c : Thread nD τ).loc main_arg2) : S4096x1024.Idx → EReal) (ix2 s ⟨256 * t.val + d.val, h⟩) := by
  rw [← V_main_arg2 m c]
  blk_simp [iblk]
  exact congrArg _ (by blk_ext [idx2 t])

theorem blk3 (c : Dev nD) (t : Fin cfg0.N) (d e : Fin 256) (h : t.val < 4) :
    (iblk m c 3 t : S1x256x256.Idx → EReal) (ix3 0 d e) = (m ((c : Thread nD τ).loc main_arg3) : S4x256x256.Idx → EReal) (ix3 ⟨t.val, h⟩ d e) := by
  rw [← V_main_arg3 m c]
  blk_simp [iblk]
  exact congrArg _ (by blk_ext [idx3 t])

theorem blk4 (c : Dev nD) (t : Fin cfg0.N) (e : Fin 256) (h : t.val < 4) :
    (iblk m c 4 t : S1x1x256.Idx → EReal) (ix3 0 0 e) = (m ((c : Thread nD τ).loc main_arg4) : S1024.Idx → EReal) (ix1 ⟨256 * t.val + e.val, by omega⟩) := by
  rw [← scale_eq m c ⟨t.val, h⟩ e]
  blk_simp [iblk]
  exact congrArg _ (by blk_ext [idx4 t])

theorem cen_eq (c : Dev nD) (t : Fin cfg0.N) (h : t.val < 4) (s : Fin 4096) (d : Fin 256) :
    cen (half t.val) (iblk m c 0 t) s d = centred (m ((c : Thread nD τ).loc main_arg0)) ⟨t.val, h⟩ s d := by
  unfold cen centred
  have e0 := fun (s : Fin 4096) (d : Fin 256) => blk0 m c t s d (by omega)
  exact congrArg₂ (fun f x => Ideal.div (win (half t.val) f s) (ct (half t.val) s.val) - x) (funext fun k => e0 k d) (e0 s d)

theorem gat_eq (c : Dev nD) (t : Fin cfg0.N) (h : t.val < 4) (s : Fin 4096) (e : Fin 256) :
    gat (iblk m c 1 t) (iblk m c 2 t) s e = gated (m ((c : Thread nD τ).loc main_arg0)) (m ((c : Thread nD τ).loc main_arg2)) ⟨t.val, h⟩ s e := by
  unfold gat gated
  exact congrArg₂ (· * ·) (blk2 m c t s e (by omega)) (congrArg gate (blk1 m c t s e (by omega)))

theorem final5 (c : Dev nD) : (dats m 0 c).arrAt 5 cfg0.N
    = resW (m ((c : Thread nD τ).loc main_arg0)) (m ((c : Thread nD τ).loc main_arg2)) (m ((c : Thread nD τ).loc main_arg4)) := by
  refine (dats m 0 c).arrAt_eq_of_covers 5 _ (by decide +kernel) fun t hf y => ?_
  blk_simp
  rw [Cert.KernelIdeal.Pool.after_5]
  have h : t.val < 4 := t.isLt
  obtain ⟨x, d, e, rfl⟩ : ∃ (x : Fin 1) (d e : Fin 256), y = ix3 x d e := ⟨y 0, y 1, y 2, eq_ix3 y⟩
  obtain rfl : x = 0 := Subsingleton.elim _ _
  have E : (win0_5.blk t).view.emb (ix3 0 d e) = ix3 ⟨t.val, h⟩ d e := by blk_ext [idx5 t]
  rw [E]
  unfold Cert.KernelIdeal.Pool.dwT
  refine (dwV_apply (grid0.coords t) _ _ _ _ (half t.val) (half_pos _) (half_le _ h) (half_word t) d e).trans ?_
  unfold resW dweight
  exact Finset.sum_congr (M := EReal) rfl fun k _ => congrArg₂ (· * ·) (cen_eq m c t h k d) (congrArg₂ (· * ·) (gat_eq m c t h k e) (blk4 m c t e h))

theorem final6 (c : Dev nD) : (dats m 0 c).arrAt 6 cfg0.N
    = resS (m ((c : Thread nD τ).loc main_arg0)) (m ((c : Thread nD τ).loc main_arg2)) (m ((c : Thread nD τ).loc main_arg3)) := by
  refine (dats m 0 c).arrAt_eq_of_covers 6 _ (by decide +kernel) fun t hf y => ?_
  blk_simp
  rw [Cert.KernelIdeal.Pool.after_6]
  have h : t.val < 4 := t.isLt
  obtain ⟨x, x', e, rfl⟩ : ∃ (x x' : Fin 1) (e : Fin 256), y = ix3 x x' e := ⟨y 0, y 1, y 2, eq_ix3 y⟩
  obtain rfl : x = 0 := Subsingleton.elim _ _
  obtain rfl : x' = 0 := Subsingleton.elim _ _
  have E : (win0_6.blk t).view.emb (ix3 0 0 e) = ix3 ⟨t.val, h⟩ 0 e := by blk_ext [idx6 t]
  rw [E]
  unfold Cert.KernelIdeal.Pool.scT
  refine (scV_apply (grid0.coords t) _ _ _ _ (half t.val) (half_pos _) (half_le _ h) (half_word t) e).trans ?_
  unfold resS dscale
  exact Finset.sum_congr (M := EReal) rfl fun k _ => congrArg₂ (· * ·) (gat_eq m c t h k e)
    (Finset.sum_congr (M := EReal) rfl fun d _ => congrArg₂ (· * ·) (cen_eq m c t h k d) (blk3 m c t d e h))

theorem dpl_eq (c : Dev nD) (t : Fin cfg0.N) (h : t.val < 4) (s : Fin 4096) (d : Fin 256) :
    dpl (iblk m c 3 t) (iblk m c 4 t) (iblk m c 1 t) (iblk m c 2 t) s d = dpool (m ((c : Thread nD τ).loc main_arg0)) (m ((c : Thread nD τ).loc main_arg2))
      (m ((c : Thread nD τ).loc main_arg3)) (m ((c : Thread nD τ).loc main_arg4)) ⟨t.val, h⟩ s d := by
  unfold dpl dpool
  exact Finset.sum_congr (M := EReal) rfl fun e _ => congrArg₂ (· * ·) (congrArg₂ (· * ·) (gat_eq m c t h s e) (blk4 m c t e h)) (blk3 m c t d e h)

theorem duT_eq (c : Dev nD) (t : Fin cfg0.N) (h : t.val < 4) (s : Fin 4096) (d : Fin 256) :
    (Cert.KernelIdeal.Pool.duT m c t : S4096x256.Idx → EReal) (ix2 s d) = dinp (m ((c : Thread nD τ).loc main_arg0)) (m ((c : Thread nD τ).loc main_arg2))
      (m ((c : Thread nD τ).loc main_arg3)) (m ((c : Thread nD τ).loc main_arg4)) ⟨t.val, h⟩ s d := by
  unfold Cert.KernelIdeal.Pool.duT
  refine (duAll_apply (grid0.coords t) _ _ _ _ (half t.val) (half_pos _) (half_le _ h) (half_word t) s d).trans ?_
  unfold dul dinp
  exact congrArg₂ (· - ·) (congrArg (fun f => back (half t.val) f s) (funext fun k => congrArg (Ideal.div · _) (dpl_eq m c t h k d))) (dpl_eq m c t h s d)

theorem dgT_eq (c : Dev nD) (t : Fin cfg0.N) (h : t.val < 4) (s : Fin 4096) (e : Fin 256) :
    (Cert.KernelIdeal.Pool.dgT m c t : S4096x256.Idx → EReal) (ix2 s e) = dgat (m ((c : Thread nD τ).loc main_arg0)) (m ((c : Thread nD τ).loc main_arg2))
      (m ((c : Thread nD τ).loc main_arg3)) (m ((c : Thread nD τ).loc main_arg4)) ⟨t.val, h⟩ s e := by
  unfold Cert.KernelIdeal.Pool.dgT
  refine (dgAll_apply (grid0.coords t) _ _ _ _ _ (half t.val) (half_pos _) (half_le _ h) (half_word t) s e).trans ?_
  unfold dgl dgat
  exact congrArg₂ (· * ·) (congrArg₂ (· * ·) (blk2 m c t s e (by omega)) (congrArg₂ (· * ·)
    (Finset.sum_congr (M := EReal) rfl fun d _ => congrArg₂ (· * ·) (cen_eq m c t h s d) (blk3 m c t d e h)) (blk4 m c t e h))) (congrArg slope (blk1 m c t s e (by omega)))

theorem finalZ (c : Dev nD) : (Cert.KernelIdeal.Pool.Z4 m c : S4096x14848.Idx → EReal)
    = resZ (m ((c : Thread nD τ).loc main_arg0)) (m ((c : Thread nD τ).loc main_arg1)) (m ((c : Thread nD τ).loc main_arg2)) (m ((c : Thread nD τ).loc main_arg3))
        (m ((c : Thread nD τ).loc main_arg4)) := by
  funext i
  obtain ⟨s, j, rfl⟩ : ∃ (s : Fin 4096) (j : Fin 14848), i = ix2 s j := ⟨i 0, i 1, eq_ix2 i⟩
  exact cols m c _ _ (fun t h s d => duT_eq m c t h s d) (fun t h s d => dgT_eq m c t h s d) s j

/-- The two programs end with equal results. -/
theorem algebraic : Cert.algebraic_KernelIdeal_ReferenceIdeal := by
  intro m g m' g' _ hargs
  refine ⟨fun c => resW (m ((c : Thread nD τ).loc main_arg0)) (m ((c : Thread nD τ).loc main_arg2)) (m ((c : Thread nD τ).loc main_arg4)),
    fun c => resS (m ((c : Thread nD τ).loc main_arg0)) (m ((c : Thread nD τ).loc main_arg2)) (m ((c : Thread nD τ).loc main_arg3)),
    fun c => resZ (m ((c : Thread nD τ).loc main_arg0)) (m ((c : Thread nD τ).loc main_arg1)) (m ((c : Thread nD τ).loc main_arg2))
      (m ((c : Thread nD τ).loc main_arg3)) (m ((c : Thread nD τ).loc main_arg4)), ?_, ?_⟩
  · exact (θ_run defs _ _).mono (fun r h c => ⟨((h.1.1 c).1 5).trans (final5 m c), ((h.1.1 c).1 6).trans (final6 m c), (h.1.1 c).2.1.trans (finalZ m c), h.2.1 c⟩)
      (θ_run_and (Cert.KernelIdeal.Pool.run_main m g) (Cert.KernelIdeal.Pool.frame m g))
  · refine (θ_run Cert.ReferenceIdeal.defs _ _).mono (fun r h c => ⟨(h c).1.trans ?_, (h c).2.1.trans ?_, (h c).2.2.1.trans ?_, (h c).2.2.2⟩)
      (Cert.ReferenceIdeal.Value.run m' g')
    · rw [refW_eq, (hargs c).1, (hargs c).2.2.1, (hargs c).2.2.2.2]
    · rw [refS_eq, (hargs c).1, (hargs c).2.2.1, (hargs c).2.2.2.1]
    · rw [refZ_eq, (hargs c).1, (hargs c).2.1, (hargs c).2.2.1, (hargs c).2.2.2.1, (hargs c).2.2.2.2]

end Cert.Proof.PoolValue

end
-- ==== Proof.lean ====
/-
  The certificate of this directory: its claims (Defs.lean) proved from the modules under Proof/. The window pool's
  run is Proof/Pool/; the products' values are Proof/Products/.
-/
module

public import proofs.«01_k».proof.Defs
public import proofs.«01_k».proof.Proof.Gen.Kernel
public import proofs.«01_k».proof.Proof.Gen.KernelIdeal
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Inproj.SameText
public import proofs.«01_k».proof.Proof.Inproj.Values
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Products.LossHead
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Products.PoolFwd
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Products.InprojBwd
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Products.GradWIn
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Products.MergeProj
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Products.GradWOut
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Products.GradWBranch
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Products.MergeOut
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Products.NormBwd
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Products.AdamWIn
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Products.AdamWBranch
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Products.AdamWOut
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Products.AdamPoolW
public import proofs.«01_k».proof.Proof.Pool.SameText
public import proofs.«01_k».proof.Proof.PoolValue.Algebraic
public import Idealize.ShloMosaic.Adequacy
public import Idealize.ShloMosaic.Init

@[expose] public section

noncomputable section

namespace Cert.Proof

open Idealize.ShloMosaic Idealize.SL.Sem

/-- The two texts of the pool's program are one: its run, over any float values, serves both. -/
theorem frame_pool : Cert.quiescent_Kernel := Cert.KernelIdeal.Pool.frame_bits

theorem frame_pool_ideal : Cert.quiescent_KernelIdeal := fun m ρ _ => Cert.KernelIdeal.Pool.frame (F := Ideal) m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem frame_reference4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem frame_reference8 : Cert.quiescent_Reference8Ideal := fun m ρ _ =>
  (θ_run Cert.Reference8Ideal.defs _ _).mono (fun r h => ⟨fun c => (h c).2.2.2.2.2, sem_eq_zero_of_no_sems (by decide) r.2⟩)
    (Cert.Reference8Ideal.Value.run m ρ)

theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run m ρ)

theorem frame_reference10 : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run m ρ)

theorem frame_reference11 : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run m ρ)

theorem frame_reference12 : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run m ρ)

theorem frame_reference13 : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run m ρ)

theorem frame_reference14 : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run m ρ)

theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

theorem frame_inproj : Cert.quiescent_Kernel7 := Cert.Kernel7Ideal.Inproj.frame_bits

theorem frame_inproj_ideal : Cert.quiescent_Kernel7Ideal := fun m ρ _ => Cert.Kernel7Ideal.Inproj.frame (F := Ideal) m ρ

theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel7.Gen.facts,
    Cert.Kernel7Ideal.Gen.facts,
    Cert.Reference7Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    frame_pool,
    frame_pool_ideal,
    frame_reference,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    fun m ρ _ => Cert.Kernel13.Gen.frame m ρ,
    fun m ρ _ => Cert.Kernel13Ideal.Gen.frame m ρ,
    frame_reference13,
    frame_inproj,
    frame_inproj_ideal,
    frame_reference7,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    frame_reference15,
    trivial,
    Cert.Proof.PoolValue.algebraic,
    trivial,
    InprojBwd.algebraic,
    trivial,
    GradWIn.algebraic,
    trivial,
    MergeProj.algebraic,
    trivial,
    GradWOut.algebraic,
    trivial,
    GradWBranch.algebraic,
    trivial,
    MergeOut.algebraic,
    trivial,
    NormBwd.algebraic,
    trivial,
    AdamWIn.algebraic,
    trivial,
    AdamWBranch.algebraic,
    trivial,
    AdamWOut.algebraic,
    trivial,
    AdamPoolW.algebraic,
    trivial,
    Inproj.algebraic,
    trivial,
    LossHead.algebraic,
    trivial,
    PoolFwd.algebraic⟩

end Cert.Proof

end
